-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v35_0)) (v1 : (c : Dev Cert.Kernel6Ideal.nD) → Buf (Elt Ideal) ((c.tc : Thread Cert.Kernel6Ideal.nD Cert.Kernel6Ideal.τ).loc Cert.Kernel6Ideal.main_v35_1)) (v2 : (c : Dev Cert.Kernel6Ideal.nD) → Buf (Elt Ideal) ((c.tc : Thread Cert.Kernel6Ideal.nD Cert.Kernel6Ideal.τ).loc Cert.Kernel6Ideal.main_v35_2)) (v3 : (c : Dev Cert.Kernel6Ideal.nD) → Buf (Elt Ideal) ((c.tc : Thread Cert.Kernel6Ideal.nD Cert.Kernel6Ideal.τ).loc Cert.Kernel6Ideal.main_v35_3)) (v4 : (c : Dev Cert.Kernel6Ideal.nD) → Buf (Elt Ideal) ((c.tc : Thread Cert.Kernel6Ideal.nD Cert.Kernel6Ideal.τ).loc Cert.Kernel6Ideal.main_v35_4)) (v5 : (c : Dev Cert.Kernel6Ideal.nD) → Buf (Elt Ideal) ((c.tc : Thread Cert.Kernel6Ideal.nD Cert.Kernel6Ideal.τ).loc Cert.Kernel6Ideal.main_v35_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v35_0) = v0 c
          ∧ r.2.mem ((c.tc : Thread Cert.Kernel6Ideal.nD Cert.Kernel6Ideal.τ).loc Cert.Kernel6Ideal.main_v35_1) = v1 c
          ∧ r.2.mem ((c.tc : Thread Cert.Kernel6Ideal.nD Cert.Kernel6Ideal.τ).loc Cert.Kernel6Ideal.main_v35_2) = v2 c
          ∧ r.2.mem ((c.tc : Thread Cert.Kernel6Ideal.nD Cert.Kernel6Ideal.τ).loc Cert.Kernel6Ideal.main_v35_3) = v3 c
          ∧ r.2.mem ((c.tc : Thread Cert.Kernel6Ideal.nD Cert.Kernel6Ideal.τ).loc Cert.Kernel6Ideal.main_v35_4) = v4 c
          ∧ r.2.mem ((c.tc : Thread Cert.Kernel6Ideal.nD Cert.Kernel6Ideal.τ).loc Cert.Kernel6Ideal.main_v35_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_v57) = v1 c
          ∧ r.2.mem ((c.tc : Thread Cert.Reference6Ideal.nD Cert.Reference6Ideal.τ).loc Cert.Reference6Ideal.main_v62) = v2 c
          ∧ r.2.mem ((c.tc : Thread Cert.Reference6Ideal.nD Cert.Reference6Ideal.τ).loc Cert.Reference6Ideal.main_v63) = v3 c
          ∧ r.2.mem ((c.tc : Thread Cert.Reference6Ideal.nD Cert.Reference6Ideal.τ).loc Cert.Reference6Ideal.main_v64) = v4 c
          ∧ r.2.mem ((c.tc : Thread Cert.Reference6Ideal.nD Cert.Reference6Ideal.τ).loc Cert.Reference6Ideal.main_v65) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S8x8192x256 : Shape := ⟨3, ![8, 8192, 256]⟩
abbrev S8x8192x128 : Shape := ⟨3, ![8, 8192, 128]⟩
abbrev S8192x1024 : Shape := ⟨2, ![8192, 1024]⟩
abbrev S_ : Shape := ⟨0, ![]⟩

class Facts : Prop where
  bitsLt_bf16_f32 : FTy.bits .bf16 < FTy.bits .f32
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel
  bcast_S_S8x8192x128 : S_.BroadcastsInDim S8x8192x128 (![] : Fin 0 → Fin S8x8192x128.rank)
  reducesTo_S8x8192x128_S_d0_1_2 : S8x8192x128.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v16 : IVec S_ 1) (main_v17 : FVec F S8192x1024 .f32) : IVec S_ 1 :=
  let main_v18 : FVec F S8192x1024 .f32 := Host.absf main_v17
  let main_cst_4 : FVec F S_ .f32 := constant S_ .f32 0x7F800000#32
  let main_v19 : FVec F S8192x1024 .f32 := broadcastInDim S8192x1024 ![] bcast_S_S8192x1024 main_cst_4
  let main_v20 : IVec S8192x1024 1 := cmpf .olt main_v18 main_v19
  let main_c_5 : IVec S_ 1 := constantI S_ 1 1#1
  let main_v21 : IVec S_ 1 := (fun x v => Host.reduce IntOp.andi x v reducesTo_S8192x1024_S_d0_1 h_S_) main_v20 main_c_5
  let main_v22 : IVec S_ 1 := andi main_v16 main_v21
  main_v22

def fn {F : FTy → Type} [FloatOps F] (main_arg0 : FVec F S8x8192x256 .bf16) (main_arg1 : FVec F S8x8192x256 .bf16) (main_arg2 : FVec F S8x8192x128 .bf16) (main_arg3 : FVec F S8192x1024 .bf16) : IVec S_ 1 :=
  let main_v0 : FVec F S8x8192x256 .f32 := (extf .f32 · bitsLt_bf16_f32) main_arg0
  let main_v1 : FVec F S8x8192x256 .f32 := Host.absf main_v0
  let main_cst : FVec F S_ .f32 := constant S_ .f32 0x7F800000#32
  let main_v2 : FVec F S8x8192x256 .f32 := broadcastInDim S8x8192x256 ![] bcast_S_S8x8192x256 main_cst
  let main_v3 : IVec S8x8192x256 1 := cmpf .olt main_v1 main_v2
  let main_c : IVec S_ 1 := constantI S_ 1 1#1
  let main_v4 : IVec S_ 1 := (fun x v => Host.reduce IntOp.andi x v reducesTo_S8x8192x256_S_d0_1_2 h_S_) main_v3 main_c
  let main_v5 : FVec F S8x8192x256 .f32 := (extf .f32 · bitsLt_bf16_f32) main_arg1
  let main_v6 : FVec F S8x8192x256 .f32 := Host.absf main_v5
  let main_cst_0 : FVec F S_ .f32 := constant S_ .f32 0x7F800000#32
  let main_v7 : FVec F S8x8192x256 .f32 := broadcastInDim S8x8192x256 ![] bcast_S_S8x8192x256 main_cst_0
  let main_v8 : IVec S8x8192x256 1 := cmpf .olt main_v6 main_v7
  let main_c_1 : IVec S_ 1 := constantI S_ 1 1#1
  let main_v9 : IVec S_ 1 := (fun x v => Host.reduce IntOp.andi x v reducesTo_S8x8192x256_S_d0_1_2 h_S_) main_v8 main_c_1
  let main_v10 : IVec S_ 1 := andi main_v4 main_v9
  let main_v11 : FVec F S8x8192x128 .f32 := (extf .f32 · bitsLt_bf16_f32) main_arg2
  let main_v12 : FVec F S8x8192x128 .f32 := Host.absf main_v11
  let main_cst_2 : FVec F S_ .f32 := constant S_ .f32 0x7F800000#32
  let main_v13 : FVec F S8x8192x128 .f32 := broadcastInDim S8x8192x128 ![] bcast_S_S8x8192x128 main_cst_2
  let main_v14 : IVec S8x8192x128 1 := cmpf .olt main_v12 main_v13
  let main_c_3 : IVec S_ 1 := constantI S_ 1 1#1
  let main_v15 : IVec S_ 1 := (fun x v => Host.reduce IntOp.andi x v reducesTo_S8x8192x128_S_d0_1_2 h_S_) main_v14 main_c_3
  let main_v16 : IVec S_ 1 := andi main_v10 main_v15
  let main_v17 : FVec F S8192x1024 .f32 := (extf .f32 · bitsLt_bf16_f32) main_arg3
  fn_part1 (F := F) main_v16 main_v17
-- ==== Pre_finite2.lean ====
abbrev S8x8192x256 : Shape := ⟨3, ![8, 8192, 256]⟩
abbrev S8x8192x128 : Shape := ⟨3, ![8, 8192, 128]⟩
abbrev S_ : Shape := ⟨0, ![]⟩

class Facts : Prop where
  bitsLt_bf16_f32 : FTy.bits .bf16 < FTy.bits .f32
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel

variable [Facts]

def fn {F : FTy → Type} [FloatOps F] (main_arg0 : FVec F S8x8192x256 .bf16) (main_arg1 : FVec F S8x8192x256 .bf16) (main_arg2 : FVec F S8x8192x128 .bf16) : IVec S_ 1 :=
  let main_v0 : FVec F S8x8192x256 .f32 := (extf .f32 · bitsLt_bf16_f32) main_arg0
  let main_v1 : FVec F S8x8192x256 .f32 := Host.absf main_v0
  let main_cst : FVec F S_ .f32 := constant S_ .f32 0x7F800000#32
  let main_v2 : FVec F S8x8192x256 .f32 := broadcastInDim S8x8192x256 ![] bcast_S_S8x8192x256 main_cst
  let main_v3 : IVec S8x8192x256 1 := cmpf .olt main_v1 main_v2
  let main_c : IVec S_ 1 := constantI S_ 1 1#1
  let main_v4 : IVec S_ 1 := (fun x v => Host.reduce IntOp.andi x v reducesTo_S8x8192x256_S_d0_1_2 h_S_) main_v3 main_c
  let main_v5 : FVec F S8x8192x256 .f32 := (extf .f32 · bitsLt_bf16_f32) main_arg1
  let main_v6 : FVec F S8x8192x256 .f32 := Host.absf main_v5
  let main_cst_0 : FVec F S_ .f32 := constant S_ .f32 0x7F800000#32
  let main_v7 : FVec F S8x8192x256 .f32 := broadcastInDim S8x8192x256 ![] bcast_S_S8x8192x256 main_cst_0
  let main_v8 : IVec S8x8192x256 1 := cmpf .olt main_v6 main_v7
  let main_c_1 : IVec S_ 1 := constantI S_ 1 1#1
  let main_v9 : IVec S_ 1 := (fun x v => Host.reduce IntOp.andi x v reducesTo_S8x8192x256_S_d0_1_2 h_S_) main_v8 main_c_1
  let main_v10 : IVec S_ 1 := andi main_v4 main_v9
  main_v10
-- ==== Pre_finite6.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg4
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg5
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v13 main_v16
-- ==== Kernel.lean ====
abbrev S8x8192x256 : Shape := ⟨3, ![8, 8192, 256]⟩
abbrev S8x8192x128 : Shape := ⟨3, ![8, 8192, 128]⟩
abbrev S8192x1024 : Shape := ⟨2, ![8192, 1024]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S8192x8 : Shape := ⟨2, ![8192, 8]⟩
abbrev S8x8x1x1024 : Shape := ⟨4, ![8, 8, 1, 1024]⟩
abbrev S1x8192x256 : Shape := ⟨3, ![1, 8192, 256]⟩
abbrev S8192x128 : Shape := ⟨2, ![8192, 128]⟩
abbrev S1x8x1x1024 : Shape := ⟨4, ![1, 8, 1, 1024]⟩
abbrev S1x1024x256 : Shape := ⟨3, ![1, 1024, 256]⟩
abbrev S1x1024x128 : Shape := ⟨3, ![1, 1024, 128]⟩
abbrev S8192x256 : Shape := ⟨2, ![8192, 256]⟩
abbrev S1024x256 : Shape := ⟨2, ![1024, 256]⟩
abbrev S1024x128 : Shape := ⟨2, ![1024, 128]⟩
abbrev S1024x1024 : Shape := ⟨2, ![1024, 1024]⟩
abbrev S1x1x1x1024 : Shape := ⟨4, ![1, 1, 1, 1024]⟩
abbrev S1x1024 : Shape := ⟨2, ![1, 1024]⟩

abbrev nBuf : Space → Nat
  | .hbm => 51
  | .vmem => 19
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .bf16⟩
  | .hbm, ⟨2, _⟩ => ⟨S8x8192x128, .bf16⟩
  | .hbm, ⟨3, _⟩ => ⟨S8192x1024, .bf16⟩
  | .hbm, ⟨4, _⟩ => ⟨S8x8192x256, .f32⟩
  | .hbm, ⟨5, _⟩ => ⟨S8x8192x256, .f32⟩
  | .hbm, ⟨6, _⟩ => ⟨S8x8192x8192, .f32⟩
  | .hbm, ⟨7, _⟩ => ⟨S8192, .i32⟩
  | .hbm, ⟨8, _⟩ => ⟨S1x8192, .i32⟩
  | .hbm, ⟨9, _⟩ => ⟨S8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x1, .f32⟩
  | .hbm, ⟨30, _⟩ => ⟨S8x8192x1, .f32⟩
  | .hbm, ⟨31, _⟩ => ⟨S8x8192x8192, .f32⟩
  | .hbm, ⟨32, _⟩ => ⟨S8x8192x8192, .f32⟩
  | .hbm, ⟨33, _⟩ => ⟨S8x8192x8192, .bf16⟩
  | .hbm, ⟨34, _⟩ => ⟨S8x8192x8192, .f32⟩
  | .hbm, ⟨35, _⟩ => ⟨S8x8192x128, .f32⟩
  | .hbm, ⟨36, _⟩ => ⟨S8x128x8192, .f32⟩
  | .hbm, ⟨37, _⟩ => ⟨S8192x8x128, .f32⟩
  | .hbm, ⟨38, _⟩ => ⟨S8192x8x128, .bf16⟩
  | .hbm, ⟨39, _⟩ => ⟨S8192x8x128, .bf16⟩
  | .hbm, ⟨40, _⟩ => ⟨S8192x8x128, .f32⟩
  | .hbm, ⟨41, _⟩ => ⟨S8192x8x128, .f32⟩
  | .hbm, ⟨42, _⟩ => ⟨S8192x8x128, .f32⟩
  | .hbm, ⟨43, _⟩ => ⟨S_, .f32⟩
  | .hbm, ⟨44, _⟩ => ⟨S8192x8, .f32⟩
  | .hbm, ⟨45, _⟩ => ⟨S8x8192, .f32⟩
  | .hbm, ⟨46, _⟩ => ⟨S8x8x1x1024, .f32⟩
  | .hbm, ⟨47, _⟩ => ⟨S8x8x1x1024, .f32⟩
  | .hbm, ⟨48, _⟩ => ⟨S8x8192x256, .bf16⟩
  | .hbm, ⟨49, _⟩ => ⟨S8x8192x256, .bf16⟩
  | .hbm, ⟨50, _⟩ => ⟨S8x8192x128, .bf16⟩
  | .local _ .vmem, ⟨0, _⟩ => ⟨S1x8192x256, .bf16⟩
  | .local _ .vmem, ⟨1, _⟩ => ⟨S1x8192x256, .bf16⟩
  | .local _ .vmem, ⟨2, _⟩ => ⟨S8192x128, .bf16⟩
  | .local _ .vmem, ⟨3, _⟩ => ⟨S8192x128, .bf16⟩
  | .local _ .vmem, ⟨4, _⟩ => ⟨S1x8x1x1024, .f32⟩
  | .local _ .vmem, ⟨5, _⟩ => ⟨S1x8x1x1024, .f32⟩
  | .local _ .vmem, ⟨6, _⟩ => ⟨S1x8x1x1024, .f32⟩
  | .local _ .vmem, ⟨7, _⟩ => ⟨S1x8x1x1024, .f32⟩
  | .local _ .vmem, ⟨8, _⟩ => ⟨S1x1024x256, .bf16⟩
  | .local _ .vmem, ⟨9, _⟩ => ⟨S1x1024x256, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x8192x256, .bf16⟩
  | .local _ .vmem, ⟨13, _⟩ => ⟨S1x8192x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x128, .bf16⟩
  | .local _ .vmem, ⟨17, _⟩ => ⟨S1x1024x128, .bf16⟩
  | .local _ .vmem, ⟨18, _⟩ => ⟨S8192x256, .f32⟩
  | _, _ => ⟨S8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37_0 : Ref sig .tc := ⟨.hbm, 48, rfl⟩
abbrev main_v37_1 : Ref sig .tc := ⟨.hbm, 49, rfl⟩
abbrev main_v37_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1024_i32_13 : BitVec 32 := 1024#32
  let v27 : BitVec 32 := Scalar.muli v24 c1024_i32_13
  v27
def k0_off1 (i : grid0.Coords) : Fin 3 → Nat :=
  let c0_14 : Index := 0#32
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1024_i32_13 : BitVec 32 := 1024#32
  let v27 : BitVec 32 := Scalar.muli v24 c1024_i32_13
  let v28 : BitVec 32 := v27
  let v29 : Index := Scalar.indexCast v28
  let c0_15 : Index := 0#32
  ![0, v29.toNat, 0]
def k0_off2 (i : grid0.Coords) : Fin 2 → Nat :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1024_i32_13 : BitVec 32 := 1024#32
  let v27 : BitVec 32 := Scalar.muli v24 c1024_i32_13
  let v28 : BitVec 32 := v27
  let v32 : Index := Scalar.indexCast v28
  let c0_16 : Index := 0#32
  ![v32.toNat, 0]
def k0_off3 (i : grid0.Coords) : Fin 4 → Nat :=
  let c0_21 : Index := 0#32
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let v46 : Index := Scalar.indexCast v24
  let c0_22 : Index := 0#32
  let c0_23 : Index := 0#32
  ![0, v46.toNat, 0, 0]
def k0_off4 (i : grid0.Coords) : Fin 2 → Nat :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1024_i32_13 : BitVec 32 := 1024#32
  let v27 : BitVec 32 := Scalar.muli v24 c1024_i32_13
  let v28 : BitVec 32 := v27
  let v65 : Index := Scalar.indexCast v28
  let c0_30 : Index := 0#32
  ![v65.toNat, 0]
@[reducible] def k0_t1_loop (i : grid0.Coords) : Scf.Loop 32 :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v73 : BitVec 32 := Scalar.addi v24 c1_i32_33
  let c8_i32 : BitVec 32 := 8#32
  let v74 : BitVec 32 := Scalar.subi c8_i32 v73
  let c1_i32_34 : BitVec 32 := 1#32
  let v76 : BitVec 32 := Scalar.divsi v74 c1_i32_34
  let v77 : BitVec 32 := Scalar.muli v76 c1_i32_34
  let v78 : BitVec 32 := Scalar.addi v73 v77
  let c1_i32_35 : BitVec 32 := 1#32
  ⟨v73, v78, c1_i32_35⟩
def k0_mult2 (i : grid0.Coords) (k0_t1 : Fin (k0_t1_loop i).trips) : BitVec 32 :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v73 : BitVec 32 := Scalar.addi v24 c1_i32_33
  let c1_i32_35 : BitVec 32 := 1#32
  let arg12 : BitVec 32 := Scf.iv v73 c1_i32_35 k0_t1
  let c1024_i32_44 : BitVec 32 := 1024#32
  let v92 : BitVec 32 := Scalar.muli arg12 c1024_i32_44
  v92
def k0_off5 (i : grid0.Coords) (k0_t1 : Fin (k0_t1_loop i).trips) : Fin 3 → Nat :=
  let c0_45 : Index := 0#32
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v73 : BitVec 32 := Scalar.addi v24 c1_i32_33
  let c1_i32_35 : BitVec 32 := 1#32
  let arg12 : BitVec 32 := Scf.iv v73 c1_i32_35 k0_t1
  let c1024_i32_44 : BitVec 32 := 1024#32
  let v92 : BitVec 32 := Scalar.muli arg12 c1024_i32_44
  let v93 : BitVec 32 := v92
  let v94 : Index := Scalar.indexCast v93
  let c0_46 : Index := 0#32
  ![0, v94.toNat, 0]
def k0_off6 (i : grid0.Coords) (k0_t1 : Fin (k0_t1_loop i).trips) : Fin 2 → Nat :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v73 : BitVec 32 := Scalar.addi v24 c1_i32_33
  let c1_i32_35 : BitVec 32 := 1#32
  let arg12 : BitVec 32 := Scf.iv v73 c1_i32_35 k0_t1
  let c1024_i32_44 : BitVec 32 := 1024#32
  let v92 : BitVec 32 := Scalar.muli arg12 c1024_i32_44
  let v93 : BitVec 32 := v92
  let v97 : Index := Scalar.indexCast v93
  let c0_47 : Index := 0#32
  ![v97.toNat, 0]
def k0_off7 (i : grid0.Coords) (k0_t1 : Fin (k0_t1_loop i).trips) : Fin 4 → Nat :=
  let c0_49 : Index := 0#32
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v73 : BitVec 32 := Scalar.addi v24 c1_i32_33
  let c1_i32_35 : BitVec 32 := 1#32
  let arg12 : BitVec 32 := Scf.iv v73 c1_i32_35 k0_t1
  let v100 : Index := Scalar.indexCast arg12
  let c0_50 : Index := 0#32
  let c0_51 : Index := 0#32
  ![0, v100.toNat, 0, 0]
def k0_off8 (i : grid0.Coords) (k0_t1 : Fin (k0_t1_loop i).trips) : Fin 2 → Nat :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v73 : BitVec 32 := Scalar.addi v24 c1_i32_33
  let c1_i32_35 : BitVec 32 := 1#32
  let arg12 : BitVec 32 := Scf.iv v73 c1_i32_35 k0_t1
  let c1024_i32_44 : BitVec 32 := 1024#32
  let v92 : BitVec 32 := Scalar.muli arg12 c1024_i32_44
  let v93 : BitVec 32 := v92
  let v119 : Index := Scalar.indexCast v93
  let c0_58 : Index := 0#32
  ![v119.toNat, 0]
@[reducible] def k0_t2_loop (i : grid0.Coords) : Scf.Loop 32 :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v73 : BitVec 32 := Scalar.addi v24 c1_i32_33
  let c8_i32 : BitVec 32 := 8#32
  let v74 : BitVec 32 := Scalar.subi c8_i32 v73
  let c1_i32_34 : BitVec 32 := 1#32
  let v76 : BitVec 32 := Scalar.divsi v74 c1_i32_34
  let v77 : BitVec 32 := Scalar.muli v76 c1_i32_34
  let v78 : BitVec 32 := Scalar.addi v73 v77
  let v75 : BitVec 32 := Scalar.addi v73 v74
  let c1_i32_36 : BitVec 32 := 1#32
  ⟨v78, v75, c1_i32_36⟩
def k0_mult3 (i : grid0.Coords) (k0_t2 : Fin (k0_t2_loop i).trips) : BitVec 32 :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v73 : BitVec 32 := Scalar.addi v24 c1_i32_33
  let c8_i32 : BitVec 32 := 8#32
  let v74 : BitVec 32 := Scalar.subi c8_i32 v73
  let c1_i32_34 : BitVec 32 := 1#32
  let v76 : BitVec 32 := Scalar.divsi v74 c1_i32_34
  let v77 : BitVec 32 := Scalar.muli v76 c1_i32_34
  let v78 : BitVec 32 := Scalar.addi v73 v77
  let c1_i32_36 : BitVec 32 := 1#32
  let arg12 : BitVec 32 := Scf.iv v78 c1_i32_36 k0_t2
  let c1024_i32_44 : BitVec 32 := 1024#32
  let v92 : BitVec 32 := Scalar.muli arg12 c1024_i32_44
  v92
def k0_off9 (i : grid0.Coords) (k0_t2 : Fin (k0_t2_loop i).trips) : Fin 3 → Nat :=
  let c0_45 : Index := 0#32
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v73 : BitVec 32 := Scalar.addi v24 c1_i32_33
  let c8_i32 : BitVec 32 := 8#32
  let v74 : BitVec 32 := Scalar.subi c8_i32 v73
  let c1_i32_34 : BitVec 32 := 1#32
  let v76 : BitVec 32 := Scalar.divsi v74 c1_i32_34
  let v77 : BitVec 32 := Scalar.muli v76 c1_i32_34
  let v78 : BitVec 32 := Scalar.addi v73 v77
  let c1_i32_36 : BitVec 32 := 1#32
  let arg12 : BitVec 32 := Scf.iv v78 c1_i32_36 k0_t2
  let c1024_i32_44 : BitVec 32 := 1024#32
  let v92 : BitVec 32 := Scalar.muli arg12 c1024_i32_44
  let v93 : BitVec 32 := v92
  let v94 : Index := Scalar.indexCast v93
  let c0_46 : Index := 0#32
  ![0, v94.toNat, 0]
def k0_off10 (i : grid0.Coords) (k0_t2 : Fin (k0_t2_loop i).trips) : Fin 2 → Nat :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v73 : BitVec 32 := Scalar.addi v24 c1_i32_33
  let c8_i32 : BitVec 32 := 8#32
  let v74 : BitVec 32 := Scalar.subi c8_i32 v73
  let c1_i32_34 : BitVec 32 := 1#32
  let v76 : BitVec 32 := Scalar.divsi v74 c1_i32_34
  let v77 : BitVec 32 := Scalar.muli v76 c1_i32_34
  let v78 : BitVec 32 := Scalar.addi v73 v77
  let c1_i32_36 : BitVec 32 := 1#32
  let arg12 : BitVec 32 := Scf.iv v78 c1_i32_36 k0_t2
  let c1024_i32_44 : BitVec 32 := 1024#32
  let v92 : BitVec 32 := Scalar.muli arg12 c1024_i32_44
  let v93 : BitVec 32 := v92
  let v97 : Index := Scalar.indexCast v93
  let c0_47 : Index := 0#32
  ![v97.toNat, 0]
def k0_off11 (i : grid0.Coords) (k0_t2 : Fin (k0_t2_loop i).trips) : Fin 4 → Nat :=
  let c0_49 : Index := 0#32
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v73 : BitVec 32 := Scalar.addi v24 c1_i32_33
  let c8_i32 : BitVec 32 := 8#32
  let v74 : BitVec 32 := Scalar.subi c8_i32 v73
  let c1_i32_34 : BitVec 32 := 1#32
  let v76 : BitVec 32 := Scalar.divsi v74 c1_i32_34
  let v77 : BitVec 32 := Scalar.muli v76 c1_i32_34
  let v78 : BitVec 32 := Scalar.addi v73 v77
  let c1_i32_36 : BitVec 32 := 1#32
  let arg12 : BitVec 32 := Scf.iv v78 c1_i32_36 k0_t2
  let v100 : Index := Scalar.indexCast arg12
  let c0_50 : Index := 0#32
  let c0_51 : Index := 0#32
  ![0, v100.toNat, 0, 0]
def k0_off12 (i : grid0.Coords) (k0_t2 : Fin (k0_t2_loop i).trips) : Fin 2 → Nat :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v73 : BitVec 32 := Scalar.addi v24 c1_i32_33
  let c8_i32 : BitVec 32 := 8#32
  let v74 : BitVec 32 := Scalar.subi c8_i32 v73
  let c1_i32_34 : BitVec 32 := 1#32
  let v76 : BitVec 32 := Scalar.divsi v74 c1_i32_34
  let v77 : BitVec 32 := Scalar.muli v76 c1_i32_34
  let v78 : BitVec 32 := Scalar.addi v73 v77
  let c1_i32_36 : BitVec 32 := 1#32
  let arg12 : BitVec 32 := Scf.iv v78 c1_i32_36 k0_t2
  let c1024_i32_44 : BitVec 32 := 1024#32
  let v92 : BitVec 32 := Scalar.muli arg12 c1024_i32_44
  let v93 : BitVec 32 := v92
  let v119 : Index := Scalar.indexCast v93
  let c0_58 : Index := 0#32
  ![v119.toNat, 0]
def k0_cond2 (i : grid0.Coords) : BitVec 1 :=
  let arg1 : BitVec 32 := BitVec.ofNat 32 (i 1).val
  let c7_i32 : BitVec 32 := 7#32
  let v89 : BitVec 1 := Scalar.cmpi .eq arg1 c7_i32
  let v90 : BitVec 32 := Scalar.extui v89
  let c0_i32_43 : BitVec 32 := 0#32
  let v91 : BitVec 1 := Scalar.cmpi .ne v90 c0_i32_43
  v91

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x8192x256 : Shape := ⟨3, ![8, 8192, 256]⟩
abbrev S8x8192x128 : Shape := ⟨3, ![8, 8192, 128]⟩
abbrev S8192x1024 : Shape := ⟨2, ![8192, 1024]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩

abbrev nBuf : Space → Nat
  | .hbm => 97
  | .vmem => 0
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .bf16⟩
  | .hbm, ⟨2, _⟩ => ⟨S8x8192x128, .bf16⟩
  | .hbm, ⟨3, _⟩ => ⟨S8192x1024, .bf16⟩
  | .hbm, ⟨4, _⟩ => ⟨S8x8192x256, .f32⟩
  | .hbm, ⟨5, _⟩ => ⟨S8x8192x256, .f32⟩
  | .hbm, ⟨6, _⟩ => ⟨S8x8192x8192, .f32⟩
  | .hbm, ⟨7, _⟩ => ⟨S8192, .i32⟩
  | .hbm, ⟨8, _⟩ => ⟨S1x8192, .i32⟩
  | .hbm, ⟨9, _⟩ => ⟨S8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .i1⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x8192x8192, .bf16⟩
  | .hbm, ⟨61, _⟩ => ⟨S8x8192x8192, .f32⟩
  | .hbm, ⟨62, _⟩ => ⟨S8x8192x128, .f32⟩
  | .hbm, ⟨63, _⟩ => ⟨S8x128x8192, .f32⟩
  | .hbm, ⟨64, _⟩ => ⟨S8192x8x128, .f32⟩
  | .hbm, ⟨65, _⟩ => ⟨S8192x8x128, .bf16⟩
  | .hbm, ⟨66, _⟩ => ⟨S8192x1024, .bf16⟩
  | .hbm, ⟨67, _⟩ => ⟨S8192x8x128, .bf16⟩
  | .hbm, ⟨68, _⟩ => ⟨S8192x8x128, .f32⟩
  | .hbm, ⟨69, _⟩ => ⟨S8x128x8192, .f32⟩
  | .hbm, ⟨70, _⟩ => ⟨S8x8192x8192, .f32⟩
  | .hbm, ⟨71, _⟩ => ⟨S8x128x8192, .f32⟩
  | .hbm, ⟨72, _⟩ => ⟨S8x8192x128, .f32⟩
  | .hbm, ⟨73, _⟩ => ⟨S8x8192x128, .bf16⟩
  | .hbm, ⟨74, _⟩ => ⟨S8x8192x8192, .bf16⟩
  | .hbm, ⟨75, _⟩ => ⟨S8x8192x8192, .f32⟩
  | .hbm, ⟨76, _⟩ => ⟨S8x8192x8192, .f32⟩
  | .hbm, ⟨77, _⟩ => ⟨S8x8192x8192, .f32⟩
  | .hbm, ⟨78, _⟩ => ⟨S8x8192x8192, .f32⟩
  | .hbm, ⟨79, _⟩ => ⟨S_, .f32⟩
  | .hbm, ⟨80, _⟩ => ⟨S8x8192, .f32⟩
  | .hbm, ⟨81, _⟩ => ⟨S8x8192x1, .f32⟩
  | .hbm, ⟨82, _⟩ => ⟨S8x8192x1, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192, .f32⟩
  | .hbm, ⟨87, _⟩ => ⟨S8x8192x8192, .f32⟩
  | .hbm, ⟨88, _⟩ => ⟨S8x8192x8192, .f32⟩
  | .hbm, ⟨89, _⟩ => ⟨S8x8192x8192, .f32⟩
  | .hbm, ⟨90, _⟩ => ⟨S_, .f32⟩
  | .hbm, ⟨91, _⟩ => ⟨S8x8192x8192, .f32⟩
  | .hbm, ⟨92, _⟩ => ⟨S8x8192x8192, .f32⟩
  | .hbm, ⟨93, _⟩ => ⟨S8x8192x256, .f32⟩
  | .hbm, ⟨94, _⟩ => ⟨S8x8192x256, .f32⟩
  | .hbm, ⟨95, _⟩ => ⟨S8x8192x256, .bf16⟩
  | .hbm, ⟨96, _⟩ => ⟨S8x8192x256, .bf16⟩
  | _, _ => ⟨S8x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_v0 : Ref sig .tc := ⟨.hbm, 16, rfl⟩
abbrev main_v11_1 : Ref sig .tc := ⟨.hbm, 17, rfl⟩
abbrev main_call0_v2 : Ref sig .tc := ⟨.hbm, 18, rfl⟩
abbrev main_v11_0 : Ref sig .tc := ⟨.hbm, 19, rfl⟩
abbrev main_call0_cst : Ref sig .tc := ⟨.hbm, 20, rfl⟩
abbrev main_v11_2 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call1_cst : Ref sig .tc := ⟨.hbm, 90, rfl⟩
abbrev main_call1_v0 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]
-- ==== Kernel2.lean ====
abbrev S8x8192x256 : Shape := ⟨3, ![8, 8192, 256]⟩
abbrev S8x8192x128 : Shape := ⟨3, ![8, 8192, 128]⟩
abbrev S8192x1024 : Shape := ⟨2, ![8192, 1024]⟩
abbrev S8x8x1x1024 : Shape := ⟨4, ![8, 8, 1, 1024]⟩
abbrev S1x1024x256 : Shape := ⟨3, ![1, 1024, 256]⟩
abbrev S1x8192x256 : Shape := ⟨3, ![1, 8192, 256]⟩
abbrev S1x8192x128 : Shape := ⟨3, ![1, 8192, 128]⟩
abbrev S1024x128 : Shape := ⟨2, ![1024, 128]⟩
abbrev S1x1x1x1024 : Shape := ⟨4, ![1, 1, 1, 1024]⟩
abbrev S1024x256 : Shape := ⟨2, ![1024, 256]⟩
abbrev S1024x1 : Shape := ⟨2, ![1024, 1]⟩
abbrev S1024x1024 : Shape := ⟨2, ![1024, 1024]⟩
abbrev S1024 : Shape := ⟨1, ![1024]⟩
abbrev S1x1024x128 : Shape := ⟨3, ![1, 1024, 128]⟩
abbrev S128x1024 : Shape := ⟨2, ![128, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .bf16⟩
  | .hbm, ⟨2, _⟩ => ⟨S8x8192x128, .bf16⟩
  | .hbm, ⟨3, _⟩ => ⟨S8192x1024, .bf16⟩
  | .hbm, ⟨4, _⟩ => ⟨S8x8x1x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1024x128, .bf16⟩
  | .local _ .vmem, ⟨7, _⟩ => ⟨S1024x128, .bf16⟩
  | .local _ .vmem, ⟨8, _⟩ => ⟨S1x1x1x1024, .f32⟩
  | .local _ .vmem, ⟨9, _⟩ => ⟨S1x1x1x1024, .f32⟩
  | _, _ => ⟨S8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  ⟨c0_i32, v9, c1_i32_4⟩
def k0_mult1 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c1024_i32_21 : BitVec 32 := 1024#32
  let v56 : BitVec 32 := Scalar.muli arg7 c1024_i32_21
  v56
def k0_off1 (i : grid0.Coords) (k0_t1 : Fin (k0_t1_loop i).trips) : Fin 3 → Nat :=
  let c0_22 : Index := 0#32
  let c0_i32 : BitVec 32 := 0#32
  let c1_i32_4 : BitVec 32 := 1#32
  let arg7 : BitVec 32 := Scf.iv c0_i32 c1_i32_4 k0_t1
  let c1024_i32_21 : BitVec 32 := 1024#32
  let v56 : BitVec 32 := Scalar.muli arg7 c1024_i32_21
  let v57 : BitVec 32 := v56
  let v58 : Index := Scalar.indexCast v57
  let c0_23 : Index := 0#32
  ![0, v58.toNat, 0]
def k0_off2 (i : grid0.Coords) (k0_t1 : Fin (k0_t1_loop i).trips) : Fin 3 → Nat :=
  let c0_27 : Index := 0#32
  let c0_i32 : BitVec 32 := 0#32
  let c1_i32_4 : BitVec 32 := 1#32
  let arg7 : BitVec 32 := Scf.iv c0_i32 c1_i32_4 k0_t1
  let c1024_i32_21 : BitVec 32 := 1024#32
  let v56 : BitVec 32 := Scalar.muli arg7 c1024_i32_21
  let v57 : BitVec 32 := v56
  let v77 : Index := Scalar.indexCast v57
  let c0_28 : Index := 0#32
  ![0, v77.toNat, 0]
@[reducible] def k0_t2_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_5 : BitVec 32 := 1#32
  ⟨v9, v6, c1_i32_5⟩
def k0_mult2 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg7 : BitVec 32 := Scf.iv v9 c1_i32_5 k0_t2
  let c1024_i32_21 : BitVec 32 := 1024#32
  let v56 : BitVec 32 := Scalar.muli arg7 c1024_i32_21
  v56
def k0_off3 (i : grid0.Coords) (k0_t2 : Fin (k0_t2_loop i).trips) : Fin 3 → Nat :=
  let c0_22 : Index := 0#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg7 : BitVec 32 := Scf.iv v9 c1_i32_5 k0_t2
  let c1024_i32_21 : BitVec 32 := 1024#32
  let v56 : BitVec 32 := Scalar.muli arg7 c1024_i32_21
  let v57 : BitVec 32 := v56
  let v58 : Index := Scalar.indexCast v57
  let c0_23 : Index := 0#32
  ![0, v58.toNat, 0]
def k0_off4 (i : grid0.Coords) (k0_t2 : Fin (k0_t2_loop i).trips) : Fin 3 → Nat :=
  let c0_27 : Index := 0#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg7 : BitVec 32 := Scf.iv v9 c1_i32_5 k0_t2
  let c1024_i32_21 : BitVec 32 := 1024#32
  let v56 : BitVec 32 := Scalar.muli arg7 c1024_i32_21
  let v57 : BitVec 32 := v56
  let v77 : Index := Scalar.indexCast v57
  let c0_28 : Index := 0#32
  ![0, v77.toNat, 0]
def k0_mult3 (i : grid0.Coords) : BitVec 32 :=
  let arg1 : BitVec 32 := BitVec.ofNat 32 (i 1).val
  let c1024_i32 : BitVec 32 := 1024#32
  let v12 : BitVec 32 := Scalar.muli arg1 c1024_i32
  v12
def k0_off5 (i : grid0.Coords) : Fin 3 → Nat :=
  let c0_6 : Index := 0#32
  let arg1 : BitVec 32 := BitVec.ofNat 32 (i 1).val
  let c1024_i32 : BitVec 32 := 1024#32
  let v12 : BitVec 32 := Scalar.muli arg1 c1024_i32
  let v13 : BitVec 32 := v12
  let v14 : Index := Scalar.indexCast v13
  let c0_7 : Index := 0#32
  ![0, v14.toNat, 0]
def k0_off6 (i : grid0.Coords) : Fin 3 → Nat :=
  let c0_12 : Index := 0#32
  let arg1 : BitVec 32 := BitVec.ofNat 32 (i 1).val
  let c1024_i32 : BitVec 32 := 1024#32
  let v12 : BitVec 32 := Scalar.muli arg1 c1024_i32
  let v13 : BitVec 32 := v12
  let v38 : Index := Scalar.indexCast v13
  let c0_13 : Index := 0#32
  ![0, v38.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S8x8192x256 : Shape := ⟨3, ![8, 8192, 256]⟩
abbrev S8x8192x128 : Shape := ⟨3, ![8, 8192, 128]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S8192x1024 : Shape := ⟨2, ![8192, 1024]⟩
abbrev S8x8x1x1024 : Shape := ⟨4, ![8, 8, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .bf16⟩
  | .hbm, ⟨2, _⟩ => ⟨S8x8192x128, .bf16⟩
  | .hbm, ⟨3, _⟩ => ⟨S8x8192x256, .f32⟩
  | .hbm, ⟨4, _⟩ => ⟨S8x8192x256, .f32⟩
  | .hbm, ⟨5, _⟩ => ⟨S8x8192x8192, .f32⟩
  | .hbm, ⟨6, _⟩ => ⟨S8192, .i32⟩
  | .hbm, ⟨7, _⟩ => ⟨S1x8192, .i32⟩
  | .hbm, ⟨8, _⟩ => ⟨S8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S8x8192x256, .f32⟩
  | .hbm, ⟨20, _⟩ => ⟨S8x8192x256, .f32⟩
  | .hbm, ⟨21, _⟩ => ⟨S8x8192x8192, .f32⟩
  | .hbm, ⟨22, _⟩ => ⟨S8192, .i32⟩
  | .hbm, ⟨23, _⟩ => ⟨S1x8192, .i32⟩
  | .hbm, ⟨24, _⟩ => ⟨S8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S1x8192x8192, .i1⟩
  | .hbm, ⟨30, _⟩ => ⟨S_, .f32⟩
  | .hbm, ⟨31, _⟩ => ⟨S_, .f32⟩
  | .hbm, ⟨32, _⟩ => ⟨S8x8192x8192, .i1⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S_, .f32⟩
  | .hbm, ⟨38, _⟩ => ⟨S8x8192, .f32⟩
  | .hbm, ⟨39, _⟩ => ⟨S8x8192, .f32⟩
  | .hbm, ⟨40, _⟩ => ⟨S8x8192x1, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S_, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x8192, .bf16⟩
  | .hbm, ⟨50, _⟩ => ⟨S8x8192x8192, .f32⟩
  | .hbm, ⟨51, _⟩ => ⟨S8x8192x128, .f32⟩
  | .hbm, ⟨52, _⟩ => ⟨S8x128x8192, .f32⟩
  | .hbm, ⟨53, _⟩ => ⟨S8192x8x128, .f32⟩
  | .hbm, ⟨54, _⟩ => ⟨S8192x8x128, .bf16⟩
  | .hbm, ⟨55, _⟩ => ⟨S8192x1024, .bf16⟩
  | .hbm, ⟨56, _⟩ => ⟨S8x8192x8192, .f32⟩
  | .hbm, ⟨57, _⟩ => ⟨S_, .f32⟩
  | .hbm, ⟨58, _⟩ => ⟨S8x8192, .f32⟩
  | .hbm, ⟨59, _⟩ => ⟨S8x8192, .f32⟩
  | .hbm, ⟨60, _⟩ => ⟨S8x8x1x1024, .f32⟩
  | _, _ => ⟨S8x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x8x352 : Shape := ⟨3, ![1024, 8, 352]⟩
abbrev S8x1024x352 : Shape := ⟨3, ![8, 1024, 352]⟩
abbrev S_ : Shape := ⟨0, ![]⟩
abbrev S8x1024x384 : Shape := ⟨3, ![8, 1024, 384]⟩
abbrev S8x352x1024 : Shape := ⟨3, ![8, 352, 1024]⟩
abbrev S8x384x1024 : Shape := ⟨3, ![8, 384, 1024]⟩
abbrev S4x8192x768 : Shape := ⟨3, ![4, 8192, 768]⟩
abbrev S1024x1024 : Shape := ⟨2, ![1024, 1024]⟩
abbrev S2x1024x384 : Shape := ⟨3, ![2, 1024, 384]⟩
abbrev S2x384x1024 : Shape := ⟨3, ![2, 384, 1024]⟩
abbrev S1x1024x768 : Shape := ⟨3, ![1, 1024, 768]⟩
abbrev S1024x1 : Shape := ⟨2, ![1024, 1]⟩
abbrev S1x1024x384 : Shape := ⟨3, ![1, 1024, 384]⟩
abbrev S1024x384 : Shape := ⟨2, ![1024, 384]⟩
abbrev S1024x768 : Shape := ⟨2, ![1024, 768]⟩
abbrev S1x384x1024 : Shape := ⟨3, ![1, 384, 1024]⟩
abbrev S384x1024 : Shape := ⟨2, ![384, 1024]⟩
abbrev S768x1024 : Shape := ⟨2, ![768, 1024]⟩

abbrev nBuf : Space → Nat
  | .hbm => 26
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x8x352, .bf16⟩
  | .hbm, ⟨8, _⟩ => ⟨S8x1024x352, .bf16⟩
  | .hbm, ⟨9, _⟩ => ⟨S_, .i32⟩
  | .hbm, ⟨10, _⟩ => ⟨S_, .bf16⟩
  | .hbm, ⟨11, _⟩ => ⟨S8x1024x384, .bf16⟩
  | .hbm, ⟨12, _⟩ => ⟨S1024x2816, .bf16⟩
  | .hbm, ⟨13, _⟩ => ⟨S1024x8x352, .bf16⟩
  | .hbm, ⟨14, _⟩ => ⟨S8x1024x352, .bf16⟩
  | .hbm, ⟨15, _⟩ => ⟨S_, .i32⟩
  | .hbm, ⟨16, _⟩ => ⟨S_, .bf16⟩
  | .hbm, ⟨17, _⟩ => ⟨S8x1024x384, .bf16⟩
  | .hbm, ⟨18, _⟩ => ⟨S2816x1024, .bf16⟩
  | .hbm, ⟨19, _⟩ => ⟨S8x352x1024, .bf16⟩
  | .hbm, ⟨20, _⟩ => ⟨S_, .i32⟩
  | .hbm, ⟨21, _⟩ => ⟨S_, .bf16⟩
  | .hbm, ⟨22, _⟩ => ⟨S8x384x1024, .bf16⟩
  | .hbm, ⟨23, _⟩ => ⟨S4x8192x768, .f32⟩
  | .hbm, ⟨24, _⟩ => ⟨S4x8192x768, .f32⟩
  | .hbm, ⟨25, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x1024x384, .bf16⟩
  | .local _ .vmem, ⟨4, _⟩ => ⟨S2x1024x384, .bf16⟩
  | .local _ .vmem, ⟨5, _⟩ => ⟨S2x1024x384, .bf16⟩
  | .local _ .vmem, ⟨6, _⟩ => ⟨S2x1024x384, .bf16⟩
  | .local _ .vmem, ⟨7, _⟩ => ⟨S2x384x1024, .bf16⟩
  | .local _ .vmem, ⟨8, _⟩ => ⟨S2x384x1024, .bf16⟩
  | .local _ .vmem, ⟨9, _⟩ => ⟨S1x1024x768, .f32⟩
  | .local _ .vmem, ⟨10, _⟩ => ⟨S1x1024x768, .f32⟩
  | .local _ .vmem, ⟨11, _⟩ => ⟨S1x1024x768, .f32⟩
  | .local _ .vmem, ⟨12, _⟩ => ⟨S1x1024x768, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_call2_v0 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_36 : BitVec 32 := 0#32
  let v46 : BitVec 1 := Scalar.cmpi .ne v45 c0_i32_36
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x8x352 : Shape := ⟨3, ![8192, 8, 352]⟩
abbrev S8192x8x384 : Shape := ⟨3, ![8192, 8, 384]⟩
abbrev S8192x4x768 : Shape := ⟨3, ![8192, 4, 768]⟩
abbrev S4x8192x768 : Shape := ⟨3, ![4, 8192, 768]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x8x352, .f32⟩
  | .hbm, ⟨24, _⟩ => ⟨S_, .i32⟩
  | .hbm, ⟨25, _⟩ => ⟨S_, .f32⟩
  | .hbm, ⟨26, _⟩ => ⟨S8192x8x384, .f32⟩
  | .hbm, ⟨27, _⟩ => ⟨S8192x4x768, .f32⟩
  | .hbm, ⟨28, _⟩ => ⟨S4x8192x768, .f32⟩
  | .hbm, ⟨29, _⟩ => ⟨S8192x8x352, .f32⟩
  | .hbm, ⟨30, _⟩ => ⟨S_, .i32⟩
  | .hbm, ⟨31, _⟩ => ⟨S_, .f32⟩
  | .hbm, ⟨32, _⟩ => ⟨S8192x8x384, .f32⟩
  | .hbm, ⟨33, _⟩ => ⟨S8192x4x768, .f32⟩
  | .hbm, ⟨34, _⟩ => ⟨S4x8192x768, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_call1_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Kernel4.lean ====
abbrev S8192x1024 : Shape := ⟨2, ![8192, 1024]⟩
abbrev S8192x2816 : Shape := ⟨2, ![8192, 2816]⟩
abbrev S8192x8x352 : Shape := ⟨3, ![8192, 8, 352]⟩
abbrev S_ : Shape := ⟨0, ![]⟩
abbrev S8192x8x384 : Shape := ⟨3, ![8192, 8, 384]⟩
abbrev S8192x4x768 : Shape := ⟨3, ![8192, 4, 768]⟩
abbrev S4x8192x768 : Shape := ⟨3, ![4, 8192, 768]⟩
abbrev S8x1024x384 : Shape := ⟨3, ![8, 1024, 384]⟩
abbrev S512x1024 : Shape := ⟨2, ![512, 1024]⟩
abbrev S4x512x768 : Shape := ⟨3, ![4, 512, 768]⟩
abbrev S4x1024x768 : Shape := ⟨3, ![4, 1024, 768]⟩
abbrev S1x1024x768 : Shape := ⟨3, ![1, 1024, 768]⟩
abbrev S1024x768 : Shape := ⟨2, ![1024, 768]⟩
abbrev S1x512x768 : Shape := ⟨3, ![1, 512, 768]⟩
abbrev S512x768 : Shape := ⟨2, ![512, 768]⟩
abbrev S1x1024x384 : Shape := ⟨3, ![1, 1024, 384]⟩
abbrev S1024x384 : Shape := ⟨2, ![1024, 384]⟩

abbrev nBuf : Space → Nat
  | .hbm => 11
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .bf16⟩
  | .hbm, ⟨3, _⟩ => ⟨S8192x8x352, .bf16⟩
  | .hbm, ⟨4, _⟩ => ⟨S_, .i32⟩
  | .hbm, ⟨5, _⟩ => ⟨S_, .bf16⟩
  | .hbm, ⟨6, _⟩ => ⟨S8192x8x384, .bf16⟩
  | .hbm, ⟨7, _⟩ => ⟨S8192x1024, .bf16⟩
  | .hbm, ⟨8, _⟩ => ⟨S8192x4x768, .bf16⟩
  | .hbm, ⟨9, _⟩ => ⟨S4x8192x768, .bf16⟩
  | .hbm, ⟨10, _⟩ => ⟨S8x1024x384, .bf16⟩
  | .local _ .vmem, ⟨0, _⟩ => ⟨S512x1024, .bf16⟩
  | .local _ .vmem, ⟨1, _⟩ => ⟨S512x1024, .bf16⟩
  | .local _ .vmem, ⟨2, _⟩ => ⟨S4x512x768, .bf16⟩
  | .local _ .vmem, ⟨3, _⟩ => ⟨S4x512x768, .bf16⟩
  | .local _ .vmem, ⟨4, _⟩ => ⟨S8x1024x384, .bf16⟩
  | .local _ .vmem, ⟨5, _⟩ => ⟨S4x1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v41 : BitVec 1 := Scalar.cmpi .eq arg0 c15_i32
  let v42 : BitVec 32 := Scalar.extui v41
  let c0_i32_38 : BitVec 32 := 0#32
  let v43 : BitVec 1 := Scalar.cmpi .ne v42 c0_i32_38
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1024x8x352 : Shape := ⟨3, ![1024, 8, 352]⟩
abbrev S8x1024x352 : Shape := ⟨3, ![8, 1024, 352]⟩
abbrev S8x1024x384 : Shape := ⟨3, ![8, 1024, 384]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S1024x2816, .bf16⟩
  | .hbm, ⟨8, _⟩ => ⟨S1024x8x352, .bf16⟩
  | .hbm, ⟨9, _⟩ => ⟨S8x1024x352, .bf16⟩
  | .hbm, ⟨10, _⟩ => ⟨S_, .i32⟩
  | .hbm, ⟨11, _⟩ => ⟨S_, .bf16⟩
  | .hbm, ⟨12, _⟩ => ⟨S8x1024x384, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S8192x8x352 : Shape := ⟨3, ![8192, 8, 352]⟩
abbrev S_ : Shape := ⟨0, ![]⟩
abbrev S8192x8x384 : Shape := ⟨3, ![8192, 8, 384]⟩
abbrev S8192x4x768 : Shape := ⟨3, ![8192, 4, 768]⟩
abbrev S4x8192x768 : Shape := ⟨3, ![4, 8192, 768]⟩
abbrev S8x384x1024 : Shape := ⟨3, ![8, 384, 1024]⟩
abbrev S4x512x768 : Shape := ⟨3, ![4, 512, 768]⟩
abbrev S512x1024 : Shape := ⟨2, ![512, 1024]⟩
abbrev S4x768x1024 : Shape := ⟨3, ![4, 768, 1024]⟩
abbrev S1x768x1024 : Shape := ⟨3, ![1, 768, 1024]⟩
abbrev S768x1024 : Shape := ⟨2, ![768, 1024]⟩
abbrev S1x512x768 : Shape := ⟨3, ![1, 512, 768]⟩
abbrev S512x768 : Shape := ⟨2, ![512, 768]⟩
abbrev S1x384x1024 : Shape := ⟨3, ![1, 384, 1024]⟩
abbrev S384x1024 : Shape := ⟨2, ![384, 1024]⟩

abbrev nBuf : Space → Nat
  | .hbm => 10
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x8x352, .bf16⟩
  | .hbm, ⟨4, _⟩ => ⟨S_, .i32⟩
  | .hbm, ⟨5, _⟩ => ⟨S_, .bf16⟩
  | .hbm, ⟨6, _⟩ => ⟨S8192x8x384, .bf16⟩
  | .hbm, ⟨7, _⟩ => ⟨S8192x4x768, .bf16⟩
  | .hbm, ⟨8, _⟩ => ⟨S4x8192x768, .bf16⟩
  | .hbm, ⟨9, _⟩ => ⟨S8x384x1024, .bf16⟩
  | .local _ .vmem, ⟨0, _⟩ => ⟨S4x512x768, .bf16⟩
  | .local _ .vmem, ⟨1, _⟩ => ⟨S4x512x768, .bf16⟩
  | .local _ .vmem, ⟨2, _⟩ => ⟨S512x1024, .f32⟩
  | .local _ .vmem, ⟨3, _⟩ => ⟨S512x1024, .f32⟩
  | .local _ .vmem, ⟨4, _⟩ => ⟨S8x384x1024, .bf16⟩
  | .local _ .vmem, ⟨5, _⟩ => ⟨S4x768x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v41 : BitVec 1 := Scalar.cmpi .eq arg0 c15_i32
  let v42 : BitVec 32 := Scalar.extui v41
  let c0_i32_38 : BitVec 32 := 0#32
  let v43 : BitVec 1 := Scalar.cmpi .ne v42 c0_i32_38
  v43

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S8x352x1024 : Shape := ⟨3, ![8, 352, 1024]⟩
abbrev S8x384x1024 : Shape := ⟨3, ![8, 384, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S8x352x1024, .bf16⟩
  | .hbm, ⟨9, _⟩ => ⟨S_, .i32⟩
  | .hbm, ⟨10, _⟩ => ⟨S_, .bf16⟩
  | .hbm, ⟨11, _⟩ => ⟨S8x384x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x8x352 : Shape := ⟨3, ![8192, 8, 352]⟩
abbrev S8192x8x384 : Shape := ⟨3, ![8192, 8, 384]⟩
abbrev S8192x4x768 : Shape := ⟨3, ![8192, 4, 768]⟩
abbrev S4x8192x768 : Shape := ⟨3, ![4, 8192, 768]⟩
abbrev S1024x8x352 : Shape := ⟨3, ![1024, 8, 352]⟩
abbrev S8x1024x352 : Shape := ⟨3, ![8, 1024, 352]⟩
abbrev S8x1024x384 : Shape := ⟨3, ![8, 1024, 384]⟩
abbrev S8x352x1024 : Shape := ⟨3, ![8, 352, 1024]⟩
abbrev S8x384x1024 : Shape := ⟨3, ![8, 384, 1024]⟩
abbrev S512x1024 : Shape := ⟨2, ![512, 1024]⟩
abbrev S1x512x768 : Shape := ⟨3, ![1, 512, 768]⟩
abbrev S2x1024x384 : Shape := ⟨3, ![2, 1024, 384]⟩
abbrev S2x384x1024 : Shape := ⟨3, ![2, 384, 1024]⟩
abbrev S512x768 : Shape := ⟨2, ![512, 768]⟩
abbrev S1x384x1024 : Shape := ⟨3, ![1, 384, 1024]⟩
abbrev S384x1024 : Shape := ⟨2, ![384, 1024]⟩
abbrev S768x1024 : Shape := ⟨2, ![768, 1024]⟩
abbrev S1x1024x384 : Shape := ⟨3, ![1, 1024, 384]⟩
abbrev S1024x384 : Shape := ⟨2, ![1024, 384]⟩
abbrev S1024x768 : Shape := ⟨2, ![1024, 768]⟩
abbrev S512 : Shape := ⟨1, ![512]⟩
abbrev S512x1 : Shape := ⟨2, ![512, 1]⟩

abbrev nBuf : Space → Nat
  | .hbm => 60
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x2816, .f32⟩
  | .hbm, ⟨24, _⟩ => ⟨S8192x8x352, .f32⟩
  | .hbm, ⟨25, _⟩ => ⟨S_, .i32⟩
  | .hbm, ⟨26, _⟩ => ⟨S_, .f32⟩
  | .hbm, ⟨27, _⟩ => ⟨S8192x8x384, .f32⟩
  | .hbm, ⟨28, _⟩ => ⟨S8192x4x768, .f32⟩
  | .hbm, ⟨29, _⟩ => ⟨S4x8192x768, .f32⟩
  | .hbm, ⟨30, _⟩ => ⟨S8192x2816, .f32⟩
  | .hbm, ⟨31, _⟩ => ⟨S8192x8x352, .f32⟩
  | .hbm, ⟨32, _⟩ => ⟨S_, .i32⟩
  | .hbm, ⟨33, _⟩ => ⟨S_, .f32⟩
  | .hbm, ⟨34, _⟩ => ⟨S8192x8x384, .f32⟩
  | .hbm, ⟨35, _⟩ => ⟨S8192x4x768, .f32⟩
  | .hbm, ⟨36, _⟩ => ⟨S4x8192x768, .f32⟩
  | .hbm, ⟨37, _⟩ => ⟨S1024x2816, .bf16⟩
  | .hbm, ⟨38, _⟩ => ⟨S1024x8x352, .bf16⟩
  | .hbm, ⟨39, _⟩ => ⟨S8x1024x352, .bf16⟩
  | .hbm, ⟨40, _⟩ => ⟨S_, .i32⟩
  | .hbm, ⟨41, _⟩ => ⟨S_, .bf16⟩
  | .hbm, ⟨42, _⟩ => ⟨S8x1024x384, .bf16⟩
  | .hbm, ⟨43, _⟩ => ⟨S1024x2816, .bf16⟩
  | .hbm, ⟨44, _⟩ => ⟨S1024x8x352, .bf16⟩
  | .hbm, ⟨45, _⟩ => ⟨S8x1024x352, .bf16⟩
  | .hbm, ⟨46, _⟩ => ⟨S_, .i32⟩
  | .hbm, ⟨47, _⟩ => ⟨S_, .bf16⟩
  | .hbm, ⟨48, _⟩ => ⟨S8x1024x384, .bf16⟩
  | .hbm, ⟨49, _⟩ => ⟨S2816x1024, .bf16⟩
  | .hbm, ⟨50, _⟩ => ⟨S8x352x1024, .bf16⟩
  | .hbm, ⟨51, _⟩ => ⟨S_, .i32⟩
  | .hbm, ⟨52, _⟩ => ⟨S_, .bf16⟩
  | .hbm, ⟨53, _⟩ => ⟨S8x384x1024, .bf16⟩
  | .hbm, ⟨54, _⟩ => ⟨S4x8192x768, .bf16⟩
  | .hbm, ⟨55, _⟩ => ⟨S4x8192x768, .bf16⟩
  | .hbm, ⟨56, _⟩ => ⟨S4x8192x768, .bf16⟩
  | .hbm, ⟨57, _⟩ => ⟨S8192x1024, .bf16⟩
  | .hbm, ⟨58, _⟩ => ⟨S8192x1024, .f32⟩
  | .hbm, ⟨59, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S2x1024x384, .bf16⟩
  | .local _ .vmem, ⟨10, _⟩ => ⟨S2x1024x384, .bf16⟩
  | .local _ .vmem, ⟨11, _⟩ => ⟨S2x1024x384, .bf16⟩
  | .local _ .vmem, ⟨12, _⟩ => ⟨S2x1024x384, .bf16⟩
  | .local _ .vmem, ⟨13, _⟩ => ⟨S2x384x1024, .bf16⟩
  | .local _ .vmem, ⟨14, _⟩ => ⟨S2x384x1024, .bf16⟩
  | .local _ .vmem, ⟨15, _⟩ => ⟨S1x512x768, .bf16⟩
  | .local _ .vmem, ⟨16, _⟩ => ⟨S1x512x768, .bf16⟩
  | .local _ .vmem, ⟨17, _⟩ => ⟨S1x512x768, .bf16⟩
  | .local _ .vmem, ⟨18, _⟩ => ⟨S1x512x768, .bf16⟩
  | .local _ .vmem, ⟨19, _⟩ => ⟨S1x512x768, .bf16⟩
  | .local _ .vmem, ⟨20, _⟩ => ⟨S1x512x768, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S512x1024, .bf16⟩
  | .local _ .vmem, ⟨27, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_call2_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_call3_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_call4_v0 : Ref sig .tc := ⟨.hbm, 52, rfl⟩
abbrev main_v34 : Ref sig .tc := ⟨.hbm, 53, rfl⟩
abbrev main_v35_0 : Ref sig .tc := ⟨.hbm, 54, rfl⟩
abbrev main_v35_1 : Ref sig .tc := ⟨.hbm, 55, rfl⟩
abbrev main_v35_2 : Ref sig .tc := ⟨.hbm, 56, rfl⟩
abbrev main_v35_3 : Ref sig .tc := ⟨.hbm, 57, rfl⟩
abbrev main_v35_4 : Ref sig .tc := ⟨.hbm, 58, rfl⟩
abbrev main_v35_5 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v67 : BitVec 1 := Scalar.cmpi .eq arg1 c3_i32
  let v68 : BitVec 32 := Scalar.extui v67
  let c0_i32_48 : BitVec 32 := 0#32
  let v69 : BitVec 1 := Scalar.cmpi .ne v68 c0_i32_48
  v69

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference6Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x8x352 : Shape := ⟨3, ![8192, 8, 352]⟩
abbrev S8192x8x384 : Shape := ⟨3, ![8192, 8, 384]⟩
abbrev S8192x4x768 : Shape := ⟨3, ![8192, 4, 768]⟩
abbrev S4x8192x768 : Shape := ⟨3, ![4, 8192, 768]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x8x352, .f32⟩
  | .hbm, ⟨79, _⟩ => ⟨S_, .i32⟩
  | .hbm, ⟨80, _⟩ => ⟨S_, .f32⟩
  | .hbm, ⟨81, _⟩ => ⟨S8192x8x384, .f32⟩
  | .hbm, ⟨82, _⟩ => ⟨S8192x4x768, .f32⟩
  | .hbm, ⟨83, _⟩ => ⟨S4x8192x768, .f32⟩
  | .hbm, ⟨84, _⟩ => ⟨S4x8192x768, .bf16⟩
  | .hbm, ⟨85, _⟩ => ⟨S8192x8x352, .f32⟩
  | .hbm, ⟨86, _⟩ => ⟨S_, .i32⟩
  | .hbm, ⟨87, _⟩ => ⟨S_, .f32⟩
  | .hbm, ⟨88, _⟩ => ⟨S8192x8x384, .f32⟩
  | .hbm, ⟨89, _⟩ => ⟨S8192x4x768, .f32⟩
  | .hbm, ⟨90, _⟩ => ⟨S4x8192x768, .f32⟩
  | .hbm, ⟨91, _⟩ => ⟨S4x8192x768, .bf16⟩
  | .hbm, ⟨92, _⟩ => ⟨S8192x8x352, .f32⟩
  | .hbm, ⟨93, _⟩ => ⟨S_, .i32⟩
  | .hbm, ⟨94, _⟩ => ⟨S_, .f32⟩
  | .hbm, ⟨95, _⟩ => ⟨S8192x8x384, .f32⟩
  | .hbm, ⟨96, _⟩ => ⟨S8192x4x768, .f32⟩
  | .hbm, ⟨97, _⟩ => ⟨S4x8192x768, .f32⟩
  | .hbm, ⟨98, _⟩ => ⟨S4x8192x768, .bf16⟩
  | .hbm, ⟨99, _⟩ => ⟨S8192x1024, .bf16⟩
  | .hbm, ⟨100, _⟩ => ⟨S8192x1024, .f32⟩
  | .hbm, ⟨101, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c : Ref sig .tc := ⟨.hbm, 79, rfl⟩
abbrev main_call2_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_8 : Ref sig .tc := ⟨.hbm, 86, rfl⟩
abbrev main_call3_v0 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_9 : Ref sig .tc := ⟨.hbm, 93, rfl⟩
abbrev main_call4_v0 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩

abbrev nD : Nat := 1
abbrev τ : Topo := Topo.v7x

variable {F : FTy → Type} [FloatOps F]
-- ==== Proof.Tiles.lean ====
/- What one grid point of the attention-gradient kernel computes, as plain functions of the blocks it is handed:
   the first (masked) query tile, one further query tile, and the loop over the further tiles. The loop of the
   program is shown to leave exactly these values, in the carried pair and in the scratch it accumulates in. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- The state of a grid point: the gradients of the key tile and of the value tile, and the accumulated gradient of
    all the queries of the head. -/
abbrev St (F : FTy → Type) := (FVec F S1024x256 .f32 × FVec F S1024x128 .f32) × Vec F S8192x256 .f32

/-- The number of the first query tile, as the program computes it from the key tile's number: a floor division of
    `1024 * j` by `1024`. -/
def firstWord (i : grid0.Coords) : BitVec 32 :=
  let arg1 : BitVec 32 := BitVec.ofNat 32 (i 1).val
  let v7 : BitVec 32 := Scalar.muli arg1 1024#32
  let v8 : BitVec 32 := Scalar.divsi v7 1024#32
  let v13 : BitVec 32 := Scalar.subi (Scalar.extui (Scalar.cmpi .sgt v7 0#32)) (Scalar.extui (Scalar.cmpi .slt v7 0#32))
  let v18 : BitVec 32 := Scalar.subi (Scalar.extui (Scalar.cmpi .sgt 1024#32 0#32)) (Scalar.extui (Scalar.cmpi .slt 1024#32 0#32))
  let v22 : BitVec 1 := Scalar.andi (Scalar.cmpi .ne v13 v18) (Scalar.cmpi .ne (Scalar.remsi v7 1024#32) 0#32)
  Scalar.select v22 (Scalar.subi v8 1#32) v8

/-- The key block and the value block as the body reads them. -/
abbrev keyTile (x4 : Vec F S1x1024x256 .bf16) : FVec F S1024x256 .bf16 :=
  k0_pay17 (View.ld x4 (Rect.unit (s := S1x1024x256) ![0, 0, 0] S1x1024x256.size inb_S1x1024x256_S1x1024x256_0_0_0))
abbrev valTile (x5 : Vec F S1x1024x128 .bf16) : FVec F S1024x128 .bf16 :=
  k0_pay18 (View.ld x5 (Rect.unit (s := S1x1024x128) ![0, 0, 0] S1x1024x128.size inb_S1x1024x128_S1x1024x128_0_0_0))

/-- The first query tile, the one the causal mask cuts: from zero gradients of the keys and values. -/
def tileFirst (i : grid0.Coords) (x0 : Vec F S1x8192x256 .bf16) (x1 : Vec F S8192x128 .bf16) (x2 x3 : Vec F S1x8x1x1024 .f32)
    (x4 : Vec F S1x1024x256 .bf16) (x5 : Vec F S1x1024x128 .bf16) (A : Vec F S8192x256 .f32) : St F :=
  ((k0_pay25 (BitVec.ofNat 32 (i 1).val) (keyTile x4) (valTile x5) (firstWord i) k0_pay19
      (k0_pay21 (View.ld x0 (Rect.unit (s := S1x8192x256) (k0_off1 i) S1x1024x256.size (k0_off1_inb i))))
      (View.ld x1 (Rect.unit (s := S8192x128) (k0_off2 i) S1024x128.size (k0_off2_inb i))) (constant S1024x1024 .f32 0x00000000#32)
      (View.ld x2 (Rect.unit (s := S1x8x1x1024) (k0_off3 i) S1x1x1x1024.size (k0_off3_inb i)))
      (View.ld x3 (Rect.unit (s := S1x8x1x1024) (k0_off3 i) S1x1x1x1024.size (k0_off3_inb i))),
    k0_pay23 (BitVec.ofNat 32 (i 1).val) (keyTile x4) (firstWord i) k0_pay20
      (k0_pay21 (View.ld x0 (Rect.unit (s := S1x8192x256) (k0_off1 i) S1x1024x256.size (k0_off1_inb i))))
      (View.ld x1 (Rect.unit (s := S8192x128) (k0_off2 i) S1024x128.size (k0_off2_inb i))) (constant S1024x1024 .f32 0x00000000#32)
      (View.ld x2 (Rect.unit (s := S1x8x1x1024) (k0_off3 i) S1x1x1x1024.size (k0_off3_inb i)))),
   (Rect.unit (s := S8192x256) (k0_off4 i) S1024x256.size (k0_off4_inb i)).overlay A
     (k0_pay26 (BitVec.ofNat 32 (i 1).val) (keyTile x4) (valTile x5) (firstWord i)
      (k0_pay21 (View.ld x0 (Rect.unit (s := S1x8192x256) (k0_off1 i) S1x1024x256.size (k0_off1_inb i))))
      (View.ld x1 (Rect.unit (s := S8192x128) (k0_off2 i) S1024x128.size (k0_off2_inb i))) (constant S1024x1024 .f32 0x00000000#32)
      (View.ld x2 (Rect.unit (s := S1x8x1x1024) (k0_off3 i) S1x1x1x1024.size (k0_off3_inb i)))
      (View.ld x3 (Rect.unit (s := S1x8x1x1024) (k0_off3 i) S1x1x1x1024.size (k0_off3_inb i)))
      (View.ld A (Rect.unit (s := S8192x256) (k0_off4 i) S1024x256.size (k0_off4_inb i)))))

/-- One further query tile (trip `k` of the loop), unmasked, from the state `s`. -/
def tileNext (i : grid0.Coords) (x0 : Vec F S1x8192x256 .bf16) (x1 : Vec F S8192x128 .bf16) (x2 x3 : Vec F S1x8x1x1024 .f32)
    (v4 : FVec F S1024x256 .bf16) (v6 : FVec F S1024x128 .bf16) (k : Fin (k0_t1_loop i).trips) (s : St F) : St F :=
  ((k0_pay5 v4 v6 s.1.1
      (View.ld x0 (Rect.unit (s := S1x8192x256) (k0_off5 i k) S1x1024x256.size (k0_off5_inb i k)))
      (View.ld x1 (Rect.unit (s := S8192x128) (k0_off6 i k) S1024x128.size (k0_off6_inb i k)))
      (View.ld x2 (Rect.unit (s := S1x8x1x1024) (k0_off7 i k) S1x1x1x1024.size (k0_off7_inb i k)))
      (View.ld x3 (Rect.unit (s := S1x8x1x1024) (k0_off7 i k) S1x1x1x1024.size (k0_off7_inb i k))),
    k0_pay3 v4 s.1.2
      (View.ld x0 (Rect.unit (s := S1x8192x256) (k0_off5 i k) S1x1024x256.size (k0_off5_inb i k)))
      (View.ld x1 (Rect.unit (s := S8192x128) (k0_off6 i k) S1024x128.size (k0_off6_inb i k)))
      (View.ld x2 (Rect.unit (s := S1x8x1x1024) (k0_off7 i k) S1x1x1x1024.size (k0_off7_inb i k)))),
   (Rect.unit (s := S8192x256) (k0_off8 i k) S1024x256.size (k0_off8_inb i k)).overlay s.2
     (k0_pay6 v4 v6
      (View.ld x0 (Rect.unit (s := S1x8192x256) (k0_off5 i k) S1x1024x256.size (k0_off5_inb i k)))
      (View.ld x1 (Rect.unit (s := S8192x128) (k0_off6 i k) S1024x128.size (k0_off6_inb i k)))
      (View.ld x2 (Rect.unit (s := S1x8x1x1024) (k0_off7 i k) S1x1x1x1024.size (k0_off7_inb i k)))
      (View.ld x3 (Rect.unit (s := S1x8x1x1024) (k0_off7 i k) S1x1x1x1024.size (k0_off7_inb i k)))
      (View.ld s.2 (Rect.unit (s := S8192x256) (k0_off8 i k) S1024x256.size (k0_off8_inb i k)))))

/-- The state after `n` further tiles. -/
def tilesNext (i : grid0.Coords) (x0 : Vec F S1x8192x256 .bf16) (x1 : Vec F S8192x128 .bf16) (x2 x3 : Vec F S1x8x1x1024 .f32)
    (v4 : FVec F S1024x256 .bf16) (v6 : FVec F S1024x128 .bf16) (s : St F) : ℕ → St F
  | 0 => s
  | n + 1 => if h : n < (k0_t1_loop i).trips then tileNext i x0 x1 x2 x3 v4 v6 ⟨n, h⟩ (tilesNext i x0 x1 x2 x3 v4 v6 s n)
      else tilesNext i x0 x1 x2 x3 v4 v6 s n

/-- The whole grid point: the first tile, then all the further ones. -/
def pointState (i : grid0.Coords) (x0 : Vec F S1x8192x256 .bf16) (x1 : Vec F S8192x128 .bf16) (x2 x3 : Vec F S1x8x1x1024 .f32)
    (x4 : Vec F S1x1024x256 .bf16) (x5 : Vec F S1x1024x128 .bf16) (A : Vec F S8192x256 .f32) : St F :=
  tilesNext i x0 x1 x2 x3 (keyTile x4) (valTile x5) (tileFirst i x0 x1 x2 x3 x4 x5 A) (k0_t1_loop i).trips

/-! ## Reading what the stores leave -/

/-- One store at a rectangle, over contents that read `A`: the overlay of its payload. -/
theorem read_writes_one {sig : RefSig} {κ : Kind} {sp : Space} {s : Shape} {e : EltTy} {Val : EltTy → Type}
    (v : View sig κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ := r.exists_idx_of_mem hy
    exact (View.read_writes_cons_emb v f r w L x).trans (r.overlay_emb _ _ x).symm
  · exact (View.read_writes_cons_miss v f ⟨r, w⟩ L y hy).trans (r.overlay_of_not_mem _ _ hy).symm

/-- A store of the whole shape leaves its payload. -/
theorem overlay_whole {s : Shape} {α : Type} (r : Rect s) (A : s.Idx → α) (w : r.shape.Idx → α) (y : s.Idx) (x : r.shape.Idx)
    (hx : ∀ a, (y a).val = r.off a + r.stride a * (x a).val) : r.overlay A w y = w x := by
  rw [← r.emb_eq_of_coords x y hx]; exact r.overlay_emb _ _ x

/-- A store of the whole buffer, whatever came before it, leaves its payload. -/
theorem read_writes_whole {sig : RefSig} {κ : Kind} {sp : Space} {s : Shape} {e : EltTy} {Val : EltTy → Type}
    (v : View sig κ sp s e) (f : v.ty.Contents Val) (off : Fin s.rank → Nat) (hz : ∀ a, off a = 0) (inb : ∀ a, off a + s.size a ≤ s.size a)
    (w : s.Idx → Val e) (L : List (View.Piece Val s e)) :
    v.read Val (v.writes Val f (⟨Rect.unit (s := s) off s.size inb, w⟩ :: L)) = w := by
  rw [read_writes_one]
  funext y
  refine overlay_whole (Rect.unit (s := s) off s.size inb) _ w y y fun a => ?_
  show (y a).val = off a + 1 * (y a).val
  rw [hz, Nat.zero_add, Nat.one_mul]

/-- A load of a whole buffer is its contents. -/
theorem ld_whole {s : Shape} {e : EltTy} {Val : EltTy → Type} (off : Fin s.rank → Nat) (hz : ∀ a, off a = 0) (inb : ∀ a, off a + s.size a ≤ s.size a)
    (A : s.Idx → Val e) : View.ld A (Rect.unit (s := s) off s.size inb) = A := by
  funext x
  refine congrArg A (funext fun a => Fin.ext ?_)
  show off a + 1 * (x a).val = (x a).val
  rw [hz, Nat.zero_add, Nat.one_mul]

theorem zero2 : ∀ a : Fin 2, (![0, 0] : Fin 2 → Nat) a = 0 := by decide
theorem zero3 : ∀ a : Fin 3, (![0, 0, 0] : Fin 3 → Nat) a = 0 := by decide

/-! ## The loop over the further tiles -/

theorem trip_value (𝒱 : Variants) (c : Dev nD) (bd : Option 𝒱.V) (i : grid0.Coords) (arg2 : Memref sig .tc .vmem S1x8192x256 .bf16) (harg2 : arg2.IsWhole) (arg3 : Memref sig .tc .vmem S8192x128 .bf16) (harg3 : arg3.IsWhole) (arg4 : Memref sig .tc .vmem S1x8x1x1024 .f32) (harg4 : arg4.IsWhole) (arg5 : Memref sig .tc .vmem S1x8x1x1024 .f32) (harg5 : arg5.IsWhole) (arg6 : Memref sig .tc .vmem S1x1024x256 .bf16) (harg6 : arg6.IsWhole)
    (arg7 : Memref sig .tc .vmem S1x1024x128 .bf16) (harg7 : arg7.IsWhole) (arg8 : Memref sig .tc .vmem S1x8192x256 .bf16) (harg8 : arg8.IsWhole) (arg9 : Memref sig .tc .vmem S1x1024x256 .bf16) (harg9 : arg9.IsWhole) (arg10 : Memref sig .tc .vmem S1x1024x128 .bf16) (harg10 : arg10.IsWhole) (arg11 : Memref sig .tc .vmem S8192x256 .f32) (harg11 : arg11.IsWhole)
    (v4 : FVec F S1024x256 .bf16) (v6 : FVec F S1024x128 .bf16) (X2 : BufTy.Contents (Elt F) arg2.view.ty) (X3 : BufTy.Contents (Elt F) arg3.view.ty) (X4 : BufTy.Contents (Elt F) arg4.view.ty) (X5 : BufTy.Contents (Elt F) arg5.view.ty)
    (k : Fin (k0_t1_loop i).trips) (acc : FVec F S1024x256 .f32 × FVec F S1024x128 .f32) (f : BufTy.Contents (Elt F) arg11.view.ty) :
    tripR_k0_t1 (F := F) 𝒱 c bd i arg2 harg2 arg3 harg3 arg4 harg4 arg5 harg5 arg6 harg6 arg7 harg7 arg8 harg8 arg9 harg9 arg10 harg10 arg11 harg11 v4 v6 X2 X3 X4 X5 k acc f
      = (tileNext i (arg2.view.read (Elt F) X2) (arg3.view.read (Elt F) X3) (arg4.view.read (Elt F) X4) (arg5.view.read (Elt F) X5) v4 v6 k (acc, arg11.view.read (Elt F) f)).1
    ∧ ∀ L : BufTy.Contents (Elt F) arg11.view.ty × List (View.Piece (Elt F) S8192x256 .f32), f = arg11.view.writes (Elt F) L.1 L.2 → arg11.view.read (Elt F) (arg11.view.writes (Elt F) L.1 (tripL_k0_t1 (F := F) 𝒱 c bd i arg2 harg2 arg3 harg3 arg4 harg4 arg5 harg5 arg6 harg6 arg7 harg7 arg8 harg8 arg9 harg9 arg10 harg10 arg11 harg11 v4 v6 X2 X3 X4 X5 k acc f ++ L.2))
      = (tileNext i (arg2.view.read (Elt F) X2) (arg3.view.read (Elt F) X3) (arg4.view.read (Elt F) X4) (arg5.view.read (Elt F) X5) v4 v6 k (acc, arg11.view.read (Elt F) f)).2 := by
  constructor
  · unfold tripR_k0_t1 trip_k0_t1
    rfl
  · intro L hL
    have h : tripL_k0_t1 (F := F) 𝒱 c bd i arg2 harg2 arg3 harg3 arg4 harg4 arg5 harg5 arg6 harg6 arg7 harg7 arg8 harg8 arg9 harg9 arg10 harg10 arg11 harg11 v4 v6 X2 X3 X4 X5 k acc f
        = [⟨Rect.unit (s := S8192x256) (k0_off8 i k) S1024x256.size (k0_off8_inb i k), k0_pay6 v4 v6
            (View.ld (arg2.view.read (Elt F) X2) (Rect.unit (s := S1x8192x256) (k0_off5 i k) S1x1024x256.size (k0_off5_inb i k)))
            (View.ld (arg3.view.read (Elt F) X3) (Rect.unit (s := S8192x128) (k0_off6 i k) S1024x128.size (k0_off6_inb i k)))
            (View.ld (arg4.view.read (Elt F) X4) (Rect.unit (s := S1x8x1x1024) (k0_off7 i k) S1x1x1x1024.size (k0_off7_inb i k)))
            (View.ld (arg5.view.read (Elt F) X5) (Rect.unit (s := S1x8x1x1024) (k0_off7 i k) S1x1x1x1024.size (k0_off7_inb i k)))
            (View.ld (arg11.view.read (Elt F) f) (Rect.unit (s := S8192x256) (k0_off8 i k) S1024x256.size (k0_off8_inb i k)))⟩] := by
      unfold tripL_k0_t1 trip_k0_t1
      rfl
    rw [h, List.singleton_append, read_writes_one, ← hL, tileNext]

/-- Before trip `n` the loop's carried pair and the scratch hold the state after `n` further tiles. -/
theorem loop_value (𝒱 : Variants) (c : Dev nD) (bd : Option 𝒱.V) (i : grid0.Coords) (arg2 : Memref sig .tc .vmem S1x8192x256 .bf16) (harg2 : arg2.IsWhole) (arg3 : Memref sig .tc .vmem S8192x128 .bf16) (harg3 : arg3.IsWhole) (arg4 : Memref sig .tc .vmem S1x8x1x1024 .f32) (harg4 : arg4.IsWhole) (arg5 : Memref sig .tc .vmem S1x8x1x1024 .f32) (harg5 : arg5.IsWhole) (arg6 : Memref sig .tc .vmem S1x1024x256 .bf16) (harg6 : arg6.IsWhole)
    (arg7 : Memref sig .tc .vmem S1x1024x128 .bf16) (harg7 : arg7.IsWhole) (arg8 : Memref sig .tc .vmem S1x8192x256 .bf16) (harg8 : arg8.IsWhole) (arg9 : Memref sig .tc .vmem S1x1024x256 .bf16) (harg9 : arg9.IsWhole) (arg10 : Memref sig .tc .vmem S1x1024x128 .bf16) (harg10 : arg10.IsWhole) (arg11 : Memref sig .tc .vmem S8192x256 .f32) (harg11 : arg11.IsWhole)
    (v4 : FVec F S1024x256 .bf16) (v6 : FVec F S1024x128 .bf16) (X2 : BufTy.Contents (Elt F) arg2.view.ty) (X3 : BufTy.Contents (Elt F) arg3.view.ty) (X4 : BufTy.Contents (Elt F) arg4.view.ty) (X5 : BufTy.Contents (Elt F) arg5.view.ty)
    (G : BufTy.Contents (Elt F) arg11.view.ty) (init : FVec F S1024x256 .f32 × FVec F S1024x128 .f32) (n : ℕ) (hn : n ≤ (k0_t1_loop i).trips) :
    ((st_k0_t1 (F := F) 𝒱 c bd i arg2 harg2 arg3 harg3 arg4 harg4 arg5 harg5 arg6 harg6 arg7 harg7 arg8 harg8 arg9 harg9 arg10 harg10 arg11 harg11 v4 v6 X2 X3 X4 X5 G init n).1,
      arg11.view.read (Elt F) (arg11.view.writes (Elt F) G (st_k0_t1 (F := F) 𝒱 c bd i arg2 harg2 arg3 harg3 arg4 harg4 arg5 harg5 arg6 harg6 arg7 harg7 arg8 harg8 arg9 harg9 arg10 harg10 arg11 harg11 v4 v6 X2 X3 X4 X5 G init n).2))
      = tilesNext i (arg2.view.read (Elt F) X2) (arg3.view.read (Elt F) X3) (arg4.view.read (Elt F) X4) (arg5.view.read (Elt F) X5) v4 v6 (init, arg11.view.read (Elt F) G) n := by
  induction n with
  | zero => rfl
  | succ n ih =>
    have ih := ih (Nat.le_of_succ_le hn)
    rw [tilesNext, dif_pos (Nat.lt_of_succ_le hn), ← ih]
    rw [st_k0_t1_succ (F := F) 𝒱 c bd i arg2 harg2 arg3 harg3 arg4 harg4 arg5 harg5 arg6 harg6 arg7 harg7 arg8 harg8 arg9 harg9 arg10 harg10 arg11 harg11 v4 v6 X2 X3 X4 X5 G init ⟨n, Nat.lt_of_succ_le hn⟩]
    have h := trip_value (F := F) 𝒱 c bd i arg2 harg2 arg3 harg3 arg4 harg4 arg5 harg5 arg6 harg6 arg7 harg7 arg8 harg8 arg9 harg9 arg10 harg10 arg11 harg11 v4 v6 X2 X3 X4 X5 ⟨n, Nat.lt_of_succ_le hn⟩
      (st_k0_t1 (F := F) 𝒱 c bd i arg2 harg2 arg3 harg3 arg4 harg4 arg5 harg5 arg6 harg6 arg7 harg7 arg8 harg8 arg9 harg9 arg10 harg10 arg11 harg11 v4 v6 X2 X3 X4 X5 G init n).1
      (arg11.view.writes (Elt F) G (st_k0_t1 (F := F) 𝒱 c bd i arg2 harg2 arg3 harg3 arg4 harg4 arg5 harg5 arg6 harg6 arg7 harg7 arg8 harg8 arg9 harg9 arg10 harg10 arg11 harg11 v4 v6 X2 X3 X4 X5 G init n).2)
    exact Prod.ext h.1 (h.2 (G, _) rfl)

/-- The remainder loop makes no trip: it leaves what it is handed. -/
theorem rest_value (𝒱 : Variants) (c : Dev nD) (bd : Option 𝒱.V) (i : grid0.Coords) (arg2 : Memref sig .tc .vmem S1x8192x256 .bf16) (harg2 : arg2.IsWhole) (arg3 : Memref sig .tc .vmem S8192x128 .bf16) (harg3 : arg3.IsWhole) (arg4 : Memref sig .tc .vmem S1x8x1x1024 .f32) (harg4 : arg4.IsWhole) (arg5 : Memref sig .tc .vmem S1x8x1x1024 .f32) (harg5 : arg5.IsWhole) (arg6 : Memref sig .tc .vmem S1x1024x256 .bf16) (harg6 : arg6.IsWhole)
    (arg7 : Memref sig .tc .vmem S1x1024x128 .bf16) (harg7 : arg7.IsWhole) (arg8 : Memref sig .tc .vmem S1x8192x256 .bf16) (harg8 : arg8.IsWhole) (arg9 : Memref sig .tc .vmem S1x1024x256 .bf16) (harg9 : arg9.IsWhole) (arg10 : Memref sig .tc .vmem S1x1024x128 .bf16) (harg10 : arg10.IsWhole) (arg11 : Memref sig .tc .vmem S8192x256 .f32) (harg11 : arg11.IsWhole)
    (v4 : FVec F S1024x256 .bf16) (v6 : FVec F S1024x128 .bf16) (X2 : BufTy.Contents (Elt F) arg2.view.ty) (X3 : BufTy.Contents (Elt F) arg3.view.ty) (X4 : BufTy.Contents (Elt F) arg4.view.ty) (X5 : BufTy.Contents (Elt F) arg5.view.ty)
    (G : BufTy.Contents (Elt F) arg11.view.ty) (init : FVec F S1024x256 .f32 × FVec F S1024x128 .f32) :
    st_k0_t2 (F := F) 𝒱 c bd i arg2 harg2 arg3 harg3 arg4 harg4 arg5 harg5 arg6 harg6 arg7 harg7 arg8 harg8 arg9 harg9 arg10 harg10 arg11 harg11 v4 v6 X2 X3 X4 X5 G init (k0_t2_loop i).trips = (init, []) := by
  rw [Nat.le_zero.mp (k0_t2_abs i).2.1]
  rfl

/-- All the stores of a grid point after the scratch reads `A`: the first tile's, then the loops'. What is yielded and
    what the scratch reads are the point's state. -/
theorem point_value (𝒱 : Variants) (c : Dev nD) (bd : Option 𝒱.V) (i : grid0.Coords) (arg2 : Memref sig .tc .vmem S1x8192x256 .bf16) (harg2 : arg2.IsWhole) (arg3 : Memref sig .tc .vmem S8192x128 .bf16) (harg3 : arg3.IsWhole) (arg4 : Memref sig .tc .vmem S1x8x1x1024 .f32) (harg4 : arg4.IsWhole) (arg5 : Memref sig .tc .vmem S1x8x1x1024 .f32) (harg5 : arg5.IsWhole) (arg6 : Memref sig .tc .vmem S1x1024x256 .bf16) (harg6 : arg6.IsWhole)
    (arg7 : Memref sig .tc .vmem S1x1024x128 .bf16) (harg7 : arg7.IsWhole) (arg8 : Memref sig .tc .vmem S1x8192x256 .bf16) (harg8 : arg8.IsWhole) (arg9 : Memref sig .tc .vmem S1x1024x256 .bf16) (harg9 : arg9.IsWhole) (arg10 : Memref sig .tc .vmem S1x1024x128 .bf16) (harg10 : arg10.IsWhole) (arg11 : Memref sig .tc .vmem S8192x256 .f32) (harg11 : arg11.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f : BufTy.Contents (Elt F) arg11.view.ty) (L : List (View.Piece (Elt F) S8192x256 .f32))
    (w : (Rect.unit (s := S8192x256) (k0_off4 i) S1024x256.size (k0_off4_inb i)).shape.Idx → Elt F .f32)
    (hw : w = k0_pay26 (BitVec.ofNat 32 (i 1).val) (keyTile (arg6.view.read (Elt F) X6)) (valTile (arg7.view.read (Elt F) X7)) (firstWord i)
      (k0_pay21 (View.ld (arg2.view.read (Elt F) X2) (Rect.unit (s := S1x8192x256) (k0_off1 i) S1x1024x256.size (k0_off1_inb i))))
      (View.ld (arg3.view.read (Elt F) X3) (Rect.unit (s := S8192x128) (k0_off2 i) S1024x128.size (k0_off2_inb i))) (constant S1024x1024 .f32 0x00000000#32)
      (View.ld (arg4.view.read (Elt F) X4) (Rect.unit (s := S1x8x1x1024) (k0_off3 i) S1x1x1x1024.size (k0_off3_inb i)))
      (View.ld (arg5.view.read (Elt F) X5) (Rect.unit (s := S1x8x1x1024) (k0_off3 i) S1x1x1x1024.size (k0_off3_inb i)))
      (View.ld (arg11.view.read (Elt F) (arg11.view.writes (Elt F) f L)) (Rect.unit (s := S8192x256) (k0_off4 i) S1024x256.size (k0_off4_inb i))))
    (init : FVec F S1024x256 .f32 × FVec F S1024x128 .f32)
    (hinit : init = (tileFirst i (arg2.view.read (Elt F) X2) (arg3.view.read (Elt F) X3) (arg4.view.read (Elt F) X4) (arg5.view.read (Elt F) X5) (arg6.view.read (Elt F) X6) (arg7.view.read (Elt F) X7) (arg11.view.read (Elt F) (arg11.view.writes (Elt F) f L))).1)
    (v4 v4' : FVec F S1024x256 .bf16) (hv4 : v4 = keyTile (arg6.view.read (Elt F) X6)) (v6 v6' : FVec F S1024x128 .bf16) (hv6 : v6 = valTile (arg7.view.read (Elt F) X7))
    (X2' : BufTy.Contents (Elt F) arg2.view.ty) (X3' : BufTy.Contents (Elt F) arg3.view.ty) (X4' : BufTy.Contents (Elt F) arg4.view.ty) (X5' : BufTy.Contents (Elt F) arg5.view.ty)
    (s1 : (FVec F S1024x256 .f32 × FVec F S1024x128 .f32) × List (View.Piece (Elt F) S8192x256 .f32)) (hs1 : s1 = st_k0_t1 (F := F) 𝒱 c bd i arg2 harg2 arg3 harg3 arg4 harg4 arg5 harg5 arg6 harg6 arg7 harg7 arg8 harg8 arg9 harg9 arg10 harg10 arg11 harg11 v4 v6 X2 X3 X4 X5 (arg11.view.writes (Elt F) f (⟨_, w⟩ :: L)) init (k0_t1_loop i).trips)
    (s2 : (FVec F S1024x256 .f32 × FVec F S1024x128 .f32) × List (View.Piece (Elt F) S8192x256 .f32)) (hs2 : s2 = st_k0_t2 (F := F) 𝒱 c bd i arg2 harg2 arg3 harg3 arg4 harg4 arg5 harg5 arg6 harg6 arg7 harg7 arg8 harg8 arg9 harg9 arg10 harg10 arg11 harg11 v4' v6' X2' X3' X4' X5' (arg11.view.writes (Elt F) f (s1.2 ++ (⟨_, w⟩ :: L))) (s1.1.1, s1.1.2) (k0_t2_loop i).trips) :
    (s2.1, arg11.view.read (Elt F) (arg11.view.writes (Elt F) f (s2.2 ++ (s1.2 ++ (⟨_, w⟩ :: L)))))
      = pointState i (arg2.view.read (Elt F) X2) (arg3.view.read (Elt F) X3) (arg4.view.read (Elt F) X4) (arg5.view.read (Elt F) X5) (arg6.view.read (Elt F) X6) (arg7.view.read (Elt F) X7) (arg11.view.read (Elt F) (arg11.view.writes (Elt F) f L)) := by
  have h2 : s2 = (s1.1, []) := hs2.trans <| rest_value (F := F) 𝒱 c bd i arg2 harg2 arg3 harg3 arg4 harg4 arg5 harg5 arg6 harg6 arg7 harg7 arg8 harg8 arg9 harg9 arg10 harg10 arg11 harg11 v4' v6' X2' X3' X4' X5' (arg11.view.writes (Elt F) f (s1.2 ++ (⟨_, w⟩ :: L))) s1.1
  have h1 := loop_value (F := F) 𝒱 c bd i arg2 harg2 arg3 harg3 arg4 harg4 arg5 harg5 arg6 harg6 arg7 harg7 arg8 harg8 arg9 harg9 arg10 harg10 arg11 harg11 v4 v6 X2 X3 X4 X5
    (arg11.view.writes (Elt F) f (⟨_, w⟩ :: L)) init (k0_t1_loop i).trips le_rfl
  rw [read_writes_one] at h1
  have h0 : (init, (Rect.unit (s := S8192x256) (k0_off4 i) S1024x256.size (k0_off4_inb i)).overlay (arg11.view.read (Elt F) (arg11.view.writes (Elt F) f L)) w)
      = tileFirst i (arg2.view.read (Elt F) X2) (arg3.view.read (Elt F) X3) (arg4.view.read (Elt F) X4) (arg5.view.read (Elt F) X5) (arg6.view.read (Elt F) X6) (arg7.view.read (Elt F) X7) (arg11.view.read (Elt F) (arg11.view.writes (Elt F) f L)) := by
    rw [hinit, hw]; rfl
  rw [← hs1, h0, hv4, hv6] at h1
  rw [h2, List.nil_append, View.writes_append]
  exact h1

end Cert.KernelIdeal.Hand

end
-- ==== Proof.Body.lean ====
/- The two conditions the kernel's body branches on, and what its clearing store leaves. -/
module

public import proofs.«01_k».proof.Proof.Tiles

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The condition of the body's first `if`: the key tile is the first. -/
abbrev condFirst (i : grid0.Coords) : Prop := (Scalar.cmpi .ne (Scalar.extui (Scalar.cmpi .eq (BitVec.ofNat 32 (i 1).val) 0#32)) 0#32) = 1#1
/-- The condition of the body's second `if`: the key tile is the last. -/
abbrev condLast (i : grid0.Coords) : Prop := k0_cond2 i = 1#1

/-- The clearing store leaves zeros. -/
theorem read_clear {v : View sig .tc .vmem S8192x256 .f32} (f : BufTy.Contents (Elt F) v.ty) :
    v.read (Elt F) (v.writes (Elt F) f [⟨Rect.unit (s := S8192x256) ![0, 0] S8192x256.size inb_S8192x256_S8192x256_0_0, k0_pay16 (F := F)⟩]) = k0_pay16 (F := F) :=
  read_writes_whole v f _ zero2 _ _ _

end Cert.KernelIdeal.Hand

end
-- ==== Proof.BodyFirst.lean ====
/- The body of the attention-gradient kernel, run once on whole staging buffers, at the first key tile of a head, which clears the
   accumulated gradient of the queries.
   The triple says what every buffer holds afterwards. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 1000000 in
/-- The first key tile of a head: whatever the scratch held, it is cleared first. -/
theorem body_first (c : Dev nD) (i : grid0.Coords) (arg2 : Memref sig .tc .vmem S1x8192x256 .bf16) (harg2 : arg2.IsWhole) (arg3 : Memref sig .tc .vmem S8192x128 .bf16) (harg3 : arg3.IsWhole) (arg4 : Memref sig .tc .vmem S1x8x1x1024 .f32) (harg4 : arg4.IsWhole) (arg5 : Memref sig .tc .vmem S1x8x1x1024 .f32) (harg5 : arg5.IsWhole) (arg6 : Memref sig .tc .vmem S1x1024x256 .bf16) (harg6 : arg6.IsWhole)
    (arg7 : Memref sig .tc .vmem S1x1024x128 .bf16) (harg7 : arg7.IsWhole) (arg8 : Memref sig .tc .vmem S1x8192x256 .bf16) (harg8 : arg8.IsWhole) (arg9 : Memref sig .tc .vmem S1x1024x256 .bf16) (harg9 : arg9.IsWhole) (arg10 : Memref sig .tc .vmem S1x1024x128 .bf16) (harg10 : arg10.IsWhole) (arg11 : Memref sig .tc .vmem S8192x256 .f32) (harg11 : arg11.IsWhole)
    (hc0 : condFirst i) (hc1 : ¬condLast i)
    (x0 : Vec F S1x8192x256 .bf16) (x1 : Vec F S8192x128 .bf16) (x2 : Vec F S1x8x1x1024 .f32) (x3 : Vec F S1x8x1x1024 .f32) (x4 : Vec F S1x1024x256 .bf16) (x5 : Vec F S1x1024x128 .bf16)
    (x6 : Vec F S1x8192x256 .bf16)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare (k0_pay13 (pointState i x0 x1 x2 x3 x4 x5 (k0_pay16 (F := F))).1.1) ∗ owns (c : Thread nD τ) arg10 fullShare (k0_pay14 (pointState i x0 x1 x2 x3 x4 x5 (k0_pay16 (F := F))).1.2) ∗ owns (c : Thread nD τ) arg11 fullShare (pointState i x0 x1 x2 x3 x4 x5 (k0_pay16 (F := F))).2) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11) K := by
  simp only [cc0_flash_bwd_eq_skeleton]; unfold cc0_flash_bwd_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | sl_exact hc0 | sl_exact hc1)
  sl_step
  have hP0 := point_value (F := F) Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5)
    arg11.view.junk [⟨Rect.unit (s := S8192x256) ![0, 0] S8192x256.size inb_S8192x256_S8192x256_0_0, k0_pay16 (F := F)⟩] (k0_pay26 (BitVec.ofNat 32 (i 1).val) (k0_pay17 (View.readAt (Elt F) arg6.view (Rect.unit (s := S1x1024x256) ![0, 0, 0] S1x1024x256.size inb_S1x1024x256_S1x1024x256_0_0_0).toLoadRect (harg6.unread x4))) (k0_pay18 (View.readAt (Elt F) arg7.view (Rect.unit (s := S1x1024x128) ![0, 0, 0] S1x1024x128.size inb_S1x1024x128_S1x1024x128_0_0_0).toLoadRect (harg7.unread x5))) (firstWord i) (k0_pay21 (View.readAt (Elt F) arg2.view (Rect.unit (s := S1x8192x256) (k0_off1 i) S1x1024x256.size (k0_off1_inb i)).toLoadRect (harg2.unread x0))) ((View.readAt (Elt F) arg3.view (Rect.unit (s := S8192x128) (k0_off2 i) S1024x128.size (k0_off2_inb i)).toLoadRect (harg3.unread x1))) (constant S1024x1024 .f32 0x00000000#32) (View.readAt (Elt F) arg4.view (Rect.unit (s := S1x8x1x1024) (k0_off3 i) S1x1x1x1024.size (k0_off3_inb i)).toLoadRect (harg4.unread x2)) (View.readAt (Elt F) arg5.view (Rect.unit (s := S1x8x1x1024) (k0_off3 i) S1x1x1x1024.size (k0_off3_inb i)).toLoadRect (harg5.unread x3)) (View.readAt (Elt F) arg11.view (Rect.unit (s := S8192x256) (k0_off4 i) S1024x256.size (k0_off4_inb i)).toLoadRect (arg11.view.writes (Elt F) arg11.view.junk [⟨Rect.unit (s := S8192x256) ![0, 0] S8192x256.size inb_S8192x256_S8192x256_0_0, k0_pay16 (F := F)⟩]))) rfl
    (k0_pay25 (BitVec.ofNat 32 (i 1).val) (k0_pay17 (View.readAt (Elt F) arg6.view (Rect.unit (s := S1x1024x256) ![0, 0, 0] S1x1024x256.size inb_S1x1024x256_S1x1024x256_0_0_0).toLoadRect (harg6.unread x4))) (k0_pay18 (View.readAt (Elt F) arg7.view (Rect.unit (s := S1x1024x128) ![0, 0, 0] S1x1024x128.size inb_S1x1024x128_S1x1024x128_0_0_0).toLoadRect (harg7.unread x5))) (firstWord i) k0_pay19 (k0_pay21 (View.readAt (Elt F) arg2.view (Rect.unit (s := S1x8192x256) (k0_off1 i) S1x1024x256.size (k0_off1_inb i)).toLoadRect (harg2.unread x0))) ((View.readAt (Elt F) arg3.view (Rect.unit (s := S8192x128) (k0_off2 i) S1024x128.size (k0_off2_inb i)).toLoadRect (harg3.unread x1))) (constant S1024x1024 .f32 0x00000000#32) (View.readAt (Elt F) arg4.view (Rect.unit (s := S1x8x1x1024) (k0_off3 i) S1x1x1x1024.size (k0_off3_inb i)).toLoadRect (harg4.unread x2)) (View.readAt (Elt F) arg5.view (Rect.unit (s := S1x8x1x1024) (k0_off3 i) S1x1x1x1024.size (k0_off3_inb i)).toLoadRect (harg5.unread x3)), k0_pay23 (BitVec.ofNat 32 (i 1).val) (k0_pay17 (View.readAt (Elt F) arg6.view (Rect.unit (s := S1x1024x256) ![0, 0, 0] S1x1024x256.size inb_S1x1024x256_S1x1024x256_0_0_0).toLoadRect (harg6.unread x4))) (firstWord i) k0_pay20 (k0_pay21 (View.readAt (Elt F) arg2.view (Rect.unit (s := S1x8192x256) (k0_off1 i) S1x1024x256.size (k0_off1_inb i)).toLoadRect (harg2.unread x0))) ((View.readAt (Elt F) arg3.view (Rect.unit (s := S8192x128) (k0_off2 i) S1024x128.size (k0_off2_inb i)).toLoadRect (harg3.unread x1))) (constant S1024x1024 .f32 0x00000000#32) (View.readAt (Elt F) arg4.view (Rect.unit (s := S1x8x1x1024) (k0_off3 i) S1x1x1x1024.size (k0_off3_inb i)).toLoadRect (harg4.unread x2))) rfl
    (k0_pay17 (View.readAt (Elt F) arg6.view (Rect.unit (s := S1x1024x256) ![0, 0, 0] S1x1024x256.size inb_S1x1024x256_S1x1024x256_0_0_0).toLoadRect (harg6.unread x4))) (k0_pay17 (View.readAt (Elt F) arg6.view (Rect.unit (s := S1x1024x256) ![0, 0, 0] S1x1024x256.size inb_S1x1024x256_S1x1024x256_0_0_0).toLoadRect (harg6.unread x4))) rfl (k0_pay18 (View.readAt (Elt F) arg7.view (Rect.unit (s := S1x1024x128) ![0, 0, 0] S1x1024x128.size inb_S1x1024x128_S1x1024x128_0_0_0).toLoadRect (harg7.unread x5))) (k0_pay18 (View.readAt (Elt F) arg7.view (Rect.unit (s := S1x1024x128) ![0, 0, 0] S1x1024x128.size inb_S1x1024x128_S1x1024x128_0_0_0).toLoadRect (harg7.unread x5))) rfl (harg2.unread x0) (harg3.unread x1) (harg4.unread x2) (harg5.unread x3) _ rfl _ rfl
  have hR : pointState i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg11.view.read (Elt F) (arg11.view.writes (Elt F) arg11.view.junk [⟨Rect.unit (s := S8192x256) ![0, 0] S8192x256.size inb_S8192x256_S8192x256_0_0, k0_pay16 (F := F)⟩])) = pointState i x0 x1 x2 x3 x4 x5 (k0_pay16 (F := F)) := by
    rw [harg2.read_unread, harg3.read_unread, harg4.read_unread, harg5.read_unread, harg6.read_unread, harg7.read_unread, read_clear]
  have hP := hP0.trans hR
  clear hP0 hR
  dsimp only [k0_t1_loop, k0_t2_loop, Scf.Loop.trips] at hP
  unfold body_first.sl.H9_1
  dsimp only
  have hv : body_first.sl.v24 i = firstWord i := rfl
  have hz : body_first.sl.cst_17 (F := F) = constant S1024x1024 .f32 0x00000000#32 := rfl
  simp only [hv, hz]
  have hP1 := congrArg Prod.fst hP
  have hP2 := congrArg Prod.snd hP
  dsimp only at hP1 hP2
  clear hP
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_writes_whole _ _ _ zero3 _ _ _).trans ?_
    rw [hP1]
  isplitl [H8]
  · iexists _; isplitr; swap; · iexact H8
    ipureintro
    refine (read_writes_whole _ _ _ zero3 _ _ _).trans ?_
    rw [hP1]
  iexists _; isplitr; swap; · iexact H9
  ipureintro
  exact hP2

end Cert.KernelIdeal.Hand

end
-- ==== Proof.BodyMid.lean ====
/- The body of the attention-gradient kernel, run once on whole staging buffers, at a key tile in the middle of a head.
   The triple says what every buffer holds afterwards. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 1000000 in
/-- A key tile in the middle of a head. -/
theorem body_mid (c : Dev nD) (i : grid0.Coords) (arg2 : Memref sig .tc .vmem S1x8192x256 .bf16) (harg2 : arg2.IsWhole) (arg3 : Memref sig .tc .vmem S8192x128 .bf16) (harg3 : arg3.IsWhole) (arg4 : Memref sig .tc .vmem S1x8x1x1024 .f32) (harg4 : arg4.IsWhole) (arg5 : Memref sig .tc .vmem S1x8x1x1024 .f32) (harg5 : arg5.IsWhole) (arg6 : Memref sig .tc .vmem S1x1024x256 .bf16) (harg6 : arg6.IsWhole)
    (arg7 : Memref sig .tc .vmem S1x1024x128 .bf16) (harg7 : arg7.IsWhole) (arg8 : Memref sig .tc .vmem S1x8192x256 .bf16) (harg8 : arg8.IsWhole) (arg9 : Memref sig .tc .vmem S1x1024x256 .bf16) (harg9 : arg9.IsWhole) (arg10 : Memref sig .tc .vmem S1x1024x128 .bf16) (harg10 : arg10.IsWhole) (arg11 : Memref sig .tc .vmem S8192x256 .f32) (harg11 : arg11.IsWhole)
    (hc0 : ¬condFirst i) (hc1 : ¬condLast i)
    (x0 : Vec F S1x8192x256 .bf16) (x1 : Vec F S8192x128 .bf16) (x2 : Vec F S1x8x1x1024 .f32) (x3 : Vec F S1x8x1x1024 .f32) (x4 : Vec F S1x1024x256 .bf16) (x5 : Vec F S1x1024x128 .bf16)
    (x6 : Vec F S1x8192x256 .bf16) (x9 : Vec F S8192x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ (∃ d, owns (c : Thread nD τ) arg10 fullShare d) ∗ owns (c : Thread nD τ) arg11 fullShare x9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare (k0_pay13 (pointState i x0 x1 x2 x3 x4 x5 x9).1.1) ∗ owns (c : Thread nD τ) arg10 fullShare (k0_pay14 (pointState i x0 x1 x2 x3 x4 x5 x9).1.2) ∗ owns (c : Thread nD τ) arg11 fullShare (pointState i x0 x1 x2 x3 x4 x5 x9).2) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11) K := by
  simp only [cc0_flash_bwd_eq_skeleton]; unfold cc0_flash_bwd_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg11.eq_unread hf9
  sl_exec (disch := first | sl_exact hc0 | sl_exact hc1)
  sl_step
  have hP0 := point_value (F := F) Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5)
    (harg11.unread x9) [] (k0_pay26 (BitVec.ofNat 32 (i 1).val) (k0_pay17 (View.readAt (Elt F) arg6.view (Rect.unit (s := S1x1024x256) ![0, 0, 0] S1x1024x256.size inb_S1x1024x256_S1x1024x256_0_0_0).toLoadRect (harg6.unread x4))) (k0_pay18 (View.readAt (Elt F) arg7.view (Rect.unit (s := S1x1024x128) ![0, 0, 0] S1x1024x128.size inb_S1x1024x128_S1x1024x128_0_0_0).toLoadRect (harg7.unread x5))) (firstWord i) (k0_pay21 (View.readAt (Elt F) arg2.view (Rect.unit (s := S1x8192x256) (k0_off1 i) S1x1024x256.size (k0_off1_inb i)).toLoadRect (harg2.unread x0))) ((View.readAt (Elt F) arg3.view (Rect.unit (s := S8192x128) (k0_off2 i) S1024x128.size (k0_off2_inb i)).toLoadRect (harg3.unread x1))) (constant S1024x1024 .f32 0x00000000#32) (View.readAt (Elt F) arg4.view (Rect.unit (s := S1x8x1x1024) (k0_off3 i) S1x1x1x1024.size (k0_off3_inb i)).toLoadRect (harg4.unread x2)) (View.readAt (Elt F) arg5.view (Rect.unit (s := S1x8x1x1024) (k0_off3 i) S1x1x1x1024.size (k0_off3_inb i)).toLoadRect (harg5.unread x3)) (View.readAt (Elt F) arg11.view (Rect.unit (s := S8192x256) (k0_off4 i) S1024x256.size (k0_off4_inb i)).toLoadRect (harg11.unread x9))) rfl
    (k0_pay25 (BitVec.ofNat 32 (i 1).val) (k0_pay17 (View.readAt (Elt F) arg6.view (Rect.unit (s := S1x1024x256) ![0, 0, 0] S1x1024x256.size inb_S1x1024x256_S1x1024x256_0_0_0).toLoadRect (harg6.unread x4))) (k0_pay18 (View.readAt (Elt F) arg7.view (Rect.unit (s := S1x1024x128) ![0, 0, 0] S1x1024x128.size inb_S1x1024x128_S1x1024x128_0_0_0).toLoadRect (harg7.unread x5))) (firstWord i) k0_pay19 (k0_pay21 (View.readAt (Elt F) arg2.view (Rect.unit (s := S1x8192x256) (k0_off1 i) S1x1024x256.size (k0_off1_inb i)).toLoadRect (harg2.unread x0))) ((View.readAt (Elt F) arg3.view (Rect.unit (s := S8192x128) (k0_off2 i) S1024x128.size (k0_off2_inb i)).toLoadRect (harg3.unread x1))) (constant S1024x1024 .f32 0x00000000#32) (View.readAt (Elt F) arg4.view (Rect.unit (s := S1x8x1x1024) (k0_off3 i) S1x1x1x1024.size (k0_off3_inb i)).toLoadRect (harg4.unread x2)) (View.readAt (Elt F) arg5.view (Rect.unit (s := S1x8x1x1024) (k0_off3 i) S1x1x1x1024.size (k0_off3_inb i)).toLoadRect (harg5.unread x3)), k0_pay23 (BitVec.ofNat 32 (i 1).val) (k0_pay17 (View.readAt (Elt F) arg6.view (Rect.unit (s := S1x1024x256) ![0, 0, 0] S1x1024x256.size inb_S1x1024x256_S1x1024x256_0_0_0).toLoadRect (harg6.unread x4))) (firstWord i) k0_pay20 (k0_pay21 (View.readAt (Elt F) arg2.view (Rect.unit (s := S1x8192x256) (k0_off1 i) S1x1024x256.size (k0_off1_inb i)).toLoadRect (harg2.unread x0))) ((View.readAt (Elt F) arg3.view (Rect.unit (s := S8192x128) (k0_off2 i) S1024x128.size (k0_off2_inb i)).toLoadRect (harg3.unread x1))) (constant S1024x1024 .f32 0x00000000#32) (View.readAt (Elt F) arg4.view (Rect.unit (s := S1x8x1x1024) (k0_off3 i) S1x1x1x1024.size (k0_off3_inb i)).toLoadRect (harg4.unread x2))) rfl
    (k0_pay17 (View.readAt (Elt F) arg6.view (Rect.unit (s := S1x1024x256) ![0, 0, 0] S1x1024x256.size inb_S1x1024x256_S1x1024x256_0_0_0).toLoadRect (harg6.unread x4))) (k0_pay17 (View.readAt (Elt F) arg6.view (Rect.unit (s := S1x1024x256) ![0, 0, 0] S1x1024x256.size inb_S1x1024x256_S1x1024x256_0_0_0).toLoadRect (harg6.unread x4))) rfl (k0_pay18 (View.readAt (Elt F) arg7.view (Rect.unit (s := S1x1024x128) ![0, 0, 0] S1x1024x128.size inb_S1x1024x128_S1x1024x128_0_0_0).toLoadRect (harg7.unread x5))) (k0_pay18 (View.readAt (Elt F) arg7.view (Rect.unit (s := S1x1024x128) ![0, 0, 0] S1x1024x128.size inb_S1x1024x128_S1x1024x128_0_0_0).toLoadRect (harg7.unread x5))) rfl (harg2.unread x0) (harg3.unread x1) (harg4.unread x2) (harg5.unread x3) _ rfl _ rfl
  have hR : pointState i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg11.view.read (Elt F) (arg11.view.writes (Elt F) (harg11.unread x9) [])) = pointState i x0 x1 x2 x3 x4 x5 x9 := by
    rw [harg2.read_unread, harg3.read_unread, harg4.read_unread, harg5.read_unread, harg6.read_unread, harg7.read_unread, View.writes_nil, harg11.read_unread]
  have hP := hP0.trans hR
  clear hP0 hR
  dsimp only [k0_t1_loop, k0_t2_loop, Scf.Loop.trips] at hP
  skip
  dsimp only
  have hv : body_mid.sl.v24 i = firstWord i := rfl
  have hz : body_mid.sl.cst_17 (F := F) = constant S1024x1024 .f32 0x00000000#32 := rfl
  simp only [hv, hz]
  have hP1 := congrArg Prod.fst hP
  have hP2 := congrArg Prod.snd hP
  dsimp only at hP1 hP2
  clear hP
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_writes_whole _ _ _ zero3 _ _ _).trans ?_
    rw [hP1]
  isplitl [H8]
  · iexists _; isplitr; swap; · iexact H8
    ipureintro
    refine (read_writes_whole _ _ _ zero3 _ _ _).trans ?_
    rw [hP1]
  iexists _; isplitr; swap; · iexact H9
  ipureintro
  exact hP2

end Cert.KernelIdeal.Hand

end
-- ==== Proof.BodyLast.lean ====
/- The body of the attention-gradient kernel, run once on whole staging buffers, at the last key tile of a head, which
   writes the accumulated gradient of the queries out.
   The triple says what every buffer holds afterwards. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 1000000 in
/-- The last key tile of a head: the accumulated gradient of the queries is written out. -/
theorem body_last (c : Dev nD) (i : grid0.Coords) (arg2 : Memref sig .tc .vmem S1x8192x256 .bf16) (harg2 : arg2.IsWhole) (arg3 : Memref sig .tc .vmem S8192x128 .bf16) (harg3 : arg3.IsWhole) (arg4 : Memref sig .tc .vmem S1x8x1x1024 .f32) (harg4 : arg4.IsWhole) (arg5 : Memref sig .tc .vmem S1x8x1x1024 .f32) (harg5 : arg5.IsWhole) (arg6 : Memref sig .tc .vmem S1x1024x256 .bf16) (harg6 : arg6.IsWhole)
    (arg7 : Memref sig .tc .vmem S1x1024x128 .bf16) (harg7 : arg7.IsWhole) (arg8 : Memref sig .tc .vmem S1x8192x256 .bf16) (harg8 : arg8.IsWhole) (arg9 : Memref sig .tc .vmem S1x1024x256 .bf16) (harg9 : arg9.IsWhole) (arg10 : Memref sig .tc .vmem S1x1024x128 .bf16) (harg10 : arg10.IsWhole) (arg11 : Memref sig .tc .vmem S8192x256 .f32) (harg11 : arg11.IsWhole)
    (hc0 : ¬condFirst i) (hc1 : condLast i)
    (x0 : Vec F S1x8192x256 .bf16) (x1 : Vec F S8192x128 .bf16) (x2 : Vec F S1x8x1x1024 .f32) (x3 : Vec F S1x8x1x1024 .f32) (x4 : Vec F S1x1024x256 .bf16) (x5 : Vec F S1x1024x128 .bf16)
     (x9 : Vec F S8192x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare (k0_pay15 (pointState i x0 x1 x2 x3 x4 x5 x9).2) ∗ owns (c : Thread nD τ) arg9 fullShare (k0_pay13 (pointState i x0 x1 x2 x3 x4 x5 x9).1.1) ∗ owns (c : Thread nD τ) arg10 fullShare (k0_pay14 (pointState i x0 x1 x2 x3 x4 x5 x9).1.2) ∗ owns (c : Thread nD τ) arg11 fullShare (pointState i x0 x1 x2 x3 x4 x5 x9).2) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11) K := by
  simp only [cc0_flash_bwd_eq_skeleton]; unfold cc0_flash_bwd_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg11.eq_unread hf9
  sl_exec (disch := first | sl_exact hc0 | sl_exact hc1)
  sl_step
  have hP0 := point_value (F := F) Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5)
    (harg11.unread x9) [] (k0_pay26 (BitVec.ofNat 32 (i 1).val) (k0_pay17 (View.readAt (Elt F) arg6.view (Rect.unit (s := S1x1024x256) ![0, 0, 0] S1x1024x256.size inb_S1x1024x256_S1x1024x256_0_0_0).toLoadRect (harg6.unread x4))) (k0_pay18 (View.readAt (Elt F) arg7.view (Rect.unit (s := S1x1024x128) ![0, 0, 0] S1x1024x128.size inb_S1x1024x128_S1x1024x128_0_0_0).toLoadRect (harg7.unread x5))) (firstWord i) (k0_pay21 (View.readAt (Elt F) arg2.view (Rect.unit (s := S1x8192x256) (k0_off1 i) S1x1024x256.size (k0_off1_inb i)).toLoadRect (harg2.unread x0))) ((View.readAt (Elt F) arg3.view (Rect.unit (s := S8192x128) (k0_off2 i) S1024x128.size (k0_off2_inb i)).toLoadRect (harg3.unread x1))) (constant S1024x1024 .f32 0x00000000#32) (View.readAt (Elt F) arg4.view (Rect.unit (s := S1x8x1x1024) (k0_off3 i) S1x1x1x1024.size (k0_off3_inb i)).toLoadRect (harg4.unread x2)) (View.readAt (Elt F) arg5.view (Rect.unit (s := S1x8x1x1024) (k0_off3 i) S1x1x1x1024.size (k0_off3_inb i)).toLoadRect (harg5.unread x3)) (View.readAt (Elt F) arg11.view (Rect.unit (s := S8192x256) (k0_off4 i) S1024x256.size (k0_off4_inb i)).toLoadRect (harg11.unread x9))) rfl
    (k0_pay25 (BitVec.ofNat 32 (i 1).val) (k0_pay17 (View.readAt (Elt F) arg6.view (Rect.unit (s := S1x1024x256) ![0, 0, 0] S1x1024x256.size inb_S1x1024x256_S1x1024x256_0_0_0).toLoadRect (harg6.unread x4))) (k0_pay18 (View.readAt (Elt F) arg7.view (Rect.unit (s := S1x1024x128) ![0, 0, 0] S1x1024x128.size inb_S1x1024x128_S1x1024x128_0_0_0).toLoadRect (harg7.unread x5))) (firstWord i) k0_pay19 (k0_pay21 (View.readAt (Elt F) arg2.view (Rect.unit (s := S1x8192x256) (k0_off1 i) S1x1024x256.size (k0_off1_inb i)).toLoadRect (harg2.unread x0))) ((View.readAt (Elt F) arg3.view (Rect.unit (s := S8192x128) (k0_off2 i) S1024x128.size (k0_off2_inb i)).toLoadRect (harg3.unread x1))) (constant S1024x1024 .f32 0x00000000#32) (View.readAt (Elt F) arg4.view (Rect.unit (s := S1x8x1x1024) (k0_off3 i) S1x1x1x1024.size (k0_off3_inb i)).toLoadRect (harg4.unread x2)) (View.readAt (Elt F) arg5.view (Rect.unit (s := S1x8x1x1024) (k0_off3 i) S1x1x1x1024.size (k0_off3_inb i)).toLoadRect (harg5.unread x3)), k0_pay23 (BitVec.ofNat 32 (i 1).val) (k0_pay17 (View.readAt (Elt F) arg6.view (Rect.unit (s := S1x1024x256) ![0, 0, 0] S1x1024x256.size inb_S1x1024x256_S1x1024x256_0_0_0).toLoadRect (harg6.unread x4))) (firstWord i) k0_pay20 (k0_pay21 (View.readAt (Elt F) arg2.view (Rect.unit (s := S1x8192x256) (k0_off1 i) S1x1024x256.size (k0_off1_inb i)).toLoadRect (harg2.unread x0))) ((View.readAt (Elt F) arg3.view (Rect.unit (s := S8192x128) (k0_off2 i) S1024x128.size (k0_off2_inb i)).toLoadRect (harg3.unread x1))) (constant S1024x1024 .f32 0x00000000#32) (View.readAt (Elt F) arg4.view (Rect.unit (s := S1x8x1x1024) (k0_off3 i) S1x1x1x1024.size (k0_off3_inb i)).toLoadRect (harg4.unread x2))) rfl
    (k0_pay17 (View.readAt (Elt F) arg6.view (Rect.unit (s := S1x1024x256) ![0, 0, 0] S1x1024x256.size inb_S1x1024x256_S1x1024x256_0_0_0).toLoadRect (harg6.unread x4))) (k0_pay17 (View.readAt (Elt F) arg6.view (Rect.unit (s := S1x1024x256) ![0, 0, 0] S1x1024x256.size inb_S1x1024x256_S1x1024x256_0_0_0).toLoadRect (harg6.unread x4))) rfl (k0_pay18 (View.readAt (Elt F) arg7.view (Rect.unit (s := S1x1024x128) ![0, 0, 0] S1x1024x128.size inb_S1x1024x128_S1x1024x128_0_0_0).toLoadRect (harg7.unread x5))) (k0_pay18 (View.readAt (Elt F) arg7.view (Rect.unit (s := S1x1024x128) ![0, 0, 0] S1x1024x128.size inb_S1x1024x128_S1x1024x128_0_0_0).toLoadRect (harg7.unread x5))) rfl (harg2.unread x0) (harg3.unread x1) (harg4.unread x2) (harg5.unread x3) _ rfl _ rfl
  have hR : pointState i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg11.view.read (Elt F) (arg11.view.writes (Elt F) (harg11.unread x9) [])) = pointState i x0 x1 x2 x3 x4 x5 x9 := by
    rw [harg2.read_unread, harg3.read_unread, harg4.read_unread, harg5.read_unread, harg6.read_unread, harg7.read_unread, View.writes_nil, harg11.read_unread]
  have hP := hP0.trans hR
  clear hP0 hR
  dsimp only [k0_t1_loop, k0_t2_loop, Scf.Loop.trips] at hP
  unfold body_last.sl.v92
  dsimp only
  have hv : body_last.sl.v24 i = firstWord i := rfl
  have hz : body_last.sl.cst_17 (F := F) = constant S1024x1024 .f32 0x00000000#32 := rfl
  simp only [hv, hz]
  have hP1 := congrArg Prod.fst hP
  have hP2 := congrArg Prod.snd hP
  dsimp only at hP1 hP2
  clear hP
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (read_writes_whole _ _ _ zero3 _ _ _).trans ?_
    rw [View.readAt_eq_ld, ld_whole _ zero2, hP2]
  isplitl [H7]
  · iexists _; isplitr; swap; · iexact H7
    ipureintro
    refine (read_writes_whole _ _ _ zero3 _ _ _).trans ?_
    rw [hP1]
  isplitl [H8]
  · iexists _; isplitr; swap; · iexact H8
    ipureintro
    refine (read_writes_whole _ _ _ zero3 _ _ _).trans ?_
    rw [hP1]
  iexists _; isplitr; swap; · iexact H9
  ipureintro
  exact hP2

end Cert.KernelIdeal.Hand

end
-- ==== Proof.Run.lean ====
/- The whole kernel from the body's triples: the accumulated gradient of the queries is carried from one key tile of a
   head to the next, so what the buffers hold after a grid point is a recursion over the points; the pipeline's proof
   data, the body's obligation at every point, and the launch. -/
module

public import proofs.«01_k».proof.Proof.BodyFirst
public import proofs.«01_k».proof.Proof.BodyMid
public import proofs.«01_k».proof.Proof.BodyLast
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's conditions over the grid points -/

theorem condFirst_iff : ∀ t : Fin cfg0.N, condFirst (grid0.coords t) ↔ t.val % 8 = 0 :=
  (fun t => by
    have ht : t.val < 64 := Nat.lt_of_lt_of_eq t.isLt N_0
    have e1 : (grid0.coords t 1).val = t.val / 1 % 8 := Pipeline.Grid.coords_val t 1 (by decide) rfl
    simp only [condFirst, e1]
    word_cmp
   : ∀ t : Fin grid0.N, condFirst (grid0.coords t) ↔ t.val % 8 = 0)

theorem condLast_iff : ∀ t : Fin cfg0.N, condLast (grid0.coords t) ↔ t.val % 8 = 7 :=
  (fun t => by
    have ht : t.val < 64 := Nat.lt_of_lt_of_eq t.isLt N_0
    have e1 : (grid0.coords t 1).val = t.val / 1 % 8 := Pipeline.Grid.coords_val t 1 (by decide) rfl
    simp only [condLast, k0_cond2, e1]
    word_cmp
   : ∀ t : Fin grid0.N, condLast (grid0.coords t) ↔ t.val % 8 = 7)

/-- The gradient of the queries is left alone, and not written back, before a head's last key tile. -/
theorem idle_q : ∀ t : Fin cfg0.N, ¬condLast (grid0.coords t) → cfg0.idle 6 (grid0.coords t) = true := by decide +kernel
theorem noFlush_q : ∀ t : Fin cfg0.N, ¬condLast (grid0.coords t) → (cfg0.win 6).flush t = false := by decide +kernel
theorem live_q : ∀ t : Fin cfg0.N, condLast (grid0.coords t) → cfg0.idle 6 (grid0.coords t) = false := by decide +kernel

/-! ## The buffers of a grid point -/

abbrev stg0 (t : Fin cfg0.N) : Memref sig .tc .vmem S1x8192x256 .bf16 := win0_0.stage (cfg0.slots t 0)
abbrev hstg0 (t : Fin cfg0.N) : (stg0 t).IsWhole := hstage0_0 ((cfg0.slots t 0).cast nbuf0_0)
abbrev stg1 (t : Fin cfg0.N) : Memref sig .tc .vmem S8192x128 .bf16 := win0_1.stage (cfg0.slots t 1)
abbrev hstg1 (t : Fin cfg0.N) : (stg1 t).IsWhole := hstage0_1 ((cfg0.slots t 1).cast nbuf0_1)
abbrev stg2 (t : Fin cfg0.N) : Memref sig .tc .vmem S1x8x1x1024 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x8x1x1024 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S1x1024x256 .bf16 := win0_4.stage (cfg0.slots t 4)
abbrev hstg4 (t : Fin cfg0.N) : (stg4 t).IsWhole := hstage0_4 ((cfg0.slots t 4).cast nbuf0_4)
abbrev stg5 (t : Fin cfg0.N) : Memref sig .tc .vmem S1x1024x128 .bf16 := win0_5.stage (cfg0.slots t 5)
abbrev hstg5 (t : Fin cfg0.N) : (stg5 t).IsWhole := hstage0_5 ((cfg0.slots t 5).cast nbuf0_5)
abbrev stg6 (t : Fin cfg0.N) : Memref sig .tc .vmem S1x8192x256 .bf16 := win0_6.stage (cfg0.slots t 6)
abbrev hstg6 (t : Fin cfg0.N) : (stg6 t).IsWhole := hstage0_6 ((cfg0.slots t 6).cast nbuf0_6)
abbrev stg7 (t : Fin cfg0.N) : Memref sig .tc .vmem S1x1024x256 .bf16 := win0_7.stage (cfg0.slots t 7)
abbrev hstg7 (t : Fin cfg0.N) : (stg7 t).IsWhole := hstage0_7 ((cfg0.slots t 7).cast nbuf0_7)
abbrev stg8 (t : Fin cfg0.N) : Memref sig .tc .vmem S1x1024x128 .bf16 := win0_8.stage (cfg0.slots t 8)
abbrev hstg8 (t : Fin cfg0.N) : (stg8 t).IsWhole := hstage0_8 ((cfg0.slots t 8).cast nbuf0_8)
/-- The scratch in which the gradient of the queries accumulates. -/
abbrev scr : Memref sig .tc .vmem S8192x256 .f32 := Memref.whole cc0_scratch0

theorem inv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## What the buffers hold after a grid point -/

/-- The state after the point `t`, when the accumulated gradient before it is `A`. -/
def stepAt (c : Dev nD) (t : Fin cfg0.N) (A : Vec F S8192x256 .f32) : St F :=
  pointState (grid0.coords t) (iblk m c 0 t) (iblk m c 1 t) (iblk m c 2 t) (iblk m c 3 t) (iblk m c 4 t) (iblk m c 5 t) A

/-- The state after the point at position `n`: a head's first key tile starts from zeros, every other one from what the
    point before left. -/
def stateAt (c : Dev nD) : (n : ℕ) → n < cfg0.N → St F
  | 0, hn => stepAt m c ⟨0, hn⟩ k0_pay16
  | n + 1, hn => stepAt m c ⟨n + 1, hn⟩ (if (n + 1) % 8 = 0 then k0_pay16 else (stateAt c n (Nat.lt_of_succ_lt hn)).2)

theorem stateAt_first (c : Dev nD) (t : Fin cfg0.N) (h : t.val % 8 = 0) : stateAt m c t.val t.isLt = stepAt m c t k0_pay16 := by
  obtain ⟨n, hn⟩ := t
  cases n with
  | zero => rfl
  | succ n => rw [stateAt, if_pos h]

theorem stateAt_next (c : Dev nD) (t : Fin cfg0.N) (h : ¬t.val % 8 = 0) :
    stateAt m c t.val t.isLt = stepAt m c t (stateAt m c (t.val - 1) (Nat.lt_of_le_of_lt (Nat.sub_le _ _) t.isLt)).2 := by
  obtain ⟨n, hn⟩ := t
  cases n with
  | zero => exact absurd (Nat.zero_mod _) h
  | succ n => rw [stateAt, if_neg h]; rfl

/-- What holds before the point at position `n`: before the first the scratch holds anything, afterwards what the point
    before left. -/
def invAt (c : Dev nD) : (n : ℕ) → n ≤ cfg0.N → sProp 𝕄
  | 0, _ => Pipeline.ΦA spec0 c
  | n + 1, hn => iprop(iprop(owns (c : Thread nD τ) scr fullShare ((stateAt m c n hn).2)) ∗ (∃ r, prngReg c r))

theorem invAt_zero (c : Dev nD) (n : ℕ) (h : n ≤ cfg0.N) (hz : n = 0) : invAt m c n h = Pipeline.ΦA spec0 c := by
  subst hz; rfl

theorem invAt_succ (c : Dev nD) (n : ℕ) (hn : n < cfg0.N) :
    invAt m c (n + 1) hn = iprop(iprop(owns (c : Thread nD τ) scr fullShare ((stateAt m c n hn).2)) ∗ (∃ r, prngReg c r)) := rfl

theorem invAt_pos (c : Dev nD) (n : ℕ) (h : n ≤ cfg0.N) (hz : n ≠ 0) :
    invAt m c n h = iprop(iprop(owns (c : Thread nD τ) scr fullShare ((stateAt m c (n - 1) (by omega)).2)) ∗ (∃ r, prngReg c r)) := by
  cases n with
  | zero => exact absurd rfl hz
  | succ n => rfl

/-- The pipeline's proof data: the arrays as the call finds them, the inputs' buffers at their blocks, the outputs' at the
    state after the point. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay15 (stateAt m c t.val t.isLt).2
    | ⟨7, _⟩ => k0_pay13 (stateAt m c t.val t.isLt).1.1
    | ⟨8, _⟩ => k0_pay14 (stateAt m c t.val t.isLt).1.2
  Φ t := invAt m c t.val (Nat.le_of_lt_succ t.isLt)
  q _ := fullShare
  owed _ := 0

theorem data_arr (c : Dev nD) (w : Fin cfg0.W) : (data m 0 c).A w = V m c (Pipeline.arrRef spec0 w) := by
  dsimp only [data]

theorem data_inv (c : Dev nD) (t : Fin cfg0.N) : (data m 0 c).Φ t.castSucc = invAt m c t.val (Nat.le_of_lt t.isLt) := by
  dsimp only [data]; exact Pipeline.Dat.Φ_castSucc (invAt m c) t

theorem after0 (c : Dev nD) (t : Fin cfg0.N) : (data m 0 c).after 0 t = iblk m c 0 t := by dsimp only [data]
theorem after1 (c : Dev nD) (t : Fin cfg0.N) : (data m 0 c).after 1 t = iblk m c 1 t := by dsimp only [data]
theorem after2 (c : Dev nD) (t : Fin cfg0.N) : (data m 0 c).after 2 t = iblk m c 2 t := by dsimp only [data]
theorem after3 (c : Dev nD) (t : Fin cfg0.N) : (data m 0 c).after 3 t = iblk m c 3 t := by dsimp only [data]
theorem after4 (c : Dev nD) (t : Fin cfg0.N) : (data m 0 c).after 4 t = iblk m c 4 t := by dsimp only [data]
theorem after5 (c : Dev nD) (t : Fin cfg0.N) : (data m 0 c).after 5 t = iblk m c 5 t := by dsimp only [data]
theorem after6 (c : Dev nD) (t : Fin cfg0.N) : (data m 0 c).after 6 t = k0_pay15 (stateAt m c t.val t.isLt).2 := by dsimp only [data]
theorem after7 (c : Dev nD) (t : Fin cfg0.N) : (data m 0 c).after 7 t = k0_pay13 (stateAt m c t.val t.isLt).1.1 := by dsimp only [data]
theorem after8 (c : Dev nD) (t : Fin cfg0.N) : (data m 0 c).after 8 t = k0_pay14 (stateAt m c t.val t.isLt).1.2 := by dsimp only [data]
theorem before0 (c : Dev nD) (t : Fin cfg0.N) (d) : (data m 0 c).before 0 t d = iblk m c 0 t :=
  before0_0_of m (data m 0 c) (data_arr m c 0) (after0 m c) t d
theorem before1 (c : Dev nD) (t : Fin cfg0.N) (d) : (data m 0 c).before 1 t d = iblk m c 1 t :=
  before0_1_of m (data m 0 c) (data_arr m c 1) (after1 m c) t d
theorem before2 (c : Dev nD) (t : Fin cfg0.N) (d) : (data m 0 c).before 2 t d = iblk m c 2 t :=
  before0_2_of m (data m 0 c) (data_arr m c 2) (after2 m c) t d
theorem before3 (c : Dev nD) (t : Fin cfg0.N) (d) : (data m 0 c).before 3 t d = iblk m c 3 t :=
  before0_3_of m (data m 0 c) (data_arr m c 3) (after3 m c) t d
theorem before4 (c : Dev nD) (t : Fin cfg0.N) (d) : (data m 0 c).before 4 t d = iblk m c 4 t :=
  before0_4_of m (data m 0 c) (data_arr m c 4) (after4 m c) t d
theorem before5 (c : Dev nD) (t : Fin cfg0.N) (d) : (data m 0 c).before 5 t d = iblk m c 5 t :=
  before0_5_of m (data m 0 c) (data_arr m c 5) (after5 m c) t d

/-! ## The body at every grid point -/

/-- What the body is called with, -/
def bodyPre (c : Dev nD) (t : Fin cfg0.N) : sProp 𝕄 :=
  iprop((data m 0 c).Φ t.castSucc ∗ (data m 0 c).owesAt () t.castSucc
    ∗ (∃ d, owns (c : Thread nD τ) (stg0 t) fullShare ((data m 0 c).before 0 t d))
    ∗ (∃ d, owns (c : Thread nD τ) (stg1 t) fullShare ((data m 0 c).before 1 t d))
    ∗ (∃ d, owns (c : Thread nD τ) (stg2 t) fullShare ((data m 0 c).before 2 t d))
    ∗ (∃ d, owns (c : Thread nD τ) (stg3 t) fullShare ((data m 0 c).before 3 t d))
    ∗ (∃ d, owns (c : Thread nD τ) (stg4 t) fullShare ((data m 0 c).before 4 t d))
    ∗ (∃ d, owns (c : Thread nD τ) (stg5 t) fullShare ((data m 0 c).before 5 t d))
    ∗ (∃ d, owns (c : Thread nD τ) (stg6 t) fullShare ((data m 0 c).before 6 t d))
    ∗ (∃ d, owns (c : Thread nD τ) (stg7 t) fullShare ((data m 0 c).before 7 t d))
    ∗ (∃ d, owns (c : Thread nD τ) (stg8 t) fullShare ((data m 0 c).before 8 t d)))

/-- and what it gives back. -/
def bodyPost (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t)

theorem leaves0 (c : Dev nD) (t : Fin cfg0.N) : (data m 0 c).leavesExact 0 t = owns (c : Thread nD τ) (stg0 t) fullShare ((data m 0 c).after 0 t) := by
  unfold Dat.leavesExact; rw [show cfg0.idle 0 (grid0.coords t) = false from rfl]
theorem leaves1 (c : Dev nD) (t : Fin cfg0.N) : (data m 0 c).leavesExact 1 t = owns (c : Thread nD τ) (stg1 t) fullShare ((data m 0 c).after 1 t) := by
  unfold Dat.leavesExact; rw [show cfg0.idle 1 (grid0.coords t) = false from rfl]
theorem leaves2 (c : Dev nD) (t : Fin cfg0.N) : (data m 0 c).leavesExact 2 t = owns (c : Thread nD τ) (stg2 t) fullShare ((data m 0 c).after 2 t) := by
  unfold Dat.leavesExact; rw [show cfg0.idle 2 (grid0.coords t) = false from rfl]
theorem leaves3 (c : Dev nD) (t : Fin cfg0.N) : (data m 0 c).leavesExact 3 t = owns (c : Thread nD τ) (stg3 t) fullShare ((data m 0 c).after 3 t) := by
  unfold Dat.leavesExact; rw [show cfg0.idle 3 (grid0.coords t) = false from rfl]
theorem leaves4 (c : Dev nD) (t : Fin cfg0.N) : (data m 0 c).leavesExact 4 t = owns (c : Thread nD τ) (stg4 t) fullShare ((data m 0 c).after 4 t) := by
  unfold Dat.leavesExact; rw [show cfg0.idle 4 (grid0.coords t) = false from rfl]
theorem leaves5 (c : Dev nD) (t : Fin cfg0.N) : (data m 0 c).leavesExact 5 t = owns (c : Thread nD τ) (stg5 t) fullShare ((data m 0 c).after 5 t) := by
  unfold Dat.leavesExact; rw [show cfg0.idle 5 (grid0.coords t) = false from rfl]
theorem leaves7 (c : Dev nD) (t : Fin cfg0.N) : (data m 0 c).leavesExact 7 t = owns (c : Thread nD τ) (stg7 t) fullShare ((data m 0 c).after 7 t) := by
  unfold Dat.leavesExact; rw [show cfg0.idle 7 (grid0.coords t) = false from rfl]
theorem leaves8 (c : Dev nD) (t : Fin cfg0.N) : (data m 0 c).leavesExact 8 t = owns (c : Thread nD τ) (stg8 t) fullShare ((data m 0 c).after 8 t) := by
  unfold Dat.leavesExact; rw [show cfg0.idle 8 (grid0.coords t) = false from rfl]
theorem leaves6 (c : Dev nD) (t : Fin cfg0.N) (h : condLast (grid0.coords t)) : (data m 0 c).leavesExact 6 t = owns (c : Thread nD τ) (stg6 t) fullShare ((data m 0 c).after 6 t) := by
  unfold Dat.leavesExact; rw [live_q t h]

set_option maxHeartbeats 4000000 in
/-- The body at any point, by the triple of the point's kind. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves7, leaves8, after0, after1, after2, after3, after4, after5, after7, after8]
  rw [show (data m 0 c).owesAt () t.succ = (data m 0 c).owesAt () t.castSucc from rfl]
  rw [show (data m 0 c).Φ t.succ = invAt m c (t.val + 1) t.isLt from rfl, invAt_succ]
  have hN : t.val < 64 := lt_of_lt_of_eq t.isLt (show cfg0.N = 64 from N_0)
  by_cases h0 : t.val % 8 = 0
  · have hl : ¬condLast (grid0.coords t) := fun h => by have := (condLast_iff t).mp h; omega
    rw [Dat.leavesExact_idle (data m 0 c) 6 t (idle_q t hl) (noFlush_q t hl), stateAt_first m c t h0, data_inv m c t]
    unfold stepAt
    by_cases hz : t.val = 0
    · rw [invAt_zero m c _ _ hz, inv_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_first c (grid0.coords t) _ _ _ _ _ _ _ _ _ _ _ _ _ _ _ _ _ _ _ _ ((condFirst_iff t).mpr h0) hl (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      iexact H8
    · rw [invAt_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_first c (grid0.coords t) _ _ _ _ _ _ _ _ _ _ _ _ _ _ _ _ _ _ _ _ ((condFirst_iff t).mpr h0) hl (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexists _; iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      iexact H8
  · have hz : t.val ≠ 0 := fun h => h0 (by rw [h])
    rw [stateAt_next m c t h0, data_inv m c t, invAt_pos m c _ _ hz]
    unfold stepAt
    by_cases h1 : t.val % 8 = 7
    · have hl : condLast (grid0.coords t) := (condLast_iff t).mpr h1
      rw [leaves6 m c t hl, after6, stateAt_next m c t h0]
      unfold stepAt
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_last c (grid0.coords t) _ _ _ _ _ _ _ _ _ _ _ _ _ _ _ _ _ _ _ _ (fun h => h0 ((condFirst_iff t).mp h)) hl (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hl : ¬condLast (grid0.coords t) := fun h => h1 ((condLast_iff t).mp h)
      rw [Dat.leavesExact_idle (data m 0 c) 6 t (idle_q t hl) (noFlush_q t hl)]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_mid c (grid0.coords t) _ _ _ _ _ _ _ _ _ _ _ _ _ _ _ _ _ _ _ _ (fun h => h0 ((condFirst_iff t).mp h)) hl (iblk m c 0 t) (iblk m c 1 t) (iblk m c 2 t) (iblk m c 3 t) (iblk m c 4 t) (iblk m c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      iexact H8

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (data (F := F) m 0 c) (defs₀ (F := F)) Variants.none () Set.univ := fun t => by
  rw [bigSep_W0, bigSep_W0, defs_row]
  exact triple_restated (body_sound m c t) rfl .rfl fun _ => .rfl

/-! ## The launch -/

theorem inv_in (c : Dev nD) : Pipeline.ΦA spec0 c ⊢ (data m 0 c).Φ 0 := by
  rw [show (data m 0 c).Φ 0 = invAt m c 0 (Nat.zero_le _) from rfl, invAt_zero m c 0 _ rfl]

theorem inv_out (c : Dev nD) : (data m 0 c).Φ (Fin.last cfg0.N) ⊢ Pipeline.ΦA spec0 c := by
  rw [show (data m 0 c).Φ (Fin.last cfg0.N) = invAt m c cfg0.N (Nat.le_refl _) from rfl,
    invAt_pos m c _ _ (by have : cfg0.N = 64 := N_0; omega), inv_eq]
  iintro ⟨HS, Hg⟩
  isplitl [HS]
  · iexists _; iexact HS
  iexact Hg

set_option backward.isDefEq.respectTransparency.types false in
/-- Every execution terminates, with the arrays as the proof data say and every semaphore counter at zero. -/
theorem run_counters : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (body_obligation m c).loose) (hshare := fun c => (data m 0 c).share_full fun _ => rfl)
    (howed := fun _ _ => rfl) (V := V m) (hmain := hmain m Variants.none) (hA := data_arr m) (hin := inv_in m) (hout := inv_out m)

theorem run : θ_run defs (onTc (τ := τ) (main (F := F))) (s₀ m ρ) (Pipeline.FramePost cfgs (data m) 0 (V m)) :=
  (θ_run defs _ _).mono (fun _ h => h.1) (run_counters m ρ)

/-- The kernel's frame: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (data m) (data_arr m) (run m ρ)) ((θ_run defs _ _).mono (fun _ h => h.2) (run_counters m ρ))

end Cert.KernelIdeal.Hand

end
-- ==== Proof.BitsBody.lean ====
/- (The program as printed, the −∞ of its mask unnamed.) The two conditions the kernel's body branches on, and what its clearing store leaves. -/
module

public import proofs.«01_k».proof.Proof.BitsTiles

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- The condition of the body's first `if`: the key tile is the first. -/
abbrev condFirst (i : grid0.Coords) : Prop := (Scalar.cmpi .ne (Scalar.extui (Scalar.cmpi .eq (BitVec.ofNat 32 (i 1).val) 0#32)) 0#32) = 1#1
/-- The condition of the body's second `if`: the key tile is the last. -/
abbrev condLast (i : grid0.Coords) : Prop := k0_cond2 i = 1#1

/-- The clearing store leaves zeros. -/
theorem read_clear {v : View sig .tc .vmem S8192x256 .f32} (f : BufTy.Contents (Elt F) v.ty) :
    v.read (Elt F) (v.writes (Elt F) f [⟨Rect.unit (s := S8192x256) ![0, 0] S8192x256.size inb_S8192x256_S8192x256_0_0, k0_pay16 (F := F)⟩]) = k0_pay16 (F := F) :=
  read_writes_whole v f _ zero2 _ _ _

end Cert.Kernel.Hand

end
-- ==== Proof.Attn.lean ====
/- Causal attention of one head over the reals, and its gradients: the quantities the two programs are shown to compute. -/
module

public import Mathlib.Analysis.SpecialFunctions.Log.Basic
public import Mathlib.Data.EReal.Basic
public import Mathlib.Data.EReal.Operations
public import Mathlib.Algebra.BigOperators.Field

@[expose] public section

noncomputable section

namespace Attn

open scoped BigOperators

/-- A sum of reals, read in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A maximum of extended reals below the top, one of them a real, is a real. -/
theorem fold_max_real {ι : Type} [DecidableEq ι] (s : Finset ι) (f : ι → EReal) (hf : ∀ i ∈ s, f i ≠ ⊤) :
    s.fold max ⊥ f ≠ ⊤ ∧ ∀ i ∈ s, f i ≤ s.fold max ⊥ f := by
  induction s using Finset.induction_on with
  | empty => simp
  | insert a s ha ih =>
    have ih := ih fun i hi => hf i (Finset.mem_insert_of_mem hi)
    rw [Finset.fold_insert ha]
    refine ⟨fun h => ?_, fun i hi => ?_⟩
    · rcases max_choice (f a) (s.fold max ⊥ f) with e | e
      · exact hf a (Finset.mem_insert_self a s) (e ▸ h)
      · exact ih.1 (e ▸ h)
    · rcases Finset.mem_insert.mp hi with rfl | hi
      · exact le_max_left _ _
      · exact (ih.2 i hi).trans (le_max_right _ _)

variable (q k : Fin 8192 → Fin 256 → ℝ) (v g : Fin 8192 → Fin 128 → ℝ)

/-- The score of query `t` at key `u`, -/
def score (t u : Fin 8192) : ℝ := ∑ d, q t d * k u d
/-- and cut by the causal mask. -/
def cut (t u : Fin 8192) : EReal := if u.val ≤ t.val then (score q k t u : EReal) else ⊥
/-- The row's largest score. -/
def peak (t : Fin 8192) : ℝ := (Finset.univ.fold max ⊥ (cut q k t)).toReal
/-- The row's exponentials, their sum, and the weights. -/
def ex (t u : Fin 8192) : ℝ := if u.val ≤ t.val then Real.exp (score q k t u - peak q k t) else 0
def den (t : Fin 8192) : ℝ := ∑ u, ex q k t u
def pr (t u : Fin 8192) : ℝ := ex q k t u / den q k t
/-- The output, its product with the incoming gradient, and the gradient of the weights. -/
def out (t : Fin 8192) (c : Fin 128) : ℝ := ∑ u, v u c * pr q k t u
def del (t : Fin 8192) : ℝ := ∑ c, g t c * out q k v t c
def dpr (t u : Fin 8192) : ℝ := ∑ c, g t c * v u c
/-- The gradient of the scores, -/
def ds (t u : Fin 8192) : ℝ := pr q k t u * (dpr v g t u - del q k v g t)
/-- and of the queries, the keys and the values. -/
def gradQ (t : Fin 8192) (d : Fin 256) : ℝ := ∑ u, ds q k v g t u * k u d
def gradK (u : Fin 8192) (d : Fin 256) : ℝ := ∑ t, ds q k v g t u * q t d
def gradV (u : Fin 8192) (c : Fin 128) : ℝ := ∑ t, pr q k t u * g t c

theorem cut_ne_top (t u : Fin 8192) : cut q k t u ≠ ⊤ := by
  unfold cut; split
  · exact EReal.coe_ne_top _
  · exact bot_ne_top

/-- The row's largest score is a real: the row's own key is not masked. -/
theorem coe_peak (t : Fin 8192) : Finset.univ.fold max ⊥ (cut q k t) = (peak q k t : EReal) := by
  have h := fold_max_real Finset.univ (cut q k t) fun u _ => cut_ne_top q k t u
  refine (EReal.coe_toReal h.1 fun hb => ?_).symm
  have := h.2 t (Finset.mem_univ t)
  rw [hb, cut, if_pos le_rfl] at this
  exact absurd (le_bot_iff.mp this) (EReal.coe_ne_bot _)

theorem ex_nonneg (t u : Fin 8192) : 0 ≤ ex q k t u := by
  unfold ex; split
  · exact (Real.exp_pos _).le
  · exact le_rfl

theorem den_pos (t : Fin 8192) : 0 < den q k t := by
  refine Finset.sum_pos' (fun u _ => ex_nonneg q k t u) ⟨t, Finset.mem_univ t, ?_⟩
  rw [ex, if_pos le_rfl]; exact Real.exp_pos _

theorem den_ne (t : Fin 8192) : den q k t ≠ 0 := (den_pos q k t).ne'

theorem pr_masked (t u : Fin 8192) (h : ¬u.val ≤ t.val) : pr q k t u = 0 := by
  rw [pr, ex, if_neg h, zero_div]

theorem ds_masked (t u : Fin 8192) (h : ¬u.val ≤ t.val) : ds q k v g t u = 0 := by
  rw [ds, pr_masked q k t u h, zero_mul]

/-- A weight from the logarithm of the row's sum. -/
theorem exp_sub_log (t u : Fin 8192) (h : u.val ≤ t.val) :
    Real.exp (score q k t u - (peak q k t + Real.log (den q k t))) = pr q k t u := by
  rw [pr, ex, if_pos h, ← sub_sub, Real.exp_sub, Real.exp_log (den_pos q k t)]

/-- The product of the output with its gradient is the mean of the weights' gradient. -/
theorem del_eq (t : Fin 8192) : del q k v g t = ∑ u, pr q k t u * dpr v g t u := by
  unfold del out dpr
  simp only [Finset.mul_sum]
  rw [Finset.sum_comm]
  exact Finset.sum_congr rfl fun u _ => Finset.sum_congr rfl fun c _ => by ring

/-- The softmax's own form of the scores' gradient. -/
theorem ds_eq (t u : Fin 8192) :
    (dpr v g t u / den q k t + -∑ w, dpr v g t w * (1 / (den q k t * den q k t)) * ex q k t w) * ex q k t u = ds q k v g t u := by
  have hd := den_ne q k t
  have e : ∑ w, dpr v g t w * (1 / (den q k t * den q k t)) * ex q k t w = del q k v g t / den q k t := by
    rw [del_eq, Finset.sum_div]
    refine Finset.sum_congr rfl fun w _ => ?_
    rw [pr]; field_simp
  rw [e, ds, pr]; field_simp; ring

end Attn

end
-- ==== Proof.Exact.lean ====
/- The exact operations on real operands, and a row's maximum: what both programs' terms are read with. -/
module

public import proofs.«01_k».proof.Proof.Attn
public import Idealize.ShloMosaic.Lib.Pointwise
public import Idealize.ShloMosaic.Lib.WordCmp

@[expose] public section

noncomputable section

namespace Attn

open Idealize.ShloMosaic

/-- A maximum along the last of three axes, at an index. -/
theorem reduce_max {n0 n1 n2 : ℕ} {u : Shape} (x : FVec Ideal ⟨3, ![n0, n1, n2]⟩ .f32) (init : FVec Ideal u .f32)
    (h : (⟨3, ![n0, n1, n2]⟩ : Shape).ReducesTo [2] ⟨2, ![n0, n1]⟩) (hu : 0 < u.numel) (a : Fin n0) (b : Fin n1) :
    Host.reduce FloatOps.maximumf x init h hu (ix2 a b) = (Finset.univ : Finset (Fin n2)).fold max (init (Shape.Idx.first hu)) (fun k => x (ix3 a b k)) :=
  (Host.reduce_eq_fold (α := EReal) max x init h hu (ix2 a b)).trans (h.fold_fiber_r3_a2 (ix2 a b) max _ x)

/-- The same from the bottom, with the elements named. -/
theorem reduce_max_bot {n0 n1 n2 : ℕ} {u : Shape} (x : FVec Ideal ⟨3, ![n0, n1, n2]⟩ .f32) (init : FVec Ideal u .f32)
    (h : (⟨3, ![n0, n1, n2]⟩ : Shape).ReducesTo [2] ⟨2, ![n0, n1]⟩) (hu : 0 < u.numel) (a : Fin n0) (b : Fin n1)
    (hi : ∀ i, init i = ⊥) (f : Fin n2 → EReal) (hx : ∀ k, x (ix3 a b k) = f k) :
    Host.reduce FloatOps.maximumf x init h hu (ix2 a b) = (Finset.univ : Finset (Fin n2)).fold max ⊥ f := by
  rw [reduce_max, hi, ← funext hx]

/-- The same where it is once more bounded below, both bounds the bottom. -/
theorem max_reduce_max {n0 n1 n2 : ℕ} {u : Shape} (x : FVec Ideal ⟨3, ![n0, n1, n2]⟩ .f32) (low : FVec Ideal ⟨2, ![n0, n1]⟩ .f32) (init : FVec Ideal u .f32)
    (h : (⟨3, ![n0, n1, n2]⟩ : Shape).ReducesTo [2] ⟨2, ![n0, n1]⟩) (hu : 0 < u.numel) (a : Fin n0) (b : Fin n1)
    (hl : low (ix2 a b) = ⊥) (hi : ∀ i, init i = ⊥) (f : Fin n2 → EReal) (hx : ∀ k, x (ix3 a b k) = f k) :
    maximumf low (Host.reduce FloatOps.maximumf x init h hu) (ix2 a b) = (Finset.univ : Finset (Fin n2)).fold max ⊥ f := by
  have e : maximumf low (Host.reduce FloatOps.maximumf x init h hu) (ix2 a b)
      = max (low (ix2 a b)) (Host.reduce FloatOps.maximumf x init h hu (ix2 a b)) := rfl
  rw [e, reduce_max, hl, hi, max_eq_right bot_le, ← funext hx]

theorem minus_infinity : Ideal.ofBits .f32 0xFF800000#32 = ⊥ := by simp [Ideal.ofBits, Ideal.ieee]
theorem infinity : Ideal.ofBits .f32 0x7F800000#32 = ⊤ := by simp [Ideal.ofBits, Ideal.ieee]

theorem div_real {a b : ℝ} (hb : b ≠ 0) : Ideal.div (a : EReal) (b : EReal) = ((a / b : ℝ) : EReal) := by
  rw [Ideal.div_coe hb, ← EReal.coe_mul, mul_one_div]

/-- Two row numbers compared as words. -/
theorem sle_word (a b : Nat) (ha : a < 8192) (hb : b < 8192) :
    IntOp.cmpi .sle (BitVec.ofNat 32 a) (BitVec.ofNat 32 b) = if a ≤ b then 1#1 else 0#1 := by
  have e : IntOp.cmpi .sle (BitVec.ofNat 32 a) (BitVec.ofNat 32 b) = BitVec.ofBool (decide (a ≤ b)) := by word_cmp
  rw [e]; split <;> simp [*]

variable (q k : Fin 8192 → Fin 256 → ℝ)

theorem exp_cut (t u : Fin 8192) : Ideal.exp (cut q k t u - (peak q k t : EReal)) = (ex q k t u : EReal) := by
  unfold cut ex; split
  · rw [← EReal.coe_sub, Ideal.exp_coe]
  · rw [EReal.bot_sub, Ideal.exp_bot]; rfl

theorem log_den (t : Fin 8192) : Ideal.log (den q k t : EReal) = (Real.log (den q k t) : EReal) := by
  rw [Ideal.log_coe, if_neg (not_le.mpr (den_pos q k t))]

/-- A weight from the saved logarithm. -/
theorem exp_cut_log (t u : Fin 8192) :
    Ideal.exp (cut q k t u - ((peak q k t + Real.log (den q k t) : ℝ) : EReal)) = (pr q k t u : EReal) := by
  unfold cut; split
  · rename_i h; rw [← EReal.coe_sub, Ideal.exp_coe, exp_sub_log q k t u h]
  · rename_i h; rw [EReal.bot_sub, Ideal.exp_bot, pr_masked q k t u h]; rfl

end Attn

end
-- ==== Proof.AttnTiles.lean ====
/- The attention gradients by tiles of 1024 queries and 1024 keys: the sums of one pair of tiles, the pairs the causal
   mask empties, and the whole gradients as sums over the tiles. -/
module

public import proofs.«01_k».proof.Proof.Attn

@[expose] public section

noncomputable section

namespace Attn

variable (q k : Fin 8192 → Fin 256 → ℝ) (v g : Fin 8192 → Fin 128 → ℝ)

/-- Position `a` of tile `i`. -/
def row (i : Fin 8) (a : Fin 1024) : Fin 8192 := ⟨i.val * 1024 + a.val, by omega⟩

/-- What query tile `i` adds to the gradients of key tile `j`, and of value tile `j`, and what key tile `j` adds to the
    gradient of query tile `i`. -/
def tileK (i j : Fin 8) (u : Fin 1024) (d : Fin 256) : ℝ := ∑ a, ds q k v g (row i a) (row j u) * q (row i a) d
def tileV (i j : Fin 8) (u : Fin 1024) (c : Fin 128) : ℝ := ∑ a, pr q k (row i a) (row j u) * g (row i a) c
def tileQ (i j : Fin 8) (a : Fin 1024) (d : Fin 256) : ℝ := ∑ u, ds q k v g (row i a) (row j u) * k (row j u) d

theorem row_masked (i j : Fin 8) (a u : Fin 1024) (h : i.val < j.val) : ¬(row j u).val ≤ (row i a).val := by
  simp only [row]; omega

theorem row_le (i j : Fin 8) (a u : Fin 1024) (h : j.val < i.val) : (row j u).val ≤ (row i a).val := by
  simp only [row]; omega

theorem tileK_masked (i j : Fin 8) (u : Fin 1024) (d : Fin 256) (h : i.val < j.val) : tileK q k v g i j u d = 0 :=
  Finset.sum_eq_zero fun a _ => by rw [ds_masked _ _ _ _ _ _ (row_masked i j a u h), zero_mul]
theorem tileV_masked (i j : Fin 8) (u : Fin 1024) (c : Fin 128) (h : i.val < j.val) : tileV q k g i j u c = 0 :=
  Finset.sum_eq_zero fun a _ => by rw [pr_masked _ _ _ _ (row_masked i j a u h), zero_mul]
theorem tileQ_masked (i j : Fin 8) (a : Fin 1024) (d : Fin 256) (h : i.val < j.val) : tileQ q k v g i j a d = 0 :=
  Finset.sum_eq_zero fun u _ => by rw [ds_masked _ _ _ _ _ _ (row_masked i j a u h), zero_mul]

/-- A sum over all the positions is the sum over the tiles of the sums over each. -/
theorem sum_rows (f : Fin 8192 → ℝ) : ∑ t, f t = ∑ i, ∑ a, f (row i a) := by
  rw [← Fintype.sum_prod_type', ← Equiv.sum_comp (finProdFinEquiv (m := 8) (n := 1024))]
  refine Finset.sum_congr rfl fun x _ => congrArg f (Fin.ext ?_)
  show x.2.val + 1024 * x.1.val = x.1.val * 1024 + x.2.val
  omega

/-- Every position is a position of a tile. -/
theorem exists_row (t : Fin 8192) : ∃ i a, t = row i a :=
  ⟨⟨t.val / 1024, by omega⟩, ⟨t.val % 1024, by omega⟩, Fin.ext (by simp only [row]; omega)⟩

theorem row_inj {i i' : Fin 8} {a a' : Fin 1024} (h : row i a = row i' a') : i = i' ∧ a = a' := by
  have h := congrArg Fin.val h
  simp only [row] at h
  exact ⟨Fin.ext (by omega), Fin.ext (by omega)⟩

theorem gradK_tiles (j : Fin 8) (u : Fin 1024) (d : Fin 256) : gradK q k v g (row j u) d = ∑ i, tileK q k v g i j u d := sum_rows _
theorem gradV_tiles (j : Fin 8) (u : Fin 1024) (c : Fin 128) : gradV q k g (row j u) c = ∑ i, tileV q k g i j u c := sum_rows _
theorem gradQ_tiles (i : Fin 8) (a : Fin 1024) (d : Fin 256) : gradQ q k v g (row i a) d = ∑ j, tileQ q k v g i j a d := sum_rows _

/-- The sum of the tiles from `lo` to `hi`. -/
def span (f : Fin 8 → ℝ) (lo hi : ℕ) : ℝ := ∑ i : Fin 8, if lo ≤ i.val ∧ i.val ≤ hi then f i else 0

theorem span_one (f : Fin 8 → ℝ) (j : Fin 8) : span f j.val j.val = f j := by
  unfold span
  rw [Finset.sum_eq_single j]
  · rw [if_pos ⟨Nat.le_refl _, Nat.le_refl _⟩]
  · intro i _ hi
    exact if_neg fun h => hi (Fin.ext (Nat.le_antisymm h.2 h.1))
  · intro h; exact absurd (Finset.mem_univ j) h

theorem span_succ (f : Fin 8 → ℝ) (lo : ℕ) (i : Fin 8) (hi : ℕ) (h : i.val = hi + 1) (hl : lo ≤ hi) :
    span f lo i.val = span f lo hi + f i := by
  have e : f i = ∑ x : Fin 8, if x = i then f x else 0 := by rw [Finset.sum_ite_eq' Finset.univ i f, if_pos (Finset.mem_univ i)]
  unfold span
  rw [e, ← Finset.sum_add_distrib]
  refine Finset.sum_congr rfl fun x _ => ?_
  by_cases hx : x = i
  · subst hx
    rw [if_pos ⟨by omega, Nat.le_refl _⟩, if_neg (by omega), if_pos rfl, zero_add]
  · have hx' : x.val ≠ i.val := fun h => hx (Fin.ext h)
    rw [if_neg hx, add_zero]
    exact if_congr (by omega) rfl rfl

theorem span_all (f : Fin 8 → ℝ) (lo hi : ℕ) (hf : ∀ i : Fin 8, i.val < lo ∨ hi < i.val → f i = 0) : span f lo hi = ∑ i, f i := by
  refine Finset.sum_congr rfl fun i _ => ?_
  split
  · rfl
  · rename_i h; exact (hf i (by omega)).symm

end Attn

end
-- ==== Proof.Pays.lean ====
/- One pair of a query and a key tile at the exact arithmetic: what each stored value holds at an index, over real tiles. -/
module

public import proofs.«01_k».proof.Proof.Exact
public import proofs.«01_k».proof.Proof.AttnTiles
public import proofs.«01_k».proof.Proof.Tiles

@[expose] public section

noncomputable section

namespace Cert.KernelIdeal.Hand

open Cert.KernelIdeal Cert.KernelIdeal.Gen Idealize.ShloMosaic Idealize.ShloMosaic.TcCoe Idealize.SL.Sem
open Attn (coe_sum)

/-! ## The stored values at an index -/

variable (v4 : Vec Ideal S1024x256 .bf16) (v6 : Vec Ideal S1024x128 .bf16) (y0 : Vec Ideal S1x1024x256 .bf16) (y1 : Vec Ideal S1024x128 .bf16)
  (y2 y3 : Vec Ideal S1x1x1x1024 .f32)

theorem pay2_apply (a b : Fin 1024) :
    k0_pay2 (F := Ideal) v4 y0 y2 (ix2 a b) = Ideal.exp (∑ x, v4 (ix2 a x) * y0 (ix3 0 b x) - y2 (ix4 0 0 0 b)) := by
  pointwise [k0_pay2, k0_pay1, dot_S1024x256_S1024x256_S1024x1024_1_1_0_0_n_n]

theorem pay3_apply (A : Vec Ideal S1024x128 .f32) (a : Fin 1024) (b : Fin 128) :
    k0_pay3 (F := Ideal) v4 A y0 y1 y2 (ix2 a b) = A (ix2 a b) + ∑ x, k0_pay2 (F := Ideal) v4 y0 y2 (ix2 a x) * y1 (ix2 x b) := by
  pointwise [k0_pay3, dot_S1024x1024_S1024x128_S1024x128_1_0_0_1_n_n]

theorem pay4_apply (a b : Fin 1024) :
    k0_pay4 (F := Ideal) v4 v6 y0 y1 y2 y3 (ix2 a b)
      = k0_pay2 (F := Ideal) v4 y0 y2 (ix2 a b) * (∑ x, v6 (ix2 a x) * y1 (ix2 b x) - y3 (ix4 0 0 0 b)) := by
  pointwise [k0_pay4, dot_S1024x128_S1024x128_S1024x1024_1_1_0_0_n_n]

theorem pay5_apply (A : Vec Ideal S1024x256 .f32) (a : Fin 1024) (b : Fin 256) :
    k0_pay5 (F := Ideal) v4 v6 A y0 y1 y2 y3 (ix2 a b) = A (ix2 a b) + ∑ x, k0_pay4 (F := Ideal) v4 v6 y0 y1 y2 y3 (ix2 a x) * y0 (ix3 0 x b) := by
  pointwise [k0_pay5, k0_pay1, dot_S1024x1024_S1024x256_S1024x256_1_0_0_1_n_n]

theorem pay6_apply (A : Vec Ideal S1024x256 .f32) (a : Fin 1024) (b : Fin 256) :
    k0_pay6 (F := Ideal) v4 v6 y0 y1 y2 y3 A (ix2 a b) = A (ix2 a b) + ∑ x, k0_pay4 (F := Ideal) v4 v6 y0 y1 y2 y3 (ix2 x a) * v4 (ix2 x b) := by
  pointwise [k0_pay6, dot_S1024x1024_S1024x256_S1024x256_0_0_1_1_n_n]

/-- The zero block the first tile's scores are added to. -/
abbrev zeroScores : FVec Ideal S1024x1024 .f32 := constant S1024x1024 .f32 0x00000000#32

theorem pay22_apply (w1 w2 : BitVec 32) (a b : Fin 1024) :
    k0_pay22 (F := Ideal) w1 v4 w2 (k0_pay21 y0) zeroScores y2 (ix2 a b)
      = Ideal.exp
          (Scalar.select
              (IntOp.cmpi CmpIPredicate.sle (IntOp.addi (Scalar.muli w1 1024#32) (BitVec.ofNat 32 a.val))
                (IntOp.addi (Scalar.muli w2 1024#32) (BitVec.ofNat 32 b.val)))
              (∑ x, v4 (ix2 a x) * y0 (ix3 0 b x)) (Named.named (F := Ideal) (φ := .f32) κ "mask" 4048155338#32) -
            y2 (ix4 0 0 0 b)) := by
  pointwise [k0_pay22, k0_pay21, zeroScores, dot_S1024x256_S1024x256_S1024x1024_1_1_0_0_n_n]

theorem pay23_apply (w1 w2 : BitVec 32) (A : Vec Ideal S1024x128 .f32) (a : Fin 1024) (b : Fin 128) :
    k0_pay23 (F := Ideal) w1 v4 w2 A (k0_pay21 y0) y1 zeroScores y2 (ix2 a b)
      = A (ix2 a b) + ∑ x, k0_pay22 (F := Ideal) w1 v4 w2 (k0_pay21 y0) zeroScores y2 (ix2 a x) * y1 (ix2 x b) := by
  pointwise [k0_pay23, dot_S1024x1024_S1024x128_S1024x128_1_0_0_1_n_n]

theorem pay24_apply (w1 w2 : BitVec 32) (a b : Fin 1024) :
    k0_pay24 (F := Ideal) w1 v4 v6 w2 (k0_pay21 y0) y1 zeroScores y2 y3 (ix2 a b)
      = k0_pay22 (F := Ideal) w1 v4 w2 (k0_pay21 y0) zeroScores y2 (ix2 a b) * (∑ x, v6 (ix2 a x) * y1 (ix2 b x) - y3 (ix4 0 0 0 b)) := by
  pointwise [k0_pay24, dot_S1024x128_S1024x128_S1024x1024_1_1_0_0_n_n]

theorem pay25_apply (w1 w2 : BitVec 32) (A : Vec Ideal S1024x256 .f32) (a : Fin 1024) (b : Fin 256) :
    k0_pay25 (F := Ideal) w1 v4 v6 w2 A (k0_pay21 y0) y1 zeroScores y2 y3 (ix2 a b)
      = A (ix2 a b) + ∑ x, k0_pay24 (F := Ideal) w1 v4 v6 w2 (k0_pay21 y0) y1 zeroScores y2 y3 (ix2 a x) * k0_pay21 (F := Ideal) y0 (ix2 x b) := by
  pointwise [k0_pay25, dot_S1024x1024_S1024x256_S1024x256_1_0_0_1_n_n]

theorem pay26_apply (w1 w2 : BitVec 32) (A : Vec Ideal S1024x256 .f32) (a : Fin 1024) (b : Fin 256) :
    k0_pay26 (F := Ideal) w1 v4 v6 w2 (k0_pay21 y0) y1 zeroScores y2 y3 A (ix2 a b)
      = A (ix2 a b) + ∑ x, k0_pay24 (F := Ideal) w1 v4 v6 w2 (k0_pay21 y0) y1 zeroScores y2 y3 (ix2 x a) * v4 (ix2 x b) := by
  pointwise [k0_pay26, dot_S1024x1024_S1024x256_S1024x256_0_0_1_1_n_n]

theorem pay13_apply (A : Vec Ideal S1024x256 .f32) (a : Fin 1024) (b : Fin 256) :
    k0_pay13 (F := Ideal) A (ix3 0 a b) = A (ix2 a b) := by
  pointwise [k0_pay13]
theorem pay14_apply (A : Vec Ideal S1024x128 .f32) (a : Fin 1024) (b : Fin 128) :
    k0_pay14 (F := Ideal) A (ix3 0 a b) = A (ix2 a b) := by
  pointwise [k0_pay14]
theorem pay15_apply (A : Vec Ideal S8192x256 .f32) (a : Fin 8192) (b : Fin 256) :
    k0_pay15 (F := Ideal) A (ix3 0 a b) = A (ix2 a b) := by
  pointwise [k0_pay15]
theorem pay16_apply (a : Fin 8192) (b : Fin 256) : k0_pay16 (F := Ideal) (ix2 a b) = ((0 : ℝ) : EReal) := by
  pointwise [k0_pay16]
  rfl
theorem pay19_apply (a : Fin 1024) (b : Fin 256) : k0_pay19 (F := Ideal) (ix2 a b) = ((0 : ℝ) : EReal) := by
  pointwise [k0_pay19]
  rfl
theorem pay20_apply (a : Fin 1024) (b : Fin 128) : k0_pay20 (F := Ideal) (ix2 a b) = ((0 : ℝ) : EReal) := by
  pointwise [k0_pay20]
  rfl
theorem pay17_apply (y0 : Vec Ideal S1x1024x256 .bf16) (a : Fin 1024) (b : Fin 256) : k0_pay17 (F := Ideal) y0 (ix2 a b) = y0 (ix3 0 a b) := by
  pointwise [k0_pay17]
theorem pay18_apply (y0 : Vec Ideal S1x1024x128 .bf16) (a : Fin 1024) (b : Fin 128) : k0_pay18 (F := Ideal) y0 (ix2 a b) = y0 (ix3 0 a b) := by
  pointwise [k0_pay18]
theorem pay21_apply (y0 : Vec Ideal S1x1024x256 .bf16) (a : Fin 1024) (b : Fin 256) : k0_pay21 (F := Ideal) y0 (ix2 a b) = y0 (ix3 0 a b) := by
  pointwise [k0_pay21]

/-! ## Over real tiles

Key tile `j` of a head against query tile `i`: the blocks hold the head's queries, cotangents, logarithms of the
normalisers and row sums at the positions of tile `i`, and its keys and values at those of tile `j`. -/

open Attn (row)

variable (q k : Fin 8192 → Fin 256 → ℝ) (v g : Fin 8192 → Fin 128 → ℝ) (i j : Fin 8)
  (h4 : ∀ a d, v4 (ix2 a d) = (k (row j a) d : EReal)) (h6 : ∀ a c, v6 (ix2 a c) = (v (row j a) c : EReal))
  (h0 : ∀ a d, y0 (ix3 0 a d) = (q (row i a) d : EReal)) (h1 : ∀ a c, y1 (ix2 a c) = (g (row i a) c : EReal))
  (h2 : ∀ a, y2 (ix4 0 0 0 a) = ((Attn.peak q k (row i a) + Real.log (Attn.den q k (row i a)) : ℝ) : EReal))
  (h3 : ∀ a, y3 (ix4 0 0 0 a) = (Attn.del q k v g (row i a) : EReal))

include h4 h0 in
theorem score_tile (u a : Fin 1024) : (∑ x, v4 (ix2 u x) * y0 (ix3 0 a x) : EReal) = (Attn.score q k (row i a) (row j u) : EReal) := by
  rw [Attn.score, ← coe_sum]
  refine Finset.sum_congr rfl fun x _ => ?_
  rw [h4, h0, ← EReal.coe_mul, mul_comm]

include h6 h1 in
theorem dpr_tile (u a : Fin 1024) : (∑ x, v6 (ix2 u x) * y1 (ix2 a x) : EReal) = (Attn.dpr v g (row i a) (row j u) : EReal) := by
  rw [Attn.dpr, ← coe_sum]
  refine Finset.sum_congr rfl fun x _ => ?_
  rw [h6, h1, ← EReal.coe_mul, mul_comm]

include h4 h0 h2 in
theorem pr_next (hij : j.val < i.val) (u a : Fin 1024) :
    k0_pay2 (F := Ideal) v4 y0 y2 (ix2 u a) = (Attn.pr q k (row i a) (row j u) : EReal) := by
  rw [pay2_apply, score_tile v4 y0 q k i j h4 h0, h2, ← Attn.exp_cut_log, Attn.cut, if_pos (Attn.row_le i j a u hij)]

theorem tile_word (j : Fin 8) (a : Fin 1024) :
    IntOp.addi (Scalar.muli (BitVec.ofNat 32 j.val) 1024#32) (BitVec.ofNat 32 a.val) = BitVec.ofNat 32 (row j a).val := by
  show BitVec.ofNat 32 j.val * BitVec.ofNat 32 1024 + BitVec.ofNat 32 a.val = _
  rw [← BitVec.ofNat_mul, ← BitVec.ofNat_add]
  rfl

theorem mask_bot : Named.named (F := Ideal) (φ := .f32) κ "mask" 4048155338#32 = (⊥ : EReal) :=
  IdealRules.named_const.ideal_named_scalar _ _ _ _ rfl

include h4 h0 h2 in
theorem pr_first (hij : i = j) (u a : Fin 1024) :
    k0_pay22 (F := Ideal) (BitVec.ofNat 32 j.val) v4 (BitVec.ofNat 32 i.val) (k0_pay21 y0) zeroScores y2 (ix2 u a)
      = (Attn.pr q k (row i a) (row j u) : EReal) := by
  rw [pay22_apply, score_tile v4 y0 q k i j h4 h0, h2, ← Attn.exp_cut_log, Attn.cut, tile_word, tile_word, mask_bot,
    Attn.sle_word _ _ (row j u).isLt (row i a).isLt]
  by_cases h : (row j u).val ≤ (row i a).val
  · rw [if_pos h, if_pos h]; rfl
  · rw [if_neg h, if_neg h]; rfl

/-- A product of a matrix with the values `P` and a tile, from real entries. -/
theorem add_sum_real {n : ℕ} (A : EReal) (α : ℝ) (hA : A = (α : EReal)) (P R : Fin n → EReal) (p r : Fin n → ℝ)
    (hP : ∀ x, P x = (p x : EReal)) (hR : ∀ x, R x = (r x : EReal)) :
    A + ∑ x, P x * R x = ((α + ∑ x, p x * r x : ℝ) : EReal) := by
  rw [hA, EReal.coe_add, ← coe_sum]
  exact congrArg (fun z => (α : EReal) + z) (Finset.sum_congr rfl fun x _ => by rw [hP, hR, ← EReal.coe_mul])

include h4 h6 h0 h1 h2 h3 in
theorem ds_next (hij : j.val < i.val) (u a : Fin 1024) :
    k0_pay4 (F := Ideal) v4 v6 y0 y1 y2 y3 (ix2 u a) = (Attn.ds q k v g (row i a) (row j u) : EReal) := by
  rw [pay4_apply, pr_next v4 y0 y2 q k i j h4 h0 h2 hij, dpr_tile v6 y1 v g i j h6 h1, h3, ← EReal.coe_sub, ← EReal.coe_mul, Attn.ds]

include h4 h6 h0 h1 h2 h3 in
theorem ds_first (hij : i = j) (u a : Fin 1024) :
    k0_pay24 (F := Ideal) (BitVec.ofNat 32 j.val) v4 v6 (BitVec.ofNat 32 i.val) (k0_pay21 y0) y1 zeroScores y2 y3 (ix2 u a)
      = (Attn.ds q k v g (row i a) (row j u) : EReal) := by
  rw [pay24_apply, pr_first v4 y0 y2 q k i j h4 h0 h2 hij, dpr_tile v6 y1 v g i j h6 h1, h3, ← EReal.coe_sub, ← EReal.coe_mul, Attn.ds]

/-! What each tile adds. -/

include h4 h0 h1 h2 in
theorem addV_next (hij : j.val < i.val) (A : Vec Ideal S1024x128 .f32) (α : ℝ) (u : Fin 1024) (c : Fin 128) (hA : A (ix2 u c) = (α : EReal)) :
    k0_pay3 (F := Ideal) v4 A y0 y1 y2 (ix2 u c) = ((α + Attn.tileV q k g i j u c : ℝ) : EReal) := by
  rw [pay3_apply]
  exact add_sum_real _ _ hA _ _ _ _ (fun a => pr_next v4 y0 y2 q k i j h4 h0 h2 hij u a) (fun a => h1 a c)

include h4 h6 h0 h1 h2 h3 in
theorem addK_next (hij : j.val < i.val) (A : Vec Ideal S1024x256 .f32) (α : ℝ) (u : Fin 1024) (d : Fin 256) (hA : A (ix2 u d) = (α : EReal)) :
    k0_pay5 (F := Ideal) v4 v6 A y0 y1 y2 y3 (ix2 u d) = ((α + Attn.tileK q k v g i j u d : ℝ) : EReal) := by
  rw [pay5_apply]
  exact add_sum_real _ _ hA _ _ _ _ (fun a => ds_next v4 v6 y0 y1 y2 y3 q k v g i j h4 h6 h0 h1 h2 h3 hij u a) (fun a => h0 a d)

include h4 h6 h0 h1 h2 h3 in
theorem addQ_next (hij : j.val < i.val) (A : Vec Ideal S1024x256 .f32) (α : ℝ) (a : Fin 1024) (d : Fin 256) (hA : A (ix2 a d) = (α : EReal)) :
    k0_pay6 (F := Ideal) v4 v6 y0 y1 y2 y3 A (ix2 a d) = ((α + Attn.tileQ q k v g i j a d : ℝ) : EReal) := by
  rw [pay6_apply]
  exact add_sum_real _ _ hA _ _ _ _ (fun u => ds_next v4 v6 y0 y1 y2 y3 q k v g i j h4 h6 h0 h1 h2 h3 hij u a) (fun u => h4 u d)

include h4 h0 h1 h2 in
theorem addV_first (hij : i = j) (A : Vec Ideal S1024x128 .f32) (α : ℝ) (u : Fin 1024) (c : Fin 128) (hA : A (ix2 u c) = (α : EReal)) :
    k0_pay23 (F := Ideal) (BitVec.ofNat 32 j.val) v4 (BitVec.ofNat 32 i.val) A (k0_pay21 y0) y1 zeroScores y2 (ix2 u c)
      = ((α + Attn.tileV q k g i j u c : ℝ) : EReal) := by
  rw [pay23_apply]
  exact add_sum_real _ _ hA _ _ _ _ (fun a => pr_first v4 y0 y2 q k i j h4 h0 h2 hij u a) (fun a => h1 a c)

include h4 h6 h0 h1 h2 h3 in
theorem addK_first (hij : i = j) (A : Vec Ideal S1024x256 .f32) (α : ℝ) (u : Fin 1024) (d : Fin 256) (hA : A (ix2 u d) = (α : EReal)) :
    k0_pay25 (F := Ideal) (BitVec.ofNat 32 j.val) v4 v6 (BitVec.ofNat 32 i.val) A (k0_pay21 y0) y1 zeroScores y2 y3 (ix2 u d)
      = ((α + Attn.tileK q k v g i j u d : ℝ) : EReal) := by
  rw [pay25_apply]
  exact add_sum_real _ _ hA _ _ _ _ (fun a => ds_first v4 v6 y0 y1 y2 y3 q k v g i j h4 h6 h0 h1 h2 h3 hij u a)
    (fun a => by rw [pay21_apply]; exact h0 a d)

include h4 h6 h0 h1 h2 h3 in
theorem addQ_first (hij : i = j) (A : Vec Ideal S1024x256 .f32) (α : ℝ) (a : Fin 1024) (d : Fin 256) (hA : A (ix2 a d) = (α : EReal)) :
    k0_pay26 (F := Ideal) (BitVec.ofNat 32 j.val) v4 v6 (BitVec.ofNat 32 i.val) (k0_pay21 y0) y1 zeroScores y2 y3 A (ix2 a d)
      = ((α + Attn.tileQ q k v g i j a d : ℝ) : EReal) := by
  rw [pay26_apply]
  exact add_sum_real _ _ hA _ _ _ _ (fun u => ds_first v4 v6 y0 y1 y2 y3 q k v g i j h4 h6 h0 h1 h2 h3 hij u a) (fun u => h4 u d)

end Cert.KernelIdeal.Hand

end
-- ==== Proof.State.lean ====
/- One grid point at the exact arithmetic: from blocks that hold a head's real queries, cotangents, logarithms of the
   normalisers and row sums, and the keys and values of one tile, the gradients of the key and value tiles it ends with
   are the whole ones, and the accumulated gradient of the queries has gained that key tile's part. -/
module

public import proofs.«01_k».proof.Proof.Pays

@[expose] public section

set_option maxRecDepth 16384

noncomputable section

namespace Cert.KernelIdeal.Hand

open Cert.KernelIdeal Cert.KernelIdeal.Gen Idealize.ShloMosaic Idealize.ShloMosaic.TcCoe Idealize.SL.Sem
open Attn (row span tileQ tileK tileV)

/-! ## A tile's rows of a block -/

theorem ld_rows3 (x : Vec Ideal S1x8192x256 .bf16) (off : Fin 3 → ℕ) (inb : ∀ a, off a + S1x1024x256.size a ≤ S1x8192x256.size a)
    (i : Fin 8) (h : off = ![0, 1024 * i.val, 0]) (a : Fin 1024) (d : Fin 256) :
    View.ld x (Rect.unit (s := S1x8192x256) off S1x1024x256.size inb) (ix3 0 a d) = x (ix3 0 (row i a) d) := by
  subst h
  refine congrArg x (funext fun ax => Fin.ext ?_)
  match ax with
  | ⟨0, _⟩ => rfl
  | ⟨1, _⟩ => show 1024 * i.val + 1 * a.val = i.val * 1024 + a.val; omega
  | ⟨2, _⟩ => show 0 + 1 * d.val = d.val; omega

theorem ld_rows2 {n : ℕ} {e : EltTy} (x : Vec Ideal ⟨2, ![8192, n]⟩ e) (off : Fin 2 → ℕ)
    (inb : ∀ a, off a + (⟨2, ![1024, n]⟩ : Shape).size a ≤ (⟨2, ![8192, n]⟩ : Shape).size a)
    (i : Fin 8) (h : off = ![1024 * i.val, 0]) (a : Fin 1024) (d : Fin n) :
    View.ld x (Rect.unit (s := ⟨2, ![8192, n]⟩) off (⟨2, ![1024, n]⟩ : Shape).size inb) (ix2 a d) = x (ix2 (row i a) d) := by
  subst h
  refine congrArg x (funext fun ax => Fin.ext ?_)
  match ax with
  | ⟨0, _⟩ => show 1024 * i.val + 1 * a.val = i.val * 1024 + a.val; omega
  | ⟨1, _⟩ => show 0 + 1 * d.val = d.val; omega

theorem ld_rows4 (x : Vec Ideal S1x8x1x1024 .f32) (off : Fin 4 → ℕ) (inb : ∀ a, off a + S1x1x1x1024.size a ≤ S1x8x1x1024.size a)
    (i : Fin 8) (h : off = ![0, i.val, 0, 0]) (a : Fin 1024) :
    View.ld x (Rect.unit (s := S1x8x1x1024) off S1x1x1x1024.size inb) (ix4 0 0 0 a) = x (ix4 0 i 0 a) := by
  subst h
  refine congrArg x (funext fun ax => Fin.ext ?_)
  match ax with
  | ⟨0, _⟩ => rfl
  | ⟨1, _⟩ => show i.val + 1 * 0 = i.val; omega
  | ⟨2, _⟩ => rfl
  | ⟨3, _⟩ => show 0 + 1 * a.val = a.val; omega

/-- A tile's rows stored over the accumulated gradient. -/
theorem overlay_rows (A : Vec Ideal S8192x256 .f32) (off : Fin 2 → ℕ) (inb : ∀ a, off a + S1024x256.size a ≤ S8192x256.size a)
    (i : Fin 8) (h : off = ![1024 * i.val, 0]) (w : Vec Ideal S1024x256 .f32) (i' : Fin 8) (a : Fin 1024) (d : Fin 256) :
    (Rect.unit (s := S8192x256) off S1024x256.size inb).overlay A w (ix2 (row i' a) d)
      = if i' = i then w (ix2 a d) else A (ix2 (row i' a) d) := by
  subst h
  split
  · rename_i hi; subst hi
    refine overlay_whole (Rect.unit (s := S8192x256) ![1024 * i'.val, 0] S1024x256.size inb) A w (ix2 (row i' a) d) (ix2 a d) fun ax => ?_
    match ax with
    | ⟨0, _⟩ => show i'.val * 1024 + a.val = 1024 * i'.val + 1 * a.val; omega
    | ⟨1, _⟩ => show d.val = 0 + 1 * d.val; omega
  · rename_i hi
    refine Rect.overlay_of_not_mem _ _ _ fun hm => hi ?_
    obtain ⟨x, hx⟩ := LoadRect.exists_idx_of_mem _ hm
    have h0 := congrArg (fun y : S8192x256.Idx => (y 0).val) hx
    have h0 : 1024 * i.val + 1 * (x 0).val = i'.val * 1024 + a.val := h0
    have hx0 : (x 0).val < 1024 := (x 0).isLt
    exact Fin.ext (by omega)

/-! ## The grid point -/

/-- What the blocks of a grid point at key tile `j` hold. -/
structure Holds (q k : Fin 8192 → Fin 256 → ℝ) (v g : Fin 8192 → Fin 128 → ℝ) (j : Fin 8)
    (x0 : Vec Ideal S1x8192x256 .bf16) (x1 : Vec Ideal S8192x128 .bf16) (x2 x3 : Vec Ideal S1x8x1x1024 .f32)
    (x4 : Vec Ideal S1x1024x256 .bf16) (x5 : Vec Ideal S1x1024x128 .bf16) : Prop where
  hq : ∀ t d, x0 (ix3 0 t d) = (q t d : EReal)
  hg : ∀ t c, x1 (ix2 t c) = (g t c : EReal)
  hlse : ∀ i a, x2 (ix4 0 i 0 a) = ((Attn.peak q k (row i a) + Real.log (Attn.den q k (row i a)) : ℝ) : EReal)
  hdel : ∀ i a, x3 (ix4 0 i 0 a) = (Attn.del q k v g (row i a) : EReal)
  hk : ∀ a d, x4 (ix3 0 a d) = (k (row j a) d : EReal)
  hv : ∀ a c, x5 (ix3 0 a c) = (v (row j a) c : EReal)

theorem trips_eq : ∀ i : grid0.Coords, (k0_t1_loop i).trips = 7 - (i 1).val := by decide +kernel
theorem firstWord_eq : ∀ i : grid0.Coords, firstWord i = BitVec.ofNat 32 (i 1).val := by decide +kernel

/-- The state after the query tiles `j` to `hi`, from an accumulated gradient that held `α`. -/
structure Has (q k : Fin 8192 → Fin 256 → ℝ) (v g : Fin 8192 → Fin 128 → ℝ) (α : Fin 8 → Fin 1024 → Fin 256 → ℝ) (j : Fin 8) (hi : ℕ) (s : St Ideal) : Prop where
  hk : ∀ u d, s.1.1 (ix2 u d) = (span (fun i => tileK q k v g i j u d) j.val hi : EReal)
  hv : ∀ u c, s.1.2 (ix2 u c) = (span (fun i => tileV q k g i j u c) j.val hi : EReal)
  hq : ∀ i a d, s.2 (ix2 (row i a) d) = ((α i a d + if j.val ≤ i.val ∧ i.val ≤ hi then tileQ q k v g i j a d else 0 : ℝ) : EReal)

variable {q k : Fin 8192 → Fin 256 → ℝ} {v g : Fin 8192 → Fin 128 → ℝ} {j : Fin 8}
  {x0 : Vec Ideal S1x8192x256 .bf16} {x1 : Vec Ideal S8192x128 .bf16} {x2 x3 : Vec Ideal S1x8x1x1024 .f32}
  {x4 : Vec Ideal S1x1024x256 .bf16} {x5 : Vec Ideal S1x1024x128 .bf16}

theorem Holds.keyTile (h : Holds q k v g j x0 x1 x2 x3 x4 x5) (a : Fin 1024) (d : Fin 256) :
    keyTile (F := Ideal) x4 (ix2 a d) = (k (row j a) d : EReal) := by
  rw [Hand.keyTile, ld_whole _ zero3, pay17_apply, h.hk]
theorem Holds.valTile (h : Holds q k v g j x0 x1 x2 x3 x4 x5) (a : Fin 1024) (c : Fin 128) :
    valTile (F := Ideal) x5 (ix2 a c) = (v (row j a) c : EReal) := by
  rw [Hand.valTile, ld_whole _ zero3, pay18_apply, h.hv]

variable (i : grid0.Coords) (α : Fin 8 → Fin 1024 → Fin 256 → ℝ)

/-- The first query tile. -/
theorem tileFirst_has (h : Holds q k v g j x0 x1 x2 x3 x4 x5) (hj : (i 1).val = j.val) (A : Vec Ideal S8192x256 .f32)
    (hA : ∀ i a d, A (ix2 (row i a) d) = (α i a d : EReal)) :
    Has q k v g α j j.val (tileFirst (F := Ideal) i x0 x1 x2 x3 x4 x5 A) := by
  have e1 := k0_off1_eq i; have e2 := k0_off2_eq i; have e3 := k0_off3_eq i; have e4 := k0_off4_eq i
  rw [hj] at e1 e2 e3 e4
  have h0 := fun a d => (ld_rows3 x0 _ (k0_off1_inb i) j e1 a d).trans (h.hq _ d)
  have h1 := fun a c => (ld_rows2 x1 _ (k0_off2_inb i) j e2 a c).trans (h.hg _ c)
  have h2 := fun a => (ld_rows4 x2 _ (k0_off3_inb i) j e3 a).trans (h.hlse j a)
  have h3 := fun a => (ld_rows4 x3 _ (k0_off3_inb i) j e3 a).trans (h.hdel j a)
  have ew : firstWord i = BitVec.ofNat 32 j.val := (firstWord_eq i).trans (congrArg _ hj)
  refine ⟨fun u d => ?_, fun u c => ?_, fun i' a d => ?_⟩
  · rw [Attn.span_one, ← zero_add (tileK q k v g j j u d)]
    simp only [tileFirst, hj, ew]
    exact addK_first _ _ _ _ _ _ q k v g j j h.keyTile h.valTile h0 h1 h2 h3 rfl _ 0 u d (pay19_apply u d)
  · rw [Attn.span_one, ← zero_add (tileV q k g j j u c)]
    simp only [tileFirst, hj, ew]
    exact addV_first _ _ _ _ q k g j j h.keyTile h0 h1 h2 rfl _ 0 u c (pay20_apply u c)
  · simp only [tileFirst, hj, ew]
    rw [overlay_rows A _ (k0_off4_inb i) j e4]
    by_cases he : i' = j
    · subst he
      rw [if_pos rfl, if_pos ⟨Nat.le_refl _, Nat.le_refl _⟩]
      exact addQ_first _ _ _ _ _ _ q k v g i' i' h.keyTile h.valTile h0 h1 h2 h3 rfl _ _ a d
        ((ld_rows2 A _ (k0_off4_inb i) i' e4 a d).trans (hA i' a d))
    · have hv : i'.val ≠ j.val := fun h => he (Fin.ext h)
      rw [if_neg he, if_neg (by omega), add_zero]
      exact hA i' a d

/-- One further query tile. -/
theorem tileNext_has (h : Holds q k v g j x0 x1 x2 x3 x4 x5) (hj : (i 1).val = j.val) (n : Fin (k0_t1_loop i).trips) (s : St Ideal)
    (hs : Has q k v g α j (j.val + n.val) s) :
    Has q k v g α j (j.val + n.val + 1) (tileNext (F := Ideal) i x0 x1 x2 x3 (keyTile x4) (valTile x5) n s) := by
  have hn : n.val < 7 - j.val := hj ▸ Nat.lt_of_lt_of_eq n.isLt (trips_eq i)
  obtain ⟨i', hi'⟩ : ∃ i' : Fin 8, i'.val = j.val + n.val + 1 := ⟨⟨j.val + n.val + 1, by omega⟩, rfl⟩
  have hlt : j.val < i'.val := by omega
  have en : 1024 * (i 1).val + 1024 * n.val + 1024 = 1024 * i'.val := by omega
  have e5 : k0_off5 i n = ![0, 1024 * i'.val, 0] := by rw [k0_off5_eq, en]
  have e6 : k0_off6 i n = ![1024 * i'.val, 0] := by rw [k0_off6_eq, en]
  have e7 : k0_off7 i n = ![0, i'.val, 0, 0] := by rw [k0_off7_eq, show (i 1).val + n.val + 1 = i'.val by omega]
  have e8 : k0_off8 i n = ![1024 * i'.val, 0] := by rw [k0_off8_eq, en]
  have h0 := fun a d => (ld_rows3 x0 _ (k0_off5_inb i n) i' e5 a d).trans (h.hq _ d)
  have h1 := fun a c => (ld_rows2 x1 _ (k0_off6_inb i n) i' e6 a c).trans (h.hg _ c)
  have h2 := fun a => (ld_rows4 x2 _ (k0_off7_inb i n) i' e7 a).trans (h.hlse i' a)
  have h3 := fun a => (ld_rows4 x3 _ (k0_off7_inb i n) i' e7 a).trans (h.hdel i' a)
  rw [← hi']
  refine ⟨fun u d => ?_, fun u c => ?_, fun t a d => ?_⟩
  · rw [Attn.span_succ _ _ i' _ hi' (Nat.le_add_right _ _)]
    exact addK_next _ _ _ _ _ _ q k v g i' j h.keyTile h.valTile h0 h1 h2 h3 hlt _ _ u d (hs.hk u d)
  · rw [Attn.span_succ _ _ i' _ hi' (Nat.le_add_right _ _)]
    exact addV_next _ _ _ _ q k g i' j h.keyTile h0 h1 h2 hlt _ _ u c (hs.hv u c)
  · simp only [tileNext]
    rw [overlay_rows s.2 _ (k0_off8_inb i n) i' e8]
    by_cases he : t = i'
    · subst he
      rw [if_pos rfl, if_pos ⟨hlt.le, Nat.le_refl _⟩]
      refine addQ_next _ _ _ _ _ _ q k v g t j h.keyTile h.valTile h0 h1 h2 h3 hlt _ _ a d
        ((ld_rows2 s.2 _ (k0_off8_inb i n) t e8 a d).trans ((hs.hq t a d).trans ?_))
      rw [if_neg (by omega), add_zero]
    · have hv : t.val ≠ i'.val := fun h => he (Fin.ext h)
      rw [if_neg he, hs.hq t a d]
      refine congrArg (fun z : ℝ => (z : EReal)) (congrArg (α t a d + ·) (if_congr (by omega) rfl rfl))

theorem tilesNext_has (h : Holds q k v g j x0 x1 x2 x3 x4 x5) (hj : (i 1).val = j.val) (s : St Ideal) (hs : Has q k v g α j j.val s) (n : ℕ)
    (hn : n ≤ (k0_t1_loop i).trips) :
    Has q k v g α j (j.val + n) (tilesNext (F := Ideal) i x0 x1 x2 x3 (keyTile x4) (valTile x5) s n) := by
  induction n with
  | zero => exact hs
  | succ n ih =>
    rw [tilesNext, dif_pos (Nat.lt_of_succ_le hn)]
    exact tileNext_has i α h hj ⟨n, Nat.lt_of_succ_le hn⟩ _ (ih (Nat.le_of_succ_le hn))

/-- What a whole grid point leaves, from an accumulated gradient that held `α`: the key and value tiles' gradients, and
    the key tile's part of the queries'. -/
structure Gained (q k : Fin 8192 → Fin 256 → ℝ) (v g : Fin 8192 → Fin 128 → ℝ) (α : Fin 8 → Fin 1024 → Fin 256 → ℝ) (j : Fin 8) (s : St Ideal) : Prop where
  hk : ∀ u d, s.1.1 (ix2 u d) = (Attn.gradK q k v g (row j u) d : EReal)
  hv : ∀ u c, s.1.2 (ix2 u c) = (Attn.gradV q k g (row j u) c : EReal)
  hq : ∀ i a d, s.2 (ix2 (row i a) d) = ((α i a d + tileQ q k v g i j a d : ℝ) : EReal)

/-- The whole grid point. -/
theorem pointState_has (h : Holds q k v g j x0 x1 x2 x3 x4 x5) (hj : (i 1).val = j.val) (A : Vec Ideal S8192x256 .f32)
    (hA : ∀ i a d, A (ix2 (row i a) d) = (α i a d : EReal)) :
    Gained q k v g α j (pointState (F := Ideal) i x0 x1 x2 x3 x4 x5 A) := by
  have hs := tilesNext_has i α h hj _ (tileFirst_has i α h hj A hA) _ (Nat.le_refl _)
  have ht : j.val + (k0_t1_loop i).trips = 7 := by rw [trips_eq, hj]; omega
  rw [ht] at hs
  unfold pointState
  refine ⟨fun u d => (hs.hk u d).trans ?_, fun u c => (hs.hv u c).trans ?_, fun t a d => (hs.hq t a d).trans ?_⟩
  · rw [Attn.gradK_tiles, Attn.span_all _ _ _ fun t ht => Attn.tileK_masked q k v g t j u d (by omega)]
  · rw [Attn.gradV_tiles, Attn.span_all _ _ _ fun t ht => Attn.tileV_masked q k g t j u c (by omega)]
  · refine congrArg (fun z : ℝ => (z : EReal)) (congrArg (α t a d + ·) ?_)
    split
    · rfl
    · exact (Attn.tileQ_masked q k v g t j a d (by omega)).symm

end Cert.KernelIdeal.Hand

end
-- ==== Proof.HostIn.lean ====
/- What the kernel's call is handed besides the program's arguments: each row's logarithm of the softmax's sum, and the
   product of its output with its gradient, as the host computes them, at an index. -/
module

public import proofs.«01_k».proof.Proof.Exact
public import proofs.«01_k».proof.Proof.Gen.KernelIdeal.Frame
public import Idealize.ShloMosaic.Lib.StableHlo.RunRead

@[expose] public section

noncomputable section

namespace Cert.KernelIdeal.Hand

open Cert.KernelIdeal Cert.KernelIdeal.Gen Idealize.ShloMosaic Idealize.ShloMosaic.TcCoe Idealize.SL.Sem Idealize.ShloMosaic.StableHlo

abbrev R3 := FVec Ideal S8x8192x8192 .f32

def seen : IVec S1x8192x8192 1 := broadcastInDim S1x8192x8192 ![1, 2] bcast_S8192x8192_S1x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
def hScores (q k : FVec Ideal S8x8192x256 .bf16) : R3 := select (broadcastInDim S8x8192x8192 ![0, 1, 2] bcast_S1x8192x8192_S8x8192x8192_0_1_2 seen) (Host.dotGeneral dot_S8x8192x256_S8x8192x256_S8x8192x8192_2_2_1_1_0_0 none (extf .f32 q bitsLt_bf16_f32) (extf .f32 k bitsLt_bf16_f32)) (broadcastInDim S8x8192x8192 ![] bcast_S_S8x8192x8192 (id (constant S_ .f32 0xFF800000#32)))
def hPeaks (s : R3) : FVec Ideal S8x8192 .f32 := Host.reduce FloatOps.maximumf s (constant S_ .f32 0xFF800000#32) reducesTo_S8x8192x8192_S8x8192_d2 h_S_
def hCol (x : FVec Ideal S8x8192 .f32) : FVec Ideal S8x8192x1 .f32 := broadcastInDim S8x8192x1 ![0, 1] bcast_S8x8192_S8x8192x1_0_1 x
def hRows (x : FVec Ideal S8x8192x1 .f32) : R3 := broadcastInDim S8x8192x8192 ![0, 1, 2] bcast_S8x8192x1_S8x8192x8192_0_1_2 x
def hExps (s : R3) : R3 := Host.exp (subf s (hRows (hCol (hPeaks s))))
def hDens (e : R3) : FVec Ideal S8x8192x1 .f32 := hCol (Host.reduceAdd e (constant S_ .f32 0x00000000#32) reducesTo_S8x8192x8192_S8x8192_d2 h_S_)
def hLse (s : R3) : FVec Ideal S8x8192x1 .f32 := addf (hCol (hPeaks s)) (Host.log (hDens (hExps s)))
def hWeights (e : R3) : R3 := extf .f32 (truncf .bf16 (Host.divf e (hRows (hDens e))) bitsLt_bf16_f32) bitsLt_bf16_f32
def hOut (v : FVec Ideal S8x8192x128 .bf16) (e : R3) : FVec Ideal S8192x8x128 .bf16 :=
  truncf .bf16 (transpose S8192x8x128 [2, 0, 1] (Host.dotGeneral dot_S8x8192x128_S8x8192x8192_S8x128x8192_1_2_2_1_0_0 none (extf .f32 v bitsLt_bf16_f32) (hWeights e)) transposes_S8x128x8192_S8192x8x128_2_0_1) bitsLt_bf16_f32
def hDelta (o : FVec Ideal S8192x8x128 .bf16) (g : FVec Ideal S8192x1024 .bf16) : FVec Ideal S8x8192 .f32 :=
  transpose S8x8192 [1, 0] (Host.reduceAdd (mulf (extf .f32 (shapeCast S8192x8x128 g shapeCasts_S8192x1024_S8192x8x128) bitsLt_bf16_f32) (extf .f32 o bitsLt_bf16_f32)) (constant S_ .f32 0x00000000#32) reducesTo_S8192x8x128_S8192x8_d2 h_S_) transposes_S8192x8_S8x8192_1_0

variable (m : (ℓ : Loc nD τ sig) → Buf (Elt Ideal) ℓ) (c : Dev nD)

theorem V_lse : V m c main_v35 = shapeCast S8x8x1x1024 (hLse (hScores (m ((c : Thread nD τ).loc main_arg0)) (m ((c : Thread nD τ).loc main_arg1)))) shapeCasts_S8x8192x1_S8x8x1x1024 := by
  simp only [V, hostOps0, hostOps0_1, hostOps0_2, List.flatten_cons, List.flatten_nil, List.append_nil, List.cons_append, List.nil_append,
    TRef.ternary, TRef.unary, TRef.toBuf, TRef.ofBuf, cast_eq]
  after_results_simp
  rfl

theorem V_delta : V m c main_v36 = shapeCast S8x8x1x1024 (hDelta (hOut (m ((c : Thread nD τ).loc main_arg2)) (hExps (hScores (m ((c : Thread nD τ).loc main_arg0)) (m ((c : Thread nD τ).loc main_arg1)))))
    (m ((c : Thread nD τ).loc main_arg3))) shapeCasts_S8x8192_S8x8x1x1024 := by
  simp only [V, hostOps0, hostOps0_1, hostOps0_2, List.flatten_cons, List.flatten_nil, List.append_nil, List.cons_append, List.nil_append,
    TRef.ternary, TRef.unary, TRef.toBuf, TRef.ofBuf, cast_eq]
  after_results_simp
  rfl

/-! ### At an index -/

variable (Q K : FVec Ideal S8x8192x256 .bf16) (W : FVec Ideal S8x8192x128 .bf16) (G : FVec Ideal S8192x1024 .bf16)
variable (q k : Fin 8 → Fin 8192 → Fin 256 → ℝ) (v g : Fin 8 → Fin 8192 → Fin 128 → ℝ)

theorem seen_apply (t u : Fin 8192) : seen (ix3 0 t u) = if u.val ≤ t.val then 1#1 else 0#1 := by
  pointwise [seen]
  exact Attn.sle_word _ _ u.isLt t.isLt

theorem hScores_apply (hQ : ∀ h t d, Q (ix3 h t d) = (q h t d : EReal)) (hK : ∀ h t d, K (ix3 h t d) = (k h t d : EReal))
    (h : Fin 8) (t u : Fin 8192) : hScores Q K (ix3 h t u) = Attn.cut (q h) (k h) t u := by
  pointwise [hScores, dot_S8x8192x256_S8x8192x256_S8x8192x8192_2_2_1_1_0_0]
  rw [seen_apply, Attn.cut]
  split
  · simp only [hQ, hK, ← EReal.coe_mul, Attn.coe_sum]; rfl
  · exact Attn.minus_infinity

theorem hPeaks_apply (s : R3) (h : Fin 8) (t : Fin 8192) (hs : ∀ u, s (ix3 h t u) = Attn.cut (q h) (k h) t u) :
    hPeaks s (ix2 h t) = (Attn.peak (q h) (k h) t : EReal) := by
  rw [← Attn.coe_peak]
  exact Attn.reduce_max_bot s _ _ _ h t (fun _ => Attn.minus_infinity) _ hs

theorem hExps_apply (s : R3) (h : Fin 8) (t u : Fin 8192) (hs : ∀ u, s (ix3 h t u) = Attn.cut (q h) (k h) t u) :
    hExps s (ix3 h t u) = (Attn.ex (q h) (k h) t u : EReal) := by
  pointwise [hExps, hRows, hCol]
  rw [hPeaks_apply q k s h t hs, hs, Attn.exp_cut]

theorem hLse_term (p : FVec Ideal S8x8192 .f32) (e : R3) (h : Fin 8) (t : Fin 8192) :
    addf (hCol p) (Host.log (hDens e)) (ix3 h t 0) = p (ix2 h t) + Ideal.log (∑ u, e (ix3 h t u)) := by
  pointwise [hDens, hCol]

theorem hLse_apply (s : R3) (h : Fin 8) (t : Fin 8192) (hs : ∀ u, s (ix3 h t u) = Attn.cut (q h) (k h) t u) :
    hLse s (ix3 h t 0) = ((Attn.peak (q h) (k h) t + Real.log (Attn.den (q h) (k h) t) : ℝ) : EReal) := by
  unfold hLse
  rw [hLse_term, hPeaks_apply q k s h t hs]
  simp only [hExps_apply q k s h t _ hs, Attn.coe_sum]
  rw [EReal.coe_add, ← Attn.log_den, Attn.den]

theorem hWeights_apply (e : R3) (h : Fin 8) (t u : Fin 8192) (he : ∀ u, e (ix3 h t u) = (Attn.ex (q h) (k h) t u : EReal)) :
    hWeights e (ix3 h t u) = (Attn.pr (q h) (k h) t u : EReal) := by
  pointwise [hWeights, hRows, hCol, hDens]
  simp only [he, Attn.coe_sum]
  exact Attn.div_real (Attn.den_ne (q h) (k h) t)

theorem hOut_apply (hW : ∀ h t c, W (ix3 h t c) = (v h t c : EReal)) (e : R3) (h : Fin 8) (t : Fin 8192) (c : Fin 128)
    (he : ∀ u, e (ix3 h t u) = (Attn.ex (q h) (k h) t u : EReal)) :
    hOut W e (ix3 t h c) = (Attn.out (q h) (k h) (v h) t c : EReal) := by
  pointwise [hOut, dot_S8x8192x128_S8x8192x8192_S8x128x8192_1_2_2_1_0_0]
  simp only [hW, hWeights_apply q k e h t _ he, ← EReal.coe_mul, Attn.coe_sum]; rfl

theorem hDelta_apply (o : FVec Ideal S8192x8x128 .bf16)
    (hG : ∀ (h : Fin 8) (t : Fin 8192) (c : Fin 128), G (ix2 t ⟨h.val * 128 + c.val, by omega⟩) = (g h t c : EReal)) (h : Fin 8) (t : Fin 8192)
    (ho : ∀ c, o (ix3 t h c) = (Attn.out (q h) (k h) (v h) t c : EReal)) :
    hDelta o G (ix2 h t) = (Attn.del (q h) (k h) (v h) (g h) t : EReal) := by
  pointwise [hDelta]
  simp only [hG, ho, ← EReal.coe_mul, Attn.coe_sum]; rfl

/-- The two rows of a query tile, from the arguments' reals. -/
theorem lse_tile (hQ : ∀ h t d, Q (ix3 h t d) = (q h t d : EReal)) (hK : ∀ h t d, K (ix3 h t d) = (k h t d : EReal))
    (h i : Fin 8) (a : Fin 1024) :
    shapeCast S8x8x1x1024 (hLse (hScores Q K)) shapeCasts_S8x8192x1_S8x8x1x1024 (ix4 h i 0 a)
      = ((Attn.peak (q h) (k h) ⟨i.val * 1024 + a.val, by omega⟩ + Real.log (Attn.den (q h) (k h) ⟨i.val * 1024 + a.val, by omega⟩) : ℝ) : EReal) := by
  pointwise
  exact hLse_apply q k _ h _ fun u => hScores_apply Q K q k hQ hK h _ u

theorem delta_tile (hQ : ∀ h t d, Q (ix3 h t d) = (q h t d : EReal)) (hK : ∀ h t d, K (ix3 h t d) = (k h t d : EReal))
    (hW : ∀ h t c, W (ix3 h t c) = (v h t c : EReal))
    (hG : ∀ (h : Fin 8) (t : Fin 8192) (c : Fin 128), G (ix2 t ⟨h.val * 128 + c.val, by omega⟩) = (g h t c : EReal))
    (h i : Fin 8) (a : Fin 1024) :
    shapeCast S8x8x1x1024 (hDelta (hOut W (hExps (hScores Q K))) G) shapeCasts_S8x8192_S8x8x1x1024 (ix4 h i 0 a)
      = (Attn.del (q h) (k h) (v h) (g h) ⟨i.val * 1024 + a.val, by omega⟩ : EReal) := by
  pointwise
  exact hDelta_apply G q k v g _ hG h _ fun c => hOut_apply W q k v hW _ h _ c fun u =>
    hExps_apply q k _ h _ u fun u => hScores_apply Q K q k hQ hK h _ u

end Cert.KernelIdeal.Hand

end
-- ==== Proof.Blocks.lean ====
/- The blocks of the call's windows at an index, and the state after every grid point at the exact arithmetic. -/
module

public import proofs.«01_k».proof.Proof.State
public import proofs.«01_k».proof.Proof.HostIn
public import proofs.«01_k».proof.Proof.Run

@[expose] public section

set_option maxRecDepth 16384

noncomputable section

namespace Cert.KernelIdeal.Hand

open Cert.KernelIdeal Cert.KernelIdeal.Gen Idealize.ShloMosaic Idealize.ShloMosaic.TcCoe Idealize.SL.Sem
open Attn (row span tileQ tileK tileV)

/-- What the call's arguments hold: the real queries, keys, values and cotangents of the heads. -/
structure Args (m : (ℓ : Loc nD τ sig) → Buf (Elt Ideal) ℓ) (c : Dev nD) (q k : Fin 8 → Fin 8192 → Fin 256 → ℝ) (v g : Fin 8 → Fin 8192 → Fin 128 → ℝ) : Prop where
  hq : ∀ h t d, (m ((c : Thread nD τ).loc main_arg0) : Vec Ideal S8x8192x256 .bf16) (ix3 h t d) = (q h t d : EReal)
  hk : ∀ h t d, (m ((c : Thread nD τ).loc main_arg1) : Vec Ideal S8x8192x256 .bf16) (ix3 h t d) = (k h t d : EReal)
  hv : ∀ h t e, (m ((c : Thread nD τ).loc main_arg2) : Vec Ideal S8x8192x128 .bf16) (ix3 h t e) = (v h t e : EReal)
  hg : ∀ (h : Fin 8) (t : Fin 8192) (e : Fin 128), (m ((c : Thread nD τ).loc main_arg3) : Vec Ideal S8192x1024 .bf16) (ix2 t ⟨h.val * 128 + e.val, by omega⟩) = (g h t e : EReal)

variable (m : (ℓ : Loc nD τ sig) → Buf (Elt Ideal) ℓ) (c : Dev nD) (t : Fin cfg0.N) (h j : Fin 8)

/-! ## Where the blocks lie -/

theorem index0 : ∀ t : Fin cfg0.N, win0_0.index t = ![t.val / 8, 0, 0] := by decide +kernel
theorem index1 : ∀ t : Fin cfg0.N, win0_1.index t = ![0, t.val / 8] := by decide +kernel
theorem index2 : ∀ t : Fin cfg0.N, win0_2.index t = ![t.val / 8, 0, 0, 0] := by decide +kernel
theorem index3 : ∀ t : Fin cfg0.N, win0_3.index t = ![t.val / 8, 0, 0, 0] := by decide +kernel
theorem index4 : ∀ t : Fin cfg0.N, win0_4.index t = ![t.val / 8, t.val % 8, 0] := by decide +kernel
theorem index5 : ∀ t : Fin cfg0.N, win0_5.index t = ![t.val / 8, t.val % 8, 0] := by decide +kernel
theorem index6 : ∀ t : Fin cfg0.N, win0_6.index t = ![t.val / 8, 0, 0] := by decide +kernel
theorem index7 : ∀ t : Fin cfg0.N, win0_7.index t = ![t.val / 8, t.val % 8, 0] := by decide +kernel
theorem index8 : ∀ t : Fin cfg0.N, win0_8.index t = ![t.val / 8, t.val % 8, 0] := by decide +kernel

variable (hh : t.val / 8 = h.val) (hj : t.val % 8 = j.val)

include hh in
theorem blk_q (a : Fin 8192) (d : Fin 256) : (iblk m c 0 t : Vec Ideal S1x8192x256 .bf16) (ix3 0 a d) = m ((c : Thread nD τ).loc main_arg0) (ix3 h a d) := by
  have hi := index0 t
  rw [hh] at hi
  unfold iblk
  rw [View.read_apply]
  show V m c main_arg0 _ = _
  rw [V_main_arg0]
  refine congrArg _ (funext fun ax => Fin.ext ?_)
  match ax with
  | ⟨0, _⟩ => show win0_0.index t 0 * 1 + 1 * 0 = h.val; rw [hi]; show h.val * 1 + 1 * 0 = h.val; omega
  | ⟨1, _⟩ => show win0_0.index t 1 * 8192 + 1 * a.val = a.val; rw [hi]; show 0 * 8192 + 1 * a.val = a.val; omega
  | ⟨2, _⟩ => show win0_0.index t 2 * 256 + 1 * d.val = d.val; rw [hi]; show 0 * 256 + 1 * d.val = d.val; omega

include hh in
theorem blk_do (a : Fin 8192) (d : Fin 128) : (iblk m c 1 t : Vec Ideal S8192x128 .bf16) (ix2 a d) = m ((c : Thread nD τ).loc main_arg3) (ix2 a ⟨h.val * 128 + d.val, by omega⟩) := by
  have hi := index1 t
  rw [hh] at hi
  unfold iblk
  rw [View.read_apply]
  show V m c main_arg3 _ = _
  rw [V_main_arg3]
  refine congrArg _ (funext fun ax => Fin.ext ?_)
  match ax with
  | ⟨0, _⟩ => show win0_1.index t 0 * 8192 + 1 * a.val = a.val; rw [hi]; show 0 * 8192 + 1 * a.val = a.val; omega
  | ⟨1, _⟩ => show win0_1.index t 1 * 128 + 1 * d.val = h.val * 128 + d.val; rw [hi]; show h.val * 128 + 1 * d.val = h.val * 128 + d.val; omega

theorem read_2 (W : Vec Ideal S8x8x1x1024 .f32) (x : S1x8x1x1024.Idx) :
    (((cfg0.win 2).blk t).view.read (Elt Ideal) W : Vec Ideal S1x8x1x1024 .f32) x = W (((cfg0.win 2).blk t).view.emb x) := rfl

include hh in
theorem blk_lse (i : Fin 8) (a : Fin 1024) : (iblk m c 2 t : Vec Ideal S1x8x1x1024 .f32) (ix4 0 i 0 a) = (V m c main_v35 : Vec Ideal S8x8x1x1024 .f32) (ix4 h i 0 a) := by
  have hi := index2 t
  rw [hh] at hi
  refine (read_2 t (V m c main_v35 : Vec Ideal S8x8x1x1024 .f32) (ix4 0 i 0 a)).trans ?_
  refine congrArg _ (funext fun ax => Fin.ext ?_)
  match ax with
  | ⟨0, _⟩ => show win0_2.index t 0 * 1 + 1 * 0 = h.val; rw [hi]; show h.val * 1 + 1 * 0 = h.val; omega
  | ⟨1, _⟩ => show win0_2.index t 1 * 8 + 1 * i.val = i.val; rw [hi]; show 0 * 8 + 1 * i.val = i.val; omega
  | ⟨2, _⟩ => show win0_2.index t 2 * 1 + 1 * 0 = 0; rw [hi]; show 0 * 1 + 1 * 0 = 0; omega
  | ⟨3, _⟩ => show win0_2.index t 3 * 1024 + 1 * a.val = a.val; rw [hi]; show 0 * 1024 + 1 * a.val = a.val; omega

theorem read_3 (W : Vec Ideal S8x8x1x1024 .f32) (x : S1x8x1x1024.Idx) :
    (((cfg0.win 3).blk t).view.read (Elt Ideal) W : Vec Ideal S1x8x1x1024 .f32) x = W (((cfg0.win 3).blk t).view.emb x) := rfl

include hh in
theorem blk_delta (i : Fin 8) (a : Fin 1024) : (iblk m c 3 t : Vec Ideal S1x8x1x1024 .f32) (ix4 0 i 0 a) = (V m c main_v36 : Vec Ideal S8x8x1x1024 .f32) (ix4 h i 0 a) := by
  have hi := index3 t
  rw [hh] at hi
  refine (read_3 t (V m c main_v36 : Vec Ideal S8x8x1x1024 .f32) (ix4 0 i 0 a)).trans ?_
  refine congrArg _ (funext fun ax => Fin.ext ?_)
  match ax with
  | ⟨0, _⟩ => show win0_3.index t 0 * 1 + 1 * 0 = h.val; rw [hi]; show h.val * 1 + 1 * 0 = h.val; omega
  | ⟨1, _⟩ => show win0_3.index t 1 * 8 + 1 * i.val = i.val; rw [hi]; show 0 * 8 + 1 * i.val = i.val; omega
  | ⟨2, _⟩ => show win0_3.index t 2 * 1 + 1 * 0 = 0; rw [hi]; show 0 * 1 + 1 * 0 = 0; omega
  | ⟨3, _⟩ => show win0_3.index t 3 * 1024 + 1 * a.val = a.val; rw [hi]; show 0 * 1024 + 1 * a.val = a.val; omega

include hh hj in
theorem blk_k (a : Fin 1024) (d : Fin 256) : (iblk m c 4 t : Vec Ideal S1x1024x256 .bf16) (ix3 0 a d) = m ((c : Thread nD τ).loc main_arg1) (ix3 h (row j a) d) := by
  have hi := index4 t
  rw [hh, hj] at hi
  unfold iblk
  rw [View.read_apply]
  show V m c main_arg1 _ = _
  rw [V_main_arg1]
  refine congrArg _ (funext fun ax => Fin.ext ?_)
  match ax with
  | ⟨0, _⟩ => show win0_4.index t 0 * 1 + 1 * 0 = h.val; rw [hi]; show h.val * 1 + 1 * 0 = h.val; omega
  | ⟨1, _⟩ => show win0_4.index t 1 * 1024 + 1 * a.val = j.val * 1024 + a.val; rw [hi]; show j.val * 1024 + 1 * a.val = j.val * 1024 + a.val; omega
  | ⟨2, _⟩ => show win0_4.index t 2 * 256 + 1 * d.val = d.val; rw [hi]; show 0 * 256 + 1 * d.val = d.val; omega

include hh hj in
theorem blk_v (a : Fin 1024) (d : Fin 128) : (iblk m c 5 t : Vec Ideal S1x1024x128 .bf16) (ix3 0 a d) = m ((c : Thread nD τ).loc main_arg2) (ix3 h (row j a) d) := by
  have hi := index5 t
  rw [hh, hj] at hi
  unfold iblk
  rw [View.read_apply]
  show V m c main_arg2 _ = _
  rw [V_main_arg2]
  refine congrArg _ (funext fun ax => Fin.ext ?_)
  match ax with
  | ⟨0, _⟩ => show win0_5.index t 0 * 1 + 1 * 0 = h.val; rw [hi]; show h.val * 1 + 1 * 0 = h.val; omega
  | ⟨1, _⟩ => show win0_5.index t 1 * 1024 + 1 * a.val = j.val * 1024 + a.val; rw [hi]; show j.val * 1024 + 1 * a.val = j.val * 1024 + a.val; omega
  | ⟨2, _⟩ => show win0_5.index t 2 * 128 + 1 * d.val = d.val; rw [hi]; show 0 * 128 + 1 * d.val = d.val; omega

/-! ## The state after every grid point -/

variable {q k : Fin 8 → Fin 8192 → Fin 256 → ℝ} {v g : Fin 8 → Fin 8192 → Fin 128 → ℝ} {m c} (hm : Args m c q k v g)

include hm hh hj in
theorem blocks_hold : Holds (q h) (k h) (v h) (g h) j (iblk m c 0 t) (iblk m c 1 t) (iblk m c 2 t) (iblk m c 3 t) (iblk m c 4 t) (iblk m c 5 t) where
  hq a d := (blk_q m c t h hh a d).trans (hm.hq h a d)
  hg a d := (blk_do m c t h j hh a d).trans (hm.hg h a d)
  hlse i a := (blk_lse m c t h hh i a).trans ((congrFun (V_lse m c) _).trans (lse_tile _ _ q k hm.hq hm.hk h i a))
  hdel i a := (blk_delta m c t h hh i a).trans ((congrFun (V_delta m c) _).trans (delta_tile _ _ _ _ q k v g hm.hq hm.hk hm.hv hm.hg h i a))
  hk a d := (blk_k m c t h j hh hj a d).trans (hm.hk h _ d)
  hv a d := (blk_v m c t h j hh hj a d).trans (hm.hv h _ d)

theorem coord1 (t : Fin cfg0.N) : (grid0.coords t 1).val = t.val % 8 :=
  (Pipeline.Grid.coords_val t 1 (by decide) rfl : (grid0.coords t 1).val = t.val / 1 % 8).trans (by rw [Nat.div_one])

/-- The state after the key tile `j` of the head `h`. -/
structure After (q k : Fin 8192 → Fin 256 → ℝ) (v g : Fin 8192 → Fin 128 → ℝ) (j : Fin 8) (s : St Ideal) : Prop where
  hk : ∀ u d, s.1.1 (ix2 u d) = (Attn.gradK q k v g (row j u) d : EReal)
  hv : ∀ u e, s.1.2 (ix2 u e) = (Attn.gradV q k g (row j u) e : EReal)
  hq : ∀ i a d, s.2 (ix2 (row i a) d) = (span (fun j => tileQ q k v g i j a d) 0 j.val : EReal)

theorem After.of_gained {q k : Fin 8192 → Fin 256 → ℝ} {v g : Fin 8192 → Fin 128 → ℝ} (j : Fin 8) (s : St Ideal) (α : Fin 8 → Fin 1024 → Fin 256 → ℝ)
    (hs : Gained q k v g α j s) (hα : ∀ i a d, α i a d + tileQ q k v g i j a d = span (fun j => tileQ q k v g i j a d) 0 j.val) : After q k v g j s :=
  ⟨hs.hk, hs.hv, fun i a d => (hs.hq i a d).trans (congrArg (fun z : ℝ => (z : EReal)) (hα i a d))⟩

include hm hh hj in
theorem after_first (h0 : t.val % 8 = 0) : After (q h) (k h) (v h) (g h) j (stateAt m c t.val t.isLt) := by
  have hs := pointState_has (grid0.coords t) (fun _ _ _ => 0) (blocks_hold t h j hh hj hm) ((coord1 t).trans hj)
    (k0_pay16 (F := Ideal)) fun i a d => pay16_apply (row i a) d
  have hj0 : j = 0 := Fin.ext (hj.symm.trans h0)
  rw [stateAt_first m c t h0]
  refine After.of_gained _ _ (fun _ _ _ => 0) hs ?_
  intro i a d
  rw [zero_add]
  subst hj0
  exact (Attn.span_one (fun j => tileQ (q h) (k h) (v h) (g h) i j a d) 0).symm

include hm hh hj in
theorem after_next (h0 : ¬t.val % 8 = 0) (j' : Fin 8) (hj' : j.val = j'.val + 1) (hl : t.val - 1 < cfg0.N)
    (hp : After (q h) (k h) (v h) (g h) j' (stateAt m c (t.val - 1) hl)) :
    After (q h) (k h) (v h) (g h) j (stateAt m c t.val t.isLt) := by
  have hs := pointState_has (grid0.coords t) (fun i a d => span (fun j => tileQ (q h) (k h) (v h) (g h) i j a d) 0 j'.val)
    (blocks_hold t h j hh hj hm) ((coord1 t).trans hj) (stateAt m c (t.val - 1) hl).2 hp.hq
  rw [stateAt_next m c t h0]
  refine After.of_gained _ _ (fun i a d => span (fun j => tileQ (q h) (k h) (v h) (g h) i j a d) 0 j'.val) hs ?_
  intro i a d
  exact (Attn.span_succ (fun j => tileQ (q h) (k h) (v h) (g h) i j a d) 0 j j'.val hj' (Nat.zero_le _)).symm

include hm in
theorem state_after (n : ℕ) : ∀ (hn : n < cfg0.N) (h j : Fin 8), n / 8 = h.val → n % 8 = j.val →
    After (q h) (k h) (v h) (g h) j (stateAt m c n hn) := by
  induction n using Nat.strong_induction_on with
  | _ n ih =>
    intro hn h j hh hj
    by_cases h0 : n % 8 = 0
    · exact after_first ⟨n, hn⟩ h j hh hj hm h0
    · obtain ⟨j', hj'⟩ : ∃ j' : Fin 8, j.val = j'.val + 1 := ⟨⟨j.val - 1, by omega⟩, show j.val = j.val - 1 + 1 by omega⟩
      have hl : n - 1 < cfg0.N := Nat.lt_of_le_of_lt (Nat.sub_le _ _) hn
      exact after_next ⟨n, hn⟩ h j hh hj hm h0 j' hj' hl (ih (n - 1) (by omega) hl h j' (by omega) (by omega))

/-! ## The arrays the call leaves -/

variable (q k v g) in
def resQ : Vec Ideal S8x8192x256 .bf16 := fun y => (Attn.gradQ (q (y 0)) (k (y 0)) (v (y 0)) (g (y 0)) (y 1) (y 2) : EReal)
variable (q k v g) in
def resK : Vec Ideal S8x8192x256 .bf16 := fun y => (Attn.gradK (q (y 0)) (k (y 0)) (v (y 0)) (g (y 0)) (y 1) (y 2) : EReal)
variable (q k g) in
def resV : Vec Ideal S8x8192x128 .bf16 := fun y => (Attn.gradV (q (y 0)) (k (y 0)) (g (y 0)) (y 1) (y 2) : EReal)

include hm

theorem flushed_q (t : Fin cfg0.N) (hf : (cfg0.win 6).flush t = true) :
    (data m 0 c).flushed 6 t = ((cfg0.win 6).blk t).view.read (Elt Ideal) (resQ q k v g : Vec Ideal S8x8192x256 .bf16) := by
  have ht : t.val < 64 := Nat.lt_of_lt_of_eq t.isLt N_0
  obtain ⟨h, hh⟩ : ∃ h : Fin 8, t.val / 8 = h.val := ⟨⟨t.val / 8, by omega⟩, rfl⟩
  obtain ⟨j, hj⟩ : ∃ j : Fin 8, t.val % 8 = j.val := ⟨⟨t.val % 8, by omega⟩, rfl⟩
  have hs := state_after hm t.val t.isLt h j hh hj
  have hi := index6 t
  rw [hh] at hi
  refine funext fun (y : S1x8192x256.Idx) => ?_
  obtain ⟨z, b, d, rfl⟩ : ∃ z b d, y = ix3 z b d := ⟨_, _, _, eq_ix3 y⟩
  obtain rfl : z = 0 := Subsingleton.elim _ _
  rw [View.read_apply]
  have he : ((cfg0.win 6).blk t).view.emb (ix3 0 b d : S1x8192x256.Idx) = (ix3 h b d : S8x8192x256.Idx) := by
    refine funext fun ax => Fin.ext ?_
    match ax with
    | ⟨0, _⟩ => show win0_6.index t 0 * 1 + 1 * 0 = h.val; rw [hi]; show h.val * 1 + 1 * 0 = h.val; omega
    | ⟨1, _⟩ => show win0_6.index t 1 * 8192 + 1 * b.val = b.val; rw [hi]; show 0 * 8192 + 1 * b.val = b.val; omega
    | ⟨2, _⟩ => show win0_6.index t 2 * 256 + 1 * d.val = d.val; rw [hi]; show 0 * 256 + 1 * d.val = d.val; omega
  rw [he]
  show k0_pay15 (stateAt m c t.val t.isLt).2 (ix3 0 b d) = _
  obtain ⟨i, a, rfl⟩ := Attn.exists_row b
  have hj7 : j.val = 7 := hj.symm.trans ((flush0_6 t).mp hf)
  rw [pay15_apply, hs.hq, hj7, Attn.span_all _ _ _ fun j hj => by omega, ← Attn.gradQ_tiles]
  rfl

theorem final_q : (data m 0 c).arrAt 6 cfg0.N = (resQ q k v g : Vec Ideal S8x8192x256 .bf16) :=
  (data m 0 c).arrAt_eq_of_cover 6 _ (flushed_q hm) fun (y : S8x8192x256.Idx) => by
    have h0 : (y 0).val < 8 := (y 0).isLt
    have h1 : (y 1).val < 8192 := (y 1).isLt
    have h2 : (y 2).val < 256 := (y 2).isLt
    obtain ⟨t, ht⟩ : ∃ t : Fin cfg0.N, t.val = (y 0).val * 8 + 7 := ⟨⟨(y 0).val * 8 + 7, by rw [show cfg0.N = 64 from N_0]; omega⟩, rfl⟩
    have e0 : t.val / 8 = (y 0).val := by omega
    have e1 : t.val % 8 = 7 := by omega
    have hi := index6 t
    rw [e0] at hi
    refine ⟨t, (flush0_6 t).mpr e1, ?_⟩
    show y ∈ ((View.whole main_v37_0).slice (win0_6.rect t)).set
    rw [View.set_slice_whole, Rect.mem_set_unit]
    intro a
    match a with
    | ⟨0, _⟩ => show win0_6.index t 0 * 1 ≤ (y 0).val ∧ (y 0).val < win0_6.index t 0 * 1 + 1
                rw [hi]; show (y 0).val * 1 ≤ (y 0).val ∧ (y 0).val < (y 0).val * 1 + 1; omega
    | ⟨1, _⟩ => show win0_6.index t 1 * 8192 ≤ (y 1).val ∧ (y 1).val < win0_6.index t 1 * 8192 + 8192
                rw [hi]; show 0 * 8192 ≤ (y 1).val ∧ (y 1).val < 0 * 8192 + 8192; omega
    | ⟨2, _⟩ => show win0_6.index t 2 * 256 ≤ (y 2).val ∧ (y 2).val < win0_6.index t 2 * 256 + 256
                rw [hi]; show 0 * 256 ≤ (y 2).val ∧ (y 2).val < 0 * 256 + 256; omega

theorem flushed_k (t : Fin cfg0.N) (hf : (cfg0.win 7).flush t = true) :
    (data m 0 c).flushed 7 t = ((cfg0.win 7).blk t).view.read (Elt Ideal) (resK q k v g : Vec Ideal S8x8192x256 .bf16) := by
  have ht : t.val < 64 := Nat.lt_of_lt_of_eq t.isLt N_0
  obtain ⟨h, hh⟩ : ∃ h : Fin 8, t.val / 8 = h.val := ⟨⟨t.val / 8, by omega⟩, rfl⟩
  obtain ⟨j, hj⟩ : ∃ j : Fin 8, t.val % 8 = j.val := ⟨⟨t.val % 8, by omega⟩, rfl⟩
  have hs := state_after hm t.val t.isLt h j hh hj
  have hi := index7 t
  rw [hh, hj] at hi
  refine funext fun (y : S1x1024x256.Idx) => ?_
  obtain ⟨z, b, d, rfl⟩ : ∃ z b d, y = ix3 z b d := ⟨_, _, _, eq_ix3 y⟩
  obtain rfl : z = 0 := Subsingleton.elim _ _
  rw [View.read_apply]
  have he : ((cfg0.win 7).blk t).view.emb (ix3 0 b d : S1x1024x256.Idx) = (ix3 h (row j b) d : S8x8192x256.Idx) := by
    refine funext fun ax => Fin.ext ?_
    match ax with
    | ⟨0, _⟩ => show win0_7.index t 0 * 1 + 1 * 0 = h.val; rw [hi]; show h.val * 1 + 1 * 0 = h.val; omega
    | ⟨1, _⟩ => show win0_7.index t 1 * 1024 + 1 * b.val = j.val * 1024 + b.val; rw [hi]; show j.val * 1024 + 1 * b.val = j.val * 1024 + b.val; omega
    | ⟨2, _⟩ => show win0_7.index t 2 * 256 + 1 * d.val = d.val; rw [hi]; show 0 * 256 + 1 * d.val = d.val; omega
  rw [he]
  show k0_pay13 (stateAt m c t.val t.isLt).1.1 (ix3 0 b d) = _
  rw [pay13_apply, hs.hk]
  rfl

theorem final_k : (data m 0 c).arrAt 7 cfg0.N = (resK q k v g : Vec Ideal S8x8192x256 .bf16) :=
  (data m 0 c).arrAt_eq_of_cover 7 _ (flushed_k hm) fun (y : S8x8192x256.Idx) => by
    have h0 : (y 0).val < 8 := (y 0).isLt
    have h1 : (y 1).val < 8192 := (y 1).isLt
    have h2 : (y 2).val < 256 := (y 2).isLt
    obtain ⟨t, ht⟩ : ∃ t : Fin cfg0.N, t.val = (y 0).val * 8 + (y 1).val / 1024 := ⟨⟨(y 0).val * 8 + (y 1).val / 1024, by rw [show cfg0.N = 64 from N_0]; omega⟩, rfl⟩
    have e0 : t.val / 8 = (y 0).val := by omega
    have e1 : t.val % 8 = (y 1).val / 1024 := by omega
    have hi := index7 t
    rw [e0, e1] at hi
    refine ⟨t, flush0_7 t, ?_⟩
    show y ∈ ((View.whole main_v37_1).slice (win0_7.rect t)).set
    rw [View.set_slice_whole, Rect.mem_set_unit]
    intro a
    match a with
    | ⟨0, _⟩ => show win0_7.index t 0 * 1 ≤ (y 0).val ∧ (y 0).val < win0_7.index t 0 * 1 + 1
                rw [hi]; show (y 0).val * 1 ≤ (y 0).val ∧ (y 0).val < (y 0).val * 1 + 1; omega
    | ⟨1, _⟩ => show win0_7.index t 1 * 1024 ≤ (y 1).val ∧ (y 1).val < win0_7.index t 1 * 1024 + 1024
                rw [hi]; show (y 1).val / 1024 * 1024 ≤ (y 1).val ∧ (y 1).val < (y 1).val / 1024 * 1024 + 1024; omega
    | ⟨2, _⟩ => show win0_7.index t 2 * 256 ≤ (y 2).val ∧ (y 2).val < win0_7.index t 2 * 256 + 256
                rw [hi]; show 0 * 256 ≤ (y 2).val ∧ (y 2).val < 0 * 256 + 256; omega

theorem flushed_v (t : Fin cfg0.N) (hf : (cfg0.win 8).flush t = true) :
    (data m 0 c).flushed 8 t = ((cfg0.win 8).blk t).view.read (Elt Ideal) (resV q k g : Vec Ideal S8x8192x128 .bf16) := by
  have ht : t.val < 64 := Nat.lt_of_lt_of_eq t.isLt N_0
  obtain ⟨h, hh⟩ : ∃ h : Fin 8, t.val / 8 = h.val := ⟨⟨t.val / 8, by omega⟩, rfl⟩
  obtain ⟨j, hj⟩ : ∃ j : Fin 8, t.val % 8 = j.val := ⟨⟨t.val % 8, by omega⟩, rfl⟩
  have hs := state_after hm t.val t.isLt h j hh hj
  have hi := index8 t
  rw [hh, hj] at hi
  refine funext fun (y : S1x1024x128.Idx) => ?_
  obtain ⟨z, b, d, rfl⟩ : ∃ z b d, y = ix3 z b d := ⟨_, _, _, eq_ix3 y⟩
  obtain rfl : z = 0 := Subsingleton.elim _ _
  rw [View.read_apply]
  have he : ((cfg0.win 8).blk t).view.emb (ix3 0 b d : S1x1024x128.Idx) = (ix3 h (row j b) d : S8x8192x128.Idx) := by
    refine funext fun ax => Fin.ext ?_
    match ax with
    | ⟨0, _⟩ => show win0_8.index t 0 * 1 + 1 * 0 = h.val; rw [hi]; show h.val * 1 + 1 * 0 = h.val; omega
    | ⟨1, _⟩ => show win0_8.index t 1 * 1024 + 1 * b.val = j.val * 1024 + b.val; rw [hi]; show j.val * 1024 + 1 * b.val = j.val * 1024 + b.val; omega
    | ⟨2, _⟩ => show win0_8.index t 2 * 128 + 1 * d.val = d.val; rw [hi]; show 0 * 128 + 1 * d.val = d.val; omega
  rw [he]
  show k0_pay14 (stateAt m c t.val t.isLt).1.2 (ix3 0 b d) = _
  rw [pay14_apply, hs.hv]
  rfl

theorem final_v : (data m 0 c).arrAt 8 cfg0.N = (resV q k g : Vec Ideal S8x8192x128 .bf16) :=
  (data m 0 c).arrAt_eq_of_cover 8 _ (flushed_v hm) fun (y : S8x8192x128.Idx) => by
    have h0 : (y 0).val < 8 := (y 0).isLt
    have h1 : (y 1).val < 8192 := (y 1).isLt
    have h2 : (y 2).val < 128 := (y 2).isLt
    obtain ⟨t, ht⟩ : ∃ t : Fin cfg0.N, t.val = (y 0).val * 8 + (y 1).val / 1024 := ⟨⟨(y 0).val * 8 + (y 1).val / 1024, by rw [show cfg0.N = 64 from N_0]; omega⟩, rfl⟩
    have e0 : t.val / 8 = (y 0).val := by omega
    have e1 : t.val % 8 = (y 1).val / 1024 := by omega
    have hi := index8 t
    rw [e0, e1] at hi
    refine ⟨t, flush0_8 t, ?_⟩
    show y ∈ ((View.whole main_v37_2).slice (win0_8.rect t)).set
    rw [View.set_slice_whole, Rect.mem_set_unit]
    intro a
    match a with
    | ⟨0, _⟩ => show win0_8.index t 0 * 1 ≤ (y 0).val ∧ (y 0).val < win0_8.index t 0 * 1 + 1
                rw [hi]; show (y 0).val * 1 ≤ (y 0).val ∧ (y 0).val < (y 0).val * 1 + 1; omega
    | ⟨1, _⟩ => show win0_8.index t 1 * 1024 ≤ (y 1).val ∧ (y 1).val < win0_8.index t 1 * 1024 + 1024
                rw [hi]; show (y 1).val / 1024 * 1024 ≤ (y 1).val ∧ (y 1).val < (y 1).val / 1024 * 1024 + 1024; omega
    | ⟨2, _⟩ => show win0_8.index t 2 * 128 ≤ (y 2).val ∧ (y 2).val < win0_8.index t 2 * 128 + 128
                rw [hi]; show 0 * 128 ≤ (y 2).val ∧ (y 2).val < 0 * 128 + 128; omega

end Cert.KernelIdeal.Hand

end
-- ==== Proof.RefValue.lean ====
/- The reference's results at an index: the gradients of the real attention, head by head. -/
module

public import proofs.«01_k».proof.Proof.Attn
public import proofs.«01_k».proof.Proof.Gen.ReferenceIdeal.Run
public import proofs.«01_k».proof.Proof.Exact

@[expose] public section

noncomputable section

namespace Cert.ReferenceIdeal.Hand

open Cert.ReferenceIdeal Cert.ReferenceIdeal.Gen Idealize.ShloMosaic Idealize.ShloMosaic.TcCoe Idealize.SL.Sem

abbrev A3 := FVec Ideal S8x8192x8192 .f32

/-- The causal mask, and the masked scores. -/
def mask : IVec S8x8192x8192 1 := broadcastInDim S8x8192x8192 ![0, 1, 2] bcast_S1x8192x8192_S8x8192x8192_0_1_2 (broadcastInDim S1x8192x8192 ![1, 2] bcast_S8192x8192_S1x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
def scores (q k : FVec Ideal S8x8192x256 .bf16) : A3 := select mask (Host.dotGeneral dot_S8x8192x256_S8x8192x256_S8x8192x8192_2_2_1_1_0_0 none (extf .f32 q bitsLt_bf16_f32) (extf .f32 k bitsLt_bf16_f32)) (broadcastInDim S8x8192x8192 ![] bcast_S_S8x8192x8192 (id (constant S_ .f32 0xFF800000#32)))
/-- A column of one value a row, spread over the row. -/
def col (x : FVec Ideal S8x8192 .f32) : FVec Ideal S8x8192x1 .f32 := broadcastInDim S8x8192x1 ![0, 1] bcast_S8x8192_S8x8192x1_0_1 x
def rows (x : FVec Ideal S8x8192x1 .f32) : A3 := broadcastInDim S8x8192x8192 ![0, 1, 2] bcast_S8x8192x1_S8x8192x8192_0_1_2 x
def sums (x : A3) : FVec Ideal S8x8192 .f32 := Host.reduceAdd x (constant S_ .f32 0x00000000#32) reducesTo_S8x8192x8192_S8x8192_d2 h_S_
def peaks (s : A3) : FVec Ideal S8x8192 .f32 := maximumf (broadcastInDim S8x8192 ![] bcast_S_S8x8192 (constant S_ .f32 0xFF800000#32)) (Host.reduce FloatOps.maximumf s (constant S_ .f32 0xFF800000#32) reducesTo_S8x8192x8192_S8x8192_d2 h_S_)
def exps (s : A3) : A3 := Host.exp (subf s (rows (col (peaks s))))
def dens (e : A3) : FVec Ideal S8x8192x1 .f32 := col (sums e)
def weights (e : A3) : A3 := extf .f32 (truncf .bf16 (Host.divf e (rows (dens e))) bitsLt_bf16_f32) bitsLt_bf16_f32
def grads (g : FVec Ideal S8192x1024 .bf16) : FVec Ideal S8x128x8192 .f32 := transpose S8x128x8192 [1, 2, 0] (extf .f32 (shapeCast S8192x8x128 g shapeCasts_S8192x1024_S8192x8x128) bitsLt_bf16_f32) transposes_S8192x8x128_S8x128x8192_1_2_0
def dps (g : FVec Ideal S8192x1024 .bf16) (v : FVec Ideal S8x8192x128 .bf16) : A3 := extf .f32 (truncf .bf16 (Host.dotGeneral dot_S8x128x8192_S8x8192x128_S8x8192x8192_1_2_2_1_0_0 none (grads g) (extf .f32 v bitsLt_bf16_f32)) bitsLt_bf16_f32) bitsLt_bf16_f32
def inv (d : FVec Ideal S8x8192x1 .f32) : FVec Ideal S8x8192x1 .f32 := Host.divf (broadcastInDim S8x8192x1 ![] bcast_S_S8x8192x1 (constant S_ .f32 0x3F800000#32)) (mulf d d)
def sgrads (dp : A3) (e : A3) : A3 :=
  select mask (mulf (addf (Host.divf dp (rows (dens e)))
    (broadcastInDim S8x8192x8192 ![0, 1] bcast_S8x8192_S8x8192x8192_0_1 (Host.reduceAdd (Host.negf (shapeCast S8x8192x1 (sums (mulf (mulf dp (rows (inv (dens e)))) e)) shapeCasts_S8x8192_S8x8192x1)) (constant S_ .f32 0x00000000#32) reducesTo_S8x8192x1_S8x8192_d2 h_S_))) e)
    (broadcastInDim S8x8192x8192 ![] bcast_S_S8x8192x8192 (constant S_ .f32 0x00000000#32))
def dq (q k : FVec Ideal S8x8192x256 .bf16) (v : FVec Ideal S8x8192x128 .bf16) (g : FVec Ideal S8192x1024 .bf16) : FVec Ideal S8x8192x256 .bf16 :=
  truncf .bf16 (Host.dotGeneral dot_S8x8192x8192_S8x8192x256_S8x8192x256_2_1_1_2_0_0 none (sgrads (dps g v) (exps (scores q k))) (extf .f32 k bitsLt_bf16_f32)) bitsLt_bf16_f32
def dk (q k : FVec Ideal S8x8192x256 .bf16) (v : FVec Ideal S8x8192x128 .bf16) (g : FVec Ideal S8192x1024 .bf16) : FVec Ideal S8x8192x256 .bf16 :=
  truncf .bf16 (Host.dotGeneral dot_S8x8192x8192_S8x8192x256_S8x8192x256_1_1_2_2_0_0 none (sgrads (dps g v) (exps (scores q k))) (extf .f32 q bitsLt_bf16_f32)) bitsLt_bf16_f32
def dv (q k : FVec Ideal S8x8192x256 .bf16) (g : FVec Ideal S8192x1024 .bf16) : FVec Ideal S8x8192x128 .bf16 :=
  truncf .bf16 (transpose S8x8192x128 [0, 2, 1] (Host.dotGeneral dot_S8x128x8192_S8x8192x8192_S8x128x8192_2_1_1_2_0_0 none (grads g) (weights (exps (scores q k)))) transposes_S8x128x8192_S8x8192x128_0_2_1) bitsLt_bf16_f32

theorem dq_eq (m : (ℓ : Loc nD τ sig) → Buf (Elt Ideal) ℓ) (c : Dev nD) :
    Value.res_main_v72 m c = dq (m ((c.tc : Thread nD τ).loc main_arg0)) (m ((c.tc : Thread nD τ).loc main_arg1)) (m ((c.tc : Thread nD τ).loc main_arg2)) (m ((c.tc : Thread nD τ).loc main_arg3)) := rfl
theorem dk_eq (m : (ℓ : Loc nD τ sig) → Buf (Elt Ideal) ℓ) (c : Dev nD) :
    Value.res_main_v71 m c = dk (m ((c.tc : Thread nD τ).loc main_arg0)) (m ((c.tc : Thread nD τ).loc main_arg1)) (m ((c.tc : Thread nD τ).loc main_arg2)) (m ((c.tc : Thread nD τ).loc main_arg3)) := rfl
theorem dv_eq (m : (ℓ : Loc nD τ sig) → Buf (Elt Ideal) ℓ) (c : Dev nD) :
    Value.res_main_v53 m c = dv (m ((c.tc : Thread nD τ).loc main_arg0)) (m ((c.tc : Thread nD τ).loc main_arg1)) (m ((c.tc : Thread nD τ).loc main_arg3)) := rfl

/-! ### The terms at an index -/

variable (Q K : FVec Ideal S8x8192x256 .bf16) (V : FVec Ideal S8x8192x128 .bf16) (G : FVec Ideal S8192x1024 .bf16)
variable (q k : Fin 8 → Fin 8192 → Fin 256 → ℝ) (v g : Fin 8 → Fin 8192 → Fin 128 → ℝ)

theorem mask_apply (h : Fin 8) (t u : Fin 8192) : mask (ix3 h t u) = if u.val ≤ t.val then 1#1 else 0#1 := by
  pointwise [mask]
  exact Attn.sle_word _ _ u.isLt t.isLt

theorem scores_apply (hQ : ∀ h t d, Q (ix3 h t d) = (q h t d : EReal)) (hK : ∀ h t d, K (ix3 h t d) = (k h t d : EReal))
    (h : Fin 8) (t u : Fin 8192) : scores Q K (ix3 h t u) = Attn.cut (q h) (k h) t u := by
  pointwise [scores, dot_S8x8192x256_S8x8192x256_S8x8192x8192_2_2_1_1_0_0]
  rw [mask_apply, Attn.cut]
  split
  · simp only [hQ, hK, ← EReal.coe_mul, Attn.coe_sum]; rfl
  · exact Attn.minus_infinity

theorem peaks_apply (s : A3) (h : Fin 8) (t : Fin 8192) (hs : ∀ u, s (ix3 h t u) = Attn.cut (q h) (k h) t u) :
    peaks s (ix2 h t) = (Attn.peak (q h) (k h) t : EReal) := by
  rw [← Attn.coe_peak]
  exact Attn.max_reduce_max s _ _ _ _ h t Attn.minus_infinity (fun _ => Attn.minus_infinity) _ hs

theorem exps_apply (s : A3) (h : Fin 8) (t u : Fin 8192) (hs : ∀ u, s (ix3 h t u) = Attn.cut (q h) (k h) t u) :
    exps s (ix3 h t u) = (Attn.ex (q h) (k h) t u : EReal) := by
  pointwise [exps, rows, col]
  rw [peaks_apply q k s h t hs, hs, Attn.exp_cut]

theorem weights_apply (e : A3) (h : Fin 8) (t u : Fin 8192) (he : ∀ u, e (ix3 h t u) = (Attn.ex (q h) (k h) t u : EReal)) :
    weights e (ix3 h t u) = (Attn.pr (q h) (k h) t u : EReal) := by
  pointwise [weights, rows, col, dens, sums]
  simp only [he, Attn.coe_sum]
  exact Attn.div_real (Attn.den_ne (q h) (k h) t)

theorem dps_apply (hV : ∀ h t c, V (ix3 h t c) = (v h t c : EReal))
    (hG : ∀ (h : Fin 8) (t : Fin 8192) (c : Fin 128), G (ix2 t ⟨h.val * 128 + c.val, by omega⟩) = (g h t c : EReal))
    (h : Fin 8) (t u : Fin 8192) : dps G V (ix3 h t u) = (Attn.dpr (v h) (g h) t u : EReal) := by
  pointwise [dps, grads, dot_S8x128x8192_S8x8192x128_S8x8192x8192_1_2_2_1_0_0]
  simp only [hG, hV, ← EReal.coe_mul, Attn.coe_sum]; rfl

theorem sgrads_apply (dp e : A3) (h : Fin 8) (t u : Fin 8192) (hd : ∀ u, dp (ix3 h t u) = (Attn.dpr (v h) (g h) t u : EReal))
    (he : ∀ u, e (ix3 h t u) = (Attn.ex (q h) (k h) t u : EReal)) :
    sgrads dp e (ix3 h t u) = (Attn.ds (q h) (k h) (v h) (g h) t u : EReal) := by
  have hn := Attn.den_ne (q h) (k h) t
  pointwise [sgrads, rows, inv, dens, col, sums]
  rw [mask_apply]
  split
  · simp only [hd, he, Attn.coe_sum, Fin.sum_univ_one, Finset.univ_unique, Finset.sum_singleton]
    have e1 : (∑ i, Attn.ex (q h) (k h) t i) = Attn.den (q h) (k h) t := rfl
    rw [e1, Attn.div_real hn, ← EReal.coe_mul, ← EReal.coe_one, Attn.div_real (mul_ne_zero hn hn)]
    simp only [← EReal.coe_mul, Attn.coe_sum, ← EReal.coe_neg, ← EReal.coe_add]
    exact congrArg (fun x : ℝ => (x : EReal)) (Attn.ds_eq (q h) (k h) (v h) (g h) t u)
  · rename_i hm; rw [Attn.ds_masked _ _ _ _ _ _ hm]; rfl

variable (hQ : ∀ h t d, Q (ix3 h t d) = (q h t d : EReal)) (hK : ∀ h t d, K (ix3 h t d) = (k h t d : EReal))
  (hV : ∀ h t c, V (ix3 h t c) = (v h t c : EReal))
  (hG : ∀ (h : Fin 8) (t : Fin 8192) (c : Fin 128), G (ix2 t ⟨h.val * 128 + c.val, by omega⟩) = (g h t c : EReal))
include hQ hK hG

theorem exps_scores (h : Fin 8) (t u : Fin 8192) : exps (scores Q K) (ix3 h t u) = (Attn.ex (q h) (k h) t u : EReal) :=
  exps_apply q k _ h t u fun u => scores_apply Q K q k hQ hK h t u

theorem dv_apply (h : Fin 8) (u : Fin 8192) (c : Fin 128) : dv Q K G (ix3 h u c) = (Attn.gradV (q h) (k h) (g h) u c : EReal) := by
  pointwise [dv, grads, dot_S8x128x8192_S8x8192x8192_S8x128x8192_2_1_1_2_0_0]
  simp only [hG, weights_apply q k (exps (scores Q K)) h _ u fun u => exps_scores Q K G q k g hQ hK hG h _ u,
    ← EReal.coe_mul, Attn.coe_sum]
  exact congrArg _ (Finset.sum_congr rfl fun t _ => mul_comm _ _)

include hV

theorem sgrads_all (h : Fin 8) (t u : Fin 8192) :
    sgrads (dps G V) (exps (scores Q K)) (ix3 h t u) = (Attn.ds (q h) (k h) (v h) (g h) t u : EReal) :=
  sgrads_apply q k v g _ _ h t u (fun u => dps_apply V G v g hV hG h t u) fun u => exps_scores Q K G q k g hQ hK hG h t u

theorem dq_apply (h : Fin 8) (t : Fin 8192) (d : Fin 256) : dq Q K V G (ix3 h t d) = (Attn.gradQ (q h) (k h) (v h) (g h) t d : EReal) := by
  pointwise [dq, dot_S8x8192x8192_S8x8192x256_S8x8192x256_2_1_1_2_0_0]
  simp only [sgrads_all Q K V G q k v g hQ hK hV hG, hK, ← EReal.coe_mul, Attn.coe_sum]; rfl

theorem dk_apply (h : Fin 8) (u : Fin 8192) (d : Fin 256) : dk Q K V G (ix3 h u d) = (Attn.gradK (q h) (k h) (v h) (g h) u d : EReal) := by
  pointwise [dk, dot_S8x8192x8192_S8x8192x256_S8x8192x256_1_1_2_2_0_0]
  simp only [sgrads_all Q K V G q k v g hQ hK hV hG, hQ, ← EReal.coe_mul, Attn.coe_sum]; rfl

end Cert.ReferenceIdeal.Hand

end
-- ==== Proof.Finite.lean ====
/- The precondition, read: every element of the four arguments is a real. -/
module

public import proofs.«01_k».proof.Pre_finite
public import proofs.«01_k».proof.Proof.Exact

@[expose] public section

noncomputable section

namespace Cert.Pre_finite.Hand

open Cert.Pre_finite Cert.Pre_finite.Facts Idealize.ShloMosaic

theorem facts : Facts where
  bitsLt_bf16_f32 := by decide
  bcast_S_S8x8192x256 := by decide
  reducesTo_S8x8192x256_S_d0_1_2 := by decide
  h_S_ := by decide
  bcast_S_S8x8192x128 := by decide
  reducesTo_S8x8192x128_S_d0_1_2 := by decide
  bcast_S_S8192x1024 := by decide
  reducesTo_S8192x1024_S_d0_1 := by decide

attribute [local instance] facts

theorem andi_one (x y : BitVec 1) : IntOp.andi x y = 1#1 ↔ x = 1#1 ∧ y = 1#1 := by
  simp only [IntOp.andi]; decide +revert

theorem fold_andi {ι : Type} [DecidableEq ι] (s : Finset ι) (f : ι → BitVec 1) (b : BitVec 1)
    (h : s.fold IntOp.andi b f = 1#1) : ∀ i ∈ s, f i = 1#1 := by
  induction s using Finset.induction_on with
  | empty => simp
  | insert a s ha ih =>
    rw [Finset.fold_insert ha] at h
    have h := (andi_one _ _).mp h
    intro i hi
    rcases Finset.mem_insert.mp hi with rfl | hi
    · exact h.1
    · exact ih h.2 i hi

/-- A conjunction over a whole array holds of each element. -/
theorem all_of_reduce {s u : Shape} {axes : List (Fin s.rank)} (x : s.Idx → BitVec 1) (init : u.Idx → BitVec 1) (h : s.ReducesTo axes S_) (hu : 0 < u.numel)
    (j : S_.Idx) (e : Host.reduce IntOp.andi x init h hu j = 1#1) (i : s.Idx) : x i = 1#1 := by
  classical
  rw [Host.reduce_eq_fold] at e
  exact fold_andi _ x _ e i (Finset.mem_filter.mpr ⟨Finset.mem_univ i, funext fun a => a.elim0⟩)

/-- An extended real whose magnitude is below the top is a real. -/
theorem real_of_lt (x : EReal) (h : Ideal.cmp .olt (max x (-x)) ⊤ = 1#1) : (x.toReal : EReal) = x := by
  have h : max x (-x) < ⊤ := by
    by_contra hn
    simp [Ideal.cmp, hn] at h
  refine EReal.coe_toReal (fun e => ?_) fun e => ?_
  · subst e; simp at h
  · subst e; simp at h

/-- An array all of whose magnitudes are below the top, as the predicate says it, is an array of reals. -/
theorem reals {s : Shape} {axes : List (Fin s.rank)} (a : FVec Ideal s .f32) (hb : S_.BroadcastsInDim s (![] : Fin 0 → Fin s.rank)) (h : s.ReducesTo axes S_)
    (hu : 0 < S_.numel) (j : S_.Idx)
    (e : Host.reduce IntOp.andi (cmpf .olt (Host.absf a) (broadcastInDim s ![] hb (constant S_ .f32 0x7F800000#32))) (constantI S_ 1 1#1) h hu j = 1#1)
    (i : s.Idx) : ((a i : EReal).toReal : EReal) = a i := by
  have e := all_of_reduce _ _ h hu j e i
  refine real_of_lt _ ?_
  rw [← Attn.infinity]
  exact e

theorem finite (a0 a1 : FVec Ideal S8x8192x256 .bf16) (a2 : FVec Ideal S8x8192x128 .bf16) (a3 : FVec Ideal S8192x1024 .bf16)
    (h : fn a0 a1 a2 a3 = fun _ => 1#1) :
    (∀ i, ((a0 i : EReal).toReal : EReal) = a0 i) ∧ (∀ i, ((a1 i : EReal).toReal : EReal) = a1 i)
      ∧ (∀ i, ((a2 i : EReal).toReal : EReal) = a2 i) ∧ ∀ i, ((a3 i : EReal).toReal : EReal) = a3 i := by
  have h := congrFun h (Shape.Idx.first h_S_)
  obtain ⟨h, h3⟩ := (andi_one _ _).mp h
  obtain ⟨h, h2⟩ := (andi_one _ _).mp h
  obtain ⟨h0, h1⟩ := (andi_one _ _).mp h
  exact ⟨reals _ _ _ _ _ h0, reals _ _ _ _ _ h1, reals _ _ _ _ _ h2, reals _ _ _ _ _ h3⟩

end Cert.Pre_finite.Hand

end
-- ==== Proof.Value.lean ====
/- The call and the reference at the exact arithmetic: from finite arguments both end with the gradients of the attention
   of every head. -/
module

public import proofs.«01_k».proof.Defs
public import proofs.«01_k».proof.Proof.Blocks
public import proofs.«01_k».proof.Proof.RefValue
public import proofs.«01_k».proof.Proof.Finite
public import proofs.«01_k».proof.Proof.Gen.ReferenceIdeal.Run

@[expose] public section

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The real numbers the arguments hold -/

def argQ (c : Dev nD) (h : Fin 8) (t : Fin 8192) (d : Fin 256) : ℝ := EReal.toReal ((m ((c : Thread nD τ).loc main_arg0) : Vec Ideal S8x8192x256 .bf16) (ix3 h t d))
def argK (c : Dev nD) (h : Fin 8) (t : Fin 8192) (d : Fin 256) : ℝ := EReal.toReal ((m ((c : Thread nD τ).loc main_arg1) : Vec Ideal S8x8192x256 .bf16) (ix3 h t d))
def argV (c : Dev nD) (h : Fin 8) (t : Fin 8192) (e : Fin 128) : ℝ := EReal.toReal ((m ((c : Thread nD τ).loc main_arg2) : Vec Ideal S8x8192x128 .bf16) (ix3 h t e))
def argG (c : Dev nD) (h : Fin 8) (t : Fin 8192) (e : Fin 128) : ℝ :=
  EReal.toReal ((m ((c : Thread nD τ).loc main_arg3) : Vec Ideal S8192x1024 .bf16) (ix2 t ⟨h.val * 128 + e.val, by omega⟩))

theorem args_real (c : Dev nD) [hP : Cert.Pre_finite.Facts]
    (h : Cert.Pre_finite.fn (F := Ideal) (m ((c : Thread nD τ).loc main_arg0)) (m ((c : Thread nD τ).loc main_arg1)) (m ((c : Thread nD τ).loc main_arg2)) (m ((c : Thread nD τ).loc main_arg3)) = fun _ => 1#1) :
    Args m c (argQ m c) (argK m c) (argV m c) (argG m c) := by
  have hf := Cert.Pre_finite.Hand.finite _ _ _ _ h
  exact ⟨fun h t d => (hf.1 _).symm, fun h t d => (hf.2.1 _).symm, fun h t e => (hf.2.2.1 _).symm, fun h t e => (hf.2.2.2 _).symm⟩

/-- What the call leaves. -/
theorem run_value (hm : ∀ c, Args m c (argQ m c) (argK m c) (argV m c) (argG m c)) :
    θ_run defs (onTc (τ := τ) (main (F := Ideal))) ⟨m, fun _ => 0, ρ⟩ fun r => ∀ c : Dev nD,
      r.2.mem ((c : Thread nD τ).loc main_v37_0) = (resQ (argQ m c) (argK m c) (argV m c) (argG m c) : Vec Ideal S8x8192x256 .bf16)
      ∧ r.2.mem ((c : Thread nD τ).loc main_v37_1) = (resK (argQ m c) (argK m c) (argV m c) (argG m c) : Vec Ideal S8x8192x256 .bf16)
      ∧ r.2.mem ((c : Thread nD τ).loc main_v37_2) = (resV (argQ m c) (argK m c) (argG m c) : Vec Ideal S8x8192x128 .bf16) :=
  (θ_run defs _ _).mono (fun _ h c => ⟨((h c).1 6).trans (final_q (hm c)), ((h c).1 7).trans (final_k (hm c)), ((h c).1 8).trans (final_v (hm c))⟩)
    (run m ρ)

/-! ## The reference -/

section
variable {m} {c : Dev nD} {q k : Fin 8 → Fin 8192 → Fin 256 → ℝ} {v g : Fin 8 → Fin 8192 → Fin 128 → ℝ} (hm : Args m c q k v g)
include hm

theorem ref_q : Cert.ReferenceIdeal.Hand.dq (m ((c : Thread nD τ).loc main_arg0)) (m ((c : Thread nD τ).loc main_arg1)) (m ((c : Thread nD τ).loc main_arg2)) (m ((c : Thread nD τ).loc main_arg3))
    = resQ q k v g := by
  refine funext fun (y : S8x8192x256.Idx) => ?_
  obtain ⟨h, t, d, rfl⟩ : ∃ h t d, y = ix3 h t d := ⟨_, _, _, eq_ix3 y⟩
  exact Cert.ReferenceIdeal.Hand.dq_apply _ _ _ _ q k v g hm.hq hm.hk hm.hv hm.hg h t d

theorem ref_k : Cert.ReferenceIdeal.Hand.dk (m ((c : Thread nD τ).loc main_arg0)) (m ((c : Thread nD τ).loc main_arg1)) (m ((c : Thread nD τ).loc main_arg2)) (m ((c : Thread nD τ).loc main_arg3))
    = resK q k v g := by
  refine funext fun (y : S8x8192x256.Idx) => ?_
  obtain ⟨h, t, d, rfl⟩ : ∃ h t d, y = ix3 h t d := ⟨_, _, _, eq_ix3 y⟩
  exact Cert.ReferenceIdeal.Hand.dk_apply _ _ _ _ q k v g hm.hq hm.hk hm.hv hm.hg h t d

theorem ref_v : Cert.ReferenceIdeal.Hand.dv (m ((c : Thread nD τ).loc main_arg0)) (m ((c : Thread nD τ).loc main_arg1)) (m ((c : Thread nD τ).loc main_arg3))
    = resV q k g := by
  refine funext fun (y : S8x8192x128.Idx) => ?_
  obtain ⟨h, t, d, rfl⟩ : ∃ h t d, y = ix3 h t d := ⟨_, _, _, eq_ix3 y⟩
  exact Cert.ReferenceIdeal.Hand.dv_apply _ _ _ q k g hm.hq hm.hk hm.hg h t d

end

end Cert.KernelIdeal.Hand

end
-- ==== Proof.FwdAttn.lean ====
/- The causal softmax of a row taken over its keys in several steps: after each step a largest score, the sum of the
   exponentials taken from it, and the values weighted by them; and the row's output from the last of them. The values
   may be infinite: only the scores are real. -/
module

public import proofs.«01_k».proof.Proof.Exact
public import proofs.«01_k».proof.Proof.AttnTiles

@[expose] public section

noncomputable section

namespace Attn

open Idealize.ShloMosaic

/-! ## Exponentials of differences -/

/-- What the exponentials of the extended reals below the top are: nonnegative reals. -/
theorem exp_real (x : EReal) (hx : x ≠ ⊤) : ∃ r : ℝ, 0 ≤ r ∧ Ideal.exp x = (r : EReal) := by
  induction x with
  | bot => exact ⟨0, le_rfl, Ideal.exp_bot⟩
  | coe x => exact ⟨Real.exp x, (Real.exp_pos x).le, Ideal.exp_coe x⟩
  | top => exact absurd rfl hx

theorem sub_ne_top (x M : EReal) (hx : x ≠ ⊤) (hM : M ≠ ⊥) : x - M ≠ ⊤ := by
  induction M with
  | bot => exact absurd rfl hM
  | coe r =>
    induction x with
    | bot => rw [EReal.bot_sub]; exact bot_ne_top
    | coe s => rw [← EReal.coe_sub]; exact EReal.coe_ne_top _
    | top => exact absurd rfl hx
  | top => rw [EReal.sub_top]; exact bot_ne_top

/-- Taking an exponential from a larger score. -/
theorem exp_rebase (x M M' : EReal) (hx : x ≤ M) (hM : M ≤ M') (ht : M' ≠ ⊤) :
    Ideal.exp (M - M') * Ideal.exp (x - M) = Ideal.exp (x - M') := by
  induction M with
  | top => exact absurd (top_le_iff.mp hM) ht
  | bot => rw [le_bot_iff.mp hx, EReal.bot_sub, Ideal.exp_bot]; exact zero_mul _
  | coe r =>
    induction M' with
    | top => exact absurd rfl ht
    | bot => exact absurd (le_bot_iff.mp hM) (EReal.coe_ne_bot r)
    | coe r' =>
      induction x with
      | top => exact absurd (top_le_iff.mp hx) (EReal.coe_ne_top r)
      | bot => rw [EReal.bot_sub, EReal.bot_sub, Ideal.exp_bot]; exact mul_zero _
      | coe s =>
        rw [← EReal.coe_sub, ← EReal.coe_sub, ← EReal.coe_sub, Ideal.exp_coe, Ideal.exp_coe, Ideal.exp_coe, ← EReal.coe_mul, ← Real.exp_add]
        exact congrArg (fun z : ℝ => (Real.exp z : EReal)) (by ring)

/-- A nonnegative real factor of a sum. -/
theorem real_mul_sum {ι : Type} (s : Finset ι) (r : ℝ) (hr : 0 ≤ r) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top r) _ _

/-! ## The steps -/

variable (q k : Fin 8192 → Fin 256 → ℝ) (w : Fin 8192 → Fin 128 → EReal)

/-- What is held of row `t` after the keys `S`. -/
structure Seen (t : Fin 8192) (S : Finset (Fin 8192)) (M l : EReal) (o : Fin 128 → EReal) : Prop where
  hM : M = S.sup (cut q k t)
  hl : l = ∑ u ∈ S, Ideal.exp (cut q k t u - M)
  ho : ∀ c, o c = ∑ u ∈ S, Ideal.exp (cut q k t u - M) * w u c

theorem Seen.none (t : Fin 8192) : Seen q k w t ∅ ⊥ 0 fun _ => 0 := ⟨rfl, rfl, fun _ => rfl⟩

theorem sup_ne_top (t : Fin 8192) (S : Finset (Fin 8192)) : S.sup (cut q k t) ≠ ⊤ :=
  ((Finset.sup_lt_iff (bot_lt_top (α := EReal))).mpr fun u _ => lt_top_iff_ne_top.mpr (cut_ne_top q k t u)).ne

variable {q k w}

theorem Seen.step {t : Fin 8192} {S : Finset (Fin 8192)} {M l : EReal} {o : Fin 128 → EReal} (h : Seen q k w t S M l o)
    (T : Finset (Fin 8192)) (hd : Disjoint S T) (hT : ∃ u ∈ T, u.val ≤ t.val) (M' : EReal) (hM' : M' = max M (T.sup (cut q k t))) :
    Seen q k w t (S ∪ T) M' (Ideal.exp (M - M') * l + ∑ u ∈ T, Ideal.exp (cut q k t u - M'))
      fun c => Ideal.exp (M - M') * o c + ∑ u ∈ T, Ideal.exp (cut q k t u - M') * w u c := by
  have hs : M' = (S ∪ T).sup (cut q k t) := by rw [Finset.sup_union, ← h.hM]; exact hM'
  have ht : M' ≠ ⊤ := hs ▸ sup_ne_top q k t _
  have hle : M ≤ M' := hM' ▸ le_max_left _ _
  have hb : M' ≠ ⊥ := fun e => by
    obtain ⟨u, hu, hut⟩ := hT
    have h1 : cut q k t u ≤ (S ∪ T).sup (cut q k t) := Finset.le_sup (Finset.mem_union_right S hu)
    rw [← hs, e, cut, if_pos hut] at h1
    exact EReal.coe_ne_bot _ (le_bot_iff.mp h1)
  have hMt : M ≠ ⊤ := h.hM ▸ sup_ne_top q k t S
  have hu : ∀ u ∈ S, cut q k t u ≤ M := fun u hu => h.hM ▸ Finset.le_sup (f := cut q k t) hu
  obtain ⟨r, hr, er⟩ := exp_real (M - M') (sub_ne_top M M' hMt hb)
  refine ⟨hs, ?_, fun c => ?_⟩
  · rw [Finset.sum_union hd, er, h.hl, real_mul_sum S r hr, ← er]
    exact congrArg (fun z => z + ∑ u ∈ T, Ideal.exp (cut q k t u - M')) (Finset.sum_congr rfl fun u hm => exp_rebase _ M M' (hu u hm) hle ht)
  · show Ideal.exp (M - M') * o c + _ = _
    rw [Finset.sum_union hd, er, h.ho c, real_mul_sum S r hr, ← er]
    exact congrArg (fun z => z + ∑ u ∈ T, Ideal.exp (cut q k t u - M') * w u c) (Finset.sum_congr rfl fun u hm => by
      rw [← mul_assoc, exp_rebase _ M M' (hu u hm) hle ht])

/-! ## The keys of the first tiles -/

/-- The keys of tile `j`, and of the tiles before it. -/
def keys (j : Fin 8) : Finset (Fin 8192) := Finset.univ.map ⟨row j, fun _ _ h => (row_inj h).2⟩
def before (n : ℕ) : Finset (Fin 8192) := Finset.univ.filter fun u => u.val < n * 1024

theorem sum_keys {α : Type} [AddCommMonoid α] (j : Fin 8) (f : Fin 8192 → α) : ∑ u ∈ keys j, f u = ∑ a, f (row j a) := Finset.sum_map _ _ _
theorem sup_keys (j : Fin 8) (f : Fin 8192 → EReal) : (keys j).sup f = Finset.univ.fold max ⊥ fun a => f (row j a) := Finset.sup_map _ _ _

theorem mem_keys (j : Fin 8) (u : Fin 8192) : u ∈ keys j ↔ j.val * 1024 ≤ u.val ∧ u.val < (j.val + 1) * 1024 := by
  unfold keys
  rw [Finset.mem_map]
  constructor
  · rintro ⟨a, -, rfl⟩
    show j.val * 1024 ≤ (row j a).val ∧ (row j a).val < (j.val + 1) * 1024
    simp only [row]; omega
  · intro h
    exact ⟨⟨u.val - j.val * 1024, by omega⟩, Finset.mem_univ _, Fin.ext (by show (row j _).val = u.val; simp only [row]; omega)⟩

theorem mem_before (n : ℕ) (u : Fin 8192) : u ∈ before n ↔ u.val < n * 1024 := by
  unfold before; rw [Finset.mem_filter]; exact ⟨fun h => h.2, fun h => ⟨Finset.mem_univ _, h⟩⟩

theorem before_zero : before 0 = ∅ := by
  ext u; rw [mem_before]; simp

theorem before_disjoint (j : Fin 8) : Disjoint (before j.val) (keys j) :=
  Finset.disjoint_left.mpr fun u h h' => by rw [mem_before] at h; rw [mem_keys] at h'; omega

theorem before_succ (j : Fin 8) : before (j.val + 1) = before j.val ∪ keys j := by
  ext u; rw [Finset.mem_union, mem_before, mem_before, mem_keys]; omega

/-- One further tile, none of whose first keys is masked. -/
theorem Seen.tile {t : Fin 8192} {M l : EReal} {o : Fin 128 → EReal} (j : Fin 8) (h : Seen q k w t (before j.val) M l o) (hj : j.val * 1024 ≤ t.val)
    (M' : EReal) (hM' : M' = max M (Finset.univ.fold max ⊥ fun a => cut q k t (row j a))) :
    Seen q k w t (before (j.val + 1)) M' (Ideal.exp (M - M') * l + ∑ a, Ideal.exp (cut q k t (row j a) - M'))
      fun c => Ideal.exp (M - M') * o c + ∑ a, Ideal.exp (cut q k t (row j a) - M') * w (row j a) c := by
  have e := h.step (keys j) (before_disjoint j) ⟨row j 0, (mem_keys j _).mpr (by simp only [row]; show j.val * 1024 ≤ j.val * 1024 + 0 ∧ _; omega), by
    simp only [row]; show j.val * 1024 + 0 ≤ t.val; omega⟩ M' (by rw [sup_keys]; exact hM')
  rw [← before_succ] at e
  simpa only [sum_keys] using e

/-! ## The row's output -/

variable (q k w) in
/-- The output of row `t`, -/
def outE (t : Fin 8192) (c : Fin 128) : EReal := ∑ u, w u c * (pr q k t u : EReal)
variable (q k) in
/-- and the logarithm of the sum of its exponentials. -/
def lse (t : Fin 8192) : ℝ := Real.log (∑ u : Fin 8192, if u.val ≤ t.val then Real.exp (score q k t u) else 0)

theorem lse_eq (t : Fin 8192) : lse q k t = peak q k t + Real.log (den q k t) := by
  have e : (∑ u : Fin 8192, if u.val ≤ t.val then Real.exp (score q k t u) else 0) = Real.exp (peak q k t) * den q k t := by
    rw [den, Finset.mul_sum]
    refine Finset.sum_congr rfl fun u _ => ?_
    rw [ex]; split
    · rw [← Real.exp_add]; exact congrArg Real.exp (by ring)
    · rw [mul_zero]
  rw [lse, e, Real.log_mul (Real.exp_pos _).ne' (den_ne q k t), Real.log_exp]

theorem cut_masked (t u : Fin 8192) (h : ¬u.val ≤ t.val) : cut q k t u = ⊥ := if_neg h

theorem ex_masked (t u : Fin 8192) (h : ¬u.val ≤ t.val) : ex q k t u = 0 := if_neg h

section
variable {t : Fin 8192} {n : ℕ} {M l : EReal} {o : Fin 128 → EReal} (h : Seen q k w t (before n) M l o) (hn : t.val < n * 1024)
include h hn

theorem Seen.masked (u : Fin 8192) (hu : u ∉ before n) : ¬u.val ≤ t.val := by rw [mem_before] at hu; omega

theorem Seen.peak : M = (peak q k t : EReal) := by
  rw [h.hM, ← coe_peak]
  refine le_antisymm (Finset.sup_mono (Finset.subset_univ _)) ?_
  refine Finset.sup_le (f := cut q k t) fun u _ => ?_
  by_cases hu : u ∈ before n
  · exact Finset.le_sup (f := cut q k t) hu
  · rw [cut_masked t u (h.masked hn u hu)]; exact bot_le

theorem Seen.ex (u : Fin 8192) : Ideal.exp (cut q k t u - M) = (ex q k t u : EReal) := by rw [h.peak hn, exp_cut]

theorem Seen.den : l = (den q k t : EReal) := by
  rw [h.hl, Attn.den, ← coe_sum]
  refine (Finset.sum_congr rfl fun u _ => h.ex hn u).trans (Finset.sum_subset (Finset.subset_univ _) fun u _ hu => ?_)
  rw [ex_masked t u (h.masked hn u hu)]; rfl

/-- The quotient is the row's output, -/
theorem Seen.out (c : Fin 128) : Ideal.div (o c) l = outE q k w t c := by
  have hd := den_pos q k t
  have e : o c = ∑ u, (Attn.ex q k t u : EReal) * w u c := by
    rw [h.ho c]
    refine (Finset.sum_congr rfl fun u _ => by rw [h.ex hn u]).trans (Finset.sum_subset (Finset.subset_univ _) fun u _ hu => ?_)
    rw [ex_masked t u (h.masked hn u hu)]; exact zero_mul _
  rw [h.den hn, Ideal.div_coe hd.ne', e, mul_comm, real_mul_sum _ _ (one_div_nonneg.mpr hd.le), outE]
  refine Finset.sum_congr rfl fun u _ => ?_
  rw [← mul_assoc, ← EReal.coe_mul, mul_comm (w u c), pr]
  exact congrArg (fun z : ℝ => (z : EReal) * w u c) (by ring)

/-- and the largest score plus the sum's logarithm the logarithm of the sum of the exponentials. -/
theorem Seen.lse : M + Ideal.log l = (lse q k t : EReal) := by
  rw [h.peak hn, h.den hn, log_den, ← EReal.coe_add, lse_eq]
end

end Attn

end
-- ==== Proof.FwdPays.lean ====
/- The forward attention kernel's stored values at an index, at the exact arithmetic. -/
module

public import proofs.«01_k».proof.Proof.Exact
public import proofs.«01_k».proof.Proof.FwdAttn
public import proofs.«01_k».proof.Proof.Gen.Kernel2Ideal.Skeleton

@[expose] public section

noncomputable section

namespace Cert.Kernel2Ideal.Hand

open Cert.Kernel2Ideal Cert.Kernel2Ideal.Gen Idealize.ShloMosaic Idealize.ShloMosaic.TcCoe Idealize.SL.Sem

/-- A maximum along the second of two axes, at an index. -/
theorem row_max {n0 n1 : ℕ} (x : FVec Ideal ⟨2, ![n0, n1]⟩ .f32) (h : (⟨2, ![n0, n1]⟩ : Shape).Reduces [1] ⟨1, ![n0]⟩) (hφ : FKind.Formats .f32)
    (hacc : (0xFF800000#32 : BitVec 32) = FKind.maximumf.neutral .f32 hφ) (a : Fin n0) :
    multiReduction .maximumf [1] ⟨1, ![n0]⟩ x 0xFF800000#32 h hφ hacc (ix1 a) = (Finset.univ : Finset (Fin n1)).fold max ⊥ fun k => x (ix2 a k) := by
  rw [Ideal.multiReduction_maximumf_single]
  refine (congrArg (fun z => Finset.fold max z _ _) Attn.minus_infinity).trans (Finset.fold_congr fun k _ => congrArg x (funext fun ax => Fin.ext ?_))
  match ax with
  | ⟨0, _⟩ => rfl
  | ⟨1, _⟩ => rfl

variable (x0 : Vec Ideal S1x1024x256 .bf16) (M l : Vec Ideal S1024x1 .f32) (o : Vec Ideal S1024x128 .f32)
  (y1 : Vec Ideal S1x1024x256 .bf16) (y2 : Vec Ideal S1x1024x128 .bf16)

theorem pay7_apply (a b : Fin 1024) : k0_pay7 (F := Ideal) x0 y1 (ix2 a b) = ∑ x, x0 (ix3 0 a x) * y1 (ix3 0 b x) := by
  pointwise [k0_pay7, k0_pay3, dot_S1024x256_S1024x256_S1024x1024_1_1_0_0_n_n]

theorem pay8_apply (a : Fin 1024) : k0_pay8 (F := Ideal) x0 M y1 (ix2 a 0)
    = max (M (ix2 a 0)) (Finset.univ.fold max ⊥ fun b => k0_pay7 (F := Ideal) x0 y1 (ix2 a b)) := by
  rw [← row_max (k0_pay7 (F := Ideal) x0 y1) reduces_S1024x1024_S1024 (.inl rfl) rfl a]
  pointwise [k0_pay8]

theorem pay9_apply (a : Fin 1024) : k0_pay9 (F := Ideal) x0 M y1 (ix2 a 0) = Ideal.exp (M (ix2 a 0) - k0_pay8 (F := Ideal) x0 M y1 (ix2 a 0)) := by
  pointwise [k0_pay9]

theorem pay10_apply (a b : Fin 1024) : k0_pay10 (F := Ideal) x0 M y1 (ix2 a b)
    = Ideal.exp (k0_pay7 (F := Ideal) x0 y1 (ix2 a b) - k0_pay8 (F := Ideal) x0 M y1 (ix2 a 0)) := by
  pointwise [k0_pay10]

theorem pay11_apply (a : Fin 1024) : k0_pay11 (F := Ideal) x0 M l y1 (ix2 a 0)
    = k0_pay9 (F := Ideal) x0 M y1 (ix2 a 0) * l (ix2 a 0) + ∑ b, k0_pay10 (F := Ideal) x0 M y1 (ix2 a b) := by
  pointwise [k0_pay11]

theorem pay12_apply (a : Fin 1024) (c : Fin 128) : k0_pay12 (F := Ideal) x0 M o y1 y2 (ix2 a c)
    = k0_pay9 (F := Ideal) x0 M y1 (ix2 a 0) * o (ix2 a c) + ∑ b, k0_pay10 (F := Ideal) x0 M y1 (ix2 a b) * y2 (ix3 0 b c) := by
  pointwise [k0_pay12, dot_S1024x1024_S1024x128_S1024x128_1_0_0_1_n_n]

theorem pay19_apply (a b : Fin 1024) : k0_pay19 (F := Ideal) x0 y1 (ix2 a b)
    = Scalar.select (IntOp.cmpi CmpIPredicate.sle (BitVec.ofNat 32 b.val) (BitVec.ofNat 32 a.val)) (∑ x, x0 (ix3 0 a x) * y1 (ix3 0 b x))
        (Named.named (F := Ideal) (φ := .f32) κ "mask" 4048155338#32) := by
  pointwise [k0_pay19, k0_pay3, dot_S1024x256_S1024x256_S1024x1024_1_1_0_0_n_n]

theorem pay20_apply (a : Fin 1024) : k0_pay20 (F := Ideal) x0 M y1 (ix2 a 0)
    = max (M (ix2 a 0)) (Finset.univ.fold max ⊥ fun b => k0_pay19 (F := Ideal) x0 y1 (ix2 a b)) := by
  rw [← row_max (k0_pay19 (F := Ideal) x0 y1) reduces_S1024x1024_S1024 (.inl rfl) rfl a]
  pointwise [k0_pay20]

theorem pay21_apply (a : Fin 1024) : k0_pay21 (F := Ideal) x0 M y1 (ix2 a 0) = Ideal.exp (M (ix2 a 0) - k0_pay20 (F := Ideal) x0 M y1 (ix2 a 0)) := by
  pointwise [k0_pay21]

theorem pay22_apply (a b : Fin 1024) : k0_pay22 (F := Ideal) x0 M y1 (ix2 a b)
    = Ideal.exp (k0_pay19 (F := Ideal) x0 y1 (ix2 a b) - k0_pay20 (F := Ideal) x0 M y1 (ix2 a 0)) := by
  pointwise [k0_pay22]

theorem pay23_apply (a : Fin 1024) : k0_pay23 (F := Ideal) x0 M l y1 (ix2 a 0)
    = k0_pay21 (F := Ideal) x0 M y1 (ix2 a 0) * l (ix2 a 0) + ∑ b, k0_pay22 (F := Ideal) x0 M y1 (ix2 a b) := by
  pointwise [k0_pay23]

theorem pay24_apply (a : Fin 1024) (c : Fin 128) : k0_pay24 (F := Ideal) x0 M o y1 (ix2 a c) = k0_pay21 (F := Ideal) x0 M y1 (ix2 a 0) * o (ix2 a c) := by
  pointwise [k0_pay24]

theorem pay25_apply (a b : Fin 1024) : k0_pay25 (F := Ideal) x0 M y1 (ix2 a b) = k0_pay22 (F := Ideal) x0 M y1 (ix2 a b) := by
  pointwise [k0_pay25]

theorem pay1_apply (p : Vec Ideal S1024x1024 .bf16) (a : Fin 1024) (c : Fin 128) : k0_pay1 (F := Ideal) l o p y2 (ix2 a c)
    = Ideal.div (o (ix2 a c) + ∑ b, p (ix2 a b) * y2 (ix3 0 b c)) (l (ix2 a 0)) := by
  pointwise [k0_pay1, dot_S1024x1024_S1024x128_S1024x128_1_0_0_1_n_n]

theorem pay2_apply (a : Fin 1024) : k0_pay2 (F := Ideal) M l (ix4 0 0 0 a) = M (ix2 a 0) + Ideal.log (l (ix2 a 0)) := by
  pointwise [k0_pay2]

theorem mask_bot : Named.named (F := Ideal) (φ := .f32) κ "mask" 4048155338#32 = (⊥ : EReal) :=
  IdealRules.named_const.ideal_named_scalar _ _ _ _ rfl

theorem pay4_apply (a : Fin 1024) : k0_pay4 (F := Ideal) (ix2 a 0) = ⊥ := by
  pointwise [k0_pay4]
  exact mask_bot
theorem pay5_apply (a : Fin 1024) : k0_pay5 (F := Ideal) (ix2 a 0) = 0 := by
  pointwise [k0_pay5]
theorem pay6_apply (a : Fin 1024) (c : Fin 128) : k0_pay6 (F := Ideal) (ix2 a c) = 0 := by
  pointwise [k0_pay6]

end Cert.Kernel2Ideal.Hand

end
-- ==== Proof.FwdTiles.lean ====
/- What one grid point of the forward attention kernel computes, as plain functions of the blocks it is handed: one
   unmasked key tile, the loop over them, and the last, masked tile; and that the two blocks the program stores at the
   point are these. -/
module

public import proofs.«01_k».proof.Proof.Gen.Kernel2Ideal.Frame
public import proofs.«01_k».proof.Proof.Gen.Kernel2Ideal.Skeleton
public import proofs.«01_k».proof.Proof.Gen.Kernel2Ideal.Loops
public import proofs.«01_k».proof.Proof.Tiles

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen
open Cert.KernelIdeal.Hand (read_writes_whole ld_whole zero2 zero3)

variable {F : FTy → Type} [FloatOps F] [Named F]

/-- The state of a grid point's rows: the largest score, the sum of the exponentials, the weighted values. -/
abbrev St (F : FTy → Type) := FVec F S1024x1 .f32 × FVec F S1024x1 .f32 × FVec F S1024x128 .f32

/-- A key tile and a value tile of the head's blocks, as trip `n` of the loop reads them, -/
abbrev keyAt (i : grid0.Coords) (x1 : Vec F S1x8192x256 .bf16) (n : Fin (k0_t1_loop i).trips) : Vec F S1x1024x256 .bf16 :=
  View.ld x1 (Rect.unit (s := S1x8192x256) (k0_off1 i n) S1x1024x256.size (k0_off1_inb i n))
abbrev valAt (i : grid0.Coords) (x2 : Vec F S1x8192x128 .bf16) (n : Fin (k0_t1_loop i).trips) : Vec F S1x1024x128 .bf16 :=
  View.ld x2 (Rect.unit (s := S1x8192x128) (k0_off2 i n) S1x1024x128.size (k0_off2_inb i n))
/-- and those of the last tile. -/
abbrev keyLast (i : grid0.Coords) (x1 : Vec F S1x8192x256 .bf16) : Vec F S1x1024x256 .bf16 :=
  View.ld x1 (Rect.unit (s := S1x8192x256) (k0_off5 i) S1x1024x256.size (k0_off5_inb i))
abbrev valLast (i : grid0.Coords) (x2 : Vec F S1x8192x128 .bf16) : Vec F S1x1024x128 .bf16 :=
  View.ld x2 (Rect.unit (s := S1x8192x128) (k0_off6 i) S1x1024x128.size (k0_off6_inb i))

/-- Before the first tile. -/
def start : St F := (k0_pay4, k0_pay5, k0_pay6)

/-- One unmasked tile (trip `n`). -/
def tileNext (i : grid0.Coords) (x0 : Vec F S1x1024x256 .bf16) (x1 : Vec F S1x8192x256 .bf16) (x2 : Vec F S1x8192x128 .bf16)
    (n : Fin (k0_t1_loop i).trips) (s : St F) : St F :=
  (k0_pay8 x0 s.1 (keyAt i x1 n), k0_pay11 x0 s.1 s.2.1 (keyAt i x1 n), k0_pay12 x0 s.1 s.2.2 (keyAt i x1 n) (valAt i x2 n))

/-- The state after `n` tiles. -/
def tilesNext (i : grid0.Coords) (x0 : Vec F S1x1024x256 .bf16) (x1 : Vec F S1x8192x256 .bf16) (x2 : Vec F S1x8192x128 .bf16) : ℕ → St F
  | 0 => start
  | n + 1 => if h : n < (k0_t1_loop i).trips then tileNext i x0 x1 x2 ⟨n, h⟩ (tilesNext i x0 x1 x2 n) else tilesNext i x0 x1 x2 n

/-- The two blocks, from the state before the last tile. -/
def lastOut (i : grid0.Coords) (x0 : Vec F S1x1024x256 .bf16) (x1 : Vec F S1x8192x256 .bf16) (x2 : Vec F S1x8192x128 .bf16) (s : St F) : FVec F S1024x128 .bf16 :=
  k0_pay1 (k0_pay23 x0 s.1 s.2.1 (keyLast i x1)) (k0_pay24 x0 s.1 s.2.2 (keyLast i x1)) (k0_pay25 x0 s.1 (keyLast i x1)) (valLast i x2)
def lastLse (i : grid0.Coords) (x0 : Vec F S1x1024x256 .bf16) (x1 : Vec F S1x8192x256 .bf16) (s : St F) : FVec F S1x1x1x1024 .f32 :=
  k0_pay2 (k0_pay20 x0 s.1 (keyLast i x1)) (k0_pay23 x0 s.1 s.2.1 (keyLast i x1))

/-! ## The loops -/

section
variable (𝒱 : Variants) (c : Dev nD) (bd : Option 𝒱.V) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S1x8192x128 .bf16) (harg4 : arg4.IsWhole) (arg5 : Memref sig .tc .vmem S1024x128 .bf16) (harg5 : arg5.IsWhole) (arg6 : Memref sig .tc .vmem S1x1x1x1024 .f32) (harg6 : arg6.IsWhole)
  (v0 : Vec F S1x1024x256 .bf16) (X3 : BufTy.Contents (Elt F) arg3.view.ty) (X4 : BufTy.Contents (Elt F) arg4.view.ty)

theorem trip_value (n : Fin (k0_t1_loop i).trips) (s : St F) :
    tripR_k0_t1 (F := F) 𝒱 c bd i arg2 harg2 arg3 harg3 arg4 harg4 arg5 harg5 arg6 harg6 v0 X3 X4 n s
      = tileNext i v0 (arg3.view.read (Elt F) X3) (arg4.view.read (Elt F) X4) n s := by
  unfold tripR_k0_t1 trip_k0_t1
  rfl

/-- Before trip `n` the loop carries the state after `n` tiles. -/
theorem loop_value (n : ℕ) (hn : n ≤ (k0_t1_loop i).trips) :
    st_k0_t1 (F := F) 𝒱 c bd i arg2 harg2 arg3 harg3 arg4 harg4 arg5 harg5 arg6 harg6 v0 X3 X4 start n
      = tilesNext i v0 (arg3.view.read (Elt F) X3) (arg4.view.read (Elt F) X4) n := by
  induction n with
  | zero => rfl
  | succ n ih =>
    have ih := ih (Nat.le_of_succ_le hn)
    rw [tilesNext, dif_pos (Nat.lt_of_succ_le hn), ← ih, ← trip_value 𝒱 c bd i arg2 harg2 arg3 harg3 arg4 harg4 arg5 harg5 arg6 harg6]
    exact st_k0_t1_succ (F := F) 𝒱 c bd i arg2 harg2 arg3 harg3 arg4 harg4 arg5 harg5 arg6 harg6 v0 X3 X4 start ⟨n, Nat.lt_of_succ_le hn⟩

/-- The remainder loop makes no trip: it leaves what it is handed. -/
theorem rest_value (s : St F) :
    st_k0_t2 (F := F) 𝒱 c bd i arg2 harg2 arg3 harg3 arg4 harg4 arg5 harg5 arg6 harg6 v0 X3 X4 s (k0_t2_loop i).trips = s := by
  rw [Nat.le_zero.mp (k0_t2_abs i).2.1]
  rfl
end

/-! ## The stored blocks -/

section
variable (c : Dev nD) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S1x8192x128 .bf16) (harg4 : arg4.IsWhole) (arg5 : Memref sig .tc .vmem S1024x128 .bf16) (harg5 : arg5.IsWhole) (arg6 : Memref sig .tc .vmem S1x1x1x1024 .f32) (harg6 : arg6.IsWhole)
  (x0 : Vec F S1x1024x256 .bf16) (x1 : Vec F S1x8192x256 .bf16) (x2 : Vec F S1x8192x128 .bf16)

/-- The query tile as the program loads it, and the state the two loops leave. -/
abbrev queries : Vec F S1x1024x256 .bf16 :=
  View.ld (arg2.view.read (Elt F) (harg2.unread x0)) (Rect.unit (s := S1x1024x256) ![0, 0, 0] S1x1024x256.size inb_S1x1024x256_S1x1024x256_0_0_0)
abbrev loopsState : St F :=
  st_k0_t2 (F := F) Variants.none c none i arg2 harg2 arg3 harg3 arg4 harg4 arg5 harg5 arg6 harg6 (queries arg2 harg2 x0) (harg3.unread x1) (harg4.unread x2)
    (st_k0_t1 (F := F) Variants.none c none i arg2 harg2 arg3 harg3 arg4 harg4 arg5 harg5 arg6 harg6 (queries arg2 harg2 x0) (harg3.unread x1) (harg4.unread x2)
      start (k0_t1_loop i).trips) (k0_t2_loop i).trips

theorem queries_eq : queries arg2 harg2 x0 = x0 := by
  unfold queries
  rw [harg2.read_unread, ld_whole _ zero3]

theorem loops_value : loopsState c i arg2 harg2 arg3 harg3 arg4 harg4 arg5 harg5 arg6 harg6 x0 x1 x2 = tilesNext i x0 x1 x2 (k0_t1_loop i).trips := by
  unfold loopsState
  rw [rest_value, loop_value _ _ _ _ _ _ _ _ _ _ _ _ _ _ _ _ _ _ le_rfl, harg3.read_unread, harg4.read_unread, queries_eq]

theorem out_value : out0_A_3 (F := F) c i arg2 harg2 arg3 harg3 arg4 harg4 arg5 harg5 arg6 harg6 x0 x1 x2
    = lastOut i x0 x1 x2 (tilesNext i x0 x1 x2 (k0_t1_loop i).trips) := by
  unfold out0_A_3 kernelRun0_A
  dsimp only
  refine (read_writes_whole _ _ _ zero2 _ _ _).trans ?_
  unfold kernelRun0_A.sl.r_1 kernelRun0_A.sl.r_2 kernelRun0_A.sl.r_3
  refine Eq.trans (b := lastOut i (queries arg2 harg2 x0) (arg3.view.read (Elt F) (harg3.unread x1)) (arg4.view.read (Elt F) (harg4.unread x2))
    (loopsState c i arg2 harg2 arg3 harg3 arg4 harg4 arg5 harg5 arg6 harg6 x0 x1 x2)) rfl ?_
  rw [loops_value, harg3.read_unread, harg4.read_unread, queries_eq]

theorem zero4 : ∀ a, (![0, 0, 0, 0] : Fin 4 → ℕ) a = 0 := by decide

theorem lse_value : out0_A_4 (F := F) c i arg2 harg2 arg3 harg3 arg4 harg4 arg5 harg5 arg6 harg6 x0 x1 x2
    = lastLse i x0 x1 (tilesNext i x0 x1 x2 (k0_t1_loop i).trips) := by
  unfold out0_A_4 kernelRun0_A
  dsimp only
  refine (read_writes_whole _ _ _ zero4 _ _ _).trans ?_
  unfold kernelRun0_A.sl.r kernelRun0_A.sl.r_1
  refine Eq.trans (b := lastLse i (queries arg2 harg2 x0) (arg3.view.read (Elt F) (harg3.unread x1))
    (loopsState c i arg2 harg2 arg3 harg3 arg4 harg4 arg5 harg5 arg6 harg6 x0 x1 x2)) rfl ?_
  rw [loops_value, harg3.read_unread, queries_eq]
end

end Cert.Kernel2Ideal.Hand

end
-- ==== Proof.FwdState.lean ====
/- One grid point of the forward call at the exact arithmetic: from blocks that hold a query tile's real rows, a head's
   real keys and its values, the two blocks it stores are the rows' outputs and the logarithms of their sums of
   exponentials. -/
module

public import proofs.«01_k».proof.Proof.FwdPays
public import proofs.«01_k».proof.Proof.FwdTiles
public import proofs.«01_k».proof.Proof.State

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Attn (row before cut Seen)

theorem trips_eq : ∀ i : grid0.Coords, (k0_t1_loop i).trips = (i 1).val := by decide +kernel

theorem ld_values (x : Vec Ideal S1x8192x128 .bf16) (off : Fin 3 → ℕ) (inb : ∀ a, off a + S1x1024x128.size a ≤ S1x8192x128.size a)
    (i : Fin 8) (h : off = ![0, 1024 * i.val, 0]) (a : Fin 1024) (d : Fin 128) :
    View.ld x (Rect.unit (s := S1x8192x128) off S1x1024x128.size inb) (ix3 0 a d) = x (ix3 0 (row i a) d) := by
  subst h
  refine congrArg x (funext fun ax => Fin.ext ?_)
  match ax with
  | ⟨0, _⟩ => rfl
  | ⟨1, _⟩ => show 1024 * i.val + 1 * a.val = i.val * 1024 + a.val; omega
  | ⟨2, _⟩ => show 0 + 1 * d.val = d.val; omega

variable {q k : Fin 8192 → Fin 256 → ℝ} {w : Fin 8192 → Fin 128 → EReal} {j : Fin 8}

/-! ## A tile -/

section
variable {x0 y1 : Vec Ideal S1x1024x256 .bf16} {y2 : Vec Ideal S1x1024x128 .bf16} {M l : Vec Ideal S1024x1 .f32} {o : Vec Ideal S1024x128 .f32} {n : Fin 8}
  (h0 : ∀ a d, x0 (ix3 0 a d) = (q (row j a) d : EReal)) (h1 : ∀ b d, y1 (ix3 0 b d) = (k (row n b) d : EReal))
  (h2 : ∀ b c, y2 (ix3 0 b c) = w (row n b) c)
include h0 h1

theorem product (a b : Fin 1024) : ∑ x, x0 (ix3 0 a x) * y1 (ix3 0 b x) = (Attn.score q k (row j a) (row n b) : EReal) := by
  simp only [h0, h1, ← EReal.coe_mul, Attn.coe_sum]
  rfl

theorem score_open (hn : n.val < j.val) (a b : Fin 1024) : k0_pay7 (F := Ideal) x0 y1 (ix2 a b) = cut q k (row j a) (row n b) := by
  rw [pay7_apply, product h0 h1, cut, if_pos (Attn.row_le j n a b hn)]

theorem score_last (hn : n = j) (a b : Fin 1024) : k0_pay19 (F := Ideal) x0 y1 (ix2 a b) = cut q k (row j a) (row n b) := by
  rw [pay19_apply, product h0 h1, mask_bot, Attn.sle_word b.val a.val (by omega) (by omega), cut]
  subst hn
  by_cases h : b.val ≤ a.val
  · rw [if_pos h, if_pos (show (row n b).val ≤ (row n a).val by simp only [row]; omega)]; rfl
  · rw [if_neg h, if_neg (show ¬(row n b).val ≤ (row n a).val by simp only [row]; omega)]; rfl

include h2

/-- An unmasked tile, -/
theorem next_seen (hn : n.val < j.val) (a : Fin 1024) (hs : Seen q k w (row j a) (before n.val) (M (ix2 a 0)) (l (ix2 a 0)) fun c => o (ix2 a c)) :
    Seen q k w (row j a) (before (n.val + 1)) (k0_pay8 (F := Ideal) x0 M y1 (ix2 a 0)) (k0_pay11 (F := Ideal) x0 M l y1 (ix2 a 0))
      fun c => k0_pay12 (F := Ideal) x0 M o y1 y2 (ix2 a c) := by
  have e : k0_pay8 (F := Ideal) x0 M y1 (ix2 a 0) = max (M (ix2 a 0)) (Finset.univ.fold max ⊥ fun b => cut q k (row j a) (row n b)) := by
    simp only [pay8_apply, score_open h0 h1 hn]
  have ht := hs.tile n (show n.val * 1024 ≤ (row j a).val by simp only [row]; omega) _ e
  simp only [pay11_apply, pay12_apply, pay9_apply, pay10_apply, score_open h0 h1 hn, h2]
  exact ht

/-- and the last one. -/
theorem last_seen (hn : n = j) (a : Fin 1024) (hs : Seen q k w (row j a) (before n.val) (M (ix2 a 0)) (l (ix2 a 0)) fun c => o (ix2 a c)) :
    Seen q k w (row j a) (before (n.val + 1)) (k0_pay20 (F := Ideal) x0 M y1 (ix2 a 0)) (k0_pay23 (F := Ideal) x0 M l y1 (ix2 a 0))
      fun c => k0_pay24 (F := Ideal) x0 M o y1 (ix2 a c) + ∑ b, k0_pay25 (F := Ideal) x0 M y1 (ix2 a b) * y2 (ix3 0 b c) := by
  have e : k0_pay20 (F := Ideal) x0 M y1 (ix2 a 0) = max (M (ix2 a 0)) (Finset.univ.fold max ⊥ fun b => cut q k (row j a) (row n b)) := by
    simp only [pay20_apply, score_last h0 h1 hn]
  have ht := hs.tile n (show n.val * 1024 ≤ (row j a).val by subst hn; simp only [row]; omega) _ e
  simp only [pay23_apply, pay24_apply, pay25_apply, pay21_apply, pay22_apply, score_last h0 h1 hn, h2]
  exact ht
end

/-! ## The grid point -/

/-- What the point's blocks hold. -/
structure Holds (q k : Fin 8192 → Fin 256 → ℝ) (w : Fin 8192 → Fin 128 → EReal) (j : Fin 8)
    (x0 : Vec Ideal S1x1024x256 .bf16) (x1 : Vec Ideal S1x8192x256 .bf16) (x2 : Vec Ideal S1x8192x128 .bf16) : Prop where
  hq : ∀ a d, x0 (ix3 0 a d) = (q (row j a) d : EReal)
  hk : ∀ t d, x1 (ix3 0 t d) = (k t d : EReal)
  hv : ∀ t c, x2 (ix3 0 t c) = w t c

variable {x0 : Vec Ideal S1x1024x256 .bf16} {x1 : Vec Ideal S1x8192x256 .bf16} {x2 : Vec Ideal S1x8192x128 .bf16}
  (i : grid0.Coords) (h : Holds q k w j x0 x1 x2) (hj : (i 1).val = j.val)
include h hj

/-- After `n` tiles every row has seen the keys of those tiles. -/
theorem tiles_seen (n : ℕ) (hn : n ≤ j.val) (a : Fin 1024) :
    Seen q k w (row j a) (before n) ((tilesNext (F := Ideal) i x0 x1 x2 n).1 (ix2 a 0)) ((tilesNext (F := Ideal) i x0 x1 x2 n).2.1 (ix2 a 0))
      fun c => (tilesNext (F := Ideal) i x0 x1 x2 n).2.2 (ix2 a c) := by
  induction n with
  | zero =>
    rw [Attn.before_zero]
    simp only [tilesNext, start, pay4_apply, pay5_apply, pay6_apply]
    exact Seen.none q k w _
  | succ n ih =>
    obtain ⟨n, rfl⟩ : ∃ n' : Fin 8, n = n'.val := ⟨⟨n, by omega⟩, rfl⟩
    have ht : n.val < (k0_t1_loop i).trips := by rw [trips_eq, hj]; omega
    rw [tilesNext, dif_pos ht]
    exact next_seen (n := n) h.hq
      (fun b d => (Cert.KernelIdeal.Hand.ld_rows3 x1 _ (k0_off1_inb i ⟨n.val, ht⟩) n (k0_off1_eq i ⟨n.val, ht⟩) b d).trans (h.hk _ d))
      (fun b c => (ld_values x2 _ (k0_off2_inb i ⟨n.val, ht⟩) n (k0_off2_eq i ⟨n.val, ht⟩) b c).trans (h.hv _ c))
      (by omega) a (ih (by omega))

theorem point_seen (a : Fin 1024) :
    let s := tilesNext (F := Ideal) i x0 x1 x2 (k0_t1_loop i).trips
    Seen q k w (row j a) (before (j.val + 1)) (k0_pay20 (F := Ideal) x0 s.1 (keyLast (F := Ideal) i x1) (ix2 a 0)) (k0_pay23 (F := Ideal) x0 s.1 s.2.1 (keyLast (F := Ideal) i x1) (ix2 a 0))
      fun c => k0_pay24 (F := Ideal) x0 s.1 s.2.2 (keyLast (F := Ideal) i x1) (ix2 a c) + ∑ b, k0_pay25 (F := Ideal) x0 s.1 (keyLast (F := Ideal) i x1) (ix2 a b) * valLast (F := Ideal) i x2 (ix3 0 b c) := by
  have e5 : k0_off5 i = ![0, 1024 * j.val, 0] := by rw [k0_off5_eq, hj]
  have e6 : k0_off6 i = ![0, 1024 * j.val, 0] := by rw [k0_off6_eq, hj]
  have ht : (k0_t1_loop i).trips = j.val := by rw [trips_eq, hj]
  rw [ht]
  exact last_seen h.hq (fun b d => (Cert.KernelIdeal.Hand.ld_rows3 x1 _ (k0_off5_inb i) j e5 b d).trans (h.hk _ d))
    (fun b c => (ld_values x2 _ (k0_off6_inb i) j e6 b c).trans (h.hv _ c)) rfl a (tiles_seen i h hj j.val le_rfl a)

/-- The stored blocks. -/
theorem lastOut_apply (a : Fin 1024) (c : Fin 128) :
    lastOut (F := Ideal) i x0 x1 x2 (tilesNext (F := Ideal) i x0 x1 x2 (k0_t1_loop i).trips) (ix2 a c) = Attn.outE q k w (row j a) c := by
  unfold lastOut
  rw [pay1_apply]
  exact (point_seen i h hj a).out (show (row j a).val < (j.val + 1) * 1024 by simp only [row]; omega) c

theorem lastLse_apply (a : Fin 1024) :
    lastLse (F := Ideal) i x0 x1 (tilesNext (F := Ideal) i x0 x1 x2 (k0_t1_loop i).trips) (ix4 0 0 0 a) = (Attn.lse q k (row j a) : EReal) := by
  unfold lastLse
  rw [pay2_apply]
  exact (point_seen i h hj a).lse (show (row j a).val < (j.val + 1) * 1024 by simp only [row]; omega)

end Cert.Kernel2Ideal.Hand

end
-- ==== Proof.FwdBlocks.lean ====
/- The blocks of the forward call's windows at an index, and the two arrays the call leaves at the exact arithmetic. -/
module

public import proofs.«01_k».proof.Proof.FwdState
public import proofs.«01_k».proof.Proof.Gen.Kernel2Ideal.Value

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Attn (row)

/-- What the call's arguments hold: the real queries and keys of the heads, and their values. -/
structure Args (m : (ℓ : Loc nD τ sig) → Buf (Elt Ideal) ℓ) (c : Dev nD) (q k : Fin 8 → Fin 8192 → Fin 256 → ℝ) (w : Fin 8 → Fin 8192 → Fin 128 → EReal) : Prop where
  hq : ∀ h t d, (m ((c : Thread nD τ).loc main_arg0) : Vec Ideal S8x8192x256 .bf16) (ix3 h t d) = (q h t d : EReal)
  hk : ∀ h t d, (m ((c : Thread nD τ).loc main_arg1) : Vec Ideal S8x8192x256 .bf16) (ix3 h t d) = (k h t d : EReal)
  hv : ∀ h t e, (m ((c : Thread nD τ).loc main_arg2) : Vec Ideal S8x8192x128 .bf16) (ix3 h t e) = w h t e

section
variable (q k : Fin 8 → Fin 8192 → Fin 256 → ℝ) (w : Fin 8 → Fin 8192 → Fin 128 → EReal)

/-- Head `h` has the columns `128 h` to `128 h + 127` of the output. -/
def resOut : Vec Ideal S8192x1024 .bf16 := fun y =>
  have hy : (y 1).val < 1024 := (y 1).isLt
  Attn.outE (q ⟨(y 1).val / 128, by omega⟩) (k ⟨(y 1).val / 128, by omega⟩) (w ⟨(y 1).val / 128, by omega⟩) (y 0) ⟨(y 1).val % 128, Nat.mod_lt _ (by decide)⟩
def resLse : Vec Ideal S8x8x1x1024 .f32 := fun y => (Attn.lse (q (y 0)) (k (y 0)) (row (y 1) (y 3)) : EReal)

theorem resOut_apply (h : Fin 8) (t : Fin 8192) (e : Fin 128) : resOut q k w (ix2 t ⟨h.val * 128 + e.val, by omega⟩) = Attn.outE (q h) (k h) (w h) t e := by
  have e0 : (⟨(h.val * 128 + e.val) / 128, by omega⟩ : Fin 8) = h := Fin.ext (by show (h.val * 128 + e.val) / 128 = h.val; omega)
  have e1 : (⟨(h.val * 128 + e.val) % 128, Nat.mod_lt _ (by decide)⟩ : Fin 128) = e := Fin.ext (by show (h.val * 128 + e.val) % 128 = e.val; omega)
  show Attn.outE (q ⟨(h.val * 128 + e.val) / 128, by omega⟩) (k ⟨(h.val * 128 + e.val) / 128, by omega⟩) (w ⟨(h.val * 128 + e.val) / 128, by omega⟩) t ⟨(h.val * 128 + e.val) % 128, Nat.mod_lt _ (by decide)⟩ = _
  rw [e0, e1]
end

variable (m : (ℓ : Loc nD τ sig) → Buf (Elt Ideal) ℓ) (c : Dev nD) (t : Fin cfg0.N) (h j : Fin 8)

/-! ## Where the blocks lie -/

theorem index0 : ∀ t : Fin cfg0.N, win0_0.index t = ![t.val / 8, t.val % 8, 0] := by decide +kernel
theorem index1 : ∀ t : Fin cfg0.N, win0_1.index t = ![t.val / 8, 0, 0] := by decide +kernel
theorem index2 : ∀ t : Fin cfg0.N, win0_2.index t = ![t.val / 8, 0, 0] := by decide +kernel
theorem index3 : ∀ t : Fin cfg0.N, win0_3.index t = ![t.val % 8, t.val / 8] := by decide +kernel
theorem index4 : ∀ t : Fin cfg0.N, win0_4.index t = ![t.val / 8, t.val % 8, 0, 0] := by decide +kernel

theorem coord1 (t : Fin cfg0.N) : (grid0.coords t 1).val = t.val % 8 :=
  (Pipeline.Grid.coords_val t 1 (by decide) rfl : (grid0.coords t 1).val = t.val / 1 % 8).trans (by rw [Nat.div_one])

variable (hh : t.val / 8 = h.val) (hj : t.val % 8 = j.val)

include hh hj in
theorem blk_q (a : Fin 1024) (d : Fin 256) : (iblk m c 0 t : Vec Ideal S1x1024x256 .bf16) (ix3 0 a d) = m ((c : Thread nD τ).loc main_arg0) (ix3 h (row j a) d) := by
  have hi := index0 t
  rw [hh, hj] at hi
  unfold iblk
  rw [View.read_apply]
  show V m c main_arg0 _ = _
  refine congrArg (m ((c : Thread nD τ).loc main_arg0)) (funext fun ax => Fin.ext ?_)
  match ax with
  | ⟨0, _⟩ => show win0_0.index t 0 * 1 + 1 * 0 = h.val; rw [hi]; show h.val * 1 + 1 * 0 = h.val; omega
  | ⟨1, _⟩ => show win0_0.index t 1 * 1024 + 1 * a.val = j.val * 1024 + a.val; rw [hi]; show j.val * 1024 + 1 * a.val = j.val * 1024 + a.val; omega
  | ⟨2, _⟩ => show win0_0.index t 2 * 256 + 1 * d.val = d.val; rw [hi]; show 0 * 256 + 1 * d.val = d.val; omega

include hh in
theorem blk_k (a : Fin 8192) (d : Fin 256) : (iblk m c 1 t : Vec Ideal S1x8192x256 .bf16) (ix3 0 a d) = m ((c : Thread nD τ).loc main_arg1) (ix3 h a d) := by
  have hi := index1 t
  rw [hh] at hi
  unfold iblk
  rw [View.read_apply]
  show V m c main_arg1 _ = _
  refine congrArg (m ((c : Thread nD τ).loc main_arg1)) (funext fun ax => Fin.ext ?_)
  match ax with
  | ⟨0, _⟩ => show win0_1.index t 0 * 1 + 1 * 0 = h.val; rw [hi]; show h.val * 1 + 1 * 0 = h.val; omega
  | ⟨1, _⟩ => show win0_1.index t 1 * 8192 + 1 * a.val = a.val; rw [hi]; show 0 * 8192 + 1 * a.val = a.val; omega
  | ⟨2, _⟩ => show win0_1.index t 2 * 256 + 1 * d.val = d.val; rw [hi]; show 0 * 256 + 1 * d.val = d.val; omega

include hh in
theorem blk_v (a : Fin 8192) (d : Fin 128) : (iblk m c 2 t : Vec Ideal S1x8192x128 .bf16) (ix3 0 a d) = m ((c : Thread nD τ).loc main_arg2) (ix3 h a d) := by
  have hi := index2 t
  rw [hh] at hi
  unfold iblk
  rw [View.read_apply]
  show V m c main_arg2 _ = _
  refine congrArg (m ((c : Thread nD τ).loc main_arg2)) (funext fun ax => Fin.ext ?_)
  match ax with
  | ⟨0, _⟩ => show win0_2.index t 0 * 1 + 1 * 0 = h.val; rw [hi]; show h.val * 1 + 1 * 0 = h.val; omega
  | ⟨1, _⟩ => show win0_2.index t 1 * 8192 + 1 * a.val = a.val; rw [hi]; show 0 * 8192 + 1 * a.val = a.val; omega
  | ⟨2, _⟩ => show win0_2.index t 2 * 128 + 1 * d.val = d.val; rw [hi]; show 0 * 128 + 1 * d.val = d.val; omega

variable {m c} {q k : Fin 8 → Fin 8192 → Fin 256 → ℝ} {w : Fin 8 → Fin 8192 → Fin 128 → EReal} (hm : Args m c q k w)

include hm hh hj in
theorem blocks_hold : Holds (q h) (k h) (w h) j (iblk m c 0 t) (iblk m c 1 t) (iblk m c 2 t) where
  hq a d := (blk_q m c t h j hh hj a d).trans (hm.hq h _ d)
  hk a d := (blk_k m c t h hh a d).trans (hm.hk h a d)
  hv a e := (blk_v m c t h hh a e).trans (hm.hv h a e)

/-! ## The arrays the call leaves -/

include hm

theorem flushed_out (t : Fin cfg0.N) (hf : (cfg0.win 3).flush t = true) :
    (dats m 0 c).flushed 3 t = ((cfg0.win 3).blk t).view.read (Elt Ideal) (resOut q k w : Vec Ideal S8192x1024 .bf16) := by
  have ht : t.val < 64 := Nat.lt_of_lt_of_eq t.isLt N_0
  obtain ⟨h, hh⟩ : ∃ h : Fin 8, t.val / 8 = h.val := ⟨⟨t.val / 8, by omega⟩, rfl⟩
  obtain ⟨j, hj⟩ : ∃ j : Fin 8, t.val % 8 = j.val := ⟨⟨t.val % 8, by omega⟩, rfl⟩
  have hs := blocks_hold t h j hh hj hm
  have hi := index3 t
  rw [hh, hj] at hi
  rw [Value.flushed3_A, out_value]
  refine funext fun (y : S1024x128.Idx) => ?_
  obtain ⟨a, e, rfl⟩ : ∃ a e, y = ix2 a e := ⟨_, _, eq_ix2 y⟩
  rw [View.read_apply]
  have he : ((cfg0.win 3).blk t).view.emb (ix2 a e : S1024x128.Idx) = (ix2 (row j a) ⟨h.val * 128 + e.val, by omega⟩ : S8192x1024.Idx) := by
    refine funext fun ax => Fin.ext ?_
    match ax with
    | ⟨0, _⟩ => show win0_3.index t 0 * 1024 + 1 * a.val = j.val * 1024 + a.val; rw [hi]; show j.val * 1024 + 1 * a.val = j.val * 1024 + a.val; omega
    | ⟨1, _⟩ => show win0_3.index t 1 * 128 + 1 * e.val = h.val * 128 + e.val; rw [hi]; show h.val * 128 + 1 * e.val = h.val * 128 + e.val; omega
  rw [he]
  refine Eq.trans ?_ (resOut_apply q k w h (row j a) e).symm
  exact lastOut_apply (grid0.coords t) hs ((coord1 t).trans hj) a e

theorem final_out : (dats m 0 c).arrAt 3 cfg0.N = (resOut q k w : Vec Ideal S8192x1024 .bf16) :=
  (dats m 0 c).arrAt_eq_of_cover 3 _ (flushed_out hm) fun (y : S8192x1024.Idx) => by
    have h0 : (y 0).val < 8192 := (y 0).isLt
    have h1 : (y 1).val < 1024 := (y 1).isLt
    obtain ⟨t, ht⟩ : ∃ t : Fin cfg0.N, t.val = (y 1).val / 128 * 8 + (y 0).val / 1024 := ⟨⟨(y 1).val / 128 * 8 + (y 0).val / 1024, by rw [show cfg0.N = 64 from N_0]; omega⟩, rfl⟩
    have e0 : t.val / 8 = (y 1).val / 128 := by omega
    have e1 : t.val % 8 = (y 0).val / 1024 := by omega
    have hi := index3 t
    rw [e0, e1] at hi
    refine ⟨t, flush0_3 t, ?_⟩
    show y ∈ ((View.whole main_v0_0).slice (win0_3.rect t)).set
    rw [View.set_slice_whole, Rect.mem_set_unit]
    intro a
    match a with
    | ⟨0, _⟩ => show win0_3.index t 0 * 1024 ≤ (y 0).val ∧ (y 0).val < win0_3.index t 0 * 1024 + 1024
                rw [hi]; show (y 0).val / 1024 * 1024 ≤ (y 0).val ∧ (y 0).val < (y 0).val / 1024 * 1024 + 1024; omega
    | ⟨1, _⟩ => show win0_3.index t 1 * 128 ≤ (y 1).val ∧ (y 1).val < win0_3.index t 1 * 128 + 128
                rw [hi]; show (y 1).val / 128 * 128 ≤ (y 1).val ∧ (y 1).val < (y 1).val / 128 * 128 + 128; omega

theorem flushed_lse (t : Fin cfg0.N) (hf : (cfg0.win 4).flush t = true) :
    (dats m 0 c).flushed 4 t = ((cfg0.win 4).blk t).view.read (Elt Ideal) (resLse q k : Vec Ideal S8x8x1x1024 .f32) := by
  have ht : t.val < 64 := Nat.lt_of_lt_of_eq t.isLt N_0
  obtain ⟨h, hh⟩ : ∃ h : Fin 8, t.val / 8 = h.val := ⟨⟨t.val / 8, by omega⟩, rfl⟩
  obtain ⟨j, hj⟩ : ∃ j : Fin 8, t.val % 8 = j.val := ⟨⟨t.val % 8, by omega⟩, rfl⟩
  have hs := blocks_hold t h j hh hj hm
  have hi := index4 t
  rw [hh, hj] at hi
  rw [Value.flushed4_A, lse_value]
  refine funext fun (y : S1x1x1x1024.Idx) => ?_
  obtain ⟨z0, z1, z2, a, rfl⟩ : ∃ z0 z1 z2 a, y = ix4 z0 z1 z2 a := ⟨_, _, _, _, eq_ix4 y⟩
  obtain rfl : z0 = 0 := Subsingleton.elim _ _
  obtain rfl : z1 = 0 := Subsingleton.elim _ _
  obtain rfl : z2 = 0 := Subsingleton.elim _ _
  rw [View.read_apply]
  have he : ((cfg0.win 4).blk t).view.emb (ix4 0 0 0 a : S1x1x1x1024.Idx) = (ix4 h j 0 a : S8x8x1x1024.Idx) := by
    refine funext fun ax => Fin.ext ?_
    match ax with
    | ⟨0, _⟩ => show win0_4.index t 0 * 1 + 1 * 0 = h.val; rw [hi]; show h.val * 1 + 1 * 0 = h.val; omega
    | ⟨1, _⟩ => show win0_4.index t 1 * 1 + 1 * 0 = j.val; rw [hi]; show j.val * 1 + 1 * 0 = j.val; omega
    | ⟨2, _⟩ => show win0_4.index t 2 * 1 + 1 * 0 = 0; rw [hi]; show 0 * 1 + 1 * 0 = 0; omega
    | ⟨3, _⟩ => show win0_4.index t 3 * 1024 + 1 * a.val = a.val; rw [hi]; show 0 * 1024 + 1 * a.val = a.val; omega
  rw [he]
  exact lastLse_apply (grid0.coords t) hs ((coord1 t).trans hj) a

theorem final_lse : (dats m 0 c).arrAt 4 cfg0.N = (resLse q k : Vec Ideal S8x8x1x1024 .f32) :=
  (dats m 0 c).arrAt_eq_of_cover 4 _ (flushed_lse hm) fun (y : S8x8x1x1024.Idx) => by
    have h0 : (y 0).val < 8 := (y 0).isLt
    have h1 : (y 1).val < 8 := (y 1).isLt
    have h2 : (y 2).val < 1 := (y 2).isLt
    have h3 : (y 3).val < 1024 := (y 3).isLt
    obtain ⟨t, ht⟩ : ∃ t : Fin cfg0.N, t.val = (y 0).val * 8 + (y 1).val := ⟨⟨(y 0).val * 8 + (y 1).val, by rw [show cfg0.N = 64 from N_0]; omega⟩, rfl⟩
    have e0 : t.val / 8 = (y 0).val := by omega
    have e1 : t.val % 8 = (y 1).val := by omega
    have hi := index4 t
    rw [e0, e1] at hi
    refine ⟨t, flush0_4 t, ?_⟩
    show y ∈ ((View.whole main_v0_1).slice (win0_4.rect t)).set
    rw [View.set_slice_whole, Rect.mem_set_unit]
    intro a
    match a with
    | ⟨0, _⟩ => show win0_4.index t 0 * 1 ≤ (y 0).val ∧ (y 0).val < win0_4.index t 0 * 1 + 1
                rw [hi]; show (y 0).val * 1 ≤ (y 0).val ∧ (y 0).val < (y 0).val * 1 + 1; omega
    | ⟨1, _⟩ => show win0_4.index t 1 * 1 ≤ (y 1).val ∧ (y 1).val < win0_4.index t 1 * 1 + 1
                rw [hi]; show (y 1).val * 1 ≤ (y 1).val ∧ (y 1).val < (y 1).val * 1 + 1; omega
    | ⟨2, _⟩ => show win0_4.index t 2 * 1 ≤ (y 2).val ∧ (y 2).val < win0_4.index t 2 * 1 + 1
                rw [hi]; show 0 * 1 ≤ (y 2).val ∧ (y 2).val < 0 * 1 + 1; omega
    | ⟨3, _⟩ => show win0_4.index t 3 * 1024 ≤ (y 3).val ∧ (y 3).val < win0_4.index t 3 * 1024 + 1024
                rw [hi]; show 0 * 1024 ≤ (y 3).val ∧ (y 3).val < 0 * 1024 + 1024; omega

end Cert.Kernel2Ideal.Hand

end
-- ==== Proof.FwdRef.lean ====
/- The forward reference's results at an index: the output of the attention of every head, and the logarithm of each row's
   sum of exponentials. The values may be infinite. -/
module

public import proofs.«01_k».proof.Proof.FwdAttn
public import proofs.«01_k».proof.Proof.Gen.Reference2Ideal.Run

@[expose] public section

noncomputable section

namespace Cert.Reference2Ideal.Hand

open Cert.Reference2Ideal Cert.Reference2Ideal.Gen Idealize.ShloMosaic Idealize.ShloMosaic.TcCoe Idealize.SL.Sem

abbrev A3 := FVec Ideal S8x8192x8192 .f32

/-- The causal mask, and the masked scores. -/
def mask : IVec S8x8192x8192 1 := broadcastInDim S8x8192x8192 ![0, 1, 2] bcast_S1x8192x8192_S8x8192x8192_0_1_2 (broadcastInDim S1x8192x8192 ![1, 2] bcast_S8192x8192_S1x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
def scores (q k : FVec Ideal S8x8192x256 .bf16) : A3 := select mask (Host.dotGeneral dot_S8x8192x256_S8x8192x256_S8x8192x8192_2_2_1_1_0_0 none (extf .f32 q bitsLt_bf16_f32) (extf .f32 k bitsLt_bf16_f32)) (broadcastInDim S8x8192x8192 ![] bcast_S_S8x8192x8192 (id (constant S_ .f32 0xFF800000#32)))
/-- A column of one value a row, spread over the row. -/
def col (x : FVec Ideal S8x8192 .f32) : FVec Ideal S8x8192x1 .f32 := broadcastInDim S8x8192x1 ![0, 1] bcast_S8x8192_S8x8192x1_0_1 x
def rows (x : FVec Ideal S8x8192x1 .f32) : A3 := broadcastInDim S8x8192x8192 ![0, 1, 2] bcast_S8x8192x1_S8x8192x8192_0_1_2 x
def sums (x : A3) : FVec Ideal S8x8192 .f32 := Host.reduceAdd x (constant S_ .f32 0x00000000#32) reducesTo_S8x8192x8192_S8x8192_d2 h_S_
def peaks (s : A3) : FVec Ideal S8x8192 .f32 := maximumf (broadcastInDim S8x8192 ![] bcast_S_S8x8192 (constant S_ .f32 0xFF800000#32)) (Host.reduce FloatOps.maximumf s (constant S_ .f32 0xFF800000#32) reducesTo_S8x8192x8192_S8x8192_d2 h_S_)
def exps (s : A3) : A3 := Host.exp (subf s (rows (col (peaks s))))
def weights (e : A3) : A3 := extf .f32 (truncf .bf16 (Host.divf e (rows (col (sums e)))) bitsLt_bf16_f32) bitsLt_bf16_f32
def heads (v : FVec Ideal S8x8192x128 .bf16) (p : A3) : FVec Ideal S8192x8x128 .bf16 :=
  truncf .bf16 (transpose S8192x8x128 [2, 0, 1] (Host.dotGeneral dot_S8x8192x128_S8x8192x8192_S8x128x8192_1_2_2_1_0_0 none (extf .f32 v bitsLt_bf16_f32) p) transposes_S8x128x8192_S8192x8x128_2_0_1) bitsLt_bf16_f32
def out (q k : FVec Ideal S8x8192x256 .bf16) (v : FVec Ideal S8x8192x128 .bf16) : FVec Ideal S8192x1024 .bf16 :=
  shapeCast S8192x1024 (heads v (weights (exps (scores q k)))) shapeCasts_S8192x8x128_S8192x1024
def logs (s : A3) : FVec Ideal S8x8192 .f32 := Host.log (sums (Host.exp s))
def lse (q k : FVec Ideal S8x8192x256 .bf16) : FVec Ideal S8x8x1x1024 .f32 := shapeCast S8x8x1x1024 (logs (scores q k)) shapeCasts_S8x8192_S8x8x1x1024

theorem out_eq (m : (ℓ : Loc nD τ sig) → Buf (Elt Ideal) ℓ) (c : Dev nD) :
    Value.res_main_v41 m c = out (m ((c.tc : Thread nD τ).loc main_arg0)) (m ((c.tc : Thread nD τ).loc main_arg1)) (m ((c.tc : Thread nD τ).loc main_arg2)) := rfl

/-! ### The terms at an index -/

variable (Q K : FVec Ideal S8x8192x256 .bf16) (V : FVec Ideal S8x8192x128 .bf16)
variable (q k : Fin 8 → Fin 8192 → Fin 256 → ℝ)

theorem mask_apply (h : Fin 8) (t u : Fin 8192) : mask (ix3 h t u) = if u.val ≤ t.val then 1#1 else 0#1 := by
  pointwise [mask]
  exact Attn.sle_word _ _ u.isLt t.isLt

theorem scores_apply (hQ : ∀ h t d, Q (ix3 h t d) = (q h t d : EReal)) (hK : ∀ h t d, K (ix3 h t d) = (k h t d : EReal))
    (h : Fin 8) (t u : Fin 8192) : scores Q K (ix3 h t u) = Attn.cut (q h) (k h) t u := by
  pointwise [scores, dot_S8x8192x256_S8x8192x256_S8x8192x8192_2_2_1_1_0_0]
  rw [mask_apply, Attn.cut]
  split
  · simp only [hQ, hK, ← EReal.coe_mul, Attn.coe_sum]; rfl
  · exact Attn.minus_infinity

theorem peaks_apply (s : A3) (h : Fin 8) (t : Fin 8192) (hs : ∀ u, s (ix3 h t u) = Attn.cut (q h) (k h) t u) :
    peaks s (ix2 h t) = (Attn.peak (q h) (k h) t : EReal) := by
  rw [← Attn.coe_peak]
  exact Attn.max_reduce_max s _ _ _ _ h t Attn.minus_infinity (fun _ => Attn.minus_infinity) _ hs

theorem exps_apply (s : A3) (h : Fin 8) (t u : Fin 8192) (hs : ∀ u, s (ix3 h t u) = Attn.cut (q h) (k h) t u) :
    exps s (ix3 h t u) = (Attn.ex (q h) (k h) t u : EReal) := by
  pointwise [exps, rows, col]
  rw [peaks_apply q k s h t hs, hs, Attn.exp_cut]

theorem weights_apply (e : A3) (h : Fin 8) (t u : Fin 8192) (he : ∀ u, e (ix3 h t u) = (Attn.ex (q h) (k h) t u : EReal)) :
    weights e (ix3 h t u) = (Attn.pr (q h) (k h) t u : EReal) := by
  pointwise [weights, rows, col, sums]
  simp only [he, Attn.coe_sum]
  exact Attn.div_real (Attn.den_ne (q h) (k h) t)

theorem heads_apply (p : A3) (h : Fin 8) (t : Fin 8192) (c : Fin 128) (hp : ∀ u, p (ix3 h t u) = (Attn.pr (q h) (k h) t u : EReal)) :
    heads V p (ix3 t h c) = Attn.outE (q h) (k h) (fun u c => V (ix3 h u c)) t c := by
  pointwise [heads, dot_S8x8192x128_S8x8192x8192_S8x128x8192_1_2_2_1_0_0]
  simp only [hp]; rfl

theorem out_apply (hQ : ∀ h t d, Q (ix3 h t d) = (q h t d : EReal)) (hK : ∀ h t d, K (ix3 h t d) = (k h t d : EReal))
    (h : Fin 8) (t : Fin 8192) (c : Fin 128) :
    out Q K V (ix2 t ⟨h.val * 128 + c.val, by omega⟩) = Attn.outE (q h) (k h) (fun u c => V (ix3 h u c)) t c := by
  rw [← heads_apply V q k (weights (exps (scores Q K))) h t c fun u => weights_apply q k _ h t u fun u => exps_apply q k _ h t u fun u => scores_apply Q K q k hQ hK h t u]
  pointwise [out]

theorem exp_cut0 (q k : Fin 8192 → Fin 256 → ℝ) (t u : Fin 8192) : Ideal.exp (Attn.cut q k t u) = ((if u.val ≤ t.val then Real.exp (Attn.score q k t u) else 0 : ℝ) : EReal) := by
  rw [Attn.cut]
  split
  · exact Ideal.exp_coe _
  · exact Ideal.exp_bot

theorem total_pos (q k : Fin 8192 → Fin 256 → ℝ) (t : Fin 8192) : 0 < ∑ u : Fin 8192, if u.val ≤ t.val then Real.exp (Attn.score q k t u) else 0 :=
  Finset.sum_pos' (fun u _ => by split; exacts [(Real.exp_pos _).le, le_rfl]) ⟨t, Finset.mem_univ _, by rw [if_pos le_rfl]; exact Real.exp_pos _⟩

theorem log_pos (r : ℝ) (h : 0 < r) : Ideal.log (r : EReal) = (Real.log r : EReal) := by
  rw [Ideal.log_coe, if_neg (not_le.mpr h)]

theorem logs_apply (s : A3) (h : Fin 8) (t : Fin 8192) (hs : ∀ u, s (ix3 h t u) = Attn.cut (q h) (k h) t u) :
    logs s (ix2 h t) = (Attn.lse (q h) (k h) t : EReal) := by
  pointwise [logs, sums]
  simp only [hs, exp_cut0, Attn.coe_sum]
  exact log_pos _ (total_pos (q h) (k h) t)

theorem lse_apply (hQ : ∀ h t d, Q (ix3 h t d) = (q h t d : EReal)) (hK : ∀ h t d, K (ix3 h t d) = (k h t d : EReal))
    (h i : Fin 8) (a : Fin 1024) : lse Q K (ix4 h i 0 a) = (Attn.lse (q h) (k h) (Attn.row i a) : EReal) := by
  rw [← logs_apply q k (scores Q K) h (Attn.row i a) fun u => scores_apply Q K q k hQ hK h _ u]
  pointwise [lse]
  rfl

end Cert.Reference2Ideal.Hand

end
-- ==== Proof.FwdFinite.lean ====
/- The forward call's precondition, read: every element of the queries and of the keys is a real. -/
module

public import proofs.«01_k».proof.Pre_finite2
public import proofs.«01_k».proof.Proof.Finite

@[expose] public section

noncomputable section

namespace Cert.Pre_finite2.Hand

open Cert.Pre_finite2 Cert.Pre_finite2.Facts Idealize.ShloMosaic
open Cert.Pre_finite.Hand (andi_one reals)

theorem facts : Facts where
  bitsLt_bf16_f32 := by decide
  bcast_S_S8x8192x256 := by decide
  reducesTo_S8x8192x256_S_d0_1_2 := by decide
  h_S_ := by decide

attribute [local instance] facts

theorem finite (a0 a1 : FVec Ideal S8x8192x256 .bf16) (a2 : FVec Ideal S8x8192x128 .bf16) (h : fn a0 a1 a2 = fun _ => 1#1) :
    (∀ i, ((a0 i : EReal).toReal : EReal) = a0 i) ∧ ∀ i, ((a1 i : EReal).toReal : EReal) = a1 i := by
  have h := congrFun h (Shape.Idx.first h_S_)
  obtain ⟨h0, h1⟩ := (andi_one _ _).mp h
  exact ⟨reals _ _ _ _ _ h0, reals _ _ _ _ _ h1⟩

end Cert.Pre_finite2.Hand

end
-- ==== Proof.FwdValue.lean ====
/- The forward call and its reference at the exact arithmetic: from real queries and keys both end with the output of the
   attention of every head and the logarithms of its rows' sums of exponentials. -/
module

public import proofs.«01_k».proof.Defs
public import proofs.«01_k».proof.Proof.FwdBlocks
public import proofs.«01_k».proof.Proof.FwdRef
public import proofs.«01_k».proof.Proof.FwdFinite

@[expose] public section

noncomputable section

namespace Cert.Kernel2Ideal.Hand

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg)

/-! ## What the arguments hold -/

def argQ (c : Dev nD) (h : Fin 8) (t : Fin 8192) (d : Fin 256) : ℝ := EReal.toReal ((m ((c : Thread nD τ).loc main_arg0) : Vec Ideal S8x8192x256 .bf16) (ix3 h t d))
def argK (c : Dev nD) (h : Fin 8) (t : Fin 8192) (d : Fin 256) : ℝ := EReal.toReal ((m ((c : Thread nD τ).loc main_arg1) : Vec Ideal S8x8192x256 .bf16) (ix3 h t d))
def argV (c : Dev nD) (h : Fin 8) (t : Fin 8192) (e : Fin 128) : EReal := (m ((c : Thread nD τ).loc main_arg2) : Vec Ideal S8x8192x128 .bf16) (ix3 h t e)

theorem args_real (c : Dev nD) [hP : Cert.Pre_finite2.Facts]
    (h : Cert.Pre_finite2.fn (F := Ideal) (m ((c : Thread nD τ).loc main_arg0)) (m ((c : Thread nD τ).loc main_arg1)) (m ((c : Thread nD τ).loc main_arg2)) = fun _ => 1#1) :
    Args m c (argQ m c) (argK m c) (argV m c) := by
  have hf := Cert.Pre_finite2.Hand.finite _ _ _ h
  exact ⟨fun h t d => (hf.1 _).symm, fun h t d => (hf.2 _).symm, fun h t e => rfl⟩

/-- What the call leaves. -/
theorem run_value (hm : ∀ c, Args m c (argQ m c) (argK m c) (argV m c)) :
    θ_run defs (onTc (τ := τ) (main (F := Ideal))) ⟨m, fun _ => 0, ρ⟩ fun r => ∀ c : Dev nD,
      r.2.mem ((c : Thread nD τ).loc main_v0_0) = (resOut (argQ m c) (argK m c) (argV m c) : Vec Ideal S8192x1024 .bf16)
      ∧ r.2.mem ((c : Thread nD τ).loc main_v0_1) = (resLse (argQ m c) (argK m c) : Vec Ideal S8x8x1x1024 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_out (hm c)), (h c).2.1.trans (final_lse (hm c)), (h c).2.2⟩) (Value.run_blocks m ρ)

/-! ## The reference -/

section
variable {m} {c : Dev nD} {q k : Fin 8 → Fin 8192 → Fin 256 → ℝ} {w : Fin 8 → Fin 8192 → Fin 128 → EReal} (hm : Args m c q k w)
include hm

theorem ref_out : Cert.Reference2Ideal.Hand.out (m ((c : Thread nD τ).loc main_arg0)) (m ((c : Thread nD τ).loc main_arg1)) (m ((c : Thread nD τ).loc main_arg2))
    = resOut q k w := by
  refine funext fun (y : S8192x1024.Idx) => ?_
  obtain ⟨t, x, rfl⟩ : ∃ t x, y = ix2 t x := ⟨_, _, eq_ix2 y⟩
  obtain ⟨h, e, rfl⟩ : ∃ (h : Fin 8) (e : Fin 128), x = ⟨h.val * 128 + e.val, by omega⟩ := by
    have hx : x.val < 1024 := x.isLt
    exact ⟨⟨x.val / 128, by omega⟩, ⟨x.val % 128, by omega⟩, Fin.ext (by show x.val = x.val / 128 * 128 + x.val % 128; omega)⟩
  rw [resOut_apply]
  refine (Cert.Reference2Ideal.Hand.out_apply _ _ _ q k hm.hq hm.hk h t e).trans ?_
  exact congrArg (fun w => Attn.outE (q h) (k h) w t e) (funext fun u => funext fun e => hm.hv h u e)

theorem ref_lse : Cert.Reference2Ideal.Hand.lse (m ((c : Thread nD τ).loc main_arg0)) (m ((c : Thread nD τ).loc main_arg1)) = resLse q k := by
  refine funext fun (y : S8x8x1x1024.Idx) => ?_
  obtain ⟨h, i, z, a, rfl⟩ : ∃ h i z a, y = ix4 h i z a := ⟨_, _, _, _, eq_ix4 y⟩
  obtain rfl : z = 0 := Subsingleton.elim _ _
  exact Cert.Reference2Ideal.Hand.lse_apply _ _ q k hm.hq hm.hk h i a

end

end Cert.Kernel2Ideal.Hand

end
-- ==== Proof.GradTiles.lean ====
/- What one grid point of the weight-gradient kernel leaves: the accumulator holds four planes, one per group of
   columns, and every point adds to each plane the product of its two blocks. The last point also writes the planes
   out, each as two halves. -/
module

public import Idealize.ShloMosaic.Lib.WritesUnit
public import proofs.«01_k».proof.Proof.Exact
public import proofs.«01_k».proof.Proof.Gen.Kernel4Ideal.Frame
public import proofs.«01_k».proof.Proof.Gen.Kernel4Ideal.Skeleton

@[expose] public section

set_option maxRecDepth 16384

noncomputable section

namespace Cert.Kernel4Ideal.Hand

open Cert.Kernel4Ideal Cert.Kernel4Ideal.Gen Idealize.ShloMosaic Idealize.ShloMosaic.TcCoe Idealize.SL.Sem

/-! ## Stores and loads of one plane of an array of planes -/

section Planes

variable {sig : RefSig} {κ : Kind} {sp : Space} {e : EltTy} {Val : EltTy → Type} {n A B p q r : ℕ}

/-- Reading a plane just stored. -/
theorem plane_hit (v : View sig κ sp ⟨3, ![n, A, B]⟩ e) (f : v.ty.Contents Val) (j : Fin n) (o : ℕ) (ho : j.val = o)
    (inb : ∀ a, (![o, 0, 0] : Fin 3 → ℕ) a + (![1, A, B] : Fin 3 → ℕ) a ≤ (⟨3, ![n, A, B]⟩ : Shape).size a)
    (w : (Rect.unit (s := ⟨3, ![n, A, B]⟩) ![o, 0, 0] ![1, A, B] inb).shape.Idx → Val e) (L : List (View.Piece Val ⟨3, ![n, A, B]⟩ e)) (a : Fin A) (b : Fin B) :
    v.read Val (v.writes Val f (⟨Rect.unit (s := ⟨3, ![n, A, B]⟩) ![o, 0, 0] ![1, A, B] inb, w⟩ :: L)) (ix3 j a b) = w (ix3 (n0 := 1) 0 a b) :=
  View.read_writes_cons_unit_of_mem v f inb w L (ix3 j a b) (ix3 (n0 := 1) 0 a b) rfl fun ax => by
    match ax with
    | ⟨0, _⟩ => show j.val = o + 0; omega
    | ⟨1, _⟩ => show a.val = 0 + a.val; omega
    | ⟨2, _⟩ => show b.val = 0 + b.val; omega

/-- Reading another plane than the one just stored. -/
theorem plane_miss (v : View sig κ sp ⟨3, ![n, A, B]⟩ e) (f : v.ty.Contents Val) (j : Fin n) (o : ℕ) (ho : j.val ≠ o)
    (inb : ∀ a, (![o, 0, 0] : Fin 3 → ℕ) a + (![1, A, B] : Fin 3 → ℕ) a ≤ (⟨3, ![n, A, B]⟩ : Shape).size a)
    (w : (Rect.unit (s := ⟨3, ![n, A, B]⟩) ![o, 0, 0] ![1, A, B] inb).shape.Idx → Val e) (L : List (View.Piece Val ⟨3, ![n, A, B]⟩ e)) (a : Fin A) (b : Fin B) :
    v.read Val (v.writes Val f (⟨Rect.unit (s := ⟨3, ![n, A, B]⟩) ![o, 0, 0] ![1, A, B] inb, w⟩ :: L)) (ix3 j a b)
      = v.read Val (v.writes Val f L) (ix3 j a b) :=
  View.read_writes_cons_unit_of_not_mem v f inb w L (ix3 j a b) rfl (0 : Fin 3) (by
    show j.val < o ∨ o + 1 ≤ j.val
    omega)

/-- A load of part of a plane, at an index. -/
theorem plane_load (v : View sig κ sp ⟨3, ![n, A, B]⟩ e) (f : v.ty.Contents Val) (j : Fin n) (o k : ℕ) (ho : j.val = o)
    (inb : ∀ a, (![o, 0, k] : Fin 3 → ℕ) a + (![1, p, q] : Fin 3 → ℕ) a ≤ (⟨3, ![n, A, B]⟩ : Shape).size a)
    (a : Fin p) (b : Fin q) (a' : Fin A) (b' : Fin B) (ha : a'.val = a.val) (hb : b'.val = k + b.val) :
    v.readAt Val (Rect.unit (s := ⟨3, ![n, A, B]⟩) ![o, 0, k] ![1, p, q] inb).toLoadRect f (ix3 (n0 := 1) 0 a b) = v.read Val f (ix3 j a' b') := by
  show v.read Val f _ = _
  refine congrArg (v.read Val f) (funext fun ax => Fin.ext ?_)
  match ax with
  | ⟨0, _⟩ => show o + 1 * 0 = j.val; omega
  | ⟨1, _⟩ => show 0 + 1 * a.val = a'.val; omega
  | ⟨2, _⟩ => show k + 1 * b.val = b'.val; omega

end Planes

/-! ## The stored values at an index -/

section Pays

variable (x0 : Vec Ideal S512x1024 .bf16) (y : Vec Ideal S1x512x768 .bf16) (z : Vec Ideal S1x1024x768 .f32) (u : Vec Ideal S1x1024x384 .f32)

theorem cast_apply (k : Fin 512) (d : Fin 1024) : k0_pay13 (F := Ideal) x0 (ix2 k d) = x0 (ix2 k d) := by
  pointwise [k0_pay13]

theorem pay2_apply (d : Fin 1024) (f : Fin 768) : k0_pay2 (F := Ideal) x0 z y (ix3 0 d f) = z (ix3 0 d f) + ∑ k, x0 (ix2 k d) * y (ix3 0 k f) := by
  pointwise [k0_pay2, dot_S512x1024_S512x768_S1024x768_0_0_1_1_n_n]

theorem pay1_apply (d : Fin 1024) (f : Fin 768) : k0_pay1 (F := Ideal) x0 (k0_pay16 z) y (ix3 0 d f) = z (ix3 0 d f) + ∑ k, x0 (ix2 k d) * y (ix3 0 k f) :=
  pay2_apply x0 y z d f

theorem pay14_apply (d : Fin 1024) (f : Fin 768) : k0_pay14 (F := Ideal) x0 z y (ix3 0 d f) = z (ix3 0 d f) + ∑ k, x0 (ix2 k d) * y (ix3 0 k f) :=
  (pay2_apply (k0_pay13 x0) y z d f).trans (congrArg (z (ix3 0 d f) + ·) (Finset.sum_congr rfl fun k _ => congrArg (· * y (ix3 0 k f)) (cast_apply x0 k d)))

theorem pay15_apply (d : Fin 1024) (f : Fin 768) : k0_pay15 (F := Ideal) x0 z y (ix3 0 d f) = z (ix3 0 d f) + ∑ k, x0 (ix2 k d) * y (ix3 0 k f) :=
  pay14_apply x0 y z d f

theorem pay12_apply (j : Fin 4) (d : Fin 1024) (f : Fin 768) : k0_pay12 (F := Ideal) (ix3 j d f) = 0 := by
  pointwise [k0_pay12]

theorem pay7_apply (d : Fin 1024) (f : Fin 384) : k0_pay7 (F := Ideal) u (ix3 0 d f) = u (ix3 0 d f) := by
  pointwise [k0_pay7]

end Pays

/-! ## The planes after a grid point -/

variable (c : Dev nD) (i : grid0.Coords)
    (arg1 : Memref sig .tc .vmem S512x1024 .bf16) (harg1 : arg1.IsWhole) (arg2 : Memref sig .tc .vmem S4x512x768 .bf16) (harg2 : arg2.IsWhole)
    (arg3 : Memref sig .tc .vmem S8x1024x384 .bf16) (harg3 : arg3.IsWhole) (arg4 : Memref sig .tc .vmem S4x1024x768 .f32) (harg4 : arg4.IsWhole)
    (x0 : Vec Ideal S512x1024 .bf16) (x1 : Vec Ideal S4x512x768 .bf16) (xs0 : Vec Ideal S4x1024x768 .f32) (j : Fin 4) (d : Fin 1024) (f : Fin 768)

theorem load_x0 (inb : ∀ a, (![0, 0] : Fin 2 → ℕ) a + S512x1024.size a ≤ S512x1024.size a) (k : Fin 512) :
    View.readAt (Elt Ideal) arg1.view (Rect.unit (s := S512x1024) ![0, 0] S512x1024.size inb).toLoadRect (harg1.unread x0) (ix2 k d) = x0 (ix2 k d) := by
  show arg1.view.read (Elt Ideal) (harg1.unread x0) _ = _
  rw [harg1.read_unread]
  refine congrArg x0 (funext fun ax => Fin.ext ?_)
  match ax with
  | ⟨0, _⟩ => show 0 + 1 * k.val = k.val; omega
  | ⟨1, _⟩ => show 0 + 1 * d.val = d.val; omega

theorem load_x1 (o : ℕ) (ho : j.val = o) (inb : ∀ a, (![o, 0, 0] : Fin 3 → ℕ) a + (![1, 512, 768] : Fin 3 → ℕ) a ≤ S4x512x768.size a) (k : Fin 512) :
    View.readAt (Elt Ideal) arg2.view (Rect.unit (s := S4x512x768) ![o, 0, 0] ![1, 512, 768] inb).toLoadRect (harg2.unread x1) (ix3 0 k f) = x1 (ix3 j k f) := by
  refine (plane_load arg2.view (harg2.unread x1) j o 0 ho inb k f k f rfl (by omega)).trans ?_
  rw [harg2.read_unread]

theorem load_xs0 (o : ℕ) (ho : j.val = o) (inb : ∀ a, (![o, 0, 0] : Fin 3 → ℕ) a + (![1, 1024, 768] : Fin 3 → ℕ) a ≤ S4x1024x768.size a) :
    View.readAt (Elt Ideal) arg4.view (Rect.unit (s := S4x1024x768) ![o, 0, 0] ![1, 1024, 768] inb).toLoadRect (harg4.unread xs0) (ix3 0 d f) = xs0 (ix3 j d f) := by
  refine (plane_load arg4.view (harg4.unread xs0) j o 0 ho inb d f d f rfl (by omega)).trans ?_
  rw [harg4.read_unread]

/-- What a point adds to the planes. -/
def step : Ideal .f32 := ∑ k, x0 (ix2 k d) * x1 (ix3 j k f)

/-- A plane after a point, from the load of it before and the loads of the point's blocks. -/
theorem plane_sum {n : ℕ} {x x' : Fin n → EReal} {y y' : Fin n → EReal} {z z' : EReal} (hz : z = z') (hx : ∀ k, x k = x' k) (hy : ∀ k, y k = y' k) :
    z + ∑ k, x k * y k = z' + ∑ k, x' k * y' k := by
  rw [hz]
  exact congrArg (z' + ·) (Finset.sum_congr rfl fun k _ => by rw [hx, hy])

/-- Four planes stored one after the other read what each was stored as. -/
theorem planes_read {sig : RefSig} {κ : Kind} {sp : Space} (v : View sig κ sp S4x1024x768 .f32) (g : v.ty.Contents (Elt Ideal))
    (inb0 : ∀ a, (![0, 0, 0] : Fin 3 → ℕ) a + (![1, 1024, 768] : Fin 3 → ℕ) a ≤ S4x1024x768.size a)
    (inb1 : ∀ a, (![1, 0, 0] : Fin 3 → ℕ) a + (![1, 1024, 768] : Fin 3 → ℕ) a ≤ S4x1024x768.size a)
    (inb2 : ∀ a, (![2, 0, 0] : Fin 3 → ℕ) a + (![1, 1024, 768] : Fin 3 → ℕ) a ≤ S4x1024x768.size a)
    (inb3 : ∀ a, (![3, 0, 0] : Fin 3 → ℕ) a + (![1, 1024, 768] : Fin 3 → ℕ) a ≤ S4x1024x768.size a)
    (w0 w1 w2 w3 : Vec Ideal S1x1024x768 .f32) (L : List (View.Piece (Elt Ideal) S4x1024x768 .f32)) (G : Fin 4 → EReal)
    (h0 : w0 (ix3 0 d f) = G 0) (h1 : w1 (ix3 0 d f) = G 1) (h2 : w2 (ix3 0 d f) = G 2) (h3 : w3 (ix3 0 d f) = G 3) :
    v.read (Elt Ideal) (v.writes (Elt Ideal) g (⟨Rect.unit (s := S4x1024x768) ![3, 0, 0] ![1, 1024, 768] inb3, w3⟩ :: ⟨Rect.unit (s := S4x1024x768) ![2, 0, 0] ![1, 1024, 768] inb2, w2⟩
      :: ⟨Rect.unit (s := S4x1024x768) ![1, 0, 0] ![1, 1024, 768] inb1, w1⟩ :: ⟨Rect.unit (s := S4x1024x768) ![0, 0, 0] ![1, 1024, 768] inb0, w0⟩ :: L)) (ix3 j d f) = G j := by
  match j with
  | ⟨3, _⟩ => exact (plane_hit _ _ 3 3 rfl _ _ _ d f).trans h3
  | ⟨2, _⟩ => exact (plane_miss _ _ 2 3 (by decide) _ _ _ d f).trans ((plane_hit _ _ 2 2 rfl _ _ _ d f).trans h2)
  | ⟨1, _⟩ => exact (plane_miss _ _ 1 3 (by decide) _ _ _ d f).trans ((plane_miss _ _ 1 2 (by decide) _ _ _ d f).trans ((plane_hit _ _ 1 1 rfl _ _ _ d f).trans h1))
  | ⟨0, _⟩ => exact (plane_miss _ _ 0 3 (by decide) _ _ _ d f).trans ((plane_miss _ _ 0 2 (by decide) _ _ _ d f).trans ((plane_miss _ _ 0 1 (by decide) _ _ _ d f).trans ((plane_hit _ _ 0 0 rfl _ _ _ d f).trans h0)))

/-- What a middle point leaves in the planes. -/
theorem acc_B (hc0 : ¬cond0_0 i) (hc1 : ¬cond0_1 i) :
    sout0_B_0 (F := Ideal) c i arg1 harg1 arg2 harg2 arg3 harg3 arg4 harg4 hc0 hc1 x0 x1 xs0 (ix3 j d f) = xs0 (ix3 j d f) + step x0 x1 j d f := by
  unfold sout0_B_0 kernelRun0_B
  dsimp only
  refine planes_read j d f _ _ _ _ _ _ _ _ _ _ _ (fun j => xs0 (ix3 j d f) + step x0 x1 j d f) ?_ ?_ ?_ ?_
  · exact (pay14_apply _ _ _ d f).trans (plane_sum (load_xs0 arg4 harg4 xs0 0 d f 0 rfl _) (fun k => load_x0 arg1 harg1 x0 d _ k) fun k => load_x1 arg2 harg2 x1 0 f 0 rfl _ k)
  · exact (pay15_apply _ _ _ d f).trans (plane_sum (load_xs0 arg4 harg4 xs0 1 d f 1 rfl _) (fun k => load_x0 arg1 harg1 x0 d _ k) fun k => load_x1 arg2 harg2 x1 1 f 1 rfl _ k)
  · exact (pay1_apply _ _ _ d f).trans (plane_sum (load_xs0 arg4 harg4 xs0 2 d f 2 rfl _) (fun k => (cast_apply _ k d).trans (load_x0 arg1 harg1 x0 d _ k)) fun k => load_x1 arg2 harg2 x1 2 f 2 rfl _ k)
  · exact (pay2_apply _ _ _ d f).trans (plane_sum (load_xs0 arg4 harg4 xs0 3 d f 3 rfl _) (fun k => (cast_apply _ k d).trans (load_x0 arg1 harg1 x0 d _ k)) fun k => load_x1 arg2 harg2 x1 3 f 3 rfl _ k)

/-- The stores of the last point into the planes, read through any view. -/
theorem stores_C (v : View sig .tc .vmem S4x1024x768 .f32) (g : v.ty.Contents (Elt Ideal)) :
    v.read (Elt Ideal) (v.writes (Elt Ideal) g (kernelRun0_C.sl.HS0_4 (F := Ideal) c arg1 harg1 arg2 harg2 arg4 harg4 x0 x1 xs0)) (ix3 j d f) = xs0 (ix3 j d f) + step x0 x1 j d f := by
  unfold kernelRun0_C.sl.HS0_4
  refine planes_read j d f _ _ _ _ _ _ _ _ _ _ _ (fun j => xs0 (ix3 j d f) + step x0 x1 j d f) ?_ ?_ ?_ ?_
  · exact (pay14_apply _ _ _ d f).trans (plane_sum (load_xs0 arg4 harg4 xs0 0 d f 0 rfl _) (fun k => load_x0 arg1 harg1 x0 d _ k) fun k => load_x1 arg2 harg2 x1 0 f 0 rfl _ k)
  · exact (pay15_apply _ _ _ d f).trans (plane_sum (load_xs0 arg4 harg4 xs0 1 d f 1 rfl _) (fun k => load_x0 arg1 harg1 x0 d _ k) fun k => load_x1 arg2 harg2 x1 1 f 1 rfl _ k)
  · exact (pay1_apply _ _ _ d f).trans (plane_sum (load_xs0 arg4 harg4 xs0 2 d f 2 rfl _) (fun k => (cast_apply _ k d).trans (load_x0 arg1 harg1 x0 d _ k)) fun k => load_x1 arg2 harg2 x1 2 f 2 rfl _ k)
  · exact (pay2_apply _ _ _ d f).trans (plane_sum (load_xs0 arg4 harg4 xs0 3 d f 3 rfl _) (fun k => (cast_apply _ k d).trans (load_x0 arg1 harg1 x0 d _ k)) fun k => load_x1 arg2 harg2 x1 3 f 3 rfl _ k)

/-- The first point's stores before its own planes: the whole array is set to zero. -/
theorem zeros_A (v : View sig .tc .vmem S4x1024x768 .f32) (g : v.ty.Contents (Elt Ideal)) :
    v.read (Elt Ideal) (v.writes (Elt Ideal) g (kernelRun0_A.sl.HS0_1 (F := Ideal))) (ix3 j d f) = 0 := by
  unfold kernelRun0_A.sl.HS0_1
  refine (View.read_writes_cons_unit_of_mem v g _ _ _ (ix3 j d f) (ix3 j d f) rfl fun ax => ?_).trans (pay12_apply j d f)
  match ax with
  | ⟨0, _⟩ => exact (Nat.zero_add _).symm
  | ⟨1, _⟩ => exact (Nat.zero_add _).symm
  | ⟨2, _⟩ => exact (Nat.zero_add _).symm

theorem load_A (L : List (View.Piece (Elt Ideal) S4x1024x768 .f32)) (o : ℕ) (ho : j.val = o)
    (h : arg4.view.read (Elt Ideal) (arg4.view.writes (Elt Ideal) arg4.view.junk L) (ix3 j d f) = 0)
    (inb : ∀ a, (![o, 0, 0] : Fin 3 → ℕ) a + (![1, 1024, 768] : Fin 3 → ℕ) a ≤ S4x1024x768.size a) :
    arg4.view.readCov (Val := Elt Ideal) L (Rect.unit (s := S4x1024x768) ![o, 0, 0] ![1, 1024, 768] inb).toLoadRect (ix3 0 d f) = 0 :=
  (plane_load arg4.view _ j o 0 ho inb d f d f rfl (by omega)).trans h

/-- What the first point leaves in the planes. -/
theorem acc_A (hc0 : cond0_0 i) (hc1 : ¬cond0_1 i) :
    sout0_A_0 (F := Ideal) c i arg1 harg1 arg2 harg2 arg3 harg3 arg4 harg4 hc0 hc1 x0 x1 (ix3 j d f) = 0 + step x0 x1 j d f := by
  unfold sout0_A_0 kernelRun0_A
  dsimp only
  unfold kernelRun0_A.sl.HS0_4 kernelRun0_A.sl.HS0_3 kernelRun0_A.sl.HS0_2
  refine planes_read j d f _ _ _ _ _ _ _ _ _ _ _ (fun j => 0 + step x0 x1 j d f) ?_ ?_ ?_ ?_
  · refine (pay14_apply _ _ _ d f).trans (plane_sum ?_ (fun k => load_x0 arg1 harg1 x0 d _ k) fun k => load_x1 arg2 harg2 x1 0 f 0 rfl _ k)
    exact load_A arg4 0 d f _ 0 rfl (zeros_A 0 d f _ _) _
  · refine (pay15_apply _ _ _ d f).trans (plane_sum ?_ (fun k => load_x0 arg1 harg1 x0 d _ k) fun k => load_x1 arg2 harg2 x1 1 f 1 rfl _ k)
    exact load_A arg4 1 d f _ 1 rfl ((plane_miss _ _ 1 0 (by decide) _ _ _ d f).trans (zeros_A 1 d f _ _)) _
  · refine (pay1_apply _ _ _ d f).trans (plane_sum ?_ (fun k => (cast_apply _ k d).trans (load_x0 arg1 harg1 x0 d _ k)) fun k => load_x1 arg2 harg2 x1 2 f 2 rfl _ k)
    exact load_A arg4 2 d f _ 2 rfl ((plane_miss _ _ 2 1 (by decide) _ _ _ d f).trans ((plane_miss _ _ 2 0 (by decide) _ _ _ d f).trans (zeros_A 2 d f _ _))) _
  · refine (pay2_apply _ _ _ d f).trans (plane_sum ?_ (fun k => (cast_apply _ k d).trans (load_x0 arg1 harg1 x0 d _ k)) fun k => load_x1 arg2 harg2 x1 3 f 3 rfl _ k)
    exact load_A arg4 3 d f _ 3 rfl ((plane_miss _ _ 3 2 (by decide) _ _ _ d f).trans ((plane_miss _ _ 3 1 (by decide) _ _ _ d f).trans ((plane_miss _ _ 3 0 (by decide) _ _ _ d f).trans (zeros_A 3 d f _ _)))) _

/-- A half plane of the last point's planes, loaded back. -/
theorem half_C (o k : ℕ) (ho : j.val = o) (inb : ∀ a, (![o, 0, k] : Fin 3 → ℕ) a + (![1, 1024, 384] : Fin 3 → ℕ) a ≤ S4x1024x768.size a) (e : Fin 384) (he : f.val = k + e.val) :
    arg4.view.readCov (Val := Elt Ideal) (kernelRun0_C.sl.HS0_4 (F := Ideal) c arg1 harg1 arg2 harg2 arg4 harg4 x0 x1 xs0)
      (Rect.unit (s := S4x1024x768) ![o, 0, k] ![1, 1024, 384] inb).toLoadRect (ix3 0 d e) = xs0 (ix3 j d f) + step x0 x1 j d f :=
  (plane_load arg4.view _ j o k ho inb d e d f rfl he).trans (stores_C c arg1 harg1 arg2 harg2 arg4 harg4 x0 x1 xs0 j d f _ _)

/-- Eight planes stored one after the other read what each was stored as. -/
theorem halves_read {sig : RefSig} {κ : Kind} {sp : Space} (v : View sig κ sp S8x1024x384 .bf16) (g : v.ty.Contents (Elt Ideal))
    (inb0 : ∀ a, (![0, 0, 0] : Fin 3 → ℕ) a + (![1, 1024, 384] : Fin 3 → ℕ) a ≤ S8x1024x384.size a)
    (inb1 : ∀ a, (![1, 0, 0] : Fin 3 → ℕ) a + (![1, 1024, 384] : Fin 3 → ℕ) a ≤ S8x1024x384.size a)
    (inb2 : ∀ a, (![2, 0, 0] : Fin 3 → ℕ) a + (![1, 1024, 384] : Fin 3 → ℕ) a ≤ S8x1024x384.size a)
    (inb3 : ∀ a, (![3, 0, 0] : Fin 3 → ℕ) a + (![1, 1024, 384] : Fin 3 → ℕ) a ≤ S8x1024x384.size a)
    (inb4 : ∀ a, (![4, 0, 0] : Fin 3 → ℕ) a + (![1, 1024, 384] : Fin 3 → ℕ) a ≤ S8x1024x384.size a)
    (inb5 : ∀ a, (![5, 0, 0] : Fin 3 → ℕ) a + (![1, 1024, 384] : Fin 3 → ℕ) a ≤ S8x1024x384.size a)
    (inb6 : ∀ a, (![6, 0, 0] : Fin 3 → ℕ) a + (![1, 1024, 384] : Fin 3 → ℕ) a ≤ S8x1024x384.size a)
    (inb7 : ∀ a, (![7, 0, 0] : Fin 3 → ℕ) a + (![1, 1024, 384] : Fin 3 → ℕ) a ≤ S8x1024x384.size a)
    (w0 w1 w2 w3 w4 w5 w6 w7 : Vec Ideal S1x1024x384 .bf16) (q : Fin 8) (e : Fin 384) (G : Fin 8 → EReal)
    (h0 : w0 (ix3 0 d e) = G 0) (h1 : w1 (ix3 0 d e) = G 1) (h2 : w2 (ix3 0 d e) = G 2) (h3 : w3 (ix3 0 d e) = G 3) (h4 : w4 (ix3 0 d e) = G 4) (h5 : w5 (ix3 0 d e) = G 5) (h6 : w6 (ix3 0 d e) = G 6) (h7 : w7 (ix3 0 d e) = G 7) :
    v.read (Elt Ideal) (v.writes (Elt Ideal) g [⟨Rect.unit (s := S8x1024x384) ![7, 0, 0] ![1, 1024, 384] inb7, w7⟩,
      ⟨Rect.unit (s := S8x1024x384) ![6, 0, 0] ![1, 1024, 384] inb6, w6⟩,
      ⟨Rect.unit (s := S8x1024x384) ![5, 0, 0] ![1, 1024, 384] inb5, w5⟩,
      ⟨Rect.unit (s := S8x1024x384) ![4, 0, 0] ![1, 1024, 384] inb4, w4⟩,
      ⟨Rect.unit (s := S8x1024x384) ![3, 0, 0] ![1, 1024, 384] inb3, w3⟩,
      ⟨Rect.unit (s := S8x1024x384) ![2, 0, 0] ![1, 1024, 384] inb2, w2⟩,
      ⟨Rect.unit (s := S8x1024x384) ![1, 0, 0] ![1, 1024, 384] inb1, w1⟩,
      ⟨Rect.unit (s := S8x1024x384) ![0, 0, 0] ![1, 1024, 384] inb0, w0⟩]) (ix3 q d e) = G q := by
  match q with
  | ⟨7, _⟩ =>
    exact (plane_hit _ _ 7 7 rfl _ _ _ d e).trans h7
  | ⟨6, _⟩ =>
    refine (plane_miss _ _ 6 7 (by decide) _ _ _ d e).trans ?_
    exact (plane_hit _ _ 6 6 rfl _ _ _ d e).trans h6
  | ⟨5, _⟩ =>
    refine (plane_miss _ _ 5 7 (by decide) _ _ _ d e).trans ?_
    refine (plane_miss _ _ 5 6 (by decide) _ _ _ d e).trans ?_
    exact (plane_hit _ _ 5 5 rfl _ _ _ d e).trans h5
  | ⟨4, _⟩ =>
    refine (plane_miss _ _ 4 7 (by decide) _ _ _ d e).trans ?_
    refine (plane_miss _ _ 4 6 (by decide) _ _ _ d e).trans ?_
    refine (plane_miss _ _ 4 5 (by decide) _ _ _ d e).trans ?_
    exact (plane_hit _ _ 4 4 rfl _ _ _ d e).trans h4
  | ⟨3, _⟩ =>
    refine (plane_miss _ _ 3 7 (by decide) _ _ _ d e).trans ?_
    refine (plane_miss _ _ 3 6 (by decide) _ _ _ d e).trans ?_
    refine (plane_miss _ _ 3 5 (by decide) _ _ _ d e).trans ?_
    refine (plane_miss _ _ 3 4 (by decide) _ _ _ d e).trans ?_
    exact (plane_hit _ _ 3 3 rfl _ _ _ d e).trans h3
  | ⟨2, _⟩ =>
    refine (plane_miss _ _ 2 7 (by decide) _ _ _ d e).trans ?_
    refine (plane_miss _ _ 2 6 (by decide) _ _ _ d e).trans ?_
    refine (plane_miss _ _ 2 5 (by decide) _ _ _ d e).trans ?_
    refine (plane_miss _ _ 2 4 (by decide) _ _ _ d e).trans ?_
    refine (plane_miss _ _ 2 3 (by decide) _ _ _ d e).trans ?_
    exact (plane_hit _ _ 2 2 rfl _ _ _ d e).trans h2
  | ⟨1, _⟩ =>
    refine (plane_miss _ _ 1 7 (by decide) _ _ _ d e).trans ?_
    refine (plane_miss _ _ 1 6 (by decide) _ _ _ d e).trans ?_
    refine (plane_miss _ _ 1 5 (by decide) _ _ _ d e).trans ?_
    refine (plane_miss _ _ 1 4 (by decide) _ _ _ d e).trans ?_
    refine (plane_miss _ _ 1 3 (by decide) _ _ _ d e).trans ?_
    refine (plane_miss _ _ 1 2 (by decide) _ _ _ d e).trans ?_
    exact (plane_hit _ _ 1 1 rfl _ _ _ d e).trans h1
  | ⟨0, _⟩ =>
    refine (plane_miss _ _ 0 7 (by decide) _ _ _ d e).trans ?_
    refine (plane_miss _ _ 0 6 (by decide) _ _ _ d e).trans ?_
    refine (plane_miss _ _ 0 5 (by decide) _ _ _ d e).trans ?_
    refine (plane_miss _ _ 0 4 (by decide) _ _ _ d e).trans ?_
    refine (plane_miss _ _ 0 3 (by decide) _ _ _ d e).trans ?_
    refine (plane_miss _ _ 0 2 (by decide) _ _ _ d e).trans ?_
    refine (plane_miss _ _ 0 1 (by decide) _ _ _ d e).trans ?_
    exact (plane_hit _ _ 0 0 rfl _ _ _ d e).trans h0

/-- What the last point writes out: plane `q / 2` of the accumulator, its half `q % 2`. -/
def half (q : Fin 8) (e : Fin 384) : Ideal .f32 :=
  xs0 (ix3 ⟨q.val / 2, by omega⟩ d ⟨q.val % 2 * 384 + e.val, by omega⟩) + step x0 x1 ⟨q.val / 2, by omega⟩ d ⟨q.val % 2 * 384 + e.val, by omega⟩

theorem out_C (hc0 : ¬cond0_0 i) (hc1 : cond0_1 i) (q : Fin 8) (e : Fin 384) :
    out0_C_2 (F := Ideal) c i arg1 harg1 arg2 harg2 arg3 harg3 arg4 harg4 hc0 hc1 x0 x1 xs0 (ix3 q d e) = half x0 x1 xs0 d q e := by
  unfold out0_C_2 kernelRun0_C
  dsimp only
  refine halves_read d _ _ _ _ _ _ _ _ _ _ _ _ _ _ _ _ _ _ q e (half x0 x1 xs0 d · e) ?_ ?_ ?_ ?_ ?_ ?_ ?_ ?_
  · exact (pay7_apply _ d e).trans (half_C c arg1 harg1 arg2 harg2 arg4 harg4 x0 x1 xs0 0 d ⟨0 % 2 * 384 + e.val, by omega⟩ 0 0 rfl _ e rfl)
  · exact (pay7_apply _ d e).trans (half_C c arg1 harg1 arg2 harg2 arg4 harg4 x0 x1 xs0 0 d ⟨1 % 2 * 384 + e.val, by omega⟩ 0 384 rfl _ e rfl)
  · exact (pay7_apply _ d e).trans (half_C c arg1 harg1 arg2 harg2 arg4 harg4 x0 x1 xs0 1 d ⟨2 % 2 * 384 + e.val, by omega⟩ 1 0 rfl _ e rfl)
  · exact (pay7_apply _ d e).trans (half_C c arg1 harg1 arg2 harg2 arg4 harg4 x0 x1 xs0 1 d ⟨3 % 2 * 384 + e.val, by omega⟩ 1 384 rfl _ e rfl)
  · exact (pay7_apply _ d e).trans (half_C c arg1 harg1 arg2 harg2 arg4 harg4 x0 x1 xs0 2 d ⟨4 % 2 * 384 + e.val, by omega⟩ 2 0 rfl _ e rfl)
  · exact (pay7_apply _ d e).trans (half_C c arg1 harg1 arg2 harg2 arg4 harg4 x0 x1 xs0 2 d ⟨5 % 2 * 384 + e.val, by omega⟩ 2 384 rfl _ e rfl)
  · exact (pay7_apply _ d e).trans (half_C c arg1 harg1 arg2 harg2 arg4 harg4 x0 x1 xs0 3 d ⟨6 % 2 * 384 + e.val, by omega⟩ 3 0 rfl _ e rfl)
  · exact (pay7_apply _ d e).trans (half_C c arg1 harg1 arg2 harg2 arg4 harg4 x0 x1 xs0 3 d ⟨7 % 2 * 384 + e.val, by omega⟩ 3 384 rfl _ e rfl)

end Cert.Kernel4Ideal.Hand

end
-- ==== Proof.FfnTiles.lean ====
/- What one grid point of the feed-forward kernel computes: the normalised rows, its group of columns of the gate and
   of the up projection, and what that group adds to the down projection. -/
module

public import Idealize.ShloMosaic.Lib.WritesUnit
public import proofs.«01_k».proof.Proof.Exact
public import proofs.«01_k».proof.Proof.GradTiles
public import proofs.«01_k».proof.Proof.Gen.Kernel3Ideal.Frame
public import proofs.«01_k».proof.Proof.Gen.Kernel3Ideal.Skeleton

@[expose] public section

set_option maxRecDepth 16384

noncomputable section

namespace Cert.Kernel3Ideal.Hand

open Cert.Kernel3Ideal Cert.Kernel3Ideal.Gen Idealize.ShloMosaic Idealize.ShloMosaic.TcCoe Idealize.SL.Sem

/-! ## The mathematics of one point -/

/-- A row divided by its root mean square and scaled. -/
def nrm {n : ℕ} (x : Vec Ideal ⟨2, ![n, 1024]⟩ .f32) (g : Vec Ideal S1x1024 .f32) (a : Fin n) (d : Fin 1024) : EReal :=
  x (ix2 a d) * Ideal.rsqrt (Ideal.div (∑ k, x (ix2 a k) * x (ix2 a k)) (Ideal.ofBits .f32 0x44800000#32) + Ideal.ofBits .f32 0x358637BD#32) * g (ix2 0 d)

/-- Column `y` of a projection whose columns come in two pieces. -/
def proj (h : Fin 1024 → EReal) (w : Vec Ideal S2x1024x384 .bf16) (y : Fin 768) : EReal :=
  ∑ d, h d * w (ix3 ⟨y.val / 384, by omega⟩ d ⟨y.val % 384, by omega⟩)

/-- The gated activation. -/
def act (g u : EReal) : EReal := g * Ideal.div 1 (1 + Ideal.exp (-g)) * u

/-- What a group of columns adds to the down projection. -/
def down (g u : Fin 768 → EReal) (w : Vec Ideal S2x384x1024 .bf16) (d : Fin 1024) : EReal :=
  ∑ y : Fin 768, act (g y) (u y) * w (ix3 ⟨y.val / 384, by omega⟩ ⟨y.val % 384, by omega⟩ d)

theorem one : Ideal.ofBits .f32 0x3F800000#32 = 1 := by
  simp [Ideal.ofBits, Ideal.ieee]
  rw [← EReal.coe_mul]
  norm_num

/-- A sum over all the columns of a group is the sum over its two pieces. -/
theorem sum_halves (f : Fin 768 → EReal) : ∑ y, f y = ∑ x : Fin 384, f ⟨x.val, by omega⟩ + ∑ x : Fin 384, f ⟨384 + x.val, by omega⟩ :=
  Fin.sum_univ_add (a := 384) (b := 384) f

/-! ## The stored values at an index -/

section Pays

variable (h : Vec Ideal S1024x1024 .bf16) (w0 w1 : Vec Ideal S1x1024x384 .bf16) (w : Vec Ideal S2x1024x384 .bf16)
    (hw0 : ∀ d e, w0 (ix3 0 d e) = w (ix3 0 d e)) (hw1 : ∀ d e, w1 (ix3 0 d e) = w (ix3 1 d e))

include hw0 hw1 in
theorem pay5_apply (a : Fin 1024) (y : Fin 768) : k0_pay5 (F := Ideal) h w0 w1 (ix2 a y) = proj (fun d => h (ix2 a d)) w y := by
  unfold proj
  pointwise [k0_pay5, dot_S1024x1024_S1024x768_S1024x768_1_0_0_1_n_n]
  refine Finset.sum_congr rfl fun d _ => congrArg (h (ix2 a d) * ·) ?_
  split
  · rename_i hy
    rw [hw0]
    refine congrArg₂ (fun s e => w (ix3 s d e)) (Fin.ext ?_) (Fin.ext ?_)
    · show 0 = y.val / 384
      omega
    · show y.val = y.val % 384
      omega
  · rename_i hy
    rw [hw1]
    refine congrArg₂ (fun s e => w (ix3 s d e)) (Fin.ext ?_) (Fin.ext ?_)
    · show 1 = y.val / 384
      omega
    · show y.val - 384 = y.val % 384
      omega

theorem pay3_apply (x : Vec Ideal S1024x1024 .f32) (g : Vec Ideal S1x1024 .f32) (a d : Fin 1024) : k0_pay3 (F := Ideal) x g (ix2 a d) = nrm x g a d := by
  unfold nrm
  pointwise [k0_pay3]

theorem pay4_apply (a d : Fin 1024) : k0_pay4 (F := Ideal) (ix2 a d) = 0 := by
  pointwise [k0_pay4]

theorem pay7_apply (a : Fin 1024) (y : Fin 768) : k0_pay7 (F := Ideal) h w0 w1 (ix3 0 a y) = k0_pay5 (F := Ideal) h w0 w1 (ix2 a y) := by
  pointwise [k0_pay7]

theorem pay8_apply (a : Fin 1024) (y : Fin 768) : k0_pay8 (F := Ideal) h w0 w1 (ix3 0 a y) = k0_pay5 (F := Ideal) h w0 w1 (ix2 a y) :=
  pay7_apply h w0 w1 a y

theorem pay9_apply (a : Fin 1024) (y : Fin 768) : k0_pay9 (F := Ideal) h w0 w1 (ix2 a y) = Ideal.exp (-k0_pay5 (F := Ideal) h w0 w1 (ix2 a y)) := by
  pointwise [k0_pay9]
  rw [zero_sub]

theorem pay10_apply (a : Fin 1024) (y : Fin 768) : k0_pay10 (F := Ideal) (ix2 a y) = 1 := by
  pointwise [k0_pay10]

theorem pay2_apply (x z : Vec Ideal S1024x1024 .f32) (a d : Fin 1024) : k0_pay2 (F := Ideal) x z (ix2 a d) = x (ix2 a d) + z (ix2 a d) := by
  pointwise [k0_pay2]

theorem pay1_apply (v9 v16 v25 v26 : FVec Ideal S1024x768 .f32) (z : Vec Ideal S1024x1024 .f32) (d0 d1 : Vec Ideal S1x384x1024 .bf16) (wd : Vec Ideal S2x384x1024 .bf16)
    (hd0 : ∀ e d, d0 (ix3 0 e d) = wd (ix3 0 e d)) (hd1 : ∀ e d, d1 (ix3 0 e d) = wd (ix3 1 e d)) (a d : Fin 1024)
    (g u : Fin 768 → EReal) (z' : EReal) (h9 : ∀ y, v9 (ix2 a y) = g y) (h16 : ∀ y, v16 (ix2 a y) = u y) (h25 : ∀ y, v25 (ix2 a y) = Ideal.exp (-g y))
    (h26 : ∀ y, v26 (ix2 a y) = 1) (hz : z (ix2 a d) = z') :
    k0_pay1 (F := Ideal) v9 v16 v25 v26 z d0 d1 (ix2 a d) = z' + down g u wd d := by
  unfold down act
  pointwise [k0_pay1, dot_S1024x768_S768x1024_S1024x1024_1_0_0_1_n_n, h9, h16, h25, h26, hz, one]
  rw [sum_halves]
  refine congrArg (z' + ·) (congrArg₂ (· + ·) (Finset.sum_congr rfl fun x _ => ?_) (Finset.sum_congr rfl fun x _ => ?_))
  · rw [hd0]
    refine congrArg (_ * ·) (congrArg₂ (fun s e => wd (ix3 s e d)) (Fin.ext ?_) (Fin.ext ?_))
    · show 0 = x.val / 384
      omega
    · show x.val = x.val % 384
      omega
  · rw [hd1]
    refine congrArg (_ * ·) (congrArg₂ (fun s e => wd (ix3 s e d)) (Fin.ext ?_) (Fin.ext ?_))
    · show 1 = (384 + x.val) / 384
      omega
    · show x.val = (384 + x.val) % 384
      omega

end Pays

/-! ## Loads and stores -/

section Mem

variable {sig : RefSig} {κ : Kind} {sp : Space} {e : EltTy} {Val : EltTy → Type} {A B : ℕ}

/-- A store over a whole array of two axes, read back. -/
theorem store2 (v : View sig κ sp ⟨2, ![A, B]⟩ e) (f : v.ty.Contents Val)
    (inb : ∀ a, (![0, 0] : Fin 2 → ℕ) a + (![A, B] : Fin 2 → ℕ) a ≤ (⟨2, ![A, B]⟩ : Shape).size a)
    (w : (Rect.unit (s := ⟨2, ![A, B]⟩) ![0, 0] ![A, B] inb).shape.Idx → Val e) (L : List (View.Piece Val ⟨2, ![A, B]⟩ e)) (a : Fin A) (b : Fin B) :
    v.read Val (v.writes Val f (⟨Rect.unit (s := ⟨2, ![A, B]⟩) ![0, 0] ![A, B] inb, w⟩ :: L)) (ix2 a b) = w (ix2 a b) :=
  View.read_writes_cons_unit_of_mem v f inb w L (ix2 a b) (ix2 a b) rfl fun ax => by
    match ax with
    | ⟨0, _⟩ => exact (Nat.zero_add _).symm
    | ⟨1, _⟩ => exact (Nat.zero_add _).symm

/-- A load of a whole array of two axes. -/
theorem load2 (v : View sig κ sp ⟨2, ![A, B]⟩ e) (f : v.ty.Contents Val)
    (inb : ∀ a, (![0, 0] : Fin 2 → ℕ) a + (![A, B] : Fin 2 → ℕ) a ≤ (⟨2, ![A, B]⟩ : Shape).size a) (a : Fin A) (b : Fin B) :
    v.readAt Val (Rect.unit (s := ⟨2, ![A, B]⟩) ![0, 0] ![A, B] inb).toLoadRect f (ix2 a b) = v.read Val f (ix2 a b) := by
  show v.read Val f _ = _
  refine congrArg (v.read Val f) (funext fun ax => Fin.ext ?_)
  match ax with
  | ⟨0, _⟩ => show 0 + 1 * a.val = a.val; omega
  | ⟨1, _⟩ => show 0 + 1 * b.val = b.val; omega

/-- A load of a whole memory's array of two axes. -/
theorem load2_unread (arg : Memref sig κ sp ⟨2, ![A, B]⟩ e) (harg : arg.IsWhole) (x : (⟨2, ![A, B]⟩ : Shape).Idx → Val e)
    (inb : ∀ a, (![0, 0] : Fin 2 → ℕ) a + (![A, B] : Fin 2 → ℕ) a ≤ (⟨2, ![A, B]⟩ : Shape).size a) (a : Fin A) (b : Fin B) :
    arg.view.readAt Val (Rect.unit (s := ⟨2, ![A, B]⟩) ![0, 0] ![A, B] inb).toLoadRect (harg.unread x) (ix2 a b) = x (ix2 a b) := by
  rw [load2, harg.read_unread]

/-- A load of one plane of a whole memory's array of planes. -/
theorem load3_unread {n : ℕ} (arg : Memref sig κ sp ⟨3, ![n, A, B]⟩ e) (harg : arg.IsWhole) (x : (⟨3, ![n, A, B]⟩ : Shape).Idx → Val e) (j : Fin n) (o : ℕ) (ho : j.val = o)
    (inb : ∀ a, (![o, 0, 0] : Fin 3 → ℕ) a + (![1, A, B] : Fin 3 → ℕ) a ≤ (⟨3, ![n, A, B]⟩ : Shape).size a) (a : Fin A) (b : Fin B) :
    arg.view.readAt Val (Rect.unit (s := ⟨3, ![n, A, B]⟩) ![o, 0, 0] ![1, A, B] inb).toLoadRect (harg.unread x) (ix3 (n0 := 1) 0 a b) = x (ix3 j a b) := by
  refine (Cert.Kernel4Ideal.Hand.plane_load arg.view (harg.unread x) j o 0 ho inb a b a b rfl (by omega)).trans ?_
  rw [harg.read_unread]

end Mem

/-! ## One grid point -/

section Point

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2x1024x384 .bf16) (harg4 : arg4.IsWhole) (arg5 : Memref sig .tc .vmem S2x1024x384 .bf16) (harg5 : arg5.IsWhole) (arg6 : Memref sig .tc .vmem S2x384x1024 .bf16) (harg6 : arg6.IsWhole) (arg7 : Memref sig .tc .vmem S1x1024x768 .f32) (harg7 : arg7.IsWhole) (arg8 : Memref sig .tc .vmem S1x1024x768 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole)
    (x0 : Vec Ideal S1024x1024 .f32) (x1 : Vec Ideal S1x1024 .f32) (x2 : Vec Ideal S2x1024x384 .bf16) (x3 : Vec Ideal S2x1024x384 .bf16) (x4 : Vec Ideal S2x384x1024 .bf16) (xs0 : Vec Ideal S1024x1024 .bf16) (xs1 : Vec Ideal S1024x1024 .f32) (a d : Fin 1024) (y : Fin 768)

/-- A projection's columns from the loads of its operands. -/
theorem proj_load (arg : Memref sig .tc .vmem S2x1024x384 .bf16) (harg : arg.IsWhole) (x : Vec Ideal S2x1024x384 .bf16) (h : Vec Ideal S1024x1024 .bf16) (r : Fin 1024 → EReal) (hr : ∀ d, h (ix2 a d) = r d)
    (inb0 : ∀ a, (![0, 0, 0] : Fin 3 → ℕ) a + (![1, 1024, 384] : Fin 3 → ℕ) a ≤ S2x1024x384.size a)
    (inb1 : ∀ a, (![1, 0, 0] : Fin 3 → ℕ) a + (![1, 1024, 384] : Fin 3 → ℕ) a ≤ S2x1024x384.size a) :
    k0_pay5 (F := Ideal) h (View.readAt (Elt Ideal) arg.view (Rect.unit (s := S2x1024x384) ![0, 0, 0] ![1, 1024, 384] inb0).toLoadRect (harg.unread x))
      (View.readAt (Elt Ideal) arg.view (Rect.unit (s := S2x1024x384) ![1, 0, 0] ![1, 1024, 384] inb1).toLoadRect (harg.unread x)) (ix2 a y) = proj r x y := by
  rw [← funext hr]
  exact pay5_apply _ _ _ x (fun d e => load3_unread arg harg x 0 0 rfl _ d e) (fun d e => load3_unread arg harg x 1 1 rfl _ d e) a y

/-- The accumulator's new value from the loads of the operands. -/
theorem down_load (v9 v16 v25 v26 : FVec Ideal S1024x768 .f32) (z : Vec Ideal S1024x1024 .f32)
    (inb0 : ∀ a, (![0, 0, 0] : Fin 3 → ℕ) a + (![1, 384, 1024] : Fin 3 → ℕ) a ≤ S2x384x1024.size a)
    (inb1 : ∀ a, (![1, 0, 0] : Fin 3 → ℕ) a + (![1, 384, 1024] : Fin 3 → ℕ) a ≤ S2x384x1024.size a)
    (g u : Fin 768 → EReal) (z' : EReal) (h9 : ∀ y, v9 (ix2 a y) = g y) (h16 : ∀ y, v16 (ix2 a y) = u y) (h25 : ∀ y, v25 (ix2 a y) = Ideal.exp (-g y))
    (h26 : ∀ y, v26 (ix2 a y) = 1) (hz : z (ix2 a d) = z') :
    k0_pay1 (F := Ideal) v9 v16 v25 v26 z (View.readAt (Elt Ideal) arg6.view (Rect.unit (s := S2x384x1024) ![0, 0, 0] ![1, 384, 1024] inb0).toLoadRect (harg6.unread x4))
      (View.readAt (Elt Ideal) arg6.view (Rect.unit (s := S2x384x1024) ![1, 0, 0] ![1, 384, 1024] inb1).toLoadRect (harg6.unread x4)) (ix2 a d) = z' + down g u x4 d :=
  pay1_apply v9 v16 v25 v26 z _ _ x4 (fun e d => load3_unread arg6 harg6 x4 0 0 rfl _ e d) (fun e d => load3_unread arg6 harg6 x4 1 1 rfl _ e d) a d g u z' h9 h16 h25 h26 hz

/-- The gate's columns of a point that finds the normalised rows. -/
theorem gate_B (hc0 : ¬cond0_0 i) (hc1 : ¬cond0_1 i) :
    out0_B_5 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix3 0 a y) = proj (fun d => xs0 (ix2 a d)) x2 y := by
  unfold out0_B_5 kernelRun0_B
  dsimp only
  refine (Cert.Kernel4Ideal.Hand.plane_hit _ _ (0 : Fin 1) 0 rfl _ _ _ a y).trans ?_
  refine (pay7_apply _ _ _ a y).trans ?_
  exact proj_load a y arg4 harg4 x2 _ _ (fun d => load2_unread arg10 harg10 xs0 _ a d) _ _

theorem up_B (hc0 : ¬cond0_0 i) (hc1 : ¬cond0_1 i) :
    out0_B_6 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix3 0 a y) = proj (fun d => xs0 (ix2 a d)) x3 y := by
  unfold out0_B_6 kernelRun0_B
  dsimp only
  refine (Cert.Kernel4Ideal.Hand.plane_hit _ _ (0 : Fin 1) 0 rfl _ _ _ a y).trans ?_
  refine (pay8_apply _ _ _ a y).trans ?_
  exact proj_load a y arg5 harg5 x3 _ _ (fun d => load2_unread arg10 harg10 xs0 _ a d) _ _

theorem gate_C (hc0 : ¬cond0_0 i) (hc1 : cond0_1 i) :
    out0_C_5 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix3 0 a y) = proj (fun d => xs0 (ix2 a d)) x2 y := by
  unfold out0_C_5 kernelRun0_C
  dsimp only
  refine (Cert.Kernel4Ideal.Hand.plane_hit _ _ (0 : Fin 1) 0 rfl _ _ _ a y).trans ?_
  refine (pay7_apply _ _ _ a y).trans ?_
  exact proj_load a y arg4 harg4 x2 _ _ (fun d => load2_unread arg10 harg10 xs0 _ a d) _ _

theorem up_C (hc0 : ¬cond0_0 i) (hc1 : cond0_1 i) :
    out0_C_6 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix3 0 a y) = proj (fun d => xs0 (ix2 a d)) x3 y := by
  unfold out0_C_6 kernelRun0_C
  dsimp only
  refine (Cert.Kernel4Ideal.Hand.plane_hit _ _ (0 : Fin 1) 0 rfl _ _ _ a y).trans ?_
  refine (pay8_apply _ _ _ a y).trans ?_
  exact proj_load a y arg5 harg5 x3 _ _ (fun d => load2_unread arg10 harg10 xs0 _ a d) _ _

/-- What a middle point leaves in the accumulator. -/
theorem acc_B (hc0 : ¬cond0_0 i) (hc1 : ¬cond0_1 i) :
    sout0_B_1 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix2 a d)
      = xs1 (ix2 a d) + down (proj (fun d => xs0 (ix2 a d)) x2) (proj (fun d => xs0 (ix2 a d)) x3) x4 d := by
  unfold sout0_B_1 kernelRun0_B
  dsimp only
  unfold kernelRun0_B.sl.r kernelRun0_B.sl.r_1 kernelRun0_B.sl.r_2
  refine (store2 _ _ _ _ _ a d).trans ?_
  refine down_load arg6 harg6 x4 a d _ _ _ _ _ _ _ _ _ _ (fun y => ?_) (fun y => ?_) (fun y => ?_) (fun y => pay10_apply a y) (load2_unread arg11 harg11 xs1 _ a d)
  · exact proj_load a y arg4 harg4 x2 _ _ (fun d => load2_unread arg10 harg10 xs0 _ a d) _ _
  · exact proj_load a y arg5 harg5 x3 _ _ (fun d => load2_unread arg10 harg10 xs0 _ a d) _ _
  · exact (pay9_apply _ _ _ a y).trans (congrArg (fun z => Ideal.exp (-z)) (proj_load a y arg4 harg4 x2 _ _ (fun d => load2_unread arg10 harg10 xs0 _ a d) _ _))

/-- The last point's store into the accumulator, read through any view. -/
theorem acc_C_read (v : View sig .tc .vmem S1024x1024 .f32) (f : v.ty.Contents (Elt Ideal)) :
    v.read (Elt Ideal) (v.writes (Elt Ideal) f (kernelRun0_C.sl.HS1_1 (F := Ideal) c arg4 harg4 arg5 harg5 arg6 harg6 arg10 harg10 arg11 harg11 x2 x3 x4 xs0 xs1)) (ix2 a d)
      = xs1 (ix2 a d) + down (proj (fun d => xs0 (ix2 a d)) x2) (proj (fun d => xs0 (ix2 a d)) x3) x4 d := by
  unfold kernelRun0_C.sl.HS1_1 kernelRun0_C.sl.r kernelRun0_C.sl.r_1 kernelRun0_C.sl.r_2
  refine (store2 _ _ _ _ _ a d).trans ?_
  refine down_load arg6 harg6 x4 a d _ _ _ _ _ _ _ _ _ _ (fun y => ?_) (fun y => ?_) (fun y => ?_) (fun y => pay10_apply a y) (load2_unread arg11 harg11 xs1 _ a d)
  · exact proj_load a y arg4 harg4 x2 _ _ (fun d => load2_unread arg10 harg10 xs0 _ a d) _ _
  · exact proj_load a y arg5 harg5 x3 _ _ (fun d => load2_unread arg10 harg10 xs0 _ a d) _ _
  · exact (pay9_apply _ _ _ a y).trans (congrArg (fun z => Ideal.exp (-z)) (proj_load a y arg4 harg4 x2 _ _ (fun d => load2_unread arg10 harg10 xs0 _ a d) _ _))

/-- What the last point writes out. -/
theorem out_C (hc0 : ¬cond0_0 i) (hc1 : cond0_1 i) :
    out0_C_7 (F := Ideal) c i arg2 harg2 arg3 harg3 arg4 harg4 arg5 harg5 arg6 harg6 arg7 harg7 arg8 harg8 arg9 harg9 arg10 harg10 arg11 harg11 hc0 hc1 x0 x1 x2 x3 x4 xs0 xs1 (ix2 a d)
      = x0 (ix2 a d) + (xs1 (ix2 a d) + down (proj (fun d => xs0 (ix2 a d)) x2) (proj (fun d => xs0 (ix2 a d)) x3) x4 d) := by
  unfold out0_C_7 kernelRun0_C
  dsimp only
  refine (store2 _ _ _ _ _ a d).trans ((pay2_apply _ _ a d).trans (congrArg₂ (· + ·) (load2_unread arg2 harg2 x0 _ a d) ?_))
  unfold kernelRun0_C.sl.v48
  exact (load2 arg11.view _ _ a d).trans (acc_C_read c arg4 harg4 arg5 harg5 arg6 harg6 arg10 harg10 arg11 harg11 x2 x3 x4 xs0 xs1 a d _ _)

/-- The first point's store of the normalised rows, read through any view. -/
theorem rows_A_read (v : View sig .tc .vmem S1024x1024 .bf16) (f : v.ty.Contents (Elt Ideal)) :
    v.read (Elt Ideal) (v.writes (Elt Ideal) f (kernelRun0_A.sl.HS0_1 (F := Ideal) c arg2 harg2 arg3 harg3 x0 x1)) (ix2 a d) = nrm x0 x1 a d := by
  unfold kernelRun0_A.sl.HS0_1
  refine (store2 _ _ _ _ _ a d).trans ((pay3_apply _ _ a d).trans ?_)
  unfold nrm
  have hx : ∀ d, _ = x0 (ix2 a d) := fun d => load2_unread arg2 harg2 x0 inb_S1024x1024_S1024x1024_0_0 a d
  refine congrArg₂ (· * ·) (congrArg₂ (· * ·) (hx d) (congrArg (fun s => Ideal.rsqrt (Ideal.div s _ + _)) (Finset.sum_congr rfl fun k _ => congrArg₂ (· * ·) (hx k) (hx k)))) ?_
  exact load2_unread arg3 harg3 x1 inb_S1x1024_S1x1024_0_0 0 d

theorem rows_A_load : kernelRun0_A.sl.v3 (F := Ideal) c arg2 harg2 arg3 harg3 arg10 x0 x1 (ix2 a d) = nrm x0 x1 a d := by
  unfold kernelRun0_A.sl.v3
  exact (load2 arg10.view _ _ a d).trans (rows_A_read c arg2 harg2 arg3 harg3 x0 x1 a d _ _)

/-- What the first point leaves as the normalised rows. -/
theorem rows_A (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 hc0 hc1 x0 x1 x2 x3 x4 (ix2 a d) = nrm x0 x1 a d := by
  unfold sout0_A_0 kernelRun0_A
  dsimp only
  exact rows_A_read c arg2 harg2 arg3 harg3 x0 x1 a d _ _

theorem gate_A (hc0 : cond0_0 i) (hc1 : ¬cond0_1 i) :
    out0_A_5 (F := Ideal) c i arg2 harg2 arg3 harg3 arg4 harg4 arg5 harg5 arg6 harg6 arg7 harg7 arg8 harg8 arg9 harg9 arg10 harg10 arg11 harg11 hc0 hc1 x0 x1 x2 x3 x4 (ix3 0 a y) = proj (nrm x0 x1 a) x2 y := by
  unfold out0_A_5 kernelRun0_A
  dsimp only
  refine (Cert.Kernel4Ideal.Hand.plane_hit _ _ (0 : Fin 1) 0 rfl _ _ _ a y).trans ?_
  refine (pay7_apply _ _ _ a y).trans ?_
  exact proj_load a y arg4 harg4 x2 _ _ (fun d => rows_A_load c arg2 harg2 arg3 harg3 arg10 x0 x1 a d) _ _

theorem up_A (hc0 : cond0_0 i) (hc1 : ¬cond0_1 i) :
    out0_A_6 (F := Ideal) c i arg2 harg2 arg3 harg3 arg4 harg4 arg5 harg5 arg6 harg6 arg7 harg7 arg8 harg8 arg9 harg9 arg10 harg10 arg11 harg11 hc0 hc1 x0 x1 x2 x3 x4 (ix3 0 a y) = proj (nrm x0 x1 a) x3 y := by
  unfold out0_A_6 kernelRun0_A
  dsimp only
  refine (Cert.Kernel4Ideal.Hand.plane_hit _ _ (0 : Fin 1) 0 rfl _ _ _ a y).trans ?_
  refine (pay8_apply _ _ _ a y).trans ?_
  exact proj_load a y arg5 harg5 x3 _ _ (fun d => rows_A_load c arg2 harg2 arg3 harg3 arg10 x0 x1 a d) _ _

/-- What the first point leaves in the accumulator. -/
theorem acc_A (hc0 : cond0_0 i) (hc1 : ¬cond0_1 i) :
    sout0_A_1 (F := Ideal) c i arg2 harg2 arg3 harg3 arg4 harg4 arg5 harg5 arg6 harg6 arg7 harg7 arg8 harg8 arg9 harg9 arg10 harg10 arg11 harg11 hc0 hc1 x0 x1 x2 x3 x4 (ix2 a d)
      = 0 + down (proj (nrm x0 x1 a) x2) (proj (nrm x0 x1 a) x3) x4 d := by
  unfold sout0_A_1 kernelRun0_A
  dsimp only
  unfold kernelRun0_A.sl.r kernelRun0_A.sl.r_1 kernelRun0_A.sl.r_2 kernelRun0_A.sl.v33 kernelRun0_A.sl.HS1_1
  refine (store2 _ _ _ _ _ a d).trans ?_
  refine down_load arg6 harg6 x4 a d _ _ _ _ _ _ _ _ _ _ (fun y => ?_) (fun y => ?_) (fun y => ?_) (fun y => pay10_apply a y) ?_
  · exact proj_load a y arg4 harg4 x2 _ _ (fun d => rows_A_load c arg2 harg2 arg3 harg3 arg10 x0 x1 a d) _ _
  · exact proj_load a y arg5 harg5 x3 _ _ (fun d => rows_A_load c arg2 harg2 arg3 harg3 arg10 x0 x1 a d) _ _
  · exact (pay9_apply _ _ _ a y).trans (congrArg (fun z => Ideal.exp (-z)) (proj_load a y arg4 harg4 x2 _ _ (fun d => rows_A_load c arg2 harg2 arg3 harg3 arg10 x0 x1 a d) _ _))
  · exact (load2 arg11.view _ _ a d).trans ((store2 _ _ _ _ _ a d).trans (pay4_apply a d))

end Point

end Cert.Kernel3Ideal.Hand

end
-- ==== Proof.FfnRef.lean ====
/- The feed-forward reference's results at an index. -/
module

public import proofs.«01_k».proof.Proof.FfnTiles
public import proofs.«01_k».proof.Proof.Gen.Reference3Ideal.Run

@[expose] public section

noncomputable section

namespace Cert.Reference3Ideal.Hand

open Cert.Reference3Ideal Cert.Reference3Ideal.Gen Idealize.ShloMosaic Idealize.ShloMosaic.TcCoe Idealize.SL.Sem
open Cert.Kernel3Ideal.Hand (nrm act one)

variable (x : FVec Ideal S8192x1024 .f32) (g : FVec Ideal S1024 .f32) (w wg wu : FVec Ideal S1024x2816 .f32) (wd : FVec Ideal S2816x1024 .f32)
    (z u : FVec Ideal S8192x2816 .f32)

/-- The scale as one row. -/
def gain : FVec Ideal S1x1024 .f32 := broadcastInDim S1x1024 ![1] bcast_S1024_S1x1024_1 g

/-- The normalised rows. -/
def rows : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (gain g))

/-- A projection of the normalised rows. -/
def lin : FVec Ideal S8192x2816 .f32 := Host.dotGeneral dot_S8192x1024_S1024x2816_S8192x2816_1_0_0_1_n_n none (rows x g) w

/-- A projection's columns in four groups, each eighth of the columns followed by zeros. -/
def fours : FVec Ideal S4x8192x768 .f32 := transpose S4x8192x768 [1, 0, 2] (shapeCast S8192x4x768 (pad S8192x8x384 ![0, 0, 0] ![0, 0, 32] ![0, 0, 0] (shapeCast S8192x8x352 z shapeCasts_S8192x2816_S8192x8x352) (sitofp (F := Ideal) .f32 (constantI S_ 32 0#32)) pads_S8192x8x352_S8192x8x384_000_000_0320 h_S_) shapeCasts_S8192x8x384_S8192x4x768) transposes_S8192x4x768_S4x8192x768_1_0_2

/-- The gated activation. -/
def gated : FVec Ideal S8192x2816 .f32 :=
  mulf (mulf z (Host.divf (broadcastInDim S8192x2816 ![] bcast_S_S8192x2816 (constant S_ .f32 0x3F800000#32)) (addf (broadcastInDim S8192x2816 ![] bcast_S_S8192x2816 (constant S_ .f32 0x3F800000#32)) (Host.exp (Host.negf z))))) u

/-- The block's output. -/
def out : FVec Ideal S8192x1024 .f32 :=
  addf x (Host.dotGeneral dot_S8192x2816_S2816x1024_S8192x1024_1_0_0_1_n_n none (gated (lin x g wg) (lin x g wu)) wd)

/-- Column `y` of a projection. -/
def lot (h : Fin 1024 → EReal) (w : FVec Ideal S1024x2816 .f32) (y : Fin 2816) : EReal := ∑ d, h d * w (ix2 d y)

theorem zero_word : FloatOps.sitofp (F := Ideal) .f32 0#32 = (0 : EReal) := by
  show ((((0#32 : BitVec 32).toInt : ℤ) : ℝ) : EReal) = 0
  simp

theorem rows_apply (t : Fin 8192) (d : Fin 1024) : rows x g (ix2 t d) = nrm x (gain g) t d := by
  unfold nrm
  pointwise [rows]

theorem lin_apply (t : Fin 8192) (y : Fin 2816) : lin x g w (ix2 t y) = lot (nrm x (gain g) t) w y := by
  unfold lot
  pointwise [lin, dot_S8192x1024_S1024x2816_S8192x2816_1_0_0_1_n_n, rows_apply]

theorem fours_in (j : Fin 4) (t : Fin 8192) (f : Fin 768) (y : Fin 2816) (hf : f.val % 384 < 352) (hy : y.val = (j.val * 2 + f.val / 384) * 352 + f.val % 384) :
    fours z (ix3 j t f) = z (ix2 t y) := by
  pointwise [fours]
  rw [dif_pos ⟨by omega, hf⟩]
  exact congrArg (fun i => z (ix2 t i)) (Fin.ext hy.symm)

theorem fours_out (j : Fin 4) (t : Fin 8192) (f : Fin 768) (hf : ¬f.val % 384 < 352) : fours z (ix3 j t f) = 0 := by
  pointwise [fours]
  rw [dif_neg fun h => hf h.2]
  exact zero_word

theorem gated_apply (t : Fin 8192) (y : Fin 2816) : gated z u (ix2 t y) = act (z (ix2 t y)) (u (ix2 t y)) := by
  unfold act
  pointwise [gated, one]

theorem out_apply (t : Fin 8192) (d : Fin 1024) :
    out x g wg wu wd (ix2 t d) = x (ix2 t d) + ∑ y : Fin 2816, act (lot (nrm x (gain g) t) wg y) (lot (nrm x (gain g) t) wu y) * wd (ix2 y d) := by
  pointwise [out, dot_S8192x2816_S2816x1024_S8192x1024_1_0_0_1_n_n, gated_apply, lin_apply]

/-- A sum over all the columns with the zeros between them is the sum over the columns. -/
theorem sum_spread (s : Fin 3072 → EReal) (r : Fin 2816 → EReal) (h0 : ∀ y, ¬y.val % 384 < 352 → s y = 0)
    (h1 : ∀ (y : Fin 3072) (z : Fin 2816), y.val % 384 < 352 → z.val = y.val / 384 * 352 + y.val % 384 → s y = r z) : ∑ y, s y = ∑ z, r z := by
  rw [← Equiv.sum_comp (finProdFinEquiv (m := 8) (n := 384)), ← Equiv.sum_comp (finProdFinEquiv (m := 8) (n := 352)), Fintype.sum_prod_type, Fintype.sum_prod_type]
  refine Finset.sum_congr rfl fun q _ => ?_
  have hq : q.val < 8 := q.isLt
  refine (Fin.sum_univ_add (a := 352) (b := 32) _).trans ?_
  refine Eq.trans (congrArg₂ (· + ·) (Finset.sum_congr rfl fun e _ => ?_) (Finset.sum_eq_zero fun e _ => ?_)) (add_zero _)
  · have he : e.val < 352 := e.isLt
    refine h1 _ _ ?_ ?_
    · show (e.val + 384 * q.val) % 384 < 352
      omega
    · show e.val + 352 * q.val = (e.val + 384 * q.val) / 384 * 352 + (e.val + 384 * q.val) % 384
      omega
  · have he : e.val < 32 := e.isLt
    refine h0 _ ?_
    show ¬(352 + e.val + 384 * q.val) % 384 < 352
    omega

end Cert.Reference3Ideal.Hand

end
-- ==== Proof.FfnValue.lean ====
/- The feed-forward call and its reference at the exact arithmetic: both end with the gate, the up projection and the
   block's output, from any arguments. -/
module

public import proofs.«01_k».proof.Defs
public import proofs.«01_k».proof.Proof.FfnTiles
public import proofs.«01_k».proof.Proof.FfnRef
public import proofs.«01_k».proof.Proof.Gen.Kernel3Ideal.Value
public import Idealize.ShloMosaic.Lib.StableHlo.RunRead

@[expose] public section

set_option maxRecDepth 16384

noncomputable section

namespace Cert.Kernel3Ideal.Hand

open Cert.Kernel3Ideal Cert.Kernel3Ideal.Gen Idealize.ShloMosaic Idealize.ShloMosaic.TcCoe Idealize.SL.Sem Idealize.ShloMosaic.StableHlo
open Cert.Reference3Ideal.Hand (gain lin fours out lot fours_in fours_out lin_apply out_apply sum_spread)

/-- Column `y` of a projection by a weight cut in eight pieces. -/
def col (h : Fin 1024 → EReal) (w : Vec Ideal S8x1024x384 .bf16) (y : Fin 3072) : EReal :=
  ∑ d, h d * w (ix3 ⟨y.val / 384, by omega⟩ d ⟨y.val % 384, by omega⟩)

/-- A sum over all the columns is the sum over the four groups of the sums over each. -/
theorem sum_groups (g : Fin 3072 → EReal) : ∑ t, g t = ∑ i : Fin 4, ∑ k : Fin 768, g ⟨i.val * 768 + k.val, by omega⟩ := by
  rw [← Fintype.sum_prod_type', ← Equiv.sum_comp (finProdFinEquiv (m := 4) (n := 768))]
  refine Finset.sum_congr rfl fun x _ => congrArg g (Fin.ext ?_)
  show x.2.val + 768 * x.1.val = x.1.val * 768 + x.2.val
  omega

/-- The column of a whole projection that is column `y` of group `f`. -/
def at4 (f : ℕ) (y : Fin 768) : Fin 3072 := ⟨f % 4 * 768 + y.val, by omega⟩
/-- The row of the whole array that is row `a` of the tile of point `n`. -/
def atRow (n : ℕ) (a : Fin 1024) : Fin 8192 := ⟨n / 4 % 8 * 1024 + a.val, by omega⟩

theorem index0 : ∀ t : Fin cfg0.N, win0_0.index t = ![t.val / 4 % 8, 0] := by decide +kernel
theorem index1 : ∀ t : Fin cfg0.N, win0_1.index t = ![0, 0] := by decide +kernel
theorem index2 : ∀ t : Fin cfg0.N, win0_2.index t = ![t.val % 4, 0, 0] := by decide +kernel
theorem index3 : ∀ t : Fin cfg0.N, win0_3.index t = ![t.val % 4, 0, 0] := by decide +kernel
theorem index4 : ∀ t : Fin cfg0.N, win0_4.index t = ![t.val % 4, 0, 0] := by decide +kernel

variable (m : (ℓ : Loc nD τ sig) → Buf (Elt Ideal) ℓ) (ρ : Dev nD → PrngReg) (c : Dev nD)

/-! ## Where the blocks lie -/

/-- The activations, the scale, and the three weights in eight pieces, as the call is handed them. -/
abbrev argX : Vec Ideal S8192x1024 .f32 := m ((c : Thread nD τ).loc main_arg0)
abbrev argS : Vec Ideal S1x1024 .f32 := V m c main_v0
abbrev argG : Vec Ideal S8x1024x384 .bf16 := V m c main_v4
abbrev argU : Vec Ideal S8x1024x384 .bf16 := V m c main_v8
abbrev argD : Vec Ideal S8x384x1024 .bf16 := V m c main_v11

theorem blk_x (t : Fin cfg0.N) (a d : Fin 1024) : (iblk m c 0 t : Vec Ideal S1024x1024 .f32) (ix2 a d) = argX m c (ix2 (atRow t.val a) d) := by
  have hi := index0 t
  unfold iblk
  rw [View.read_apply]
  show V m c main_arg0 _ = _
  refine congrArg (m ((c : Thread nD τ).loc main_arg0)) (funext fun ax => Fin.ext ?_)
  match ax with
  | ⟨0, _⟩ => show win0_0.index t 0 * 1024 + 1 * a.val = t.val / 4 % 8 * 1024 + a.val; rw [hi]; show t.val / 4 % 8 * 1024 + 1 * a.val = _; omega
  | ⟨1, _⟩ => show win0_0.index t 1 * 1024 + 1 * d.val = d.val; rw [hi]; show 0 * 1024 + 1 * d.val = d.val; omega

theorem blk_s (t : Fin cfg0.N) (d : Fin 1024) : (iblk m c 1 t : Vec Ideal S1x1024 .f32) (ix2 0 d) = argS m c (ix2 0 d) := by
  have hi := index1 t
  unfold iblk
  rw [View.read_apply]
  show V m c main_v0 _ = _
  refine congrArg (V m c main_v0) (funext fun ax => Fin.ext ?_)
  match ax with
  | ⟨0, _⟩ => show win0_1.index t 0 * 1 + 1 * 0 = 0; rw [hi]; rfl
  | ⟨1, _⟩ => show win0_1.index t 1 * 1024 + 1 * d.val = d.val; rw [hi]; show 0 * 1024 + 1 * d.val = d.val; omega

theorem blk_g (t : Fin cfg0.N) (s : Fin 2) (d : Fin 1024) (e : Fin 384) (q : Fin 8) (hq : q.val = t.val % 4 * 2 + s.val) :
    (iblk m c 2 t : Vec Ideal S2x1024x384 .bf16) (ix3 s d e) = argG m c (ix3 q d e) := by
  have hi := index2 t
  unfold iblk
  rw [View.read_apply]
  show V m c main_v4 _ = _
  refine congrArg (V m c main_v4) (funext fun ax => Fin.ext ?_)
  match ax with
  | ⟨0, _⟩ => show win0_2.index t 0 * 2 + 1 * s.val = q.val; rw [hi]; show t.val % 4 * 2 + 1 * s.val = _; omega
  | ⟨1, _⟩ => show win0_2.index t 1 * 1024 + 1 * d.val = d.val; rw [hi]; show 0 * 1024 + 1 * d.val = d.val; omega
  | ⟨2, _⟩ => show win0_2.index t 2 * 384 + 1 * e.val = e.val; rw [hi]; show 0 * 384 + 1 * e.val = e.val; omega

theorem blk_u (t : Fin cfg0.N) (s : Fin 2) (d : Fin 1024) (e : Fin 384) (q : Fin 8) (hq : q.val = t.val % 4 * 2 + s.val) :
    (iblk m c 3 t : Vec Ideal S2x1024x384 .bf16) (ix3 s d e) = argU m c (ix3 q d e) := by
  have hi := index3 t
  unfold iblk
  rw [View.read_apply]
  show V m c main_v8 _ = _
  refine congrArg (V m c main_v8) (funext fun ax => Fin.ext ?_)
  match ax with
  | ⟨0, _⟩ => show win0_3.index t 0 * 2 + 1 * s.val = q.val; rw [hi]; show t.val % 4 * 2 + 1 * s.val = _; omega
  | ⟨1, _⟩ => show win0_3.index t 1 * 1024 + 1 * d.val = d.val; rw [hi]; show 0 * 1024 + 1 * d.val = d.val; omega
  | ⟨2, _⟩ => show win0_3.index t 2 * 384 + 1 * e.val = e.val; rw [hi]; show 0 * 384 + 1 * e.val = e.val; omega

theorem blk_d (t : Fin cfg0.N) (s : Fin 2) (e : Fin 384) (d : Fin 1024) (q : Fin 8) (hq : q.val = t.val % 4 * 2 + s.val) :
    (iblk m c 4 t : Vec Ideal S2x384x1024 .bf16) (ix3 s e d) = argD m c (ix3 q e d) := by
  have hi := index4 t
  unfold iblk
  rw [View.read_apply]
  show V m c main_v11 _ = _
  refine congrArg (V m c main_v11) (funext fun ax => Fin.ext ?_)
  match ax with
  | ⟨0, _⟩ => show win0_4.index t 0 * 2 + 1 * s.val = q.val; rw [hi]; show t.val % 4 * 2 + 1 * s.val = _; omega
  | ⟨1, _⟩ => show win0_4.index t 1 * 384 + 1 * e.val = e.val; rw [hi]; show 0 * 384 + 1 * e.val = e.val; omega
  | ⟨2, _⟩ => show win0_4.index t 2 * 1024 + 1 * d.val = d.val; rw [hi]; show 0 * 1024 + 1 * d.val = d.val; omega

/-- The normalised row of the whole array. -/
def row (r : Fin 8192) : Fin 1024 → EReal := nrm (argX m c) (argS m c) r

theorem row_blk (t : Fin cfg0.N) (a : Fin 1024) : nrm (iblk m c 0 t) (iblk m c 1 t) a = row m c (atRow t.val a) := by
  funext d
  unfold row nrm
  refine congrArg₂ (· * ·) (congrArg₂ (· * ·) (blk_x m c t a d) (congrArg (fun s => Ideal.rsqrt (Ideal.div s _ + _)) (Finset.sum_congr rfl fun k _ => congrArg₂ (· * ·) (blk_x m c t a k) (blk_x m c t a k)))) ?_
  exact blk_s m c t d

theorem gate_blk (t : Fin cfg0.N) (h : Fin 1024 → EReal) (y : Fin 768) : proj h (iblk m c 2 t) y = col h (argG m c) (at4 t.val y) := by
  unfold proj col
  refine Finset.sum_congr rfl fun d _ => congrArg (h d * ·) ?_
  rw [blk_g m c t ⟨y.val / 384, by omega⟩ d ⟨y.val % 384, by omega⟩ ⟨(at4 t.val y).val / 384, by omega⟩
    (by show (t.val % 4 * 768 + y.val) / 384 = t.val % 4 * 2 + y.val / 384; omega)]
  exact congrArg (fun e => argG m c (ix3 _ d e)) (Fin.ext (by show y.val % 384 = (t.val % 4 * 768 + y.val) % 384; omega))

theorem up_blk (t : Fin cfg0.N) (h : Fin 1024 → EReal) (y : Fin 768) : proj h (iblk m c 3 t) y = col h (argU m c) (at4 t.val y) := by
  unfold proj col
  refine Finset.sum_congr rfl fun d _ => congrArg (h d * ·) ?_
  rw [blk_u m c t ⟨y.val / 384, by omega⟩ d ⟨y.val % 384, by omega⟩ ⟨(at4 t.val y).val / 384, by omega⟩
    (by show (t.val % 4 * 768 + y.val) / 384 = t.val % 4 * 2 + y.val / 384; omega)]
  exact congrArg (fun e => argU m c (ix3 _ d e)) (Fin.ext (by show y.val % 384 = (t.val % 4 * 768 + y.val) % 384; omega))

/-- One term of the down projection. -/
def term (h : Fin 1024 → EReal) (d : Fin 1024) (y : Fin 3072) : EReal :=
  act (col h (argG m c) y) (col h (argU m c) y) * argD m c (ix3 ⟨y.val / 384, by omega⟩ ⟨y.val % 384, by omega⟩ d)

/-- What group `f` of the columns adds to the down projection. -/
def part (h : Fin 1024 → EReal) (d : Fin 1024) (f : ℕ) : EReal := ∑ y : Fin 768, term m c h d (at4 f y)

theorem down_blk (t : Fin cfg0.N) (h : Fin 1024 → EReal) (d : Fin 1024) : down (proj h (iblk m c 2 t)) (proj h (iblk m c 3 t)) (iblk m c 4 t) d = part m c h d (t.val % 4) := by
  unfold down part term
  refine Finset.sum_congr rfl fun y _ => ?_
  have e4 : at4 (t.val % 4) y = at4 t.val y := Fin.ext (by show t.val % 4 % 4 * 768 + y.val = t.val % 4 * 768 + y.val; omega)
  rw [gate_blk, up_blk, e4]
  refine congrArg (act (col h (argG m c) (at4 t.val y)) (col h (argU m c) (at4 t.val y)) * ·) ?_
  rw [blk_d m c t ⟨y.val / 384, by omega⟩ ⟨y.val % 384, by omega⟩ d ⟨(at4 t.val y).val / 384, by omega⟩
    (by show (t.val % 4 * 768 + y.val) / 384 = t.val % 4 * 2 + y.val / 384; omega)]
  exact congrArg (fun e => argD m c (ix3 _ e d)) (Fin.ext (by show y.val % 384 = (t.val % 4 * 768 + y.val) % 384; omega))

/-- The four groups make up the whole down projection. -/
theorem parts_sum (h : Fin 1024 → EReal) (d : Fin 1024) : ∑ f ∈ Finset.range 4, part m c h d f = ∑ y, term m c h d y := by
  rw [sum_groups, Finset.sum_range]
  refine Finset.sum_congr rfl fun i _ => Finset.sum_congr rfl fun k _ => congrArg (term m c h d) (Fin.ext ?_)
  show i.val % 4 * 768 + k.val = i.val * 768 + k.val
  omega

/-! ## The state after each point -/

/-- What the outputs and the scratch hold. -/
abbrev State := Vec Ideal S1x1024x768 .f32 × Vec Ideal S1x1024x768 .f32 × Vec Ideal S1024x1024 .f32 × Vec Ideal S1024x1024 .bf16 × Vec Ideal S1024x1024 .f32

section Steps

variable (t : Fin cfg0.N) (acc : State) (a d : Fin 1024) (y : Fin 768)

theorem rows_first (h0 : t.val % 4 = 0) : (Value.stAt0 m c t.val t.isLt acc).2.2.2.1 (ix2 a d) = row m c (atRow t.val a) d := by
  rw [Value.stAt0_A m c t acc h0 (by omega), ← row_blk]
  dsimp only
  exact rows_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) a d _ _

theorem rows_next (h0 : ¬t.val % 4 = 0) : (Value.stAt0 m c t.val t.isLt acc).2.2.2.1 = acc.2.2.2.1 := by
  by_cases h1 : t.val % 4 = 3
  · rw [Value.stAt0_C m c t acc h0 h1]
    rfl
  · rw [Value.stAt0_B m c t acc h0 h1]
    rfl

theorem acc_first (h0 : t.val % 4 = 0) : (Value.stAt0 m c t.val t.isLt acc).2.2.2.2 (ix2 a d) = 0 + part m c (row m c (atRow t.val a)) d (t.val % 4) := by
  rw [Value.stAt0_A m c t acc h0 (by omega), ← row_blk, ← down_blk]
  dsimp only
  exact acc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) a d _ _

theorem acc_next (h0 : ¬t.val % 4 = 0) (h1 : ¬t.val % 4 = 3) (hr : ∀ d, acc.2.2.2.1 (ix2 a d) = row m c (atRow t.val a) d) :
    (Value.stAt0 m c t.val t.isLt acc).2.2.2.2 (ix2 a d) = acc.2.2.2.2 (ix2 a d) + part m c (row m c (atRow t.val a)) d (t.val % 4) := by
  rw [Value.stAt0_B m c t acc h0 h1, ← funext hr, ← down_blk]
  dsimp only
  exact acc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) acc.2.2.2.1 acc.2.2.2.2 a d _ _

theorem out_last (h1 : t.val % 4 = 3) (hr : ∀ d, acc.2.2.2.1 (ix2 a d) = row m c (atRow t.val a) d) :
    (Value.stAt0 m c t.val t.isLt acc).2.2.1 (ix2 a d) = argX m c (ix2 (atRow t.val a) d) + (acc.2.2.2.2 (ix2 a d) + part m c (row m c (atRow t.val a)) d (t.val % 4)) := by
  rw [Value.stAt0_C m c t acc (by omega) h1, ← funext hr, ← down_blk, ← blk_x]
  dsimp only
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) acc.2.2.2.1 acc.2.2.2.2 a d _ _

theorem gate_step (hr : ¬t.val % 4 = 0 → ∀ d, acc.2.2.2.1 (ix2 a d) = row m c (atRow t.val a) d) :
    (Value.stAt0 m c t.val t.isLt acc).1 (ix3 0 a y) = col (row m c (atRow t.val a)) (argG m c) (at4 t.val y) := by
  rw [← gate_blk]
  by_cases h0 : t.val % 4 = 0
  · rw [Value.stAt0_A m c t acc h0 (by omega), ← row_blk]
    dsimp only
    exact gate_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) a y _ _
  · rw [← funext (hr h0)]
    by_cases h1 : t.val % 4 = 3
    · rw [Value.stAt0_C m c t acc h0 h1]
      dsimp only
      exact gate_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) acc.2.2.2.1 acc.2.2.2.2 a y _ _
    · rw [Value.stAt0_B m c t acc h0 h1]
      dsimp only
      exact gate_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) acc.2.2.2.1 acc.2.2.2.2 a y _ _

theorem up_step (hr : ¬t.val % 4 = 0 → ∀ d, acc.2.2.2.1 (ix2 a d) = row m c (atRow t.val a) d) :
    (Value.stAt0 m c t.val t.isLt acc).2.1 (ix3 0 a y) = col (row m c (atRow t.val a)) (argU m c) (at4 t.val y) := by
  rw [← up_blk]
  by_cases h0 : t.val % 4 = 0
  · rw [Value.stAt0_A m c t acc h0 (by omega), ← row_blk]
    dsimp only
    exact up_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) a y _ _
  · rw [← funext (hr h0)]
    by_cases h1 : t.val % 4 = 3
    · rw [Value.stAt0_C m c t acc h0 h1]
      dsimp only
      exact up_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) acc.2.2.2.1 acc.2.2.2.2 a y _ _
    · rw [Value.stAt0_B m c t acc h0 h1]
      dsimp only
      exact up_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) acc.2.2.2.1 acc.2.2.2.2 a y _ _

end Steps

/-- A point that is not the first of its row tile has the tile of the point before. -/
theorem atRow_succ (n : ℕ) (h : ¬(n + 1) % 4 = 0) (a : Fin 1024) : atRow (n + 1) a = atRow n a :=
  Fin.ext (by show (n + 1) / 4 % 8 * 1024 + a.val = n / 4 % 8 * 1024 + a.val; omega)

/-- The normalised rows after any point. -/
theorem rows_after (n : ℕ) (h : n < cfg0.N) (a d : Fin 1024) : (outsAt0 m c n h).2.2.2.1 (ix2 a d) = row m c (atRow n a) d := by
  induction n with
  | zero =>
    rw [Value.outsAt0_zero]
    exact rows_first m c ⟨0, h⟩ _ a d rfl
  | succ n ih =>
    rw [Value.outsAt0_succ]
    by_cases h0 : (n + 1) % 4 = 0
    · exact rows_first m c ⟨n + 1, h⟩ _ a d h0
    · rw [atRow_succ n h0, ← ih (Nat.lt_of_succ_lt h)]
      exact congrFun (rows_next m c ⟨n + 1, h⟩ _ h0) _

/-- The accumulator after any point but the last of a row tile. -/
theorem acc_after (n : ℕ) (h : n < cfg0.N) (h1 : ¬n % 4 = 3) (a d : Fin 1024) :
    (outsAt0 m c n h).2.2.2.2 (ix2 a d) = ∑ f ∈ Finset.range (n % 4 + 1), part m c (row m c (atRow n a)) d f := by
  induction n with
  | zero =>
    rw [Value.outsAt0_zero, Finset.sum_range_one]
    exact (acc_first m c ⟨0, h⟩ _ a d rfl).trans (zero_add _)
  | succ n ih =>
    rw [Value.outsAt0_succ]
    by_cases h0 : (n + 1) % 4 = 0
    · rw [h0, Finset.sum_range_one]
      refine (acc_first m c ⟨n + 1, h⟩ _ a d h0).trans ((zero_add _).trans ?_)
      show part m c _ d ((n + 1) % 4) = _
      rw [h0]
    · rw [Finset.sum_range_succ, atRow_succ n h0, show (n + 1) % 4 = n % 4 + 1 by omega, ← ih (Nat.lt_of_succ_lt h) (by omega)]
      refine (acc_next m c ⟨n + 1, h⟩ (outsAt0 m c n (Nat.lt_of_succ_lt h)) a d h0 h1 (fun d => ?_)).trans ?_
      · rw [rows_after]
        show _ = row m c (atRow (n + 1) a) d
        rw [atRow_succ n h0]
      · show _ + part m c (row m c (atRow (n + 1) a)) d ((n + 1) % 4) = _
        rw [atRow_succ n h0, show (n + 1) % 4 = n % 4 + 1 by omega]

theorem gate_after (n : ℕ) (h : n < cfg0.N) (a : Fin 1024) (y : Fin 768) : (outsAt0 m c n h).1 (ix3 0 a y) = col (row m c (atRow n a)) (argG m c) (at4 n y) := by
  cases n with
  | zero =>
    rw [Value.outsAt0_zero]
    exact gate_step m c ⟨0, h⟩ _ a y (fun h0 => absurd rfl h0)
  | succ n =>
    rw [Value.outsAt0_succ]
    refine gate_step m c ⟨n + 1, h⟩ _ a y (fun h0 d => ?_)
    rw [rows_after]
    exact congrArg (fun r => row m c r d) (atRow_succ n h0 a).symm

theorem up_after (n : ℕ) (h : n < cfg0.N) (a : Fin 1024) (y : Fin 768) : (outsAt0 m c n h).2.1 (ix3 0 a y) = col (row m c (atRow n a)) (argU m c) (at4 n y) := by
  cases n with
  | zero =>
    rw [Value.outsAt0_zero]
    exact up_step m c ⟨0, h⟩ _ a y (fun h0 => absurd rfl h0)
  | succ n =>
    rw [Value.outsAt0_succ]
    refine up_step m c ⟨n + 1, h⟩ _ a y (fun h0 d => ?_)
    rw [rows_after]
    exact congrArg (fun r => row m c r d) (atRow_succ n h0 a).symm

theorem out_after (n : ℕ) (h : n + 1 < cfg0.N) (h1 : (n + 1) % 4 = 3) (a d : Fin 1024) :
    (outsAt0 m c (n + 1) h).2.2.1 (ix2 a d) = argX m c (ix2 (atRow (n + 1) a) d) + ∑ y, term m c (row m c (atRow (n + 1) a)) d y := by
  have h0 : ¬(n + 1) % 4 = 0 := by omega
  have h2 : n % 4 = 2 := by omega
  rw [Value.outsAt0_succ, ← parts_sum, Finset.sum_range_succ]
  refine (out_last m c ⟨n + 1, h⟩ (outsAt0 m c n (Nat.lt_of_succ_lt h)) a d h1 (fun d => ?_)).trans ?_
  · rw [rows_after]
    exact congrArg (fun r => row m c r d) (atRow_succ n h0 a).symm
  · refine congrArg (_ + ·) ?_
    show _ + part m c (row m c (atRow (n + 1) a)) d ((n + 1) % 4) = _
    rw [h1, acc_after m c n _ (by omega), h2, atRow_succ n h0]

/-! ## What the host hands the call -/

/-- A weight's columns in eight pieces, each followed by zeros. -/
def colPieces (w : FVec Ideal S1024x2816 .f32) : FVec Ideal S8x1024x384 .bf16 :=
  pad S8x1024x384 ![0, 0, 0] ![0, 0, 32] ![0, 0, 0] (transpose S8x1024x352 [1, 0, 2] (shapeCast S1024x8x352 (truncf .bf16 w bitsLt_bf16_f32) shapeCasts_S1024x2816_S1024x8x352) transposes_S1024x8x352_S8x1024x352_1_0_2) (sitofp (F := Ideal) .bf16 (constantI S_ 32 0#32)) pads_S8x1024x352_S8x1024x384_000_000_0320 h_S_
/-- A weight's rows in eight pieces, each followed by zeros. -/
def rowPieces (w : FVec Ideal S2816x1024 .f32) : FVec Ideal S8x384x1024 .bf16 :=
  pad S8x384x1024 ![0, 0, 0] ![0, 32, 0] ![0, 0, 0] (shapeCast S8x352x1024 (truncf .bf16 w bitsLt_bf16_f32) shapeCasts_S2816x1024_S8x352x1024) (sitofp (F := Ideal) .bf16 (constantI S_ 32 0#32)) pads_S8x352x1024_S8x384x1024_000_0320_000 h_S_

theorem V_s : argS m c = gain (m ((c : Thread nD τ).loc main_arg1)) := by
  simp only [argS, V, hostOps0, hostOps0_1, hostOps0_2, hostOps0_3, hostOps0_4, hostOps0_5, List.flatten_cons, List.flatten_nil, List.append_nil, List.cons_append, List.nil_append,
    TRef.binary, TRef.unary, TRef.toBuf, TRef.ofBuf, cast_eq]
  after_results_simp
  rfl

theorem V_g : argG m c = colPieces (m ((c : Thread nD τ).loc main_arg2)) := by
  simp only [argG, V, hostOps0, hostOps0_1, hostOps0_2, hostOps0_3, hostOps0_4, hostOps0_5, List.flatten_cons, List.flatten_nil, List.append_nil, List.cons_append, List.nil_append,
    TRef.binary, TRef.unary, TRef.toBuf, TRef.ofBuf, cast_eq]
  after_results_simp
  rfl

theorem V_u : argU m c = colPieces (m ((c : Thread nD τ).loc main_arg3)) := by
  simp only [argU, V, hostOps0, hostOps0_1, hostOps0_2, hostOps0_3, hostOps0_4, hostOps0_5, List.flatten_cons, List.flatten_nil, List.append_nil, List.cons_append, List.nil_append,
    TRef.binary, TRef.unary, TRef.toBuf, TRef.ofBuf, cast_eq]
  after_results_simp
  rfl

theorem V_d : argD m c = rowPieces (m ((c : Thread nD τ).loc main_arg4)) := by
  simp only [argD, V, hostOps0, hostOps0_1, hostOps0_2, hostOps0_3, hostOps0_4, hostOps0_5, List.flatten_cons, List.flatten_nil, List.append_nil, List.cons_append, List.nil_append,
    TRef.binary, TRef.unary, TRef.toBuf, TRef.ofBuf, cast_eq]
  after_results_simp
  rfl

theorem zero_half : FloatOps.sitofp (F := Ideal) .bf16 0#32 = (0 : EReal) := by
  show ((((0#32 : BitVec 32).toInt : ℤ) : ℝ) : EReal) = 0
  simp

theorem colPieces_in (w : FVec Ideal S1024x2816 .f32) (q : Fin 8) (d : Fin 1024) (e : Fin 384) (y : Fin 2816) (he : e.val < 352) (hy : y.val = q.val * 352 + e.val) :
    colPieces w (ix3 q d e) = w (ix2 d y) := by
  pointwise [colPieces]
  rw [dif_pos he]
  exact congrArg (fun i => w (ix2 d i)) (Fin.ext hy.symm)

theorem colPieces_out (w : FVec Ideal S1024x2816 .f32) (q : Fin 8) (d : Fin 1024) (e : Fin 384) (he : ¬e.val < 352) : colPieces w (ix3 q d e) = 0 := by
  pointwise [colPieces]
  rw [dif_neg he]
  exact zero_half

theorem rowPieces_in (w : FVec Ideal S2816x1024 .f32) (q : Fin 8) (e : Fin 384) (d : Fin 1024) (y : Fin 2816) (he : e.val < 352) (hy : y.val = q.val * 352 + e.val) :
    rowPieces w (ix3 q e d) = w (ix2 y d) := by
  pointwise [rowPieces]
  rw [dif_pos he]
  exact congrArg (fun i => w (ix2 i d)) (Fin.ext hy.symm)

theorem rowPieces_out (w : FVec Ideal S2816x1024 .f32) (q : Fin 8) (e : Fin 384) (d : Fin 1024) (he : ¬e.val < 352) : rowPieces w (ix3 q e d) = 0 := by
  pointwise [rowPieces]
  rw [dif_neg he]
  exact zero_half

theorem col_in (h : Fin 1024 → EReal) (w : FVec Ideal S1024x2816 .f32) (y : Fin 3072) (z : Fin 2816) (hy : y.val % 384 < 352) (hz : z.val = y.val / 384 * 352 + y.val % 384) :
    col h (colPieces w) y = lot h w z := by
  unfold col lot
  exact Finset.sum_congr rfl fun d _ => congrArg (h d * ·) (colPieces_in w _ d _ z hy hz)

theorem col_out (h : Fin 1024 → EReal) (w : FVec Ideal S1024x2816 .f32) (y : Fin 3072) (hy : ¬y.val % 384 < 352) : col h (colPieces w) y = 0 := by
  unfold col
  refine Finset.sum_eq_zero fun d _ => ?_
  rw [colPieces_out w _ d _ hy, mul_zero]

/-- The program's arguments. -/
abbrev inG : FVec Ideal S1024 .f32 := m ((c : Thread nD τ).loc main_arg1)
abbrev inWg : FVec Ideal S1024x2816 .f32 := m ((c : Thread nD τ).loc main_arg2)
abbrev inWu : FVec Ideal S1024x2816 .f32 := m ((c : Thread nD τ).loc main_arg3)
abbrev inWd : FVec Ideal S2816x1024 .f32 := m ((c : Thread nD τ).loc main_arg4)

theorem row_eq (r : Fin 8192) : row m c r = nrm (argX m c) (gain (inG m c)) r := by
  unfold row
  rw [V_s m c]

/-- A projection with the zeros between its columns is the reference's. -/
theorem col_fours (w : FVec Ideal S1024x2816 .f32) (j : Fin 4) (t : Fin 8192) (f : Fin 768) (y : Fin 3072) (hy : y.val = j.val * 768 + f.val) :
    col (row m c t) (colPieces w) y = fours (lin (argX m c) (inG m c) w) (ix3 j t f) := by
  by_cases hf : f.val % 384 < 352
  · rw [fours_in _ j t f ⟨(j.val * 2 + f.val / 384) * 352 + f.val % 384, by omega⟩ hf rfl, lin_apply, row_eq m c t]
    exact col_in _ w y _ (by omega) (by show (j.val * 2 + f.val / 384) * 352 + f.val % 384 = _; omega)
  · rw [fours_out _ j t f hf]
    exact col_out _ w y (by omega)

/-- The down projection with the zeros between its rows is the reference's. -/
theorem terms_sum (t : Fin 8192) (d : Fin 1024) : ∑ y, term m c (row m c t) d y
    = ∑ z : Fin 2816, act (lot (nrm (argX m c) (gain (inG m c)) t) (inWg m c) z) (lot (nrm (argX m c) (gain (inG m c)) t) (inWu m c) z) * inWd m c (ix2 z d) := by
  refine sum_spread (term m c (row m c t) d) (fun z => act (lot (nrm (argX m c) (gain (inG m c)) t) (inWg m c) z) (lot (nrm (argX m c) (gain (inG m c)) t) (inWu m c) z) * inWd m c (ix2 z d)) (fun y hy => ?_) (fun y z hy hz => ?_)
  · unfold term
    rw [V_d m c, rowPieces_out _ _ _ d hy, mul_zero]
  · unfold term
    rw [V_g m c, V_u m c, V_d m c, row_eq m c t, col_in _ _ y z hy hz, col_in _ _ y z hy hz, rowPieces_in (inWd m c) ⟨y.val / 384, by omega⟩ ⟨y.val % 384, by omega⟩ d z hy hz]

/-! ## The arrays after the run -/

/-- The gate is the reference's. -/
theorem final_gate : Value.G5 m c = fours (lin (argX m c) (inG m c) (inWg m c)) := by
  refine funext fun (z : S4x8192x768.Idx) => ?_
  obtain ⟨j, t, f, rfl⟩ : ∃ j t f, z = ix3 j t f := ⟨_, _, _, eq_ix3 z⟩
  have hp : Value.pt5Of (ix3 j t f) = j.val + 4 * (t.val / 1024) := by
    show 1 * (j.val / 1 - 0) + 4 * (t.val / 1024 - 0) + 32 * (f.val / 768 - 0) = _
    omega
  have hN : Value.pt5Of (ix3 j t f) < cfg0.N := by rw [hp, show cfg0.N = 32 from N_0]; omega
  unfold Value.G5
  rw [dif_pos hN, ← Value.outsAt0_sweep m c _ hN]
  have hl : Value.loc5Of (ix3 j t f) = ix3 0 ⟨t.val % 1024, Nat.mod_lt _ (by decide)⟩ f := by
    funext ax
    apply Fin.ext
    match ax with
    | ⟨0, _⟩ => show j.val % 1 = 0; omega
    | ⟨1, _⟩ => rfl
    | ⟨2, _⟩ => show f.val % 768 = f.val; omega
  have ht : atRow (Value.pt5Of (ix3 j t f)) ⟨t.val % 1024, Nat.mod_lt _ (by decide)⟩ = t :=
    Fin.ext (by show Value.pt5Of (ix3 j t f) / 4 % 8 * 1024 + t.val % 1024 = t.val; rw [hp]; omega)
  rw [hl, gate_after, ht, V_g m c]
  exact col_fours m c _ j t f _ (by show Value.pt5Of (ix3 j t f) % 4 * 768 + f.val = j.val * 768 + f.val; rw [hp]; omega)

/-- The up projection is the reference's. -/
theorem final_up : Value.G6 m c = fours (lin (argX m c) (inG m c) (inWu m c)) := by
  refine funext fun (z : S4x8192x768.Idx) => ?_
  obtain ⟨j, t, f, rfl⟩ : ∃ j t f, z = ix3 j t f := ⟨_, _, _, eq_ix3 z⟩
  have hp : Value.pt6Of (ix3 j t f) = j.val + 4 * (t.val / 1024) := by
    show 1 * (j.val / 1 - 0) + 4 * (t.val / 1024 - 0) + 32 * (f.val / 768 - 0) = _
    omega
  have hN : Value.pt6Of (ix3 j t f) < cfg0.N := by rw [hp, show cfg0.N = 32 from N_0]; omega
  unfold Value.G6
  rw [dif_pos hN, ← Value.outsAt0_sweep m c _ hN]
  have hl : Value.loc6Of (ix3 j t f) = ix3 0 ⟨t.val % 1024, Nat.mod_lt _ (by decide)⟩ f := by
    funext ax
    apply Fin.ext
    match ax with
    | ⟨0, _⟩ => show j.val % 1 = 0; omega
    | ⟨1, _⟩ => rfl
    | ⟨2, _⟩ => show f.val % 768 = f.val; omega
  have ht : atRow (Value.pt6Of (ix3 j t f)) ⟨t.val % 1024, Nat.mod_lt _ (by decide)⟩ = t :=
    Fin.ext (by show Value.pt6Of (ix3 j t f) / 4 % 8 * 1024 + t.val % 1024 = t.val; rw [hp]; omega)
  rw [hl, up_after, ht, V_u m c]
  exact col_fours m c _ j t f _ (by show Value.pt6Of (ix3 j t f) % 4 * 768 + f.val = j.val * 768 + f.val; rw [hp]; omega)

/-- The block's output is the reference's. -/
theorem final_out : Value.G7 m c = out (argX m c) (inG m c) (inWg m c) (inWu m c) (inWd m c) := by
  refine funext fun (z : S8192x1024.Idx) => ?_
  obtain ⟨t, d, rfl⟩ : ∃ t d, z = ix2 t d := ⟨_, _, eq_ix2 z⟩
  rw [out_apply]
  have hp : Value.pt7Of (ix2 t d) = 4 * (t.val / 1024) + 2 + 1 := by
    show 4 * (1 * (t.val / 1024 - 0) + 1 * (d.val / 1024 - 0)) + 3 = _
    omega
  have hN : Value.pt7Of (ix2 t d) < cfg0.N := by rw [hp, show cfg0.N = 32 from N_0]; omega
  unfold Value.G7
  rw [dif_pos hN, ← Value.outsAt0_sweep m c _ hN]
  have hl : Value.loc7Of (ix2 t d) = ix2 ⟨t.val % 1024, Nat.mod_lt _ (by decide)⟩ d := by
    funext ax
    apply Fin.ext
    match ax with
    | ⟨0, _⟩ => rfl
    | ⟨1, _⟩ => show d.val % 1024 = d.val; omega
  have ht : atRow (4 * (t.val / 1024) + 2 + 1) ⟨t.val % 1024, Nat.mod_lt _ (by decide)⟩ = t :=
    Fin.ext (by show (4 * (t.val / 1024) + 2 + 1) / 4 % 8 * 1024 + t.val % 1024 = t.val; omega)
  have e : ∀ (n : ℕ) (h : n < cfg0.N), n = 4 * (t.val / 1024) + 2 + 1 →
      (outsAt0 m c n h).2.2.1 (ix2 ⟨t.val % 1024, Nat.mod_lt _ (by decide)⟩ d) = argX m c (ix2 t d) + ∑ y, term m c (row m c t) d y := by
    rintro n h rfl
    rw [out_after m c _ h (by omega), ht]
  rw [hl]
  exact (e _ hN hp).trans (congrArg (argX m c (ix2 t d) + ·) (terms_sum m c t d))

end Cert.Kernel3Ideal.Hand

end
-- ==== Proof.GradRef.lean ====
/- The weight-gradient reference's result at an index. -/
module

public import proofs.«01_k».proof.Proof.Exact
public import proofs.«01_k».proof.Proof.Gen.Reference4Ideal.Run

@[expose] public section

noncomputable section

namespace Cert.Reference4Ideal.Hand

open Cert.Reference4Ideal Cert.Reference4Ideal.Gen Idealize.ShloMosaic Idealize.ShloMosaic.TcCoe Idealize.SL.Sem

variable (x : FVec Ideal S8192x1024 .f32) (z : FVec Ideal S8192x2816 .f32)

/-- The gradient of the weights, transposed: its rows are the weights' columns. -/
def grad : FVec Ideal S2816x1024 .f32 := Host.dotGeneral dot_S8192x2816_S8192x1024_S2816x1024_0_0_1_1_n_n none z x
/-- The gradient in the weights' layout: eight groups of columns, each followed by zeros. -/
def out : FVec Ideal S8x1024x384 .bf16 :=
  pad S8x1024x384 ![0, 0, 0] ![0, 0, 32] ![0, 0, 0] (transpose S8x1024x352 [1, 0, 2] (shapeCast S1024x8x352 (truncf .bf16 (transpose S1024x2816 [1, 0] (grad x z) transposes_S2816x1024_S1024x2816_1_0) bitsLt_bf16_f32) shapeCasts_S1024x2816_S1024x8x352) transposes_S1024x8x352_S8x1024x352_1_0_2) (sitofp (F := Ideal) .bf16 (constantI S_ 32 0#32)) pads_S8x1024x352_S8x1024x384_000_000_0320 h_S_

theorem zero_word : FloatOps.sitofp (F := Ideal) .bf16 0#32 = (0 : EReal) := by
  show ((((0#32 : BitVec 32).toInt : ℤ) : ℝ) : EReal) = 0
  simp

theorem grad_apply (d : Fin 1024) (y : Fin 2816) : grad x z (ix2 y d) = ∑ t, z (ix2 t y) * x (ix2 t d) := by
  pointwise [grad, dot_S8192x2816_S8192x1024_S2816x1024_0_0_1_1_n_n]

theorem out_in (q : Fin 8) (d : Fin 1024) (e : Fin 384) (y : Fin 2816) (he : e.val < 352) (hy : y.val = q.val * 352 + e.val) :
    out x z (ix3 q d e) = ∑ t, x (ix2 t d) * z (ix2 t y) := by
  pointwise [out]
  rw [dif_pos he, grad_apply]
  refine Finset.sum_congr rfl fun t _ => ?_
  rw [mul_comm, show (⟨q.val * 352 + e.val, by omega⟩ : Fin 2816) = y from Fin.ext hy.symm]

theorem out_out (q : Fin 8) (d : Fin 1024) (e : Fin 384) (he : ¬e.val < 352) : out x z (ix3 q d e) = 0 := by
  pointwise [out]
  rw [dif_neg he]
  exact zero_word

end Cert.Reference4Ideal.Hand

end
-- ==== Proof.GradValue.lean ====
/- The weight-gradient call and its reference at the exact arithmetic: both end with the product of the transposed
   activations and the gradient of the pre-activations, from any arguments. -/
module

public import proofs.«01_k».proof.Defs
public import proofs.«01_k».proof.Proof.GradTiles
public import proofs.«01_k».proof.Proof.GradRef
public import proofs.«01_k».proof.Proof.Gen.Kernel4Ideal.Value
public import Idealize.ShloMosaic.Lib.StableHlo.RunRead

@[expose] public section

set_option maxRecDepth 16384

noncomputable section

namespace Cert.Kernel4Ideal.Hand

open Cert.Kernel4Ideal Cert.Kernel4Ideal.Gen Idealize.ShloMosaic Idealize.ShloMosaic.TcCoe Idealize.SL.Sem Idealize.ShloMosaic.StableHlo
open Cert.Reference4Ideal.Hand (out out_in out_out zero_word)

/-- A sum over all the rows is the sum over the sixteen blocks of rows of the sums over each. -/
theorem sum_blocks (g : Fin 8192 → EReal) : ∑ t, g t = ∑ i : Fin 16, ∑ k : Fin 512, g ⟨i.val * 512 + k.val, by omega⟩ := by
  rw [← Fintype.sum_prod_type', ← Equiv.sum_comp (finProdFinEquiv (m := 16) (n := 512))]
  refine Finset.sum_congr rfl fun x _ => congrArg g (Fin.ext ?_)
  show x.2.val + 512 * x.1.val = x.1.val * 512 + x.2.val
  omega

variable (m : (ℓ : Loc nD τ sig) → Buf (Elt Ideal) ℓ) (ρ : Dev nD → PrngReg) (c : Dev nD)

/-! ## Where the blocks lie -/

theorem index0 : ∀ t : Fin cfg0.N, win0_0.index t = ![t.val, 0] := by decide +kernel
theorem index1 : ∀ t : Fin cfg0.N, win0_1.index t = ![0, t.val, 0] := by decide +kernel

/-- The activations, and the gradient of the pre-activations in four groups, as the call is handed them. -/
abbrev argX : Vec Ideal S8192x1024 .bf16 := V m c main_v3
abbrev argZ : Vec Ideal S4x8192x768 .bf16 := V m c main_v5

theorem blk_x (t : Fin cfg0.N) (k : Fin 512) (d : Fin 1024) (r : Fin 8192) (hr : r.val = t.val * 512 + k.val) :
    (iblk m c 0 t : Vec Ideal S512x1024 .bf16) (ix2 k d) = argX m c (ix2 r d) := by
  have hi := index0 t
  unfold iblk
  rw [View.read_apply]
  show V m c main_v3 _ = _
  refine congrArg (V m c main_v3) (funext fun ax => Fin.ext ?_)
  match ax with
  | ⟨0, _⟩ => show win0_0.index t 0 * 512 + 1 * k.val = r.val; rw [hi]; show t.val * 512 + 1 * k.val = r.val; omega
  | ⟨1, _⟩ => show win0_0.index t 1 * 1024 + 1 * d.val = d.val; rw [hi]; show 0 * 1024 + 1 * d.val = d.val; omega

theorem blk_z (t : Fin cfg0.N) (j : Fin 4) (k : Fin 512) (f : Fin 768) (r : Fin 8192) (hr : r.val = t.val * 512 + k.val) :
    (iblk m c 1 t : Vec Ideal S4x512x768 .bf16) (ix3 j k f) = argZ m c (ix3 j r f) := by
  have hi := index1 t
  unfold iblk
  rw [View.read_apply]
  show V m c main_v5 _ = _
  refine congrArg (V m c main_v5) (funext fun ax => Fin.ext ?_)
  match ax with
  | ⟨0, _⟩ => show win0_1.index t 0 * 4 + 1 * j.val = j.val; rw [hi]; show 0 * 4 + 1 * j.val = j.val; omega
  | ⟨1, _⟩ => show win0_1.index t 1 * 512 + 1 * k.val = r.val; rw [hi]; show t.val * 512 + 1 * k.val = r.val; omega
  | ⟨2, _⟩ => show win0_1.index t 2 * 768 + 1 * f.val = f.val; rw [hi]; show 0 * 768 + 1 * f.val = f.val; omega

/-! ## The planes after each point -/

section
variable (j : Fin 4) (d : Fin 1024) (f : Fin 768)

/-- What point `n` adds. -/
def part (n : ℕ) : EReal := if h : n < cfg0.N then step (iblk m c 0 ⟨n, h⟩) (iblk m c 1 ⟨n, h⟩) j d f else 0

theorem part_eq (n : ℕ) (h : n < cfg0.N) : part m c j d f n = step (iblk m c 0 ⟨n, h⟩) (iblk m c 1 ⟨n, h⟩) j d f := dif_pos h

theorem next_B (t : Fin cfg0.N) (acc : Vec Ideal S8x1024x384 .bf16 × Vec Ideal S4x1024x768 .f32) (h0 : ¬t.val % 16 = 0) (h1 : ¬t.val % 16 = 15) :
    (Value.stAt0 m c t.val t.isLt acc).2 (ix3 j d f) = acc.2 (ix3 j d f) + step (iblk m c 0 t) (iblk m c 1 t) j d f := by
  rw [Value.stAt0_B m c t acc h0 h1]
  dsimp only
  exact acc_B c (grid0.coords t) (ms0_0 t) (hs0_0 t) (ms0_1 t) (hs0_1 t) (ms0_2 t) (hs0_2 t) scM0_0 (Memref.isWhole_whole _) (iblk m c 0 t) (iblk m c 1 t) acc.2 j d f _ _

theorem planes_after (n : ℕ) (h : n < cfg0.N) (hn : n < 15) : (outsAt0 m c n h).2 (ix3 j d f) = ∑ i ∈ Finset.range (n + 1), part m c j d f i := by
  induction n with
  | zero =>
    rw [Finset.sum_range_one, part_eq m c j d f 0 h, Value.outsAt0_zero,
      Value.stAt0_A m c ⟨0, h⟩ _ rfl (by show ¬0 % 16 = 15; decide)]
    dsimp only
    exact (acc_A c _ _ _ _ _ _ _ _ _ _ _ j d f _ _).trans (zero_add _)
  | succ n ih =>
    rw [Finset.sum_range_succ, ← ih (Nat.lt_of_succ_lt h) (by omega), part_eq m c j d f (n + 1) h, Value.outsAt0_succ]
    exact next_B m c j d f ⟨n + 1, h⟩ _ (by show ¬(n + 1) % 16 = 0; omega) (by show ¬(n + 1) % 16 = 15; omega)

/-- The parts of all the points make up the whole product. -/
theorem parts_sum : ∑ i ∈ Finset.range 16, part m c j d f i
    = ∑ t : Fin 8192, argX m c (ix2 t d) * argZ m c (ix3 j t f) := by
  rw [sum_blocks, Finset.sum_range]
  refine Finset.sum_congr rfl fun i _ => ?_
  have hi : i.val < cfg0.N := lt_of_lt_of_eq i.isLt N_0.symm
  rw [part_eq m c j d f i.val hi]
  unfold step
  refine Finset.sum_congr rfl fun k _ => ?_
  rw [blk_x m c ⟨i.val, hi⟩ k d ⟨i.val * 512 + k.val, by omega⟩ rfl, blk_z m c ⟨i.val, hi⟩ j k f ⟨i.val * 512 + k.val, by omega⟩ rfl]

end

theorem last_C (d : Fin 1024) (q : Fin 8) (e : Fin 384) (t : Fin cfg0.N) (acc : Vec Ideal S8x1024x384 .bf16 × Vec Ideal S4x1024x768 .f32) (h0 : ¬t.val % 16 = 0) (h1 : t.val % 16 = 15) :
    (Value.stAt0 m c t.val t.isLt acc).1 (ix3 q d e) = half (iblk m c 0 t) (iblk m c 1 t) acc.2 d q e := by
  rw [Value.stAt0_C m c t acc h0 h1]
  dsimp only
  exact out_C c (grid0.coords t) (ms0_0 t) (hs0_0 t) (ms0_1 t) (hs0_1 t) (ms0_2 t) (hs0_2 t) scM0_0 (Memref.isWhole_whole _) (iblk m c 0 t) (iblk m c 1 t) acc.2 d _ _ q e

/-! ## What the host hands the call -/

/-- The gradient's columns in four groups, each eighth of the columns followed by zeros. -/
def groups (z : FVec Ideal S8192x2816 .f32) : FVec Ideal S4x8192x768 .bf16 :=
  transpose S4x8192x768 [1, 0, 2] (shapeCast S8192x4x768 (pad S8192x8x384 ![0, 0, 0] ![0, 0, 32] ![0, 0, 0] (shapeCast S8192x8x352 (truncf .bf16 z bitsLt_bf16_f32) shapeCasts_S8192x2816_S8192x8x352) (sitofp (F := Ideal) .bf16 (constantI S_ 32 0#32)) pads_S8192x8x352_S8192x8x384_000_000_0320 h_S_) shapeCasts_S8192x8x384_S8192x4x768) transposes_S8192x4x768_S4x8192x768_1_0_2

/-- The activations in the width of the call. -/
def halved (x : FVec Ideal S8192x1024 .f32) : FVec Ideal S8192x1024 .bf16 := truncf .bf16 x bitsLt_bf16_f32

theorem V_x : argX m c = halved (m ((c : Thread nD τ).loc main_arg0)) := by
  simp only [argX, V, hostOps0, hostOps0_1, hostOps0_2, List.flatten_cons, List.flatten_nil, List.append_nil, List.cons_append, List.nil_append,
    TRef.binary, TRef.unary, TRef.toBuf, TRef.ofBuf, cast_eq]
  after_results_simp
  rfl

theorem V_z : argZ m c = groups (m ((c : Thread nD τ).loc main_arg1)) := by
  simp only [argZ, V, hostOps0, hostOps0_1, hostOps0_2, List.flatten_cons, List.flatten_nil, List.append_nil, List.cons_append, List.nil_append,
    TRef.binary, TRef.unary, TRef.toBuf, TRef.ofBuf, cast_eq]
  after_results_simp
  rfl

theorem groups_in (z : FVec Ideal S8192x2816 .f32) (j : Fin 4) (t : Fin 8192) (f : Fin 768) (y : Fin 2816) (hf : f.val % 384 < 352)
    (hy : y.val = (j.val * 2 + f.val / 384) * 352 + f.val % 384) : groups z (ix3 j t f) = z (ix2 t y) := by
  pointwise [groups]
  rw [dif_pos ⟨by omega, hf⟩]
  exact congrArg (fun i => z (ix2 t i)) (Fin.ext hy.symm)

theorem groups_out (z : FVec Ideal S8192x2816 .f32) (j : Fin 4) (t : Fin 8192) (f : Fin 768) (hf : ¬f.val % 384 < 352) : groups z (ix3 j t f) = 0 := by
  pointwise [groups]
  rw [dif_neg fun h => hf h.2]
  exact zero_word

theorem argX_apply (t : Fin 8192) (d : Fin 1024) : argX m c (ix2 t d) = (m ((c : Thread nD τ).loc main_arg0) : FVec Ideal S8192x1024 .f32) (ix2 t d) :=
  congrFun (V_x m c) (ix2 t d)

/-- What the call leaves at an index. -/
theorem left_apply (q : Fin 8) (d : Fin 1024) (e : Fin 384) : (Value.G2 m c : Vec Ideal S8x1024x384 .bf16) (ix3 q d e)
    = ∑ t : Fin 8192, argX m c (ix2 t d) * argZ m c (ix3 ⟨q.val / 2, by omega⟩ t ⟨q.val % 2 * 384 + e.val, by omega⟩) := by
  have hN : 15 < cfg0.N := lt_of_lt_of_eq (by decide) N_0.symm
  rw [Value.G2_last, ← Value.outsAt0_sweep m c 15 hN]
  refine Eq.trans ?_ (parts_sum m c _ d _)
  rw [Finset.sum_range_succ, ← planes_after m c _ d _ 14 (by omega) (by omega), part_eq m c _ d _ 15 hN, Value.outsAt0_succ m c 14 hN]
  exact last_C m c d q e ⟨15, hN⟩ _ (by show ¬15 % 16 = 0; decide) rfl

/-- The reference's gradient is that sum. -/
theorem right_apply (q : Fin 8) (d : Fin 1024) (e : Fin 384) : out (m ((c : Thread nD τ).loc main_arg0)) (m ((c : Thread nD τ).loc main_arg1)) (ix3 q d e)
    = ∑ t : Fin 8192, argX m c (ix2 t d) * argZ m c (ix3 ⟨q.val / 2, by omega⟩ t ⟨q.val % 2 * 384 + e.val, by omega⟩) := by
  rw [V_z m c]
  by_cases he : e.val < 352
  · rw [out_in _ _ q d e ⟨q.val * 352 + e.val, by omega⟩ he rfl]
    refine Finset.sum_congr rfl fun t _ => ?_
    rw [argX_apply m c t d, groups_in _ _ t _ ⟨q.val * 352 + e.val, by omega⟩ (by show (q.val % 2 * 384 + e.val) % 384 < 352; omega)
      (by show q.val * 352 + e.val = (q.val / 2 * 2 + (q.val % 2 * 384 + e.val) / 384) * 352 + (q.val % 2 * 384 + e.val) % 384; omega)]
  · rw [out_out _ _ q d e he]
    refine (Finset.sum_eq_zero fun t _ => ?_).symm
    rw [groups_out _ _ t _ (by show ¬(q.val % 2 * 384 + e.val) % 384 < 352; omega), mul_zero]

/-- What the call leaves is the reference's gradient. -/
theorem final : Value.G2 m c = out (m ((c : Thread nD τ).loc main_arg0)) (m ((c : Thread nD τ).loc main_arg1)) := by
  refine funext fun (y : S8x1024x384.Idx) => ?_
  obtain ⟨q, d, e, rfl⟩ : ∃ q d e, y = ix3 q d e := ⟨_, _, _, eq_ix3 y⟩
  exact (left_apply m c q d e).trans (right_apply m c q d e).symm

end Cert.Kernel4Ideal.Hand

end
-- ==== Proof.DownTiles.lean ====
/- What one grid point of the down projection's weight-gradient kernel leaves: the accumulator holds four planes, one per
   group of rows, and every point adds to each plane the product of its two blocks. The last point also writes the
   planes out, each as two halves. -/
module

public import proofs.«01_k».proof.Proof.GradTiles
public import proofs.«01_k».proof.Proof.Gen.Kernel5Ideal.Frame
public import proofs.«01_k».proof.Proof.Gen.Kernel5Ideal.Skeleton

@[expose] public section

set_option maxRecDepth 16384

noncomputable section

namespace Cert.Kernel5Ideal.Hand

open Cert.Kernel5Ideal Cert.Kernel5Ideal.Gen Idealize.ShloMosaic Idealize.ShloMosaic.TcCoe Idealize.SL.Sem
open Cert.Kernel4Ideal.Hand (plane_hit plane_miss plane_load plane_sum)

/-- A load of some rows of a plane, at an index. -/
theorem plane_rows {sig : RefSig} {κ : Kind} {sp : Space} {e : EltTy} {Val : EltTy → Type} {n A B p q : ℕ} (v : View sig κ sp ⟨3, ![n, A, B]⟩ e) (f : v.ty.Contents Val) (j : Fin n) (o k : ℕ) (ho : j.val = o)
    (inb : ∀ a, (![o, k, 0] : Fin 3 → ℕ) a + (![1, p, q] : Fin 3 → ℕ) a ≤ (⟨3, ![n, A, B]⟩ : Shape).size a)
    (a : Fin p) (b : Fin q) (a' : Fin A) (b' : Fin B) (ha : a'.val = k + a.val) (hb : b'.val = b.val) :
    v.readAt Val (Rect.unit (s := ⟨3, ![n, A, B]⟩) ![o, k, 0] ![1, p, q] inb).toLoadRect f (ix3 (n0 := 1) 0 a b) = v.read Val f (ix3 j a' b') := by
  show v.read Val f _ = _
  refine congrArg (v.read Val f) (funext fun ax => Fin.ext ?_)
  match ax with
  | ⟨0, _⟩ => show o + 1 * 0 = j.val; omega
  | ⟨1, _⟩ => show k + 1 * a.val = a'.val; omega
  | ⟨2, _⟩ => show 0 + 1 * b.val = b'.val; omega

/-! ## The stored values at an index -/

section Pays

variable (x : FVec Ideal S512x1024 .bf16) (x1 : Vec Ideal S512x1024 .f32) (y : Vec Ideal S1x512x768 .bf16) (z : Vec Ideal S1x768x1024 .f32) (u : Vec Ideal S1x384x1024 .f32)

theorem cast_apply (k : Fin 512) (d : Fin 1024) : k0_pay13 (F := Ideal) x1 (ix2 k d) = x1 (ix2 k d) := by
  pointwise [k0_pay13]

theorem pay2_apply (f : Fin 768) (d : Fin 1024) : k0_pay2 (F := Ideal) x z y (ix3 0 f d) = z (ix3 0 f d) + ∑ k, y (ix3 0 k f) * x (ix2 k d) := by
  pointwise [k0_pay2, dot_S512x768_S512x1024_S768x1024_0_0_1_1_n_n]

theorem pay1_apply (f : Fin 768) (d : Fin 1024) : k0_pay1 (F := Ideal) x (k0_pay16 z) y (ix3 0 f d) = z (ix3 0 f d) + ∑ k, y (ix3 0 k f) * x (ix2 k d) :=
  pay2_apply x y z f d

theorem pay14_apply (f : Fin 768) (d : Fin 1024) : k0_pay14 (F := Ideal) x1 z y (ix3 0 f d) = z (ix3 0 f d) + ∑ k, y (ix3 0 k f) * x1 (ix2 k d) :=
  (pay2_apply (k0_pay13 x1) y z f d).trans (congrArg (z (ix3 0 f d) + ·) (Finset.sum_congr rfl fun k _ => congrArg (y (ix3 0 k f) * ·) (cast_apply x1 k d)))

theorem pay15_apply (f : Fin 768) (d : Fin 1024) : k0_pay15 (F := Ideal) x1 z y (ix3 0 f d) = z (ix3 0 f d) + ∑ k, y (ix3 0 k f) * x1 (ix2 k d) :=
  pay14_apply x1 y z f d

theorem pay12_apply (j : Fin 4) (f : Fin 768) (d : Fin 1024) : k0_pay12 (F := Ideal) (ix3 j f d) = 0 := by
  pointwise [k0_pay12]

theorem pay7_apply (f : Fin 384) (d : Fin 1024) : k0_pay7 (F := Ideal) u (ix3 0 f d) = u (ix3 0 f d) := by
  pointwise [k0_pay7]

end Pays

/-! ## The planes after a grid point -/

variable (c : Dev nD) (i : grid0.Coords)
    (arg1 : Memref sig .tc .vmem S4x512x768 .bf16) (harg1 : arg1.IsWhole) (arg2 : Memref sig .tc .vmem S512x1024 .f32) (harg2 : arg2.IsWhole)
    (arg3 : Memref sig .tc .vmem S8x384x1024 .bf16) (harg3 : arg3.IsWhole) (arg4 : Memref sig .tc .vmem S4x768x1024 .f32) (harg4 : arg4.IsWhole)
    (x0 : Vec Ideal S4x512x768 .bf16) (x1 : Vec Ideal S512x1024 .f32) (xs0 : Vec Ideal S4x768x1024 .f32) (j : Fin 4) (d : Fin 1024) (f : Fin 768)

theorem load_x1 (inb : ∀ a, (![0, 0] : Fin 2 → ℕ) a + S512x1024.size a ≤ S512x1024.size a) (k : Fin 512) :
    View.readAt (Elt Ideal) arg2.view (Rect.unit (s := S512x1024) ![0, 0] S512x1024.size inb).toLoadRect (harg2.unread x1) (ix2 k d) = x1 (ix2 k d) := by
  show arg2.view.read (Elt Ideal) (harg2.unread x1) _ = _
  rw [harg2.read_unread]
  refine congrArg x1 (funext fun ax => Fin.ext ?_)
  match ax with
  | ⟨0, _⟩ => show 0 + 1 * k.val = k.val; omega
  | ⟨1, _⟩ => show 0 + 1 * d.val = d.val; omega

theorem load_x0 (o : ℕ) (ho : j.val = o) (inb : ∀ a, (![o, 0, 0] : Fin 3 → ℕ) a + (![1, 512, 768] : Fin 3 → ℕ) a ≤ S4x512x768.size a) (k : Fin 512) :
    View.readAt (Elt Ideal) arg1.view (Rect.unit (s := S4x512x768) ![o, 0, 0] ![1, 512, 768] inb).toLoadRect (harg1.unread x0) (ix3 0 k f) = x0 (ix3 j k f) := by
  refine (plane_load arg1.view (harg1.unread x0) j o 0 ho inb k f k f rfl (by omega)).trans ?_
  rw [harg1.read_unread]

theorem load_xs0 (o : ℕ) (ho : j.val = o) (inb : ∀ a, (![o, 0, 0] : Fin 3 → ℕ) a + (![1, 768, 1024] : Fin 3 → ℕ) a ≤ S4x768x1024.size a) :
    View.readAt (Elt Ideal) arg4.view (Rect.unit (s := S4x768x1024) ![o, 0, 0] ![1, 768, 1024] inb).toLoadRect (harg4.unread xs0) (ix3 0 f d) = xs0 (ix3 j f d) := by
  refine (plane_load arg4.view (harg4.unread xs0) j o 0 ho inb f d f d rfl (by omega)).trans ?_
  rw [harg4.read_unread]

/-- What a point adds to the planes. -/
def step : Ideal .f32 := ∑ k, x0 (ix3 j k f) * x1 (ix2 k d)

/-- Four planes stored one after the other read what each was stored as. -/
theorem planes_read {sig : RefSig} {κ : Kind} {sp : Space} (v : View sig κ sp S4x768x1024 .f32) (g : v.ty.Contents (Elt Ideal))
    (inb0 : ∀ a, (![0, 0, 0] : Fin 3 → ℕ) a + (![1, 768, 1024] : Fin 3 → ℕ) a ≤ S4x768x1024.size a)
    (inb1 : ∀ a, (![1, 0, 0] : Fin 3 → ℕ) a + (![1, 768, 1024] : Fin 3 → ℕ) a ≤ S4x768x1024.size a)
    (inb2 : ∀ a, (![2, 0, 0] : Fin 3 → ℕ) a + (![1, 768, 1024] : Fin 3 → ℕ) a ≤ S4x768x1024.size a)
    (inb3 : ∀ a, (![3, 0, 0] : Fin 3 → ℕ) a + (![1, 768, 1024] : Fin 3 → ℕ) a ≤ S4x768x1024.size a)
    (w0 w1 w2 w3 : Vec Ideal S1x768x1024 .f32) (L : List (View.Piece (Elt Ideal) S4x768x1024 .f32)) (G : Fin 4 → EReal)
    (h0 : w0 (ix3 0 f d) = G 0) (h1 : w1 (ix3 0 f d) = G 1) (h2 : w2 (ix3 0 f d) = G 2) (h3 : w3 (ix3 0 f d) = G 3) :
    v.read (Elt Ideal) (v.writes (Elt Ideal) g (⟨Rect.unit (s := S4x768x1024) ![3, 0, 0] ![1, 768, 1024] inb3, w3⟩ :: ⟨Rect.unit (s := S4x768x1024) ![2, 0, 0] ![1, 768, 1024] inb2, w2⟩
      :: ⟨Rect.unit (s := S4x768x1024) ![1, 0, 0] ![1, 768, 1024] inb1, w1⟩ :: ⟨Rect.unit (s := S4x768x1024) ![0, 0, 0] ![1, 768, 1024] inb0, w0⟩ :: L)) (ix3 j f d) = G j := by
  match j with
  | ⟨3, _⟩ => exact (plane_hit _ _ 3 3 rfl _ _ _ f d).trans h3
  | ⟨2, _⟩ => exact (plane_miss _ _ 2 3 (by decide) _ _ _ f d).trans ((plane_hit _ _ 2 2 rfl _ _ _ f d).trans h2)
  | ⟨1, _⟩ => exact (plane_miss _ _ 1 3 (by decide) _ _ _ f d).trans ((plane_miss _ _ 1 2 (by decide) _ _ _ f d).trans ((plane_hit _ _ 1 1 rfl _ _ _ f d).trans h1))
  | ⟨0, _⟩ => exact (plane_miss _ _ 0 3 (by decide) _ _ _ f d).trans ((plane_miss _ _ 0 2 (by decide) _ _ _ f d).trans ((plane_miss _ _ 0 1 (by decide) _ _ _ f d).trans ((plane_hit _ _ 0 0 rfl _ _ _ f d).trans h0)))

/-- What a middle point leaves in the planes. -/
theorem acc_B (hc0 : ¬cond0_0 i) (hc1 : ¬cond0_1 i) :
    sout0_B_0 (F := Ideal) c i arg1 harg1 arg2 harg2 arg3 harg3 arg4 harg4 hc0 hc1 x0 x1 xs0 (ix3 j f d) = xs0 (ix3 j f d) + step x0 x1 j d f := by
  unfold sout0_B_0 kernelRun0_B
  dsimp only
  refine planes_read j d f _ _ _ _ _ _ _ _ _ _ _ (fun j => xs0 (ix3 j f d) + step x0 x1 j d f) ?_ ?_ ?_ ?_
  · exact (pay14_apply _ _ _ f d).trans (plane_sum (load_xs0 arg4 harg4 xs0 0 d f 0 rfl _) (fun k => load_x0 arg1 harg1 x0 0 f 0 rfl _ k) fun k => load_x1 arg2 harg2 x1 d _ k)
  · exact (pay15_apply _ _ _ f d).trans (plane_sum (load_xs0 arg4 harg4 xs0 1 d f 1 rfl _) (fun k => load_x0 arg1 harg1 x0 1 f 1 rfl _ k) fun k => load_x1 arg2 harg2 x1 d _ k)
  · exact (pay1_apply _ _ _ f d).trans (plane_sum (load_xs0 arg4 harg4 xs0 2 d f 2 rfl _) (fun k => load_x0 arg1 harg1 x0 2 f 2 rfl _ k) fun k => (cast_apply _ k d).trans (load_x1 arg2 harg2 x1 d _ k))
  · exact (pay2_apply _ _ _ f d).trans (plane_sum (load_xs0 arg4 harg4 xs0 3 d f 3 rfl _) (fun k => load_x0 arg1 harg1 x0 3 f 3 rfl _ k) fun k => (cast_apply _ k d).trans (load_x1 arg2 harg2 x1 d _ k))

/-- The stores of the last point into the planes, read through any view. -/
theorem stores_C (v : View sig .tc .vmem S4x768x1024 .f32) (g : v.ty.Contents (Elt Ideal)) :
    v.read (Elt Ideal) (v.writes (Elt Ideal) g (kernelRun0_C.sl.HS0_4 (F := Ideal) c arg1 harg1 arg2 harg2 arg4 harg4 x0 x1 xs0)) (ix3 j f d) = xs0 (ix3 j f d) + step x0 x1 j d f := by
  unfold kernelRun0_C.sl.HS0_4
  refine planes_read j d f _ _ _ _ _ _ _ _ _ _ _ (fun j => xs0 (ix3 j f d) + step x0 x1 j d f) ?_ ?_ ?_ ?_
  · exact (pay14_apply _ _ _ f d).trans (plane_sum (load_xs0 arg4 harg4 xs0 0 d f 0 rfl _) (fun k => load_x0 arg1 harg1 x0 0 f 0 rfl _ k) fun k => load_x1 arg2 harg2 x1 d _ k)
  · exact (pay15_apply _ _ _ f d).trans (plane_sum (load_xs0 arg4 harg4 xs0 1 d f 1 rfl _) (fun k => load_x0 arg1 harg1 x0 1 f 1 rfl _ k) fun k => load_x1 arg2 harg2 x1 d _ k)
  · exact (pay1_apply _ _ _ f d).trans (plane_sum (load_xs0 arg4 harg4 xs0 2 d f 2 rfl _) (fun k => load_x0 arg1 harg1 x0 2 f 2 rfl _ k) fun k => (cast_apply _ k d).trans (load_x1 arg2 harg2 x1 d _ k))
  · exact (pay2_apply _ _ _ f d).trans (plane_sum (load_xs0 arg4 harg4 xs0 3 d f 3 rfl _) (fun k => load_x0 arg1 harg1 x0 3 f 3 rfl _ k) fun k => (cast_apply _ k d).trans (load_x1 arg2 harg2 x1 d _ k))

/-- The first point's stores before its own planes: the whole array is set to zero. -/
theorem zeros_A (v : View sig .tc .vmem S4x768x1024 .f32) (g : v.ty.Contents (Elt Ideal)) :
    v.read (Elt Ideal) (v.writes (Elt Ideal) g (kernelRun0_A.sl.HS0_1 (F := Ideal))) (ix3 j f d) = 0 := by
  unfold kernelRun0_A.sl.HS0_1
  refine (View.read_writes_cons_unit_of_mem v g _ _ _ (ix3 j f d) (ix3 j f d) rfl fun ax => ?_).trans (pay12_apply j f d)
  match ax with
  | ⟨0, _⟩ => exact (Nat.zero_add _).symm
  | ⟨1, _⟩ => exact (Nat.zero_add _).symm
  | ⟨2, _⟩ => exact (Nat.zero_add _).symm

theorem load_A (L : List (View.Piece (Elt Ideal) S4x768x1024 .f32)) (o : ℕ) (ho : j.val = o)
    (h : arg4.view.read (Elt Ideal) (arg4.view.writes (Elt Ideal) arg4.view.junk L) (ix3 j f d) = 0)
    (inb : ∀ a, (![o, 0, 0] : Fin 3 → ℕ) a + (![1, 768, 1024] : Fin 3 → ℕ) a ≤ S4x768x1024.size a) :
    arg4.view.readCov (Val := Elt Ideal) L (Rect.unit (s := S4x768x1024) ![o, 0, 0] ![1, 768, 1024] inb).toLoadRect (ix3 0 f d) = 0 :=
  (plane_load arg4.view _ j o 0 ho inb f d f d rfl (by omega)).trans h

/-- What the first point leaves in the planes. -/
theorem acc_A (hc0 : cond0_0 i) (hc1 : ¬cond0_1 i) :
    sout0_A_0 (F := Ideal) c i arg1 harg1 arg2 harg2 arg3 harg3 arg4 harg4 hc0 hc1 x0 x1 (ix3 j f d) = 0 + step x0 x1 j d f := by
  unfold sout0_A_0 kernelRun0_A
  dsimp only
  unfold kernelRun0_A.sl.HS0_4 kernelRun0_A.sl.HS0_3 kernelRun0_A.sl.HS0_2
  refine planes_read j d f _ _ _ _ _ _ _ _ _ _ _ (fun j => 0 + step x0 x1 j d f) ?_ ?_ ?_ ?_
  · refine (pay14_apply _ _ _ f d).trans (plane_sum ?_ (fun k => load_x0 arg1 harg1 x0 0 f 0 rfl _ k) fun k => load_x1 arg2 harg2 x1 d _ k)
    exact load_A arg4 0 d f _ 0 rfl (zeros_A 0 d f _ _) _
  · refine (pay15_apply _ _ _ f d).trans (plane_sum ?_ (fun k => load_x0 arg1 harg1 x0 1 f 1 rfl _ k) fun k => load_x1 arg2 harg2 x1 d _ k)
    exact load_A arg4 1 d f _ 1 rfl ((plane_miss _ _ 1 0 (by decide) _ _ _ f d).trans (zeros_A 1 d f _ _)) _
  · refine (pay1_apply _ _ _ f d).trans (plane_sum ?_ (fun k => load_x0 arg1 harg1 x0 2 f 2 rfl _ k) fun k => (cast_apply _ k d).trans (load_x1 arg2 harg2 x1 d _ k))
    exact load_A arg4 2 d f _ 2 rfl ((plane_miss _ _ 2 1 (by decide) _ _ _ f d).trans ((plane_miss _ _ 2 0 (by decide) _ _ _ f d).trans (zeros_A 2 d f _ _))) _
  · refine (pay2_apply _ _ _ f d).trans (plane_sum ?_ (fun k => load_x0 arg1 harg1 x0 3 f 3 rfl _ k) fun k => (cast_apply _ k d).trans (load_x1 arg2 harg2 x1 d _ k))
    exact load_A arg4 3 d f _ 3 rfl ((plane_miss _ _ 3 2 (by decide) _ _ _ f d).trans ((plane_miss _ _ 3 1 (by decide) _ _ _ f d).trans ((plane_miss _ _ 3 0 (by decide) _ _ _ f d).trans (zeros_A 3 d f _ _)))) _

/-- A half plane of the last point's planes, loaded back. -/
theorem half_C (o k : ℕ) (ho : j.val = o) (inb : ∀ a, (![o, k, 0] : Fin 3 → ℕ) a + (![1, 384, 1024] : Fin 3 → ℕ) a ≤ S4x768x1024.size a) (e : Fin 384) (he : f.val = k + e.val) :
    arg4.view.readCov (Val := Elt Ideal) (kernelRun0_C.sl.HS0_4 (F := Ideal) c arg1 harg1 arg2 harg2 arg4 harg4 x0 x1 xs0)
      (Rect.unit (s := S4x768x1024) ![o, k, 0] ![1, 384, 1024] inb).toLoadRect (ix3 0 e d) = xs0 (ix3 j f d) + step x0 x1 j d f :=
  (plane_rows arg4.view _ j o k ho inb e d f d he rfl).trans (stores_C c arg1 harg1 arg2 harg2 arg4 harg4 x0 x1 xs0 j d f _ _)

/-- Eight planes stored one after the other read what each was stored as. -/
theorem halves_read {sig : RefSig} {κ : Kind} {sp : Space} (v : View sig κ sp S8x384x1024 .bf16) (g : v.ty.Contents (Elt Ideal))
    (inb0 : ∀ a, (![0, 0, 0] : Fin 3 → ℕ) a + (![1, 384, 1024] : Fin 3 → ℕ) a ≤ S8x384x1024.size a)
    (inb1 : ∀ a, (![1, 0, 0] : Fin 3 → ℕ) a + (![1, 384, 1024] : Fin 3 → ℕ) a ≤ S8x384x1024.size a)
    (inb2 : ∀ a, (![2, 0, 0] : Fin 3 → ℕ) a + (![1, 384, 1024] : Fin 3 → ℕ) a ≤ S8x384x1024.size a)
    (inb3 : ∀ a, (![3, 0, 0] : Fin 3 → ℕ) a + (![1, 384, 1024] : Fin 3 → ℕ) a ≤ S8x384x1024.size a)
    (inb4 : ∀ a, (![4, 0, 0] : Fin 3 → ℕ) a + (![1, 384, 1024] : Fin 3 → ℕ) a ≤ S8x384x1024.size a)
    (inb5 : ∀ a, (![5, 0, 0] : Fin 3 → ℕ) a + (![1, 384, 1024] : Fin 3 → ℕ) a ≤ S8x384x1024.size a)
    (inb6 : ∀ a, (![6, 0, 0] : Fin 3 → ℕ) a + (![1, 384, 1024] : Fin 3 → ℕ) a ≤ S8x384x1024.size a)
    (inb7 : ∀ a, (![7, 0, 0] : Fin 3 → ℕ) a + (![1, 384, 1024] : Fin 3 → ℕ) a ≤ S8x384x1024.size a)
    (w0 w1 w2 w3 w4 w5 w6 w7 : Vec Ideal S1x384x1024 .bf16) (q : Fin 8) (e : Fin 384) (G : Fin 8 → EReal)
    (h0 : w0 (ix3 0 e d) = G 0) (h1 : w1 (ix3 0 e d) = G 1) (h2 : w2 (ix3 0 e d) = G 2) (h3 : w3 (ix3 0 e d) = G 3) (h4 : w4 (ix3 0 e d) = G 4) (h5 : w5 (ix3 0 e d) = G 5) (h6 : w6 (ix3 0 e d) = G 6) (h7 : w7 (ix3 0 e d) = G 7) :
    v.read (Elt Ideal) (v.writes (Elt Ideal) g [⟨Rect.unit (s := S8x384x1024) ![7, 0, 0] ![1, 384, 1024] inb7, w7⟩,
      ⟨Rect.unit (s := S8x384x1024) ![6, 0, 0] ![1, 384, 1024] inb6, w6⟩,
      ⟨Rect.unit (s := S8x384x1024) ![5, 0, 0] ![1, 384, 1024] inb5, w5⟩,
      ⟨Rect.unit (s := S8x384x1024) ![4, 0, 0] ![1, 384, 1024] inb4, w4⟩,
      ⟨Rect.unit (s := S8x384x1024) ![3, 0, 0] ![1, 384, 1024] inb3, w3⟩,
      ⟨Rect.unit (s := S8x384x1024) ![2, 0, 0] ![1, 384, 1024] inb2, w2⟩,
      ⟨Rect.unit (s := S8x384x1024) ![1, 0, 0] ![1, 384, 1024] inb1, w1⟩,
      ⟨Rect.unit (s := S8x384x1024) ![0, 0, 0] ![1, 384, 1024] inb0, w0⟩]) (ix3 q e d) = G q := by
  match q with
  | ⟨7, _⟩ =>
    exact (plane_hit _ _ 7 7 rfl _ _ _ e d).trans h7
  | ⟨6, _⟩ =>
    refine (plane_miss _ _ 6 7 (by decide) _ _ _ e d).trans ?_
    exact (plane_hit _ _ 6 6 rfl _ _ _ e d).trans h6
  | ⟨5, _⟩ =>
    refine (plane_miss _ _ 5 7 (by decide) _ _ _ e d).trans ?_
    refine (plane_miss _ _ 5 6 (by decide) _ _ _ e d).trans ?_
    exact (plane_hit _ _ 5 5 rfl _ _ _ e d).trans h5
  | ⟨4, _⟩ =>
    refine (plane_miss _ _ 4 7 (by decide) _ _ _ e d).trans ?_
    refine (plane_miss _ _ 4 6 (by decide) _ _ _ e d).trans ?_
    refine (plane_miss _ _ 4 5 (by decide) _ _ _ e d).trans ?_
    exact (plane_hit _ _ 4 4 rfl _ _ _ e d).trans h4
  | ⟨3, _⟩ =>
    refine (plane_miss _ _ 3 7 (by decide) _ _ _ e d).trans ?_
    refine (plane_miss _ _ 3 6 (by decide) _ _ _ e d).trans ?_
    refine (plane_miss _ _ 3 5 (by decide) _ _ _ e d).trans ?_
    refine (plane_miss _ _ 3 4 (by decide) _ _ _ e d).trans ?_
    exact (plane_hit _ _ 3 3 rfl _ _ _ e d).trans h3
  | ⟨2, _⟩ =>
    refine (plane_miss _ _ 2 7 (by decide) _ _ _ e d).trans ?_
    refine (plane_miss _ _ 2 6 (by decide) _ _ _ e d).trans ?_
    refine (plane_miss _ _ 2 5 (by decide) _ _ _ e d).trans ?_
    refine (plane_miss _ _ 2 4 (by decide) _ _ _ e d).trans ?_
    refine (plane_miss _ _ 2 3 (by decide) _ _ _ e d).trans ?_
    exact (plane_hit _ _ 2 2 rfl _ _ _ e d).trans h2
  | ⟨1, _⟩ =>
    refine (plane_miss _ _ 1 7 (by decide) _ _ _ e d).trans ?_
    refine (plane_miss _ _ 1 6 (by decide) _ _ _ e d).trans ?_
    refine (plane_miss _ _ 1 5 (by decide) _ _ _ e d).trans ?_
    refine (plane_miss _ _ 1 4 (by decide) _ _ _ e d).trans ?_
    refine (plane_miss _ _ 1 3 (by decide) _ _ _ e d).trans ?_
    refine (plane_miss _ _ 1 2 (by decide) _ _ _ e d).trans ?_
    exact (plane_hit _ _ 1 1 rfl _ _ _ e d).trans h1
  | ⟨0, _⟩ =>
    refine (plane_miss _ _ 0 7 (by decide) _ _ _ e d).trans ?_
    refine (plane_miss _ _ 0 6 (by decide) _ _ _ e d).trans ?_
    refine (plane_miss _ _ 0 5 (by decide) _ _ _ e d).trans ?_
    refine (plane_miss _ _ 0 4 (by decide) _ _ _ e d).trans ?_
    refine (plane_miss _ _ 0 3 (by decide) _ _ _ e d).trans ?_
    refine (plane_miss _ _ 0 2 (by decide) _ _ _ e d).trans ?_
    refine (plane_miss _ _ 0 1 (by decide) _ _ _ e d).trans ?_
    exact (plane_hit _ _ 0 0 rfl _ _ _ e d).trans h0

/-- What the last point writes out: plane `q / 2` of the accumulator, its half `q % 2`. -/
def half (q : Fin 8) (e : Fin 384) : Ideal .f32 :=
  xs0 (ix3 ⟨q.val / 2, by omega⟩ ⟨q.val % 2 * 384 + e.val, by omega⟩ d) + step x0 x1 ⟨q.val / 2, by omega⟩ d ⟨q.val % 2 * 384 + e.val, by omega⟩

theorem out_C (hc0 : ¬cond0_0 i) (hc1 : cond0_1 i) (q : Fin 8) (e : Fin 384) :
    out0_C_2 (F := Ideal) c i arg1 harg1 arg2 harg2 arg3 harg3 arg4 harg4 hc0 hc1 x0 x1 xs0 (ix3 q e d) = half x0 x1 xs0 d q e := by
  unfold out0_C_2 kernelRun0_C
  dsimp only
  refine halves_read d _ _ _ _ _ _ _ _ _ _ _ _ _ _ _ _ _ _ q e (half x0 x1 xs0 d · e) ?_ ?_ ?_ ?_ ?_ ?_ ?_ ?_
  · exact (pay7_apply _ e d).trans (half_C c arg1 harg1 arg2 harg2 arg4 harg4 x0 x1 xs0 0 d ⟨0 % 2 * 384 + e.val, by omega⟩ 0 0 rfl _ e rfl)
  · exact (pay7_apply _ e d).trans (half_C c arg1 harg1 arg2 harg2 arg4 harg4 x0 x1 xs0 0 d ⟨1 % 2 * 384 + e.val, by omega⟩ 0 384 rfl _ e rfl)
  · exact (pay7_apply _ e d).trans (half_C c arg1 harg1 arg2 harg2 arg4 harg4 x0 x1 xs0 1 d ⟨2 % 2 * 384 + e.val, by omega⟩ 1 0 rfl _ e rfl)
  · exact (pay7_apply _ e d).trans (half_C c arg1 harg1 arg2 harg2 arg4 harg4 x0 x1 xs0 1 d ⟨3 % 2 * 384 + e.val, by omega⟩ 1 384 rfl _ e rfl)
  · exact (pay7_apply _ e d).trans (half_C c arg1 harg1 arg2 harg2 arg4 harg4 x0 x1 xs0 2 d ⟨4 % 2 * 384 + e.val, by omega⟩ 2 0 rfl _ e rfl)
  · exact (pay7_apply _ e d).trans (half_C c arg1 harg1 arg2 harg2 arg4 harg4 x0 x1 xs0 2 d ⟨5 % 2 * 384 + e.val, by omega⟩ 2 384 rfl _ e rfl)
  · exact (pay7_apply _ e d).trans (half_C c arg1 harg1 arg2 harg2 arg4 harg4 x0 x1 xs0 3 d ⟨6 % 2 * 384 + e.val, by omega⟩ 3 0 rfl _ e rfl)
  · exact (pay7_apply _ e d).trans (half_C c arg1 harg1 arg2 harg2 arg4 harg4 x0 x1 xs0 3 d ⟨7 % 2 * 384 + e.val, by omega⟩ 3 384 rfl _ e rfl)

end Cert.Kernel5Ideal.Hand

end
-- ==== Proof.DownRef.lean ====
/- The result of the down projection's weight-gradient reference at an index. -/
module

public import proofs.«01_k».proof.Proof.Exact
public import proofs.«01_k».proof.Proof.Gen.Reference5Ideal.Run

@[expose] public section

noncomputable section

namespace Cert.Reference5Ideal.Hand

open Cert.Reference5Ideal Cert.Reference5Ideal.Gen Idealize.ShloMosaic Idealize.ShloMosaic.TcCoe Idealize.SL.Sem

variable (x : FVec Ideal S8192x2816 .f32) (z : FVec Ideal S8192x1024 .f32)

/-- The gradient of the weights, transposed: its columns are the weights' rows. -/
def grad : FVec Ideal S1024x2816 .f32 := Host.dotGeneral dot_S8192x1024_S8192x2816_S1024x2816_0_0_1_1_n_n none z x
/-- The gradient in the weights' layout: eight groups of rows, each followed by zeros. -/
def out : FVec Ideal S8x384x1024 .bf16 :=
  pad S8x384x1024 ![0, 0, 0] ![0, 32, 0] ![0, 0, 0] (shapeCast S8x352x1024 (truncf .bf16 (transpose S2816x1024 [1, 0] (grad x z) transposes_S1024x2816_S2816x1024_1_0) bitsLt_bf16_f32) shapeCasts_S2816x1024_S8x352x1024) (sitofp (F := Ideal) .bf16 (constantI S_ 32 0#32)) pads_S8x352x1024_S8x384x1024_000_0320_000 h_S_

theorem zero_word : FloatOps.sitofp (F := Ideal) .bf16 0#32 = (0 : EReal) := by
  show ((((0#32 : BitVec 32).toInt : ℤ) : ℝ) : EReal) = 0
  simp

theorem grad_apply (y : Fin 2816) (d : Fin 1024) : grad x z (ix2 d y) = ∑ t, z (ix2 t d) * x (ix2 t y) := by
  pointwise [grad, dot_S8192x1024_S8192x2816_S1024x2816_0_0_1_1_n_n]

theorem out_in (q : Fin 8) (e : Fin 384) (d : Fin 1024) (y : Fin 2816) (he : e.val < 352) (hy : y.val = q.val * 352 + e.val) :
    out x z (ix3 q e d) = ∑ t, x (ix2 t y) * z (ix2 t d) := by
  pointwise [out]
  rw [dif_pos he, grad_apply]
  refine Finset.sum_congr rfl fun t _ => ?_
  rw [mul_comm, show (⟨q.val * 352 + e.val, by omega⟩ : Fin 2816) = y from Fin.ext hy.symm]

theorem out_out (q : Fin 8) (e : Fin 384) (d : Fin 1024) (he : ¬e.val < 352) : out x z (ix3 q e d) = 0 := by
  pointwise [out]
  rw [dif_neg he]
  exact zero_word

end Cert.Reference5Ideal.Hand

end
-- ==== Proof.DownValue.lean ====
/- The down projection's weight-gradient call and its reference at the exact arithmetic: both end with the product of the
   transposed activations and the gradient of the block's output, from any arguments. -/
module

public import proofs.«01_k».proof.Defs
public import proofs.«01_k».proof.Proof.GradValue
public import proofs.«01_k».proof.Proof.DownTiles
public import proofs.«01_k».proof.Proof.DownRef
public import proofs.«01_k».proof.Proof.Gen.Kernel5Ideal.Value
public import Idealize.ShloMosaic.Lib.StableHlo.RunRead

@[expose] public section

set_option maxRecDepth 16384

noncomputable section

namespace Cert.Kernel5Ideal.Hand

open Cert.Kernel5Ideal Cert.Kernel5Ideal.Gen Idealize.ShloMosaic Idealize.ShloMosaic.TcCoe Idealize.SL.Sem Idealize.ShloMosaic.StableHlo
open Cert.Kernel4Ideal.Hand (sum_blocks)
open Cert.Reference5Ideal.Hand (out out_in out_out zero_word)

variable (m : (ℓ : Loc nD τ sig) → Buf (Elt Ideal) ℓ) (ρ : Dev nD → PrngReg) (c : Dev nD)

/-! ## Where the blocks lie -/

theorem index0 : ∀ t : Fin cfg0.N, win0_0.index t = ![0, t.val, 0] := by decide +kernel
theorem index1 : ∀ t : Fin cfg0.N, win0_1.index t = ![t.val, 0] := by decide +kernel

/-- The activations in four groups, as the call is handed them, and the gradient of the block's output. -/
abbrev argX : Vec Ideal S4x8192x768 .bf16 := V m c main_v4
abbrev argZ : Vec Ideal S8192x1024 .f32 := m ((c : Thread nD τ).loc main_arg1)

theorem blk_x (t : Fin cfg0.N) (j : Fin 4) (k : Fin 512) (f : Fin 768) (r : Fin 8192) (hr : r.val = t.val * 512 + k.val) :
    (iblk m c 0 t : Vec Ideal S4x512x768 .bf16) (ix3 j k f) = argX m c (ix3 j r f) := by
  have hi := index0 t
  unfold iblk
  rw [View.read_apply]
  show V m c main_v4 _ = _
  refine congrArg (V m c main_v4) (funext fun ax => Fin.ext ?_)
  match ax with
  | ⟨0, _⟩ => show win0_0.index t 0 * 4 + 1 * j.val = j.val; rw [hi]; show 0 * 4 + 1 * j.val = j.val; omega
  | ⟨1, _⟩ => show win0_0.index t 1 * 512 + 1 * k.val = r.val; rw [hi]; show t.val * 512 + 1 * k.val = r.val; omega
  | ⟨2, _⟩ => show win0_0.index t 2 * 768 + 1 * f.val = f.val; rw [hi]; show 0 * 768 + 1 * f.val = f.val; omega

theorem blk_z (t : Fin cfg0.N) (k : Fin 512) (d : Fin 1024) (r : Fin 8192) (hr : r.val = t.val * 512 + k.val) :
    (iblk m c 1 t : Vec Ideal S512x1024 .f32) (ix2 k d) = argZ m c (ix2 r d) := by
  have hi := index1 t
  unfold iblk
  rw [View.read_apply]
  show V m c main_arg1 _ = _
  refine congrArg (m ((c : Thread nD τ).loc main_arg1)) (funext fun ax => Fin.ext ?_)
  match ax with
  | ⟨0, _⟩ => show win0_1.index t 0 * 512 + 1 * k.val = r.val; rw [hi]; show t.val * 512 + 1 * k.val = r.val; omega
  | ⟨1, _⟩ => show win0_1.index t 1 * 1024 + 1 * d.val = d.val; rw [hi]; show 0 * 1024 + 1 * d.val = d.val; omega

/-! ## The planes after each point -/

section
variable (j : Fin 4) (d : Fin 1024) (f : Fin 768)

/-- What point `n` adds. -/
def part (n : ℕ) : EReal := if h : n < cfg0.N then step (iblk m c 0 ⟨n, h⟩) (iblk m c 1 ⟨n, h⟩) j d f else 0

theorem part_eq (n : ℕ) (h : n < cfg0.N) : part m c j d f n = step (iblk m c 0 ⟨n, h⟩) (iblk m c 1 ⟨n, h⟩) j d f := dif_pos h

theorem next_B (t : Fin cfg0.N) (acc : Vec Ideal S8x384x1024 .bf16 × Vec Ideal S4x768x1024 .f32) (h0 : ¬t.val % 16 = 0) (h1 : ¬t.val % 16 = 15) :
    (Value.stAt0 m c t.val t.isLt acc).2 (ix3 j f d) = acc.2 (ix3 j f d) + step (iblk m c 0 t) (iblk m c 1 t) j d f := by
  rw [Value.stAt0_B m c t acc h0 h1]
  dsimp only
  exact acc_B c (grid0.coords t) (ms0_0 t) (hs0_0 t) (ms0_1 t) (hs0_1 t) (ms0_2 t) (hs0_2 t) scM0_0 (Memref.isWhole_whole _) (iblk m c 0 t) (iblk m c 1 t) acc.2 j d f _ _

theorem planes_after (n : ℕ) (h : n < cfg0.N) (hn : n < 15) : (outsAt0 m c n h).2 (ix3 j f d) = ∑ i ∈ Finset.range (n + 1), part m c j d f i := by
  induction n with
  | zero =>
    rw [Finset.sum_range_one, part_eq m c j d f 0 h, Value.outsAt0_zero,
      Value.stAt0_A m c ⟨0, h⟩ _ rfl (by show ¬0 % 16 = 15; decide)]
    dsimp only
    exact (acc_A c _ _ _ _ _ _ _ _ _ _ _ j d f _ _).trans (zero_add _)
  | succ n ih =>
    rw [Finset.sum_range_succ, ← ih (Nat.lt_of_succ_lt h) (by omega), part_eq m c j d f (n + 1) h, Value.outsAt0_succ]
    exact next_B m c j d f ⟨n + 1, h⟩ _ (by show ¬(n + 1) % 16 = 0; omega) (by show ¬(n + 1) % 16 = 15; omega)

/-- The parts of all the points make up the whole product. -/
theorem parts_sum : ∑ i ∈ Finset.range 16, part m c j d f i
    = ∑ t : Fin 8192, argX m c (ix3 j t f) * argZ m c (ix2 t d) := by
  rw [sum_blocks, Finset.sum_range]
  refine Finset.sum_congr rfl fun i _ => ?_
  have hi : i.val < cfg0.N := lt_of_lt_of_eq i.isLt N_0.symm
  rw [part_eq m c j d f i.val hi]
  unfold step
  refine Finset.sum_congr rfl fun k _ => ?_
  rw [blk_x m c ⟨i.val, hi⟩ j k f ⟨i.val * 512 + k.val, by omega⟩ rfl, blk_z m c ⟨i.val, hi⟩ k d ⟨i.val * 512 + k.val, by omega⟩ rfl]

end

theorem last_C (d : Fin 1024) (q : Fin 8) (e : Fin 384) (t : Fin cfg0.N) (acc : Vec Ideal S8x384x1024 .bf16 × Vec Ideal S4x768x1024 .f32) (h0 : ¬t.val % 16 = 0) (h1 : t.val % 16 = 15) :
    (Value.stAt0 m c t.val t.isLt acc).1 (ix3 q e d) = half (iblk m c 0 t) (iblk m c 1 t) acc.2 d q e := by
  rw [Value.stAt0_C m c t acc h0 h1]
  dsimp only
  exact out_C c (grid0.coords t) (ms0_0 t) (hs0_0 t) (ms0_1 t) (hs0_1 t) (ms0_2 t) (hs0_2 t) scM0_0 (Memref.isWhole_whole _) (iblk m c 0 t) (iblk m c 1 t) acc.2 d _ _ q e

/-! ## What the host hands the call -/

/-- The activations' columns in four groups, each eighth of the columns followed by zeros. -/
def groups (z : FVec Ideal S8192x2816 .f32) : FVec Ideal S4x8192x768 .bf16 :=
  transpose S4x8192x768 [1, 0, 2] (shapeCast S8192x4x768 (pad S8192x8x384 ![0, 0, 0] ![0, 0, 32] ![0, 0, 0] (shapeCast S8192x8x352 (truncf .bf16 z bitsLt_bf16_f32) shapeCasts_S8192x2816_S8192x8x352) (sitofp (F := Ideal) .bf16 (constantI S_ 32 0#32)) pads_S8192x8x352_S8192x8x384_000_000_0320 h_S_) shapeCasts_S8192x8x384_S8192x4x768) transposes_S8192x4x768_S4x8192x768_1_0_2

theorem V_x : argX m c = groups (m ((c : Thread nD τ).loc main_arg0)) := by
  simp only [argX, V, hostOps0, hostOps0_1, hostOps0_2, List.flatten_cons, List.flatten_nil, List.append_nil, List.cons_append, List.nil_append,
    TRef.binary, TRef.unary, TRef.toBuf, TRef.ofBuf, cast_eq]
  after_results_simp
  rfl

theorem groups_in (z : FVec Ideal S8192x2816 .f32) (j : Fin 4) (t : Fin 8192) (f : Fin 768) (y : Fin 2816) (hf : f.val % 384 < 352)
    (hy : y.val = (j.val * 2 + f.val / 384) * 352 + f.val % 384) : groups z (ix3 j t f) = z (ix2 t y) := by
  pointwise [groups]
  rw [dif_pos ⟨by omega, hf⟩]
  exact congrArg (fun i => z (ix2 t i)) (Fin.ext hy.symm)

theorem groups_out (z : FVec Ideal S8192x2816 .f32) (j : Fin 4) (t : Fin 8192) (f : Fin 768) (hf : ¬f.val % 384 < 352) : groups z (ix3 j t f) = 0 := by
  pointwise [groups]
  rw [dif_neg fun h => hf h.2]
  exact zero_word

/-- What the call leaves at an index. -/
theorem left_apply (q : Fin 8) (e : Fin 384) (d : Fin 1024) : (Value.G2 m c : Vec Ideal S8x384x1024 .bf16) (ix3 q e d)
    = ∑ t : Fin 8192, argX m c (ix3 ⟨q.val / 2, by omega⟩ t ⟨q.val % 2 * 384 + e.val, by omega⟩) * argZ m c (ix2 t d) := by
  have hN : 15 < cfg0.N := lt_of_lt_of_eq (by decide) N_0.symm
  rw [Value.G2_last, ← Value.outsAt0_sweep m c 15 hN]
  refine Eq.trans ?_ (parts_sum m c _ d _)
  rw [Finset.sum_range_succ, ← planes_after m c _ d _ 14 (by omega) (by omega), part_eq m c _ d _ 15 hN, Value.outsAt0_succ m c 14 hN]
  exact last_C m c d q e ⟨15, hN⟩ _ (by show ¬15 % 16 = 0; decide) rfl

/-- The reference's gradient is that sum. -/
theorem right_apply (q : Fin 8) (e : Fin 384) (d : Fin 1024) : out (m ((c : Thread nD τ).loc main_arg0)) (m ((c : Thread nD τ).loc main_arg1)) (ix3 q e d)
    = ∑ t : Fin 8192, argX m c (ix3 ⟨q.val / 2, by omega⟩ t ⟨q.val % 2 * 384 + e.val, by omega⟩) * argZ m c (ix2 t d) := by
  rw [V_x m c]
  by_cases he : e.val < 352
  · rw [out_in _ _ q e d ⟨q.val * 352 + e.val, by omega⟩ he rfl]
    refine Finset.sum_congr rfl fun t _ => ?_
    rw [groups_in _ _ t _ ⟨q.val * 352 + e.val, by omega⟩ (by show (q.val % 2 * 384 + e.val) % 384 < 352; omega)
      (by show q.val * 352 + e.val = (q.val / 2 * 2 + (q.val % 2 * 384 + e.val) / 384) * 352 + (q.val % 2 * 384 + e.val) % 384; omega)]
  · rw [out_out _ _ q e d he]
    refine (Finset.sum_eq_zero fun t _ => ?_).symm
    rw [groups_out _ _ t _ (by show ¬(q.val % 2 * 384 + e.val) % 384 < 352; omega), zero_mul]

/-- What the call leaves is the reference's gradient. -/
theorem final : Value.G2 m c = out (m ((c : Thread nD τ).loc main_arg0)) (m ((c : Thread nD τ).loc main_arg1)) := by
  refine funext fun (y : S8x384x1024.Idx) => ?_
  obtain ⟨q, e, d, rfl⟩ : ∃ q e d, y = ix3 q e d := ⟨_, _, _, eq_ix3 y⟩
  exact (left_apply m c q e d).trans (right_apply m c q e d).symm

end Cert.Kernel5Ideal.Hand

end
-- ==== Proof.BackTiles.lean ====
/- What one grid point of the feed-forward gradient's kernel computes: its group of columns of the activation and of the
   two projections' gradients, what that group adds to the gradient of the normalised rows, and at a row tile's last
   point the normalised rows, the input's gradient and what the tile adds to the scale's gradient. -/
module

public import Idealize.ShloMosaic.Lib.WritesUnit
public import proofs.«01_k».proof.Proof.Exact
public import proofs.«01_k».proof.Proof.FfnTiles
public import proofs.«01_k».proof.Proof.Gen.Kernel6Ideal.Frame
public import proofs.«01_k».proof.Proof.Gen.Kernel6Ideal.Skeleton

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Cert.Kernel3Ideal.Hand (nrm act one sum_halves store2 load2 load2_unread load3_unread)

/-! ## The mathematics of one point -/

/-- The logistic function. -/
def sg (g : EReal) : EReal := Ideal.div 1 (1 + Ideal.exp (-g))

/-- The gradient of the activation at column `y` of a group. -/
def dact (q : Fin 1024 → EReal) (w : Vec Ideal S2x384x1024 .bf16) (y : Fin 768) : EReal :=
  ∑ d, q d * w (ix3 ⟨y.val / 384, by omega⟩ ⟨y.val % 384, by omega⟩ d)

/-- The gate's gradient, from the gate, the up projection and the activation's gradient. -/
def dgate (g u r : EReal) : EReal := r * u * (sg g * (1 + g * (1 - sg g)))

/-- The up projection's gradient. -/
def dup (g r : EReal) : EReal := r * (g * sg g)

/-- What a group of columns adds to the gradient of the normalised rows. -/
def back (p q : Fin 768 → EReal) (wg wu : Vec Ideal S2x1024x384 .bf16) (d : Fin 1024) : EReal :=
  (∑ y : Fin 768, p y * wg (ix3 ⟨y.val / 384, by omega⟩ d ⟨y.val % 384, by omega⟩))
    + ∑ y : Fin 768, q y * wu (ix3 ⟨y.val / 384, by omega⟩ d ⟨y.val % 384, by omega⟩)

/-- The reciprocal of a row's root mean square. -/
def rr {n : ℕ} (x : Vec Ideal ⟨2, ![n, 1024]⟩ .f32) (a : Fin n) : EReal :=
  Ideal.rsqrt (Ideal.div (∑ k, x (ix2 a k) * x (ix2 a k)) (Ideal.ofBits .f32 0x44800000#32) + Ideal.ofBits .f32 0x358637BD#32)

/-- The gradient of a row, from the gradient of the normalised row. -/
def drow {n : ℕ} (x : Vec Ideal ⟨2, ![n, 1024]⟩ .f32) (g : Vec Ideal S1x1024 .f32) (p : Fin 1024 → EReal) (a : Fin n) (d : Fin 1024) : EReal :=
  rr x a * (p d * g (ix2 0 d) - x (ix2 a d) * rr x a * Ideal.div (∑ k, p k * g (ix2 0 k) * (x (ix2 a k) * rr x a)) (Ideal.ofBits .f32 0x44800000#32))

/-! ## The stored values at an index -/

section Pays

variable (a : Fin 512) (d : Fin 1024) (y : Fin 768)

theorem pay1_apply (x z : Vec Ideal S512x1024 .f32) : k0_pay1 (F := Ideal) x z (ix2 a d) = x (ix2 a d) + z (ix2 a d) := by
  pointwise [k0_pay1]

theorem pay2_apply (x z v : Vec Ideal S512x1024 .f32) : k0_pay2 (F := Ideal) x z v (ix2 a d) = v (ix2 a d) + z (ix2 a d) * x (ix2 a d) := by
  pointwise [k0_pay2]

theorem pay3_apply (x z : Vec Ideal S512x1024 .f32) (v : Vec Ideal S1x1024 .f32) : k0_pay3 (F := Ideal) x z v (ix2 0 d) = v (ix2 0 d) + ∑ b : Fin 512, x (ix2 b d) * z (ix2 b d) := by
  pointwise [k0_pay3]

theorem pay4_apply (x : Vec Ideal S512x1024 .f32) (g : Vec Ideal S1x1024 .f32) : k0_pay4 (F := Ideal) x g (ix2 a d) = nrm x g a d := by
  unfold nrm
  pointwise [k0_pay4]

theorem pay5_apply (x : Vec Ideal S512x1024 .f32) : k0_pay5 (F := Ideal) x (ix2 a 0) = rr x a := by
  unfold rr
  pointwise [k0_pay5]

theorem pay8_apply (x : Vec Ideal S512x1024 .f32) : k0_pay8 (F := Ideal) x (ix2 a d) = rr x a := by
  pointwise [k0_pay8, pay5_apply]

theorem pay6_apply (x : Vec Ideal S512x1024 .f32) : k0_pay6 (F := Ideal) x (ix2 a d) = x (ix2 a d) * rr x a := by
  pointwise [k0_pay6, pay5_apply]

theorem pay7_apply (x : Vec Ideal S512x1024 .f32) (g : Vec Ideal S1x1024 .f32) (v : Vec Ideal S512x1024 .f32) : k0_pay7 (F := Ideal) x g v (ix2 a d)
    = v (ix2 a d) * g (ix2 0 d) - x (ix2 a d) * rr x a * Ideal.div (∑ k, v (ix2 a k) * g (ix2 0 k) * (x (ix2 a k) * rr x a)) (Ideal.ofBits .f32 0x44800000#32) := by
  pointwise [k0_pay7, pay6_apply]

theorem pay9_apply : k0_pay9 (F := Ideal) (ix2 0 d) = 0 := by
  pointwise [k0_pay9]

theorem pay10_apply (x : Vec Ideal S512x1024 .f32) : k0_pay10 (F := Ideal) x (ix2 a d) = x (ix2 a d) := by
  pointwise [k0_pay10]

theorem pay11_apply : k0_pay11 (F := Ideal) (ix2 a d) = 0 := by
  pointwise [k0_pay11]

variable (b b' : Vec Ideal S1x512x768 .f32)

theorem pay12_apply : k0_pay12 (F := Ideal) b (ix2 a y) = b (ix3 0 a y) := by
  pointwise [k0_pay12]

theorem pay13_apply : k0_pay13 (F := Ideal) b (ix2 a y) = b (ix3 0 a y) := by
  pointwise [k0_pay13]

theorem pay15_apply : k0_pay15 (F := Ideal) b (ix2 a y) = sg (b (ix3 0 a y)) := by
  unfold sg
  pointwise [k0_pay15, one, pay12_apply]
  rw [zero_sub]

theorem pay16_apply : k0_pay16 (F := Ideal) b (ix2 a y) = b (ix3 0 a y) * sg (b (ix3 0 a y)) := by
  pointwise [k0_pay16, pay12_apply, pay15_apply]

theorem pay17_apply : k0_pay17 (F := Ideal) b b' (ix2 a y) = act (b (ix3 0 a y)) (b' (ix3 0 a y)) := by
  unfold act
  pointwise [k0_pay17, pay13_apply, pay16_apply]
  rfl

theorem pay18_apply (v : FVec Ideal S512x768 .bf16) : k0_pay18 (F := Ideal) v (ix3 0 a y) = v (ix2 a y) := by
  pointwise [k0_pay18]

variable (v9 v11 v18 v25 v26 : FVec Ideal S512x768 .f32)

theorem pay19_apply : k0_pay19 (F := Ideal) v9 v11 v18 v25 (ix2 a y) = v18 (ix2 a y) * v11 (ix2 a y) * (v25 (ix2 a y) * (1 + v9 (ix2 a y) * (1 - v25 (ix2 a y)))) := by
  pointwise [k0_pay19, one]

theorem pay20_apply : k0_pay20 (F := Ideal) v18 v26 (ix2 a y) = v18 (ix2 a y) * v26 (ix2 a y) := by
  pointwise [k0_pay20]

theorem pay21_apply : k0_pay21 (F := Ideal) v9 v11 v18 v25 (ix3 0 a y) = k0_pay19 (F := Ideal) v9 v11 v18 v25 (ix2 a y) := by
  pointwise [k0_pay21]

theorem pay22_apply : k0_pay22 (F := Ideal) v18 v26 (ix3 0 a y) = k0_pay20 (F := Ideal) v18 v26 (ix2 a y) := by
  pointwise [k0_pay22]

theorem pay14_apply (h : Vec Ideal S512x1024 .bf16) (w0 w1 : Vec Ideal S1x384x1024 .bf16) (w : Vec Ideal S2x384x1024 .bf16)
    (hw0 : ∀ e d, w0 (ix3 0 e d) = w (ix3 0 e d)) (hw1 : ∀ e d, w1 (ix3 0 e d) = w (ix3 1 e d)) :
    k0_pay14 (F := Ideal) h w0 w1 (ix2 a y) = dact (fun d => h (ix2 a d)) w y := by
  unfold dact
  pointwise [k0_pay14, dot_S512x1024_S768x1024_S512x768_1_1_0_0_n_n]
  refine Finset.sum_congr rfl fun d _ => congrArg (h (ix2 a d) * ·) ?_
  split
  · rename_i hy
    rw [hw0]
    refine congrArg₂ (fun s e => w (ix3 s e d)) (Fin.ext ?_) (Fin.ext ?_)
    · show 0 = y.val / 384
      omega
    · show y.val = y.val % 384
      omega
  · rename_i hy
    rw [hw1]
    refine congrArg₂ (fun s e => w (ix3 s e d)) (Fin.ext ?_) (Fin.ext ?_)
    · show 1 = y.val / 384
      omega
    · show y.val - 384 = y.val % 384
      omega

/-- A sum of products with a weight whose columns come in two pieces. -/
theorem halves (p : Fin 768 → EReal) (w0 w1 : Vec Ideal S1x1024x384 .bf16) (w : Vec Ideal S2x1024x384 .bf16)
    (hw0 : ∀ d e, w0 (ix3 0 d e) = w (ix3 0 d e)) (hw1 : ∀ d e, w1 (ix3 0 d e) = w (ix3 1 d e)) :
    ∑ x : Fin 384, p ⟨x.val, by omega⟩ * w0 (ix3 0 d x) + ∑ x : Fin 384, p ⟨384 + x.val, by omega⟩ * w1 (ix3 0 d x)
      = ∑ y, p y * w (ix3 ⟨y.val / 384, by omega⟩ d ⟨y.val % 384, by omega⟩) := by
  rw [sum_halves]
  refine congrArg₂ (· + ·) (Finset.sum_congr rfl fun x _ => ?_) (Finset.sum_congr rfl fun x _ => ?_)
  · rw [hw0]
    refine congrArg (p ⟨x.val, by omega⟩ * ·) (congrArg₂ (fun s e => w (ix3 s d e)) (Fin.ext ?_) (Fin.ext ?_))
    · show 0 = x.val / 384
      omega
    · show x.val = x.val % 384
      omega
  · rw [hw1]
    refine congrArg (p ⟨384 + x.val, by omega⟩ * ·) (congrArg₂ (fun s e => w (ix3 s d e)) (Fin.ext ?_) (Fin.ext ?_))
    · show 1 = (384 + x.val) / 384
      omega
    · show x.val = (384 + x.val) % 384
      omega

theorem pay23_apply (g0 g1 u0 u1 : Vec Ideal S1x1024x384 .bf16) (wg wu : Vec Ideal S2x1024x384 .bf16)
    (hg0 : ∀ d e, g0 (ix3 0 d e) = wg (ix3 0 d e)) (hg1 : ∀ d e, g1 (ix3 0 d e) = wg (ix3 1 d e))
    (hu0 : ∀ d e, u0 (ix3 0 d e) = wu (ix3 0 d e)) (hu1 : ∀ d e, u1 (ix3 0 d e) = wu (ix3 1 d e))
    (p q : Fin 768 → EReal) (hp : ∀ y, k0_pay19 (F := Ideal) v9 v11 v18 v25 (ix2 a y) = p y) (hq : ∀ y, k0_pay20 (F := Ideal) v18 v26 (ix2 a y) = q y) :
    k0_pay23 (F := Ideal) v9 v11 v18 v25 v26 g0 g1 u0 u1 (ix2 a d) = back p q wg wu d := by
  unfold back
  pointwise [k0_pay23, dot_S512x768_S1024x768_S512x1024_1_1_0_0_n_n, hp, hq]
  exact congrArg₂ (· + ·) (halves d p g0 g1 wg hg0 hg1) (halves d q u0 u1 wu hu0 hu1)

end Pays

/-! ## A point's values from its operands -/

section Values

variable (a : Fin 512) (b5 b6 : Vec Ideal S1x512x768 .f32) (v12 : Vec Ideal S512x1024 .bf16) (w0 w1 : Vec Ideal S1x384x1024 .bf16) (w : Vec Ideal S2x384x1024 .bf16)
    (g u : Fin 768 → EReal) (q : Fin 1024 → EReal) (h5 : ∀ y, b5 (ix3 0 a y) = g y) (h6 : ∀ y, b6 (ix3 0 a y) = u y) (hq : ∀ d, v12 (ix2 a d) = q d)
    (hw0 : ∀ e d, w0 (ix3 0 e d) = w (ix3 0 e d)) (hw1 : ∀ e d, w1 (ix3 0 e d) = w (ix3 1 e d))

include hq hw0 hw1 in
theorem dact_of (y : Fin 768) : k0_pay14 (F := Ideal) v12 w0 w1 (ix2 a y) = dact q w y := by
  rw [← funext hq]
  exact pay14_apply a y v12 w0 w1 w hw0 hw1

include h5 h6 hq hw0 hw1 in
theorem dgate_of (y : Fin 768) : k0_pay19 (F := Ideal) (k0_pay12 b5) (k0_pay13 b6) (k0_pay14 v12 w0 w1) (k0_pay15 b5) (ix2 a y) = dgate (g y) (u y) (dact q w y) := by
  unfold dgate
  rw [pay19_apply, pay12_apply, pay13_apply, pay15_apply, h5, h6, dact_of a v12 w0 w1 w q hq hw0 hw1]

include h5 hq hw0 hw1 in
theorem dup_of (y : Fin 768) : k0_pay20 (F := Ideal) (k0_pay14 v12 w0 w1) (k0_pay16 b5) (ix2 a y) = dup (g y) (dact q w y) := by
  unfold dup
  rw [pay20_apply, pay16_apply, h5, dact_of a v12 w0 w1 w q hq hw0 hw1]

include h5 h6 hq hw0 hw1 in
theorem back_of (d : Fin 1024) (g0 g1 u0 u1 : Vec Ideal S1x1024x384 .bf16) (wg wu : Vec Ideal S2x1024x384 .bf16)
    (hg0 : ∀ d e, g0 (ix3 0 d e) = wg (ix3 0 d e)) (hg1 : ∀ d e, g1 (ix3 0 d e) = wg (ix3 1 d e))
    (hu0 : ∀ d e, u0 (ix3 0 d e) = wu (ix3 0 d e)) (hu1 : ∀ d e, u1 (ix3 0 d e) = wu (ix3 1 d e)) :
    k0_pay23 (F := Ideal) (k0_pay12 b5) (k0_pay13 b6) (k0_pay14 v12 w0 w1) (k0_pay15 b5) (k0_pay16 b5) g0 g1 u0 u1 (ix2 a d)
      = back (fun y => dgate (g y) (u y) (dact q w y)) (fun y => dup (g y) (dact q w y)) wg wu d :=
  pay23_apply a d _ _ _ _ _ g0 g1 u0 u1 wg wu hg0 hg1 hu0 hu1 _ _ (dgate_of a b5 b6 v12 w0 w1 w g u q h5 h6 hq hw0 hw1) (dup_of a b5 v12 w0 w1 w g q h5 hq hw0 hw1)

end Values

/-! ## One grid point -/

section Point

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S2x1024x384 .bf16) (harg7 : arg7.IsWhole) (arg8 : Memref sig .tc .vmem S2x1024x384 .bf16) (harg8 : arg8.IsWhole) (arg9 : Memref sig .tc .vmem S2x384x1024 .bf16) (harg9 : arg9.IsWhole) (arg10 : Memref sig .tc .vmem S1x512x768 .bf16) (harg10 : arg10.IsWhole) (arg11 : Memref sig .tc .vmem S1x512x768 .bf16) (harg11 : arg11.IsWhole) (arg12 : Memref sig .tc .vmem S1x512x768 .bf16) (harg12 : arg12.IsWhole) (arg13 : Memref sig .tc .vmem S512x1024 .bf16) (harg13 : arg13.IsWhole) (arg14 : Memref sig .tc .vmem S512x1024 .f32) (harg14 : arg14.IsWhole) (arg15 : Memref sig .tc .vmem S1x1024 .f32) (harg15 : arg15.IsWhole) (arg16 : Memref sig .tc .vmem S512x1024 .bf16) (harg16 : arg16.IsWhole) (arg17 : Memref sig .tc .vmem S512x1024 .f32) (harg17 : arg17.IsWhole)
    (x0 : Vec Ideal S512x1024 .f32) (x1 : Vec Ideal S512x1024 .f32) (x2 : Vec Ideal S1x1024 .f32) (x3 : Vec Ideal S1x512x768 .f32) (x4 : Vec Ideal S1x512x768 .f32) (x5 : Vec Ideal S2x1024x384 .bf16) (x6 : Vec Ideal S2x1024x384 .bf16) (x7 : Vec Ideal S2x384x1024 .bf16) (xo13 : Vec Ideal S1x1024 .f32) (xs0 : Vec Ideal S512x1024 .bf16) (xs1 : Vec Ideal S512x1024 .f32) (a : Fin 512) (d : Fin 1024) (y : Fin 768)

/-- What a point adds to the gradient of the normalised row, from the output's gradient in row `a`. -/
def add (q : Fin 1024 → EReal) : EReal :=
  back (fun y => dgate (x3 (ix3 0 a y)) (x4 (ix3 0 a y)) (dact q x7 y)) (fun y => dup (x3 (ix3 0 a y)) (dact q x7 y)) x5 x6 d

/-- The activation's columns. -/
theorem act_B (hc0 : ¬cond0_0 i) (hc1 : ¬cond0_1 i) (hc2 : ¬cond0_2 i) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xs0 xs1 (ix3 0 a y)
      = act (x3 (ix3 0 a y)) (x4 (ix3 0 a y)) := by
  unfold out0_B_8 kernelRun0_B
  dsimp only
  unfold kernelRun0_B.sl.r_5
  refine (Cert.Kernel4Ideal.Hand.plane_hit _ _ (0 : Fin 1) 0 rfl _ _ _ a y).trans ?_
  refine (pay18_apply a y _).trans ((pay17_apply a y _ _).trans (congrArg₂ act ?_ ?_))
  · exact load3_unread arg5 harg5 x3 0 0 rfl _ a y
  · exact load3_unread arg6 harg6 x4 0 0 rfl _ a y

/-- The gate's gradient's columns. -/
theorem gate_B (hc0 : ¬cond0_0 i) (hc1 : ¬cond0_1 i) (hc2 : ¬cond0_2 i) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xs0 xs1 (ix3 0 a y)
      = dgate (x3 (ix3 0 a y)) (x4 (ix3 0 a y)) (dact (fun d => xs0 (ix2 a d)) x7 y) := by
  unfold out0_B_9 kernelRun0_B
  dsimp only
  unfold kernelRun0_B.sl.r kernelRun0_B.sl.r_1 kernelRun0_B.sl.r_2 kernelRun0_B.sl.r_3
  refine (Cert.Kernel4Ideal.Hand.plane_hit _ _ (0 : Fin 1) 0 rfl _ _ _ a y).trans ?_
  refine (pay21_apply a y _ _ _ _).trans ?_
  exact dgate_of a _ _ _ _ _ x7 _ _ _ (fun y => load3_unread arg5 harg5 x3 0 0 rfl _ a y) (fun y => load3_unread arg6 harg6 x4 0 0 rfl _ a y) (fun d => load2_unread arg16 harg16 xs0 _ a d) (fun e d => load3_unread arg9 harg9 x7 0 0 rfl _ e d) (fun e d => load3_unread arg9 harg9 x7 1 1 rfl _ e d) y

/-- The up projection's gradient's columns. -/
theorem up_B (hc0 : ¬cond0_0 i) (hc1 : ¬cond0_1 i) (hc2 : ¬cond0_2 i) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xs0 xs1 (ix3 0 a y)
      = dup (x3 (ix3 0 a y)) (dact (fun d => xs0 (ix2 a d)) x7 y) := by
  unfold out0_B_10 kernelRun0_B
  dsimp only
  unfold kernelRun0_B.sl.r_2 kernelRun0_B.sl.r_4
  refine (Cert.Kernel4Ideal.Hand.plane_hit _ _ (0 : Fin 1) 0 rfl _ _ _ a y).trans ?_
  refine (pay22_apply a y _ _).trans ?_
  exact dup_of a _ _ _ _ x7 _ _ (fun y => load3_unread arg5 harg5 x3 0 0 rfl _ a y) (fun d => load2_unread arg16 harg16 xs0 _ a d) (fun e d => load3_unread arg9 harg9 x7 0 0 rfl _ e d) (fun e d => load3_unread arg9 harg9 x7 1 1 rfl _ e d) y

theorem acc_B (hc0 : ¬cond0_0 i) (hc1 : ¬cond0_1 i) (hc2 : ¬cond0_2 i) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xs0 xs1 (ix2 a d)
      = xs1 (ix2 a d) + add x3 x4 x5 x6 x7 a d (fun d => xs0 (ix2 a d)) := by
  unfold sout0_B_1 kernelRun0_B
  dsimp only
  unfold kernelRun0_B.sl.r_8 kernelRun0_B.sl.r kernelRun0_B.sl.r_1 kernelRun0_B.sl.r_2 kernelRun0_B.sl.r_3 kernelRun0_B.sl.r_4
  refine (store2 _ _ _ _ _ a d).trans ((pay1_apply a d _ _).trans (congrArg₂ (· + ·) ?_ ?_))
  · exact load2_unread arg17 harg17 xs1 _ a d
  · exact back_of a _ _ _ _ _ x7 _ _ _ (fun y => load3_unread arg5 harg5 x3 0 0 rfl _ a y) (fun y => load3_unread arg6 harg6 x4 0 0 rfl _ a y) (fun d => load2_unread arg16 harg16 xs0 _ a d) (fun e d => load3_unread arg9 harg9 x7 0 0 rfl _ e d) (fun e d => load3_unread arg9 harg9 x7 1 1 rfl _ e d) d _ _ _ _ x5 x6 (fun e d => load3_unread arg7 harg7 x5 0 0 rfl _ e d) (fun e d => load3_unread arg7 harg7 x5 1 1 rfl _ e d) (fun e d => load3_unread arg8 harg8 x6 0 0 rfl _ e d) (fun e d => load3_unread arg8 harg8 x6 1 1 rfl _ e d)

/-- The activation's columns. -/
theorem act_C (hc0 : ¬cond0_0 i) (hc1 : ¬cond0_1 i) (hc2 : cond0_2 i) :
    out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo13 xs0 xs1 (ix3 0 a y)
      = act (x3 (ix3 0 a y)) (x4 (ix3 0 a y)) := by
  unfold out0_C_8 kernelRun0_C
  dsimp only
  unfold kernelRun0_C.sl.r_5
  refine (Cert.Kernel4Ideal.Hand.plane_hit _ _ (0 : Fin 1) 0 rfl _ _ _ a y).trans ?_
  refine (pay18_apply a y _).trans ((pay17_apply a y _ _).trans (congrArg₂ act ?_ ?_))
  · exact load3_unread arg5 harg5 x3 0 0 rfl _ a y
  · exact load3_unread arg6 harg6 x4 0 0 rfl _ a y

/-- The gate's gradient's columns. -/
theorem gate_C (hc0 : ¬cond0_0 i) (hc1 : ¬cond0_1 i) (hc2 : cond0_2 i) :
    out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo13 xs0 xs1 (ix3 0 a y)
      = dgate (x3 (ix3 0 a y)) (x4 (ix3 0 a y)) (dact (fun d => xs0 (ix2 a d)) x7 y) := by
  unfold out0_C_9 kernelRun0_C
  dsimp only
  unfold kernelRun0_C.sl.r kernelRun0_C.sl.r_1 kernelRun0_C.sl.r_2 kernelRun0_C.sl.r_3
  refine (Cert.Kernel4Ideal.Hand.plane_hit _ _ (0 : Fin 1) 0 rfl _ _ _ a y).trans ?_
  refine (pay21_apply a y _ _ _ _).trans ?_
  exact dgate_of a _ _ _ _ _ x7 _ _ _ (fun y => load3_unread arg5 harg5 x3 0 0 rfl _ a y) (fun y => load3_unread arg6 harg6 x4 0 0 rfl _ a y) (fun d => load2_unread arg16 harg16 xs0 _ a d) (fun e d => load3_unread arg9 harg9 x7 0 0 rfl _ e d) (fun e d => load3_unread arg9 harg9 x7 1 1 rfl _ e d) y

/-- The up projection's gradient's columns. -/
theorem up_C (hc0 : ¬cond0_0 i) (hc1 : ¬cond0_1 i) (hc2 : cond0_2 i) :
    out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo13 xs0 xs1 (ix3 0 a y)
      = dup (x3 (ix3 0 a y)) (dact (fun d => xs0 (ix2 a d)) x7 y) := by
  unfold out0_C_10 kernelRun0_C
  dsimp only
  unfold kernelRun0_C.sl.r_2 kernelRun0_C.sl.r_4
  refine (Cert.Kernel4Ideal.Hand.plane_hit _ _ (0 : Fin 1) 0 rfl _ _ _ a y).trans ?_
  refine (pay22_apply a y _ _).trans ?_
  exact dup_of a _ _ _ _ x7 _ _ (fun y => load3_unread arg5 harg5 x3 0 0 rfl _ a y) (fun d => load2_unread arg16 harg16 xs0 _ a d) (fun e d => load3_unread arg9 harg9 x7 0 0 rfl _ e d) (fun e d => load3_unread arg9 harg9 x7 1 1 rfl _ e d) y

/-- The last point's store into the accumulator, read through any view. -/
theorem acc_C_read (v : View sig .tc .vmem S512x1024 .f32) (f : v.ty.Contents (Elt Ideal)) :
    v.read (Elt Ideal) (v.writes (Elt Ideal) f (kernelRun0_C.sl.HS1_1 (F := Ideal) c arg5 harg5 arg6 harg6 arg7 harg7 arg8 harg8 arg9 harg9 arg16 harg16 arg17 harg17 x3 x4 x5 x6 x7 xs0 xs1)) (ix2 a d)
      = xs1 (ix2 a d) + add x3 x4 x5 x6 x7 a d (fun d => xs0 (ix2 a d)) := by
  unfold kernelRun0_C.sl.HS1_1 kernelRun0_C.sl.r_7 kernelRun0_C.sl.r_8 kernelRun0_C.sl.r kernelRun0_C.sl.r_1 kernelRun0_C.sl.r_2 kernelRun0_C.sl.r_3 kernelRun0_C.sl.r_4
  refine (store2 _ _ _ _ _ a d).trans ((pay1_apply a d _ _).trans (congrArg₂ (· + ·) ?_ ?_))
  · exact load2_unread arg17 harg17 xs1 _ a d
  · exact back_of a _ _ _ _ _ x7 _ _ _ (fun y => load3_unread arg5 harg5 x3 0 0 rfl _ a y) (fun y => load3_unread arg6 harg6 x4 0 0 rfl _ a y) (fun d => load2_unread arg16 harg16 xs0 _ a d) (fun e d => load3_unread arg9 harg9 x7 0 0 rfl _ e d) (fun e d => load3_unread arg9 harg9 x7 1 1 rfl _ e d) d _ _ _ _ x5 x6 (fun e d => load3_unread arg7 harg7 x5 0 0 rfl _ e d) (fun e d => load3_unread arg7 harg7 x5 1 1 rfl _ e d) (fun e d => load3_unread arg8 harg8 x6 0 0 rfl _ e d) (fun e d => load3_unread arg8 harg8 x6 1 1 rfl _ e d)

theorem acc_C_load : kernelRun0_C.sl.v89 (F := Ideal) c arg5 harg5 arg6 harg6 arg7 harg7 arg8 harg8 arg9 harg9 arg16 harg16 arg17 harg17 x3 x4 x5 x6 x7 xs0 xs1 (ix2 a d)
      = xs1 (ix2 a d) + add x3 x4 x5 x6 x7 a d (fun d => xs0 (ix2 a d)) := by
  unfold kernelRun0_C.sl.v89
  exact (load2 arg17.view _ _ a d).trans (acc_C_read c arg5 harg5 arg6 harg6 arg7 harg7 arg8 harg8 arg9 harg9 arg16 harg16 arg17 harg17 x3 x4 x5 x6 x7 xs0 xs1 a d _ _)

/-- The load of a whole memory's array of two axes is that array. -/
theorem whole2 {n k : ℕ} {e : EltTy} (arg : Memref sig .tc .vmem ⟨2, ![n, k]⟩ e) (harg : arg.IsWhole) (x : Vec Ideal ⟨2, ![n, k]⟩ e)
    (inb : ∀ a, (![0, 0] : Fin 2 → ℕ) a + (![n, k] : Fin 2 → ℕ) a ≤ (⟨2, ![n, k]⟩ : Shape).size a) :
    (View.readAt (Elt Ideal) arg.view (Rect.unit (s := ⟨2, ![n, k]⟩) ![0, 0] ![n, k] inb).toLoadRect (harg.unread x) : Vec Ideal ⟨2, ![n, k]⟩ e) = x := by
  refine funext fun (z : (⟨2, ![n, k]⟩ : Shape).Idx) => ?_
  obtain ⟨a, b, rfl⟩ : ∃ a b, z = ix2 a b := ⟨_, _, eq_ix2 z⟩
  exact load2_unread arg harg x inb a b

/-- The normalised rows. -/
theorem norm_C (hc0 : ¬cond0_0 i) (hc1 : ¬cond0_1 i) (hc2 : cond0_2 i) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo13 xs0 xs1 (ix2 a d)
      = nrm x1 x2 a d := by
  unfold out0_C_11 kernelRun0_C
  dsimp only
  refine (store2 _ _ _ _ _ a d).trans ((pay4_apply a d _ _).trans ?_)
  exact congrArg₂ (fun x g => nrm x g a d) (whole2 arg3 harg3 x1 _) (whole2 arg4 harg4 x2 _)

/-- The input's gradient. -/
theorem dx_C (hc0 : ¬cond0_0 i) (hc1 : ¬cond0_1 i) (hc2 : cond0_2 i) :
    out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo13 xs0 xs1 (ix2 a d)
      = x0 (ix2 a d) + drow x1 x2 (fun d => xs1 (ix2 a d) + add x3 x4 x5 x6 x7 a d (fun d => xs0 (ix2 a d))) a d := by
  unfold out0_C_12 kernelRun0_C
  dsimp only
  unfold kernelRun0_C.sl.r_10 kernelRun0_C.sl.r_11 drow
  have hv : ∀ d, _ = _ := fun d => acc_C_load c arg5 harg5 arg6 harg6 arg7 harg7 arg8 harg8 arg9 harg9 arg16 harg16 arg17 harg17 x3 x4 x5 x6 x7 xs0 xs1 a d
  have h1 := whole2 arg3 harg3 x1 inb_S512x1024_S512x1024_0_0
  have h2 := whole2 arg4 harg4 x2 inb_S1x1024_S1x1024_0_0
  refine (store2 _ _ _ _ _ a d).trans ((pay2_apply a d _ _ _).trans (congrArg₂ (· + ·) (load2_unread arg2 harg2 x0 _ a d) (congrArg₂ (· * ·) ((pay8_apply a d _).trans (congrArg (fun x => rr x a) h1)) ((pay7_apply a d _ _ _).trans ?_))))
  refine congrArg₂ (· - ·) (congrArg₂ (· * ·) (hv d) (congrFun h2 (ix2 0 d))) (congrArg₂ (· * ·) (congrArg (fun x => x (ix2 a d) * rr x a) h1) ?_)
  refine congrArg (fun s => Ideal.div s (Ideal.ofBits .f32 0x44800000#32)) (Finset.sum_congr rfl fun k _ => ?_)
  exact congrArg₂ (· * ·) (congrArg₂ (· * ·) (hv k) (congrFun h2 (ix2 0 k))) (congrArg (fun x => x (ix2 a k) * rr x a) h1)

/-- What a tile adds to the scale's gradient. -/
theorem gain_C (hc0 : ¬cond0_0 i) (hc1 : ¬cond0_1 i) (hc2 : cond0_2 i) :
    out0_C_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo13 xs0 xs1 (ix2 0 d)
      = xo13 (ix2 0 d) + ∑ b : Fin 512, (xs1 (ix2 b d) + add x3 x4 x5 x6 x7 b d (fun d => xs0 (ix2 b d))) * (x1 (ix2 b d) * rr x1 b) := by
  unfold out0_C_13 kernelRun0_C
  dsimp only
  unfold kernelRun0_C.sl.r_9
  refine (store2 _ _ _ _ _ 0 d).trans ((pay3_apply d _ _ _).trans (congrArg₂ (· + ·) (load2_unread arg15 harg15 xo13 _ 0 d) (Finset.sum_congr rfl fun b _ => congrArg₂ (· * ·) ?_ ?_)))
  · exact acc_C_load c arg5 harg5 arg6 harg6 arg7 harg7 arg8 harg8 arg9 harg9 arg16 harg16 arg17 harg17 x3 x4 x5 x6 x7 xs0 xs1 b d
  · refine (pay6_apply b d _).trans ?_
    exact congrArg (fun x => x (ix2 b d) * rr x b) (whole2 arg3 harg3 x1 inb_S512x1024_S512x1024_0_0)

/-- The rounded rows that a row tile's first point stores, read through any view. -/
theorem rows_A_read (v : View sig .tc .vmem S512x1024 .bf16) (f : v.ty.Contents (Elt Ideal)) :
    v.read (Elt Ideal) (v.writes (Elt Ideal) f (kernelRun0_A.sl.HS0_1 (F := Ideal) c arg2 harg2 x0)) (ix2 a d) = x0 (ix2 a d) := by
  unfold kernelRun0_A.sl.HS0_1
  exact (store2 _ _ _ _ _ a d).trans ((pay10_apply a d _).trans (load2_unread arg2 harg2 x0 _ a d))

theorem rows_A_load : kernelRun0_A.sl.v12 (F := Ideal) c arg2 harg2 arg16 x0 (ix2 a d) = x0 (ix2 a d) := by
  unfold kernelRun0_A.sl.v12
  exact (load2 arg16.view _ _ a d).trans (rows_A_read c arg2 harg2 x0 a d _ _)

/-- The activation's columns. -/
theorem act_A (hc0 : cond0_0 i) (hc1 : cond0_1 i) (hc2 : ¬cond0_2 i) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 (ix3 0 a y)
      = act (x3 (ix3 0 a y)) (x4 (ix3 0 a y)) := by
  unfold out0_A_8 kernelRun0_A
  dsimp only
  unfold kernelRun0_A.sl.r_5
  refine (Cert.Kernel4Ideal.Hand.plane_hit _ _ (0 : Fin 1) 0 rfl _ _ _ a y).trans ?_
  refine (pay18_apply a y _).trans ((pay17_apply a y _ _).trans (congrArg₂ act ?_ ?_))
  · exact load3_unread arg5 harg5 x3 0 0 rfl _ a y
  · exact load3_unread arg6 harg6 x4 0 0 rfl _ a y

/-- The gate's gradient's columns. -/
theorem gate_A (hc0 : cond0_0 i) (hc1 : cond0_1 i) (hc2 : ¬cond0_2 i) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 (ix3 0 a y)
      = dgate (x3 (ix3 0 a y)) (x4 (ix3 0 a y)) (dact (fun d => x0 (ix2 a d)) x7 y) := by
  unfold out0_A_9 kernelRun0_A
  dsimp only
  unfold kernelRun0_A.sl.r kernelRun0_A.sl.r_1 kernelRun0_A.sl.r_2 kernelRun0_A.sl.r_3
  refine (Cert.Kernel4Ideal.Hand.plane_hit _ _ (0 : Fin 1) 0 rfl _ _ _ a y).trans ?_
  refine (pay21_apply a y _ _ _ _).trans ?_
  exact dgate_of a _ _ _ _ _ x7 _ _ _ (fun y => load3_unread arg5 harg5 x3 0 0 rfl _ a y) (fun y => load3_unread arg6 harg6 x4 0 0 rfl _ a y) (fun d => rows_A_load c arg2 harg2 arg16 x0 a d) (fun e d => load3_unread arg9 harg9 x7 0 0 rfl _ e d) (fun e d => load3_unread arg9 harg9 x7 1 1 rfl _ e d) y

/-- The up projection's gradient's columns. -/
theorem up_A (hc0 : cond0_0 i) (hc1 : cond0_1 i) (hc2 : ¬cond0_2 i) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 (ix3 0 a y)
      = dup (x3 (ix3 0 a y)) (dact (fun d => x0 (ix2 a d)) x7 y) := by
  unfold out0_A_10 kernelRun0_A
  dsimp only
  unfold kernelRun0_A.sl.r_2 kernelRun0_A.sl.r_4
  refine (Cert.Kernel4Ideal.Hand.plane_hit _ _ (0 : Fin 1) 0 rfl _ _ _ a y).trans ?_
  refine (pay22_apply a y _ _).trans ?_
  exact dup_of a _ _ _ _ x7 _ _ (fun y => load3_unread arg5 harg5 x3 0 0 rfl _ a y) (fun d => rows_A_load c arg2 harg2 arg16 x0 a d) (fun e d => load3_unread arg9 harg9 x7 0 0 rfl _ e d) (fun e d => load3_unread arg9 harg9 x7 1 1 rfl _ e d) y

theorem rows_A (hc0 : cond0_0 i) (hc1 : cond0_1 i) (hc2 : ¬cond0_2 i) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 (ix2 a d)
      = x0 (ix2 a d) := by
  unfold sout0_A_0 kernelRun0_A
  dsimp only
  exact rows_A_read c arg2 harg2 x0 a d _ _

theorem acc_A (hc0 : cond0_0 i) (hc1 : cond0_1 i) (hc2 : ¬cond0_2 i) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 (ix2 a d)
      = 0 + add x3 x4 x5 x6 x7 a d (fun d => x0 (ix2 a d)) := by
  unfold sout0_A_1 kernelRun0_A
  dsimp only
  unfold kernelRun0_A.sl.r_7 kernelRun0_A.sl.r kernelRun0_A.sl.r_1 kernelRun0_A.sl.r_2 kernelRun0_A.sl.r_3 kernelRun0_A.sl.r_4 kernelRun0_A.sl.v49 kernelRun0_A.sl.HS1_1
  refine (store2 _ _ _ _ _ a d).trans ((pay1_apply a d _ _).trans (congrArg₂ (· + ·) ?_ ?_))
  · exact (load2 arg17.view _ _ a d).trans ((store2 _ _ _ _ _ a d).trans (pay11_apply a d))
  · exact back_of a _ _ _ _ _ x7 _ _ _ (fun y => load3_unread arg5 harg5 x3 0 0 rfl _ a y) (fun y => load3_unread arg6 harg6 x4 0 0 rfl _ a y) (fun d => rows_A_load c arg2 harg2 arg16 x0 a d) (fun e d => load3_unread arg9 harg9 x7 0 0 rfl _ e d) (fun e d => load3_unread arg9 harg9 x7 1 1 rfl _ e d) d _ _ _ _ x5 x6 (fun e d => load3_unread arg7 harg7 x5 0 0 rfl _ e d) (fun e d => load3_unread arg7 harg7 x5 1 1 rfl _ e d) (fun e d => load3_unread arg8 harg8 x6 0 0 rfl _ e d) (fun e d => load3_unread arg8 harg8 x6 1 1 rfl _ e d)

/-- The rounded rows that a row tile's first point stores, read through any view. -/
theorem rows_D_read (v : View sig .tc .vmem S512x1024 .bf16) (f : v.ty.Contents (Elt Ideal)) :
    v.read (Elt Ideal) (v.writes (Elt Ideal) f (kernelRun0_D.sl.HS0_1 (F := Ideal) c arg2 harg2 x0)) (ix2 a d) = x0 (ix2 a d) := by
  unfold kernelRun0_D.sl.HS0_1
  exact (store2 _ _ _ _ _ a d).trans ((pay10_apply a d _).trans (load2_unread arg2 harg2 x0 _ a d))

theorem rows_D_load : kernelRun0_D.sl.v12 (F := Ideal) c arg2 harg2 arg16 x0 (ix2 a d) = x0 (ix2 a d) := by
  unfold kernelRun0_D.sl.v12
  exact (load2 arg16.view _ _ a d).trans (rows_D_read c arg2 harg2 x0 a d _ _)

/-- The activation's columns. -/
theorem act_D (hc0 : ¬cond0_0 i) (hc1 : cond0_1 i) (hc2 : ¬cond0_2 i) :
    out0_D_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 (ix3 0 a y)
      = act (x3 (ix3 0 a y)) (x4 (ix3 0 a y)) := by
  unfold out0_D_8 kernelRun0_D
  dsimp only
  unfold kernelRun0_D.sl.r_5
  refine (Cert.Kernel4Ideal.Hand.plane_hit _ _ (0 : Fin 1) 0 rfl _ _ _ a y).trans ?_
  refine (pay18_apply a y _).trans ((pay17_apply a y _ _).trans (congrArg₂ act ?_ ?_))
  · exact load3_unread arg5 harg5 x3 0 0 rfl _ a y
  · exact load3_unread arg6 harg6 x4 0 0 rfl _ a y

/-- The gate's gradient's columns. -/
theorem gate_D (hc0 : ¬cond0_0 i) (hc1 : cond0_1 i) (hc2 : ¬cond0_2 i) :
    out0_D_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 (ix3 0 a y)
      = dgate (x3 (ix3 0 a y)) (x4 (ix3 0 a y)) (dact (fun d => x0 (ix2 a d)) x7 y) := by
  unfold out0_D_9 kernelRun0_D
  dsimp only
  unfold kernelRun0_D.sl.r kernelRun0_D.sl.r_1 kernelRun0_D.sl.r_2 kernelRun0_D.sl.r_3
  refine (Cert.Kernel4Ideal.Hand.plane_hit _ _ (0 : Fin 1) 0 rfl _ _ _ a y).trans ?_
  refine (pay21_apply a y _ _ _ _).trans ?_
  exact dgate_of a _ _ _ _ _ x7 _ _ _ (fun y => load3_unread arg5 harg5 x3 0 0 rfl _ a y) (fun y => load3_unread arg6 harg6 x4 0 0 rfl _ a y) (fun d => rows_D_load c arg2 harg2 arg16 x0 a d) (fun e d => load3_unread arg9 harg9 x7 0 0 rfl _ e d) (fun e d => load3_unread arg9 harg9 x7 1 1 rfl _ e d) y

/-- The up projection's gradient's columns. -/
theorem up_D (hc0 : ¬cond0_0 i) (hc1 : cond0_1 i) (hc2 : ¬cond0_2 i) :
    out0_D_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 (ix3 0 a y)
      = dup (x3 (ix3 0 a y)) (dact (fun d => x0 (ix2 a d)) x7 y) := by
  unfold out0_D_10 kernelRun0_D
  dsimp only
  unfold kernelRun0_D.sl.r_2 kernelRun0_D.sl.r_4
  refine (Cert.Kernel4Ideal.Hand.plane_hit _ _ (0 : Fin 1) 0 rfl _ _ _ a y).trans ?_
  refine (pay22_apply a y _ _).trans ?_
  exact dup_of a _ _ _ _ x7 _ _ (fun y => load3_unread arg5 harg5 x3 0 0 rfl _ a y) (fun d => rows_D_load c arg2 harg2 arg16 x0 a d) (fun e d => load3_unread arg9 harg9 x7 0 0 rfl _ e d) (fun e d => load3_unread arg9 harg9 x7 1 1 rfl _ e d) y

theorem rows_D (hc0 : ¬cond0_0 i) (hc1 : cond0_1 i) (hc2 : ¬cond0_2 i) :
    sout0_D_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 (ix2 a d)
      = x0 (ix2 a d) := by
  unfold sout0_D_0 kernelRun0_D
  dsimp only
  exact rows_D_read c arg2 harg2 x0 a d _ _

theorem acc_D (hc0 : ¬cond0_0 i) (hc1 : cond0_1 i) (hc2 : ¬cond0_2 i) :
    sout0_D_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 (ix2 a d)
      = 0 + add x3 x4 x5 x6 x7 a d (fun d => x0 (ix2 a d)) := by
  unfold sout0_D_1 kernelRun0_D
  dsimp only
  unfold kernelRun0_D.sl.r_7 kernelRun0_D.sl.r kernelRun0_D.sl.r_1 kernelRun0_D.sl.r_2 kernelRun0_D.sl.r_3 kernelRun0_D.sl.r_4 kernelRun0_D.sl.v49 kernelRun0_D.sl.HS1_1
  refine (store2 _ _ _ _ _ a d).trans ((pay1_apply a d _ _).trans (congrArg₂ (· + ·) ?_ ?_))
  · exact (load2 arg17.view _ _ a d).trans ((store2 _ _ _ _ _ a d).trans (pay11_apply a d))
  · exact back_of a _ _ _ _ _ x7 _ _ _ (fun y => load3_unread arg5 harg5 x3 0 0 rfl _ a y) (fun y => load3_unread arg6 harg6 x4 0 0 rfl _ a y) (fun d => rows_D_load c arg2 harg2 arg16 x0 a d) (fun e d => load3_unread arg9 harg9 x7 0 0 rfl _ e d) (fun e d => load3_unread arg9 harg9 x7 1 1 rfl _ e d) d _ _ _ _ x5 x6 (fun e d => load3_unread arg7 harg7 x5 0 0 rfl _ e d) (fun e d => load3_unread arg7 harg7 x5 1 1 rfl _ e d) (fun e d => load3_unread arg8 harg8 x6 0 0 rfl _ e d) (fun e d => load3_unread arg8 harg8 x6 1 1 rfl _ e d)

theorem gain_A (hc0 : cond0_0 i) (hc1 : cond0_1 i) (hc2 : ¬cond0_2 i) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 (ix2 0 d)
      = 0 := by
  unfold out0_A_13 kernelRun0_A
  dsimp only
  exact (store2 _ _ _ _ _ 0 d).trans (pay9_apply d)

end Point

end Cert.Kernel6Ideal.Hand

end
-- ==== Proof.BackSteps.lean ====
/- The feed-forward gradient's kernel over its grid: what its outputs and its scratch hold after each point, from the arrays
   that it is handed. -/
module

public import proofs.«01_k».proof.Proof.BackTiles
public import proofs.«01_k».proof.Proof.FfnValue
public import proofs.«01_k».proof.Proof.Gen.Kernel6Ideal.Value

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Cert.Kernel3Ideal.Hand (nrm act at4 sum_groups)

/-- The row of the whole array that is row `a` of the tile of point `n`. -/
def rowOf (n : ℕ) (a : Fin 512) : Fin 8192 := ⟨n / 4 % 16 * 512 + a.val, by omega⟩

theorem index0 : ∀ t : Fin cfg0.N, win0_0.index t = ![t.val / 4 % 16, 0] := by decide +kernel
theorem index1 : ∀ t : Fin cfg0.N, win0_1.index t = ![t.val / 4 % 16, 0] := by decide +kernel
theorem index2 : ∀ t : Fin cfg0.N, win0_2.index t = ![0, 0] := by decide +kernel
theorem index3 : ∀ t : Fin cfg0.N, win0_3.index t = ![t.val % 4, t.val / 4 % 16, 0] := by decide +kernel
theorem index4 : ∀ t : Fin cfg0.N, win0_4.index t = ![t.val % 4, t.val / 4 % 16, 0] := by decide +kernel
theorem index5 : ∀ t : Fin cfg0.N, win0_5.index t = ![t.val % 4, 0, 0] := by decide +kernel
theorem index6 : ∀ t : Fin cfg0.N, win0_6.index t = ![t.val % 4, 0, 0] := by decide +kernel
theorem index7 : ∀ t : Fin cfg0.N, win0_7.index t = ![t.val % 4, 0, 0] := by decide +kernel

variable (m : (ℓ : Loc nD τ sig) → Buf (Elt Ideal) ℓ) (ρ : Dev nD → PrngReg) (c : Dev nD)

/-! ## Where the blocks lie -/

/-- The output's gradient, the input, the scale, the gate and the up projection in four groups of columns, and the three
    weights in eight pieces, as the call is handed them. -/
abbrev argY : Vec Ideal S8192x1024 .f32 := m ((c : Thread nD τ).loc main_arg0)
abbrev argX : Vec Ideal S8192x1024 .f32 := m ((c : Thread nD τ).loc main_arg1)
abbrev argS : Vec Ideal S1x1024 .f32 := V m c main_v13
abbrev argP : Vec Ideal S4x8192x768 .f32 := V m c main_v18
abbrev argQ : Vec Ideal S4x8192x768 .f32 := V m c main_v23
abbrev argG : Vec Ideal S8x1024x384 .bf16 := V m c main_v27
abbrev argU : Vec Ideal S8x1024x384 .bf16 := V m c main_v31
abbrev argD : Vec Ideal S8x384x1024 .bf16 := V m c main_v34

theorem blk_y (t : Fin cfg0.N) (a : Fin 512) (d : Fin 1024) : (iblk m c 0 t : Vec Ideal S512x1024 .f32) (ix2 a d) = argY m c (ix2 (rowOf t.val a) d) := by
  have hi := index0 t
  unfold iblk
  rw [View.read_apply]
  show V m c main_arg0 _ = _
  refine congrArg (m ((c : Thread nD τ).loc main_arg0)) (funext fun ax => Fin.ext ?_)
  match ax with
  | ⟨0, _⟩ => show win0_0.index t 0 * 512 + 1 * a.val = t.val / 4 % 16 * 512 + a.val; rw [hi]; show t.val / 4 % 16 * 512 + 1 * a.val = _; omega
  | ⟨1, _⟩ => show win0_0.index t 1 * 1024 + 1 * d.val = d.val; rw [hi]; show 0 * 1024 + 1 * d.val = d.val; omega

theorem blk_x (t : Fin cfg0.N) (a : Fin 512) (d : Fin 1024) : (iblk m c 1 t : Vec Ideal S512x1024 .f32) (ix2 a d) = argX m c (ix2 (rowOf t.val a) d) := by
  have hi := index1 t
  unfold iblk
  rw [View.read_apply]
  show V m c main_arg1 _ = _
  refine congrArg (m ((c : Thread nD τ).loc main_arg1)) (funext fun ax => Fin.ext ?_)
  match ax with
  | ⟨0, _⟩ => show win0_1.index t 0 * 512 + 1 * a.val = t.val / 4 % 16 * 512 + a.val; rw [hi]; show t.val / 4 % 16 * 512 + 1 * a.val = _; omega
  | ⟨1, _⟩ => show win0_1.index t 1 * 1024 + 1 * d.val = d.val; rw [hi]; show 0 * 1024 + 1 * d.val = d.val; omega

theorem blk_s (t : Fin cfg0.N) (d : Fin 1024) : (iblk m c 2 t : Vec Ideal S1x1024 .f32) (ix2 0 d) = argS m c (ix2 0 d) := by
  have hi := index2 t
  unfold iblk
  rw [View.read_apply]
  show V m c main_v13 _ = _
  refine congrArg (V m c main_v13) (funext fun ax => Fin.ext ?_)
  match ax with
  | ⟨0, _⟩ => show win0_2.index t 0 * 1 + 1 * 0 = 0; rw [hi]; rfl
  | ⟨1, _⟩ => show win0_2.index t 1 * 1024 + 1 * d.val = d.val; rw [hi]; show 0 * 1024 + 1 * d.val = d.val; omega

theorem blk_p (t : Fin cfg0.N) (a : Fin 512) (y : Fin 768) : (iblk m c 3 t : Vec Ideal S1x512x768 .f32) (ix3 0 a y)
    = argP m c (ix3 ⟨(at4 t.val y).val / 768, by omega⟩ (rowOf t.val a) ⟨(at4 t.val y).val % 768, by omega⟩) := by
  have hi := index3 t
  unfold iblk
  rw [View.read_apply]
  show V m c main_v18 _ = _
  refine congrArg (V m c main_v18) (funext fun ax => Fin.ext ?_)
  match ax with
  | ⟨0, _⟩ => show win0_3.index t 0 * 1 + 1 * 0 = (t.val % 4 * 768 + y.val) / 768; rw [hi]; show t.val % 4 * 1 + 1 * 0 = _; omega
  | ⟨1, _⟩ => show win0_3.index t 1 * 512 + 1 * a.val = t.val / 4 % 16 * 512 + a.val; rw [hi]; show t.val / 4 % 16 * 512 + 1 * a.val = _; omega
  | ⟨2, _⟩ => show win0_3.index t 2 * 768 + 1 * y.val = (t.val % 4 * 768 + y.val) % 768; rw [hi]; show 0 * 768 + 1 * y.val = _; omega

theorem blk_q (t : Fin cfg0.N) (a : Fin 512) (y : Fin 768) : (iblk m c 4 t : Vec Ideal S1x512x768 .f32) (ix3 0 a y)
    = argQ m c (ix3 ⟨(at4 t.val y).val / 768, by omega⟩ (rowOf t.val a) ⟨(at4 t.val y).val % 768, by omega⟩) := by
  have hi := index4 t
  unfold iblk
  rw [View.read_apply]
  show V m c main_v23 _ = _
  refine congrArg (V m c main_v23) (funext fun ax => Fin.ext ?_)
  match ax with
  | ⟨0, _⟩ => show win0_4.index t 0 * 1 + 1 * 0 = (t.val % 4 * 768 + y.val) / 768; rw [hi]; show t.val % 4 * 1 + 1 * 0 = _; omega
  | ⟨1, _⟩ => show win0_4.index t 1 * 512 + 1 * a.val = t.val / 4 % 16 * 512 + a.val; rw [hi]; show t.val / 4 % 16 * 512 + 1 * a.val = _; omega
  | ⟨2, _⟩ => show win0_4.index t 2 * 768 + 1 * y.val = (t.val % 4 * 768 + y.val) % 768; rw [hi]; show 0 * 768 + 1 * y.val = _; omega

theorem blk_g (t : Fin cfg0.N) (d : Fin 1024) (y : Fin 768) : (iblk m c 5 t : Vec Ideal S2x1024x384 .bf16) (ix3 ⟨y.val / 384, by omega⟩ d ⟨y.val % 384, by omega⟩)
    = argG m c (ix3 ⟨(at4 t.val y).val / 384, by omega⟩ d ⟨(at4 t.val y).val % 384, by omega⟩) := by
  have hi := index5 t
  unfold iblk
  rw [View.read_apply]
  show V m c main_v27 _ = _
  refine congrArg (V m c main_v27) (funext fun ax => Fin.ext ?_)
  match ax with
  | ⟨0, _⟩ => show win0_5.index t 0 * 2 + 1 * (y.val / 384) = (t.val % 4 * 768 + y.val) / 384; rw [hi]; show t.val % 4 * 2 + 1 * (y.val / 384) = _; omega
  | ⟨1, _⟩ => show win0_5.index t 1 * 1024 + 1 * d.val = d.val; rw [hi]; show 0 * 1024 + 1 * d.val = d.val; omega
  | ⟨2, _⟩ => show win0_5.index t 2 * 384 + 1 * (y.val % 384) = (t.val % 4 * 768 + y.val) % 384; rw [hi]; show 0 * 384 + 1 * (y.val % 384) = _; omega

theorem blk_u (t : Fin cfg0.N) (d : Fin 1024) (y : Fin 768) : (iblk m c 6 t : Vec Ideal S2x1024x384 .bf16) (ix3 ⟨y.val / 384, by omega⟩ d ⟨y.val % 384, by omega⟩)
    = argU m c (ix3 ⟨(at4 t.val y).val / 384, by omega⟩ d ⟨(at4 t.val y).val % 384, by omega⟩) := by
  have hi := index6 t
  unfold iblk
  rw [View.read_apply]
  show V m c main_v31 _ = _
  refine congrArg (V m c main_v31) (funext fun ax => Fin.ext ?_)
  match ax with
  | ⟨0, _⟩ => show win0_6.index t 0 * 2 + 1 * (y.val / 384) = (t.val % 4 * 768 + y.val) / 384; rw [hi]; show t.val % 4 * 2 + 1 * (y.val / 384) = _; omega
  | ⟨1, _⟩ => show win0_6.index t 1 * 1024 + 1 * d.val = d.val; rw [hi]; show 0 * 1024 + 1 * d.val = d.val; omega
  | ⟨2, _⟩ => show win0_6.index t 2 * 384 + 1 * (y.val % 384) = (t.val % 4 * 768 + y.val) % 384; rw [hi]; show 0 * 384 + 1 * (y.val % 384) = _; omega

theorem blk_d (t : Fin cfg0.N) (d : Fin 1024) (y : Fin 768) : (iblk m c 7 t : Vec Ideal S2x384x1024 .bf16) (ix3 ⟨y.val / 384, by omega⟩ ⟨y.val % 384, by omega⟩ d)
    = argD m c (ix3 ⟨(at4 t.val y).val / 384, by omega⟩ ⟨(at4 t.val y).val % 384, by omega⟩ d) := by
  have hi := index7 t
  unfold iblk
  rw [View.read_apply]
  show V m c main_v34 _ = _
  refine congrArg (V m c main_v34) (funext fun ax => Fin.ext ?_)
  match ax with
  | ⟨0, _⟩ => show win0_7.index t 0 * 2 + 1 * (y.val / 384) = (t.val % 4 * 768 + y.val) / 384; rw [hi]; show t.val % 4 * 2 + 1 * (y.val / 384) = _; omega
  | ⟨1, _⟩ => show win0_7.index t 1 * 384 + 1 * (y.val % 384) = (t.val % 4 * 768 + y.val) % 384; rw [hi]; show 0 * 384 + 1 * (y.val % 384) = _; omega
  | ⟨2, _⟩ => show win0_7.index t 2 * 1024 + 1 * d.val = d.val; rw [hi]; show 0 * 1024 + 1 * d.val = d.val; omega

/-- Column `y` of the gate and of the up projection in row `r`, and of the activation's gradient. -/
def gat (r : Fin 8192) (y : Fin 3072) : EReal := argP m c (ix3 ⟨y.val / 768, by omega⟩ r ⟨y.val % 768, by omega⟩)
def upp (r : Fin 8192) (y : Fin 3072) : EReal := argQ m c (ix3 ⟨y.val / 768, by omega⟩ r ⟨y.val % 768, by omega⟩)
def dac (r : Fin 8192) (y : Fin 3072) : EReal := ∑ d, argY m c (ix2 r d) * argD m c (ix3 ⟨y.val / 384, by omega⟩ ⟨y.val % 384, by omega⟩ d)

/-- Column `y` of the gate's gradient and of the up projection's. -/
def dgat (r : Fin 8192) (y : Fin 3072) : EReal := dgate (gat m c r y) (upp m c r y) (dac m c r y)
def dupp (r : Fin 8192) (y : Fin 3072) : EReal := dup (gat m c r y) (dac m c r y)

/-- One term of the gradient of the normalised rows through the gate, and one through the up projection. -/
def termG (r : Fin 8192) (d : Fin 1024) (y : Fin 3072) : EReal := dgat m c r y * argG m c (ix3 ⟨y.val / 384, by omega⟩ d ⟨y.val % 384, by omega⟩)
def termU (r : Fin 8192) (d : Fin 1024) (y : Fin 3072) : EReal := dupp m c r y * argU m c (ix3 ⟨y.val / 384, by omega⟩ d ⟨y.val % 384, by omega⟩)

/-- What group `f` of the columns adds to the gradient of the normalised rows. -/
def part (r : Fin 8192) (d : Fin 1024) (f : ℕ) : EReal := (∑ y : Fin 768, termG m c r d (at4 f y)) + ∑ y : Fin 768, termU m c r d (at4 f y)

/-- The gradient of the normalised rows. -/
def dh (r : Fin 8192) (d : Fin 1024) : EReal := (∑ y, termG m c r d y) + ∑ y, termU m c r d y

/-- The four groups make up the whole gradient. -/
theorem parts_sum (r : Fin 8192) (d : Fin 1024) : ∑ f ∈ Finset.range 4, part m c r d f = dh m c r d := by
  unfold part dh
  rw [sum_groups, sum_groups, Finset.sum_range, Finset.sum_add_distrib]
  refine congrArg₂ (· + ·) (Finset.sum_congr rfl fun i _ => Finset.sum_congr rfl fun k _ => congrArg (termG m c r d) (Fin.ext ?_)) (Finset.sum_congr rfl fun i _ => Finset.sum_congr rfl fun k _ => congrArg (termU m c r d) (Fin.ext ?_))
  · show i.val % 4 * 768 + k.val = i.val * 768 + k.val
    omega
  · show i.val % 4 * 768 + k.val = i.val * 768 + k.val
    omega

theorem dact_blk (t : Fin cfg0.N) (a : Fin 512) (y : Fin 768) : dact (fun d => argY m c (ix2 (rowOf t.val a) d)) (iblk m c 7 t) y = dac m c (rowOf t.val a) (at4 t.val y) := by
  unfold dact dac
  exact Finset.sum_congr rfl fun d _ => congrArg (argY m c (ix2 (rowOf t.val a) d) * ·) (blk_d m c t d y)

theorem dgate_blk (t : Fin cfg0.N) (a : Fin 512) (y : Fin 768) :
    dgate ((iblk m c 3 t : Vec Ideal S1x512x768 .f32) (ix3 0 a y)) ((iblk m c 4 t : Vec Ideal S1x512x768 .f32) (ix3 0 a y)) (dact (fun d => argY m c (ix2 (rowOf t.val a) d)) (iblk m c 7 t) y)
      = dgat m c (rowOf t.val a) (at4 t.val y) := by
  unfold dgat gat upp
  rw [dact_blk, blk_p, blk_q]

theorem dup_blk (t : Fin cfg0.N) (a : Fin 512) (y : Fin 768) :
    dup ((iblk m c 3 t : Vec Ideal S1x512x768 .f32) (ix3 0 a y)) (dact (fun d => argY m c (ix2 (rowOf t.val a) d)) (iblk m c 7 t) y)
      = dupp m c (rowOf t.val a) (at4 t.val y) := by
  unfold dupp gat
  rw [dact_blk, blk_p]

theorem add_blk (t : Fin cfg0.N) (a : Fin 512) (d : Fin 1024) :
    add (iblk m c 3 t) (iblk m c 4 t) (iblk m c 5 t) (iblk m c 6 t) (iblk m c 7 t) a d (fun d => argY m c (ix2 (rowOf t.val a) d)) = part m c (rowOf t.val a) d (t.val % 4) := by
  have e4 : ∀ y, at4 (t.val % 4) y = at4 t.val y := fun y => Fin.ext (by show t.val % 4 % 4 * 768 + y.val = t.val % 4 * 768 + y.val; omega)
  unfold add back part termG termU
  refine congrArg₂ (· + ·) (Finset.sum_congr rfl fun y _ => ?_) (Finset.sum_congr rfl fun y _ => ?_)
  · rw [e4]
    exact congrArg₂ (· * ·) (dgate_blk m c t a y) (blk_g m c t d y)
  · rw [e4]
    exact congrArg₂ (· * ·) (dup_blk m c t a y) (blk_u m c t d y)

theorem rr_blk (t : Fin cfg0.N) (a : Fin 512) : rr (iblk m c 1 t : Vec Ideal S512x1024 .f32) a = rr (argX m c) (rowOf t.val a) := by
  unfold rr
  exact congrArg (fun s => Ideal.rsqrt (Ideal.div s _ + _)) (Finset.sum_congr rfl fun k _ => congrArg₂ (· * ·) (blk_x m c t a k) (blk_x m c t a k))

theorem nrm_blk (t : Fin cfg0.N) (a : Fin 512) (d : Fin 1024) : nrm (iblk m c 1 t : Vec Ideal S512x1024 .f32) (iblk m c 2 t) a d = nrm (argX m c) (argS m c) (rowOf t.val a) d :=
  congrArg₂ (· * ·) (congrArg₂ (· * ·) (blk_x m c t a d) (rr_blk m c t a)) (blk_s m c t d)

theorem drow_blk (t : Fin cfg0.N) (p : Fin 1024 → EReal) (a : Fin 512) (d : Fin 1024) :
    drow (iblk m c 1 t : Vec Ideal S512x1024 .f32) (iblk m c 2 t) p a d = drow (argX m c) (argS m c) p (rowOf t.val a) d := by
  unfold drow
  rw [rr_blk, blk_s, blk_x]
  refine congrArg (rr (argX m c) (rowOf t.val a) * ·) (congrArg (p d * argS m c (ix2 0 d) - ·) (congrArg (argX m c (ix2 (rowOf t.val a) d) * rr (argX m c) (rowOf t.val a) * ·) (congrArg (Ideal.div · (Ideal.ofBits .f32 0x44800000#32)) (Finset.sum_congr rfl fun k _ => ?_))))
  rw [blk_s, blk_x]

/-! ## The state after each point -/

/-- What the outputs and the scratch hold. -/
abbrev State := Vec Ideal S1x512x768 .bf16 × Vec Ideal S1x512x768 .bf16 × Vec Ideal S1x512x768 .bf16 × Vec Ideal S512x1024 .bf16 × Vec Ideal S512x1024 .f32 × Vec Ideal S1x1024 .f32 × Vec Ideal S512x1024 .bf16 × Vec Ideal S512x1024 .f32

section Steps

variable (t : Fin cfg0.N) (acc : State) (a : Fin 512) (d : Fin 1024) (y : Fin 768)

theorem act_step : (Value.stAt0 m c t.val t.isLt acc).1 (ix3 0 a y) = act (gat m c (rowOf t.val a) (at4 t.val y)) (upp m c (rowOf t.val a) (at4 t.val y)) := by
  unfold gat upp
  rw [← blk_p, ← blk_q]
  by_cases h1 : t.val % 4 = 0
  · have h2 : ¬t.val % 4 = 3 := by omega
    by_cases h0 : t.val % 64 = 0
    · rw [Value.stAt0_A m c t acc h0 h1 h2]
      dsimp only
      exact act_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) a y _ _ _
    · rw [Value.stAt0_D m c t acc h0 h1 h2]
      dsimp only
      exact act_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) a y _ _ _
  · have h0 : ¬t.val % 64 = 0 := by omega
    by_cases h2 : t.val % 4 = 3
    · rw [Value.stAt0_C m c t acc h0 h1 h2]
      dsimp only
      exact act_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.2.2.1 acc.2.2.2.2.2.2.1 acc.2.2.2.2.2.2.2 a y _ _ _
    · rw [Value.stAt0_B m c t acc h0 h1 h2]
      dsimp only
      exact act_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.2.2.2.1 acc.2.2.2.2.2.2.2 a y _ _ _

theorem gate_step (hr : ¬t.val % 4 = 0 → ∀ d, acc.2.2.2.2.2.2.1 (ix2 a d) = argY m c (ix2 (rowOf t.val a) d)) : (Value.stAt0 m c t.val t.isLt acc).2.1 (ix3 0 a y) = dgat m c (rowOf t.val a) (at4 t.val y) := by
  rw [← dgate_blk]
  by_cases h1 : t.val % 4 = 0
  · have h2 : ¬t.val % 4 = 3 := by omega
    by_cases h0 : t.val % 64 = 0
    · rw [Value.stAt0_A m c t acc h0 h1 h2]
      dsimp only
      rw [← funext (blk_y m c t a)]
      exact gate_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) a y _ _ _
    · rw [Value.stAt0_D m c t acc h0 h1 h2]
      dsimp only
      rw [← funext (blk_y m c t a)]
      exact gate_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) a y _ _ _
  · have h0 : ¬t.val % 64 = 0 := by omega
    by_cases h2 : t.val % 4 = 3
    · rw [Value.stAt0_C m c t acc h0 h1 h2]
      dsimp only
      rw [← funext (hr h1)]
      exact gate_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.2.2.1 acc.2.2.2.2.2.2.1 acc.2.2.2.2.2.2.2 a y _ _ _
    · rw [Value.stAt0_B m c t acc h0 h1 h2]
      dsimp only
      rw [← funext (hr h1)]
      exact gate_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.2.2.2.1 acc.2.2.2.2.2.2.2 a y _ _ _

theorem up_step (hr : ¬t.val % 4 = 0 → ∀ d, acc.2.2.2.2.2.2.1 (ix2 a d) = argY m c (ix2 (rowOf t.val a) d)) : (Value.stAt0 m c t.val t.isLt acc).2.2.1 (ix3 0 a y) = dupp m c (rowOf t.val a) (at4 t.val y) := by
  rw [← dup_blk]
  by_cases h1 : t.val % 4 = 0
  · have h2 : ¬t.val % 4 = 3 := by omega
    by_cases h0 : t.val % 64 = 0
    · rw [Value.stAt0_A m c t acc h0 h1 h2]
      dsimp only
      rw [← funext (blk_y m c t a)]
      exact up_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) a y _ _ _
    · rw [Value.stAt0_D m c t acc h0 h1 h2]
      dsimp only
      rw [← funext (blk_y m c t a)]
      exact up_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) a y _ _ _
  · have h0 : ¬t.val % 64 = 0 := by omega
    by_cases h2 : t.val % 4 = 3
    · rw [Value.stAt0_C m c t acc h0 h1 h2]
      dsimp only
      rw [← funext (hr h1)]
      exact up_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.2.2.1 acc.2.2.2.2.2.2.1 acc.2.2.2.2.2.2.2 a y _ _ _
    · rw [Value.stAt0_B m c t acc h0 h1 h2]
      dsimp only
      rw [← funext (hr h1)]
      exact up_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.2.2.2.1 acc.2.2.2.2.2.2.2 a y _ _ _

theorem rows_first (h1 : t.val % 4 = 0) : (Value.stAt0 m c t.val t.isLt acc).2.2.2.2.2.2.1 (ix2 a d) = argY m c (ix2 (rowOf t.val a) d) := by
  have h2 : ¬t.val % 4 = 3 := by omega
  rw [← blk_y]
  by_cases h0 : t.val % 64 = 0
  · rw [Value.stAt0_A m c t acc h0 h1 h2]
    dsimp only
    exact rows_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) a d _ _ _
  · rw [Value.stAt0_D m c t acc h0 h1 h2]
    dsimp only
    exact rows_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) a d _ _ _

theorem rows_next (h1 : ¬t.val % 4 = 0) : (Value.stAt0 m c t.val t.isLt acc).2.2.2.2.2.2.1 = acc.2.2.2.2.2.2.1 := by
  have h0 : ¬t.val % 64 = 0 := by omega
  by_cases h2 : t.val % 4 = 3
  · rw [Value.stAt0_C m c t acc h0 h1 h2]
    rfl
  · rw [Value.stAt0_B m c t acc h0 h1 h2]
    rfl

theorem acc_first (h1 : t.val % 4 = 0) : (Value.stAt0 m c t.val t.isLt acc).2.2.2.2.2.2.2 (ix2 a d) = 0 + part m c (rowOf t.val a) d (t.val % 4) := by
  have h2 : ¬t.val % 4 = 3 := by omega
  rw [← add_blk, ← funext (blk_y m c t a)]
  by_cases h0 : t.val % 64 = 0
  · rw [Value.stAt0_A m c t acc h0 h1 h2]
    dsimp only
    exact acc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) a d _ _ _
  · rw [Value.stAt0_D m c t acc h0 h1 h2]
    dsimp only
    exact acc_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) a d _ _ _

theorem acc_next (h1 : ¬t.val % 4 = 0) (h2 : ¬t.val % 4 = 3) (hr : ∀ d, acc.2.2.2.2.2.2.1 (ix2 a d) = argY m c (ix2 (rowOf t.val a) d)) :
    (Value.stAt0 m c t.val t.isLt acc).2.2.2.2.2.2.2 (ix2 a d) = acc.2.2.2.2.2.2.2 (ix2 a d) + part m c (rowOf t.val a) d (t.val % 4) := by
  rw [Value.stAt0_B m c t acc (by omega) h1 h2, ← add_blk, ← funext hr]
  dsimp only
  exact acc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.2.2.2.1 acc.2.2.2.2.2.2.2 a d _ _ _

theorem norm_last (h2 : t.val % 4 = 3) : (Value.stAt0 m c t.val t.isLt acc).2.2.2.1 (ix2 a d) = nrm (argX m c) (argS m c) (rowOf t.val a) d := by
  rw [Value.stAt0_C m c t acc (by omega) (by omega) h2, ← nrm_blk]
  dsimp only
  exact norm_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.2.2.1 acc.2.2.2.2.2.2.1 acc.2.2.2.2.2.2.2 a d _ _ _

theorem dx_last (h2 : t.val % 4 = 3) (hr : ∀ d, acc.2.2.2.2.2.2.1 (ix2 a d) = argY m c (ix2 (rowOf t.val a) d)) :
    (Value.stAt0 m c t.val t.isLt acc).2.2.2.2.1 (ix2 a d) = argY m c (ix2 (rowOf t.val a) d)
      + drow (argX m c) (argS m c) (fun d => acc.2.2.2.2.2.2.2 (ix2 a d) + part m c (rowOf t.val a) d (t.val % 4)) (rowOf t.val a) d := by
  have e : (fun d => acc.2.2.2.2.2.2.2 (ix2 a d) + part m c (rowOf t.val a) d (t.val % 4))
      = fun d => acc.2.2.2.2.2.2.2 (ix2 a d) + add (iblk m c 3 t) (iblk m c 4 t) (iblk m c 5 t) (iblk m c 6 t) (iblk m c 7 t) a d (fun d => acc.2.2.2.2.2.2.1 (ix2 a d)) := by
    funext d
    rw [funext hr, add_blk]
  rw [Value.stAt0_C m c t acc (by omega) (by omega) h2, e, ← drow_blk, ← blk_y]
  dsimp only
  exact dx_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.2.2.1 acc.2.2.2.2.2.2.1 acc.2.2.2.2.2.2.2 a d _ _ _

/-- The tile's sum for the scale's gradient. -/
theorem gain_last (h2 : t.val % 4 = 3) (hr : ∀ a d, acc.2.2.2.2.2.2.1 (ix2 a d) = argY m c (ix2 (rowOf t.val a) d)) :
    (Value.stAt0 m c t.val t.isLt acc).2.2.2.2.2.1 (ix2 0 d) = acc.2.2.2.2.2.1 (ix2 0 d)
      + ∑ b : Fin 512, (acc.2.2.2.2.2.2.2 (ix2 b d) + part m c (rowOf t.val b) d (t.val % 4)) * (argX m c (ix2 (rowOf t.val b) d) * rr (argX m c) (rowOf t.val b)) := by
  rw [Value.stAt0_C m c t acc (by omega) (by omega) h2]
  dsimp only
  refine Eq.trans (by exact gain_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) acc.2.2.2.2.2.1 acc.2.2.2.2.2.2.1 acc.2.2.2.2.2.2.2 d _ _ _) (congrArg (acc.2.2.2.2.2.1 (ix2 0 d) + ·) (Finset.sum_congr rfl fun b _ => ?_))
  rw [funext (hr b), add_blk, rr_blk, blk_x]

theorem gain_zero (h0 : t.val % 64 = 0) : (Value.stAt0 m c t.val t.isLt acc).2.2.2.2.2.1 (ix2 0 d) = 0 := by
  rw [Value.stAt0_A m c t acc h0 (by omega) (by omega)]
  dsimp only
  exact gain_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) d _ _ _

theorem gain_next (h0 : ¬t.val % 64 = 0) (h2 : ¬t.val % 4 = 3) : (Value.stAt0 m c t.val t.isLt acc).2.2.2.2.2.1 = acc.2.2.2.2.2.1 := by
  by_cases h1 : t.val % 4 = 0
  · rw [Value.stAt0_D m c t acc h0 h1 h2]
    rfl
  · rw [Value.stAt0_B m c t acc h0 h1 h2]
    rfl

end Steps

/-- A point that is not the first of its row tile has the tile of the point before. -/
theorem rowOf_succ (n : ℕ) (h : ¬(n + 1) % 4 = 0) (a : Fin 512) : rowOf (n + 1) a = rowOf n a :=
  Fin.ext (by show (n + 1) / 4 % 16 * 512 + a.val = n / 4 % 16 * 512 + a.val; omega)

/-- The rounded rows of the output's gradient after any point. -/
theorem rows_after (n : ℕ) (h : n < cfg0.N) (a : Fin 512) (d : Fin 1024) : (outsAt0 m c n h).2.2.2.2.2.2.1 (ix2 a d) = argY m c (ix2 (rowOf n a) d) := by
  induction n with
  | zero =>
    rw [Value.outsAt0_zero]
    exact rows_first m c ⟨0, h⟩ _ a d rfl
  | succ n ih =>
    rw [Value.outsAt0_succ]
    by_cases h0 : (n + 1) % 4 = 0
    · exact rows_first m c ⟨n + 1, h⟩ _ a d h0
    · rw [rowOf_succ n h0, ← ih (Nat.lt_of_succ_lt h)]
      exact congrFun (rows_next m c ⟨n + 1, h⟩ _ h0) _

/-- The rounded rows as the next point of the same tile finds them. -/
theorem rows_before (n : ℕ) (h : n + 1 < cfg0.N) (h0 : ¬(n + 1) % 4 = 0) (a : Fin 512) (d : Fin 1024) :
    (outsAt0 m c n (Nat.lt_of_succ_lt h)).2.2.2.2.2.2.1 (ix2 a d) = argY m c (ix2 (rowOf (n + 1) a) d) := by
  rw [rows_after, rowOf_succ n h0]

/-- The accumulator after any point but the last of a row tile. -/
theorem acc_after (n : ℕ) (h : n < cfg0.N) (h1 : ¬n % 4 = 3) (a : Fin 512) (d : Fin 1024) :
    (outsAt0 m c n h).2.2.2.2.2.2.2 (ix2 a d) = ∑ f ∈ Finset.range (n % 4 + 1), part m c (rowOf n a) d f := by
  induction n with
  | zero =>
    rw [Value.outsAt0_zero, Finset.sum_range_one]
    exact (acc_first m c ⟨0, h⟩ _ a d rfl).trans (zero_add _)
  | succ n ih =>
    rw [Value.outsAt0_succ]
    by_cases h0 : (n + 1) % 4 = 0
    · rw [h0, Finset.sum_range_one]
      refine (acc_first m c ⟨n + 1, h⟩ _ a d h0).trans ((zero_add _).trans ?_)
      show part m c _ d ((n + 1) % 4) = _
      rw [h0]
    · rw [Finset.sum_range_succ, rowOf_succ n h0, show (n + 1) % 4 = n % 4 + 1 by omega, ← ih (Nat.lt_of_succ_lt h) (by omega)]
      refine (acc_next m c ⟨n + 1, h⟩ (outsAt0 m c n (Nat.lt_of_succ_lt h)) a d h0 h1 (fun d => rows_before m c n h h0 a d)).trans ?_
      show _ + part m c (rowOf (n + 1) a) d ((n + 1) % 4) = _
      rw [rowOf_succ n h0, show (n + 1) % 4 = n % 4 + 1 by omega]

/-- At the last point of a row tile the accumulator comes to the whole gradient of the normalised rows. -/
theorem acc_whole (n : ℕ) (h : n + 1 < cfg0.N) (h1 : (n + 1) % 4 = 3) (a : Fin 512) (d : Fin 1024) :
    (outsAt0 m c n (Nat.lt_of_succ_lt h)).2.2.2.2.2.2.2 (ix2 a d) + part m c (rowOf (n + 1) a) d ((n + 1) % 4) = dh m c (rowOf (n + 1) a) d := by
  rw [← parts_sum, Finset.sum_range_succ, acc_after m c n _ (by omega), h1, show n % 4 = 2 by omega, rowOf_succ n (by omega)]

theorem act_after (n : ℕ) (h : n < cfg0.N) (a : Fin 512) (y : Fin 768) : (outsAt0 m c n h).1 (ix3 0 a y) = act (gat m c (rowOf n a) (at4 n y)) (upp m c (rowOf n a) (at4 n y)) := by
  cases n with
  | zero =>
    rw [Value.outsAt0_zero]
    exact act_step m c ⟨0, h⟩ _ a y
  | succ n =>
    rw [Value.outsAt0_succ]
    exact act_step m c ⟨n + 1, h⟩ _ a y

theorem gate_after (n : ℕ) (h : n < cfg0.N) (a : Fin 512) (y : Fin 768) : (outsAt0 m c n h).2.1 (ix3 0 a y) = dgat m c (rowOf n a) (at4 n y) := by
  cases n with
  | zero =>
    rw [Value.outsAt0_zero]
    exact gate_step m c ⟨0, h⟩ _ a y (fun h0 => absurd rfl h0)
  | succ n =>
    rw [Value.outsAt0_succ]
    exact gate_step m c ⟨n + 1, h⟩ _ a y (fun h0 d => rows_before m c n h h0 a d)

theorem up_after (n : ℕ) (h : n < cfg0.N) (a : Fin 512) (y : Fin 768) : (outsAt0 m c n h).2.2.1 (ix3 0 a y) = dupp m c (rowOf n a) (at4 n y) := by
  cases n with
  | zero =>
    rw [Value.outsAt0_zero]
    exact up_step m c ⟨0, h⟩ _ a y (fun h0 => absurd rfl h0)
  | succ n =>
    rw [Value.outsAt0_succ]
    exact up_step m c ⟨n + 1, h⟩ _ a y (fun h0 d => rows_before m c n h h0 a d)

theorem norm_after (n : ℕ) (h : n + 1 < cfg0.N) (h1 : (n + 1) % 4 = 3) (a : Fin 512) (d : Fin 1024) :
    (outsAt0 m c (n + 1) h).2.2.2.1 (ix2 a d) = nrm (argX m c) (argS m c) (rowOf (n + 1) a) d := by
  rw [Value.outsAt0_succ]
  exact norm_last m c ⟨n + 1, h⟩ _ a d h1

theorem dx_after (n : ℕ) (h : n + 1 < cfg0.N) (h1 : (n + 1) % 4 = 3) (a : Fin 512) (d : Fin 1024) :
    (outsAt0 m c (n + 1) h).2.2.2.2.1 (ix2 a d)
      = argY m c (ix2 (rowOf (n + 1) a) d) + drow (argX m c) (argS m c) (dh m c (rowOf (n + 1) a)) (rowOf (n + 1) a) d := by
  rw [Value.outsAt0_succ, ← funext (acc_whole m c n h h1 a)]
  exact dx_last m c ⟨n + 1, h⟩ (outsAt0 m c n (Nat.lt_of_succ_lt h)) a d h1 (fun d => rows_before m c n h (by omega) a d)

/-- What row tile `i` adds to the scale's gradient. -/
def tile (d : Fin 1024) (i : ℕ) : EReal := ∑ b : Fin 512, dh m c ⟨i % 16 * 512 + b.val, by omega⟩ d * (argX m c (ix2 ⟨i % 16 * 512 + b.val, by omega⟩ d) * rr (argX m c) ⟨i % 16 * 512 + b.val, by omega⟩)

/-- The scale's gradient after any point: the sum over the row tiles that are done. -/
theorem gain_after (n : ℕ) (h : n < cfg0.N) (d : Fin 1024) : (outsAt0 m c n h).2.2.2.2.2.1 (ix2 0 d) = ∑ i ∈ Finset.range ((n + 1) / 4), tile m c d i := by
  have hN : n < 64 := lt_of_lt_of_eq h N_0
  induction n with
  | zero =>
    rw [Value.outsAt0_zero]
    exact gain_zero m c ⟨0, h⟩ _ d rfl
  | succ n ih =>
    rw [Value.outsAt0_succ]
    by_cases h1 : (n + 1) % 4 = 3
    · rw [show (n + 1 + 1) / 4 = (n + 1) / 4 + 1 by omega, Finset.sum_range_succ, ← ih (Nat.lt_of_succ_lt h) (by omega)]
      refine (gain_last m c ⟨n + 1, h⟩ (outsAt0 m c n (Nat.lt_of_succ_lt h)) d h1 (fun a d => rows_before m c n h (by omega) a d)).trans ?_
      refine congrArg (_ + ·) (Finset.sum_congr rfl fun b _ => ?_)
      exact congrArg (· * (argX m c (ix2 (rowOf (n + 1) b) d) * rr (argX m c) (rowOf (n + 1) b))) (acc_whole m c n h h1 b d)
    · rw [show (n + 1 + 1) / 4 = (n + 1) / 4 by omega, ← ih (Nat.lt_of_succ_lt h) (by omega)]
      exact congrFun (gain_next m c ⟨n + 1, h⟩ _ (by show ¬(n + 1) % 64 = 0; omega) h1) _

end Cert.Kernel6Ideal.Hand

end
-- ==== Proof.BackReal.lean ====
/- The feed-forward gradient's precondition, read: every element of the four arguments that it names is a real. And what the
   chain rule gives for the gate's gradient and for a row's gradient. -/
module

public import proofs.«01_k».proof.Pre_finite6
public import proofs.«01_k».proof.Proof.Finite
public import proofs.«01_k».proof.Proof.BackTiles

@[expose] public section

noncomputable section

namespace Cert.Pre_finite6.Hand

open Cert.Pre_finite6 Cert.Pre_finite6.Facts Idealize.ShloMosaic
open Cert.Pre_finite.Hand (andi_one reals)

theorem facts : Facts where
  bcast_S_S8192x1024 := by decide
  reducesTo_S8192x1024_S_d0_1 := by decide
  h_S_ := by decide
  bcast_S_S1024 := by decide
  reducesTo_S1024_S_d0 := by decide
  bcast_S_S1024x2816 := by decide
  reducesTo_S1024x2816_S_d0_1 := by decide
  bcast_S_S2816x1024 := by decide
  reducesTo_S2816x1024_S_d0_1 := by decide

attribute [local instance] facts

/-- A value that is a real. -/
def Real' (e : EReal) : Prop := ∃ r : ℝ, e = (r : EReal)

theorem real_of {e : EReal} (h : (e.toReal : EReal) = e) : Real' e := ⟨_, h.symm⟩

theorem finite (a0 a1 : FVec Ideal S8192x1024 .f32) (a2 : FVec Ideal S1024 .f32) (a3 a4 : FVec Ideal S1024x2816 .f32) (a5 : FVec Ideal S2816x1024 .f32)
    (h : fn a0 a1 a2 a3 a4 a5 = fun _ => 1#1) :
    (∀ i, Real' (a0 i)) ∧ (∀ i, Real' (a2 i)) ∧ (∀ i, Real' (a4 i)) ∧ ∀ i, Real' (a5 i) := by
  have h := congrFun h (Shape.Idx.first h_S_)
  obtain ⟨h, h5⟩ := (andi_one _ _).mp h
  obtain ⟨h, h4⟩ := (andi_one _ _).mp h
  obtain ⟨h0, h2⟩ := (andi_one _ _).mp h
  exact ⟨fun i => real_of (reals _ _ _ _ _ h0 i), fun i => real_of (reals _ _ _ _ _ h2 i), fun i => real_of (reals _ _ _ _ _ h4 i), fun i => real_of (reals _ _ _ _ _ h5 i)⟩

theorem Real'.add {a b : EReal} (ha : Real' a) (hb : Real' b) : Real' (a + b) := by
  obtain ⟨x, rfl⟩ := ha
  obtain ⟨y, rfl⟩ := hb
  exact ⟨x + y, (EReal.coe_add x y).symm⟩

theorem Real'.mul {a b : EReal} (ha : Real' a) (hb : Real' b) : Real' (a * b) := by
  obtain ⟨x, rfl⟩ := ha
  obtain ⟨y, rfl⟩ := hb
  exact ⟨x * y, (EReal.coe_mul x y).symm⟩

theorem Real'.sub {a b : EReal} (ha : Real' a) (hb : Real' b) : Real' (a - b) := by
  obtain ⟨x, rfl⟩ := ha
  obtain ⟨y, rfl⟩ := hb
  exact ⟨x - y, (EReal.coe_sub x y).symm⟩

theorem Real'.sum {ι : Type} {s : Finset ι} {f : ι → EReal} (h : ∀ i, Real' (f i)) : Real' (∑ i ∈ s, f i) := by
  choose g hg using h
  exact ⟨∑ i ∈ s, g i, by rw [← Attn.coe_sum]; exact Finset.sum_congr rfl fun i _ => hg i⟩

theorem Real'.one : Real' 1 := ⟨1, rfl⟩

end Cert.Pre_finite6.Hand

namespace Cert.Kernel6Ideal.Hand

open Cert.Kernel6Ideal Idealize.ShloMosaic Idealize.ShloMosaic.TcCoe
open Cert.Pre_finite6.Hand (Real')

theorem width : Ideal.ofBits .f32 0x44800000#32 = ((1024 : ℝ) : EReal) := by
  simp [Ideal.ofBits, Ideal.ieee]
  rw [← EReal.coe_mul]
  norm_num

theorem minus_half : Ideal.ofBits .f32 0xBF000000#32 = ((-(1 / 2) : ℝ) : EReal) := by
  simp [Ideal.ofBits, Ideal.ieee]
  rw [← EReal.coe_mul]
  norm_num

theorem small : ∃ e : ℝ, 0 < e ∧ Ideal.ofBits .f32 0x358637BD#32 = (e : EReal) := by
  simp [Ideal.ofBits, Ideal.ieee]
  rw [← EReal.coe_mul]
  refine ⟨_, ?_, rfl⟩
  norm_num

/-- The logistic function of a real is a real. -/
theorem sg_real {g : EReal} (h : Real' g) : Real' (sg g) := by
  obtain ⟨x, rfl⟩ := h
  have e : Ideal.exp (-(x : EReal)) = ((Real.exp (-x) : ℝ) : EReal) := by
    rw [← EReal.coe_neg]
    rfl
  unfold sg
  rw [e, show (1 : EReal) = ((1 : ℝ) : EReal) from rfl, ← EReal.coe_add, Attn.div_real (by positivity)]
  exact ⟨_, rfl⟩

/-- The gate's gradient as the chain rule gives it. -/
def dgate' (g u r : EReal) : EReal := r * u * sg g + g * (r * u) * (sg g * (1 - sg g))

theorem dgate_eq {g u r : EReal} (hg : Real' g) (hu : Real' u) (hr : Real' r) : dgate g u r = dgate' g u r := by
  obtain ⟨s, hs⟩ := sg_real hg
  unfold dgate dgate'
  rw [hs]
  obtain ⟨g, rfl⟩ := hg
  obtain ⟨u, rfl⟩ := hu
  obtain ⟨r, rfl⟩ := hr
  have e : r * u * (s * (1 + g * (1 - s))) = r * u * s + g * (r * u) * (s * (1 - s)) := by ring
  exact_mod_cast congrArg (fun x : ℝ => (x : EReal)) e

section Row

variable {n : ℕ} (x : Vec Ideal ⟨2, ![n, 1024]⟩ .f32) (g : Vec Ideal S1x1024 .f32) (p : Fin 1024 → EReal) (a : Fin n) (d : Fin 1024)

/-- The mean of a row's squares, with the small constant added. -/
def ms : EReal := Ideal.div (∑ k, x (ix2 a k) * x (ix2 a k)) (Ideal.ofBits .f32 0x44800000#32) + Ideal.ofBits .f32 0x358637BD#32

/-- The part of a row's gradient that comes through its root mean square. -/
def through : EReal :=
  Ideal.div ((∑ k, x (ix2 a k) * (p k * g (ix2 0 k))) * (Ideal.ofBits .f32 0xBF000000#32 * Ideal.div (rr x a) (ms x a))) (Ideal.ofBits .f32 0x44800000#32)

/-- The gradient of a row as the chain rule gives it. -/
def drow' : EReal := p d * g (ix2 0 d) * rr x a + x (ix2 a d) * through x g p a + through x g p a * x (ix2 a d)

/-- The mean of a row's squares is a positive real. -/
theorem ms_real (hx : ∀ k, Real' (x (ix2 a k))) : ∃ v : ℝ, 0 < v ∧ ms x a = (v : EReal) ∧ rr x a = (((Real.sqrt v)⁻¹ : ℝ) : EReal) := by
  choose f hf using hx
  obtain ⟨e, he, h⟩ := small
  have hs : ∑ k, x (ix2 a k) * x (ix2 a k) = ((∑ k, f k * f k : ℝ) : EReal) := by
    rw [← Attn.coe_sum]
    refine Finset.sum_congr rfl fun k _ => ?_
    rw [hf k, EReal.coe_mul]
  have hv : ms x a = (((∑ k, f k * f k) / 1024 + e : ℝ) : EReal) := by
    unfold ms
    rw [hs, width, h, Attn.div_real (by norm_num), ← EReal.coe_add]
  have hp : 0 < (∑ k, f k * f k) / 1024 + e := by
    have : 0 ≤ ∑ k, f k * f k := Finset.sum_nonneg fun k _ => mul_self_nonneg _
    positivity
  refine ⟨_, hp, hv, ?_⟩
  show Ideal.rsqrt (ms x a) = _
  rw [hv, Ideal.rsqrt_coe, if_neg (not_lt.mpr hp.le), if_neg hp.ne']

theorem rr_real (hx : ∀ k, Real' (x (ix2 a k))) : Real' (rr x a) := by
  obtain ⟨v, _, _, h⟩ := ms_real x a hx
  exact ⟨_, h⟩

theorem nrm_real (hx : ∀ k, Real' (x (ix2 a k))) (hg : ∀ k, Real' (g (ix2 0 k))) : Real' (Cert.Kernel3Ideal.Hand.nrm x g a d) :=
  ((hx d).mul (rr_real x a hx)).mul (hg d)

end Row

end Cert.Kernel6Ideal.Hand

end
-- ==== Proof.BackRef.lean ====
/- The feed-forward gradient's reference's results at an index. -/
module

public import proofs.«01_k».proof.Proof.FfnRef
public import proofs.«01_k».proof.Proof.BackReal
public import proofs.«01_k».proof.Proof.Gen.Reference6Ideal.Run

@[expose] public section

noncomputable section

namespace Cert.Reference6Ideal.Hand

open Cert.Reference6Ideal Cert.Reference6Ideal.Gen Idealize.ShloMosaic Idealize.ShloMosaic.TcCoe Idealize.SL.Sem
open Cert.Kernel3Ideal.Hand (nrm act one)
open Cert.Kernel6Ideal.Hand (sg dgate' dup rr ms through drow')
open Cert.Reference3Ideal.Hand (gain rows lin fours gated lot rows_apply lin_apply gated_apply fours_in fours_out)

variable (dy x : FVec Ideal S8192x1024 .f32) (g : FVec Ideal S1024 .f32) (wg wu : FVec Ideal S1024x2816 .f32) (wd : FVec Ideal S2816x1024 .f32)
    (z u r p q : FVec Ideal S8192x2816 .f32) (dh : FVec Ideal S8192x1024 .f32)

/-- An array of ones. -/
def ones : FVec Ideal S8192x2816 .f32 := broadcastInDim S8192x2816 ![] bcast_S_S8192x2816 (constant S_ .f32 0x3F800000#32)
/-- The logistic function of an array. -/
def logi : FVec Ideal S8192x2816 .f32 := Host.divf ones (addf ones (Host.exp (Host.negf z)))
/-- The activation's gradient. -/
def dAct : FVec Ideal S8192x2816 .f32 := Host.dotGeneral dot_S8192x1024_S2816x1024_S8192x2816_1_1_0_0_n_n none dy wd
/-- The up projection's gradient. -/
def dUp : FVec Ideal S8192x2816 .f32 := mulf (mulf z (logi z)) r
/-- The gate's gradient. -/
def dGate : FVec Ideal S8192x2816 .f32 := addf (mulf (mulf r u) (logi z)) (mulf (mulf z (mulf r u)) (mulf (logi z) (subf ones (logi z))))
/-- The gradient of the normalised rows. -/
def dRows : FVec Ideal S8192x1024 .f32 :=
  addf (Host.dotGeneral dot_S8192x2816_S1024x2816_S8192x1024_1_1_0_0_n_n none q wu) (Host.dotGeneral dot_S8192x2816_S1024x2816_S8192x1024_1_1_0_0_n_n none p wg)
/-- The mean of the squares of each row, with the small constant added. -/
def mean : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
/-- The reciprocals of the rows' root mean squares, along the rows. -/
def recip : FVec Ideal S8192x1024 .f32 := broadcastInDim S8192x1024 ![0, 1] bcast_S8192x1_S8192x1024_0_1 (Host.rsqrt (mean x))
/-- The gradient of the normalised rows before the scale. -/
def scaled : FVec Ideal S8192x1024 .f32 := mulf dh (broadcastInDim S8192x1024 ![0, 1] bcast_S1x1024_S8192x1024_0_1 (gain g))
/-- The part of the rows' gradient that comes through their root mean squares. -/
def thru : FVec Ideal S8192x1024 .f32 :=
  broadcastInDim S8192x1024 ![0] bcast_S8192_S8192x1024_0 (Host.reduceAdd (Host.divf (mulf (shapeCast S8192x1 (Host.reduceAdd (mulf x (scaled g dh)) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (mean x)) (mean x)))) (broadcastInDim S8192x1 ![] bcast_S_S8192x1 (constant S_ .f32 0x44800000#32))) (constant S_ .f32 0x00000000#32) reducesTo_S8192x1_S8192_d1 h_S_)
/-- The input's gradient. -/
def dX : FVec Ideal S8192x1024 .f32 := addf dy (addf (addf (mulf (scaled g dh) (recip x)) (mulf x (thru x g dh))) (mulf (thru x g dh) x))
/-- The scale's gradient, as one row. -/
def dGain : FVec Ideal S1x1024 .f32 :=
  broadcastInDim S1x1024 ![1] bcast_S1024_S1x1024_1 (Host.reduceAdd (shapeCast S1x1024 (Host.reduceAdd (mulf (mulf x (recip x)) dh) (constant S_ .f32 0x00000000#32) reducesTo_S8192x1024_S1024_d0 h_S_) shapeCasts_S1024_S1x1024) (constant S_ .f32 0x00000000#32) reducesTo_S1x1024_S1024_d0 h_S_)
/-- An array's columns in four groups, rounded. -/
def half : FVec Ideal S4x8192x768 .bf16 := truncf .bf16 (fours z) bitsLt_bf16_f32
/-- The normalised rows, rounded. -/
def halfRows : FVec Ideal S8192x1024 .bf16 := truncf .bf16 (rows x g) bitsLt_bf16_f32

theorem logi_apply (t : Fin 8192) (y : Fin 2816) : logi z (ix2 t y) = sg (z (ix2 t y)) := by
  unfold sg
  pointwise [logi, ones, one]

theorem dAct_apply (t : Fin 8192) (y : Fin 2816) : dAct dy wd (ix2 t y) = ∑ d, dy (ix2 t d) * wd (ix2 y d) := by
  pointwise [dAct, dot_S8192x1024_S2816x1024_S8192x2816_1_1_0_0_n_n]

theorem dUp_apply (t : Fin 8192) (y : Fin 2816) : dUp z r (ix2 t y) = dup (z (ix2 t y)) (r (ix2 t y)) := by
  unfold dup
  pointwise [dUp, logi_apply]
  exact mul_comm _ _

theorem dGate_apply (t : Fin 8192) (y : Fin 2816) : dGate z u r (ix2 t y) = dgate' (z (ix2 t y)) (u (ix2 t y)) (r (ix2 t y)) := by
  unfold dgate'
  pointwise [dGate, logi_apply, ones, one]

theorem dRows_apply (t : Fin 8192) (d : Fin 1024) : dRows wg wu p q (ix2 t d) = (∑ y, q (ix2 t y) * wu (ix2 d y)) + ∑ y, p (ix2 t y) * wg (ix2 d y) := by
  pointwise [dRows, dot_S8192x2816_S1024x2816_S8192x1024_1_1_0_0_n_n]

theorem mean_apply (t : Fin 8192) : mean x (ix2 t 0) = ms x t := by
  unfold ms
  pointwise [mean]

theorem recip_apply (t : Fin 8192) (d : Fin 1024) : recip x (ix2 t d) = rr x t := by
  show _ = Ideal.rsqrt (ms x t)
  pointwise [recip, mean_apply]

theorem scaled_apply (t : Fin 8192) (d : Fin 1024) : scaled g dh (ix2 t d) = dh (ix2 t d) * gain g (ix2 0 d) := by
  pointwise [scaled]

theorem thru_apply (t : Fin 8192) (d : Fin 1024) : thru x g dh (ix2 t d) = through x (gain g) (fun d => dh (ix2 t d)) t := by
  unfold through
  rw [show rr x t = Ideal.rsqrt (ms x t) from rfl]
  pointwise [thru, mean_apply, scaled_apply]
  rw [Fin.sum_univ_one, mean_apply]

theorem dX_apply (t : Fin 8192) (d : Fin 1024) : dX dy x g dh (ix2 t d) = dy (ix2 t d) + drow' x (gain g) (fun d => dh (ix2 t d)) t d := by
  unfold drow'
  pointwise [dX, scaled_apply, recip_apply, thru_apply]

theorem dGain_apply (d : Fin 1024) : dGain x dh (ix2 0 d) = ∑ t, x (ix2 t d) * rr x t * dh (ix2 t d) := by
  pointwise [dGain, recip_apply]
  rw [Fin.sum_univ_one]

theorem half_in (j : Fin 4) (t : Fin 8192) (f : Fin 768) (y : Fin 2816) (hf : f.val % 384 < 352) (hy : y.val = (j.val * 2 + f.val / 384) * 352 + f.val % 384) :
    half z (ix3 j t f) = z (ix2 t y) :=
  fours_in z j t f y hf hy

theorem half_out (j : Fin 4) (t : Fin 8192) (f : Fin 768) (hf : ¬f.val % 384 < 352) : half z (ix3 j t f) = 0 :=
  fours_out z j t f hf

theorem halfRows_apply (t : Fin 8192) (d : Fin 1024) : halfRows x g (ix2 t d) = nrm x (gain g) t d :=
  rows_apply x g t d

section Results

variable (m : (ℓ : Loc nD τ sig) → Buf (Elt Ideal) ℓ) (c : Dev nD)

/-- The program's arguments. -/
abbrev inY : FVec Ideal S8192x1024 .f32 := m ((c : Thread nD τ).loc main_arg0)
abbrev inX : FVec Ideal S8192x1024 .f32 := m ((c : Thread nD τ).loc main_arg1)
abbrev inG : FVec Ideal S1024 .f32 := m ((c : Thread nD τ).loc main_arg2)
abbrev inWg : FVec Ideal S1024x2816 .f32 := m ((c : Thread nD τ).loc main_arg3)
abbrev inWu : FVec Ideal S1024x2816 .f32 := m ((c : Thread nD τ).loc main_arg4)
abbrev inWd : FVec Ideal S2816x1024 .f32 := m ((c : Thread nD τ).loc main_arg5)

/-- The gate's, the up projection's and the normalised rows' gradients of the arguments. -/
abbrev gateOf : FVec Ideal S8192x2816 .f32 := dGate (lin x g wg) (lin x g wu) (dAct dy wd)
abbrev upOf : FVec Ideal S8192x2816 .f32 := dUp (lin x g wg) (dAct dy wd)
abbrev rowsOf : FVec Ideal S8192x1024 .f32 := dRows wg wu (gateOf dy x g wg wu wd) (upOf dy x g wg wd)

theorem gate_res : Value.res_out1 m c = half (gateOf (inY m c) (inX m c) (inG m c) (inWg m c) (inWu m c) (inWd m c)) := by
  unfold Value.res_out1 Value.res_main_v57
  rfl

theorem dx_res : Value.res_out4 m c = dX (inY m c) (inX m c) (inG m c) (rowsOf (inY m c) (inX m c) (inG m c) (inWg m c) (inWu m c) (inWd m c)) := by
  unfold Value.res_out4 Value.res_main_v64
  rfl

theorem gain_res : Value.res_out5 m c = dGain (inX m c) (rowsOf (inY m c) (inX m c) (inG m c) (inWg m c) (inWu m c) (inWd m c)) := by
  unfold Value.res_out5 Value.res_main_v65
  rfl

end Results

end Cert.Reference6Ideal.Hand

end
-- ==== Proof.BackWide.lean ====
/- The feed-forward gradient's formulas where some values may be infinite: the gate, the gradient of the normalised rows,
   and rows of the input that aren't real. -/
module

public import proofs.«01_k».proof.Proof.BackReal
public import proofs.«01_k».proof.Proof.FwdAttn

@[expose] public section

noncomputable section

namespace Cert.Kernel6Ideal.Hand

open Cert.Kernel6Ideal Idealize.ShloMosaic Idealize.ShloMosaic.TcCoe
open Cert.Pre_finite6.Hand (Real')

theorem sg_top : sg ⊤ = 1 := by
  unfold sg
  rw [EReal.neg_top, Ideal.exp_bot, add_zero, show (1 : EReal) = ((1 : ℝ) : EReal) from rfl, Attn.div_real one_ne_zero, div_one]

theorem sg_bot : sg ⊥ = 0 := by
  unfold sg
  rw [EReal.neg_bot, Ideal.exp_top, EReal.add_top_of_ne_bot (show (1 : EReal) ≠ ⊥ from EReal.coe_ne_bot 1)]
  simp [Ideal.div]

theorem one_sub_one : (1 : EReal) - 1 = 0 := by
  rw [show (1 : EReal) = ((1 : ℝ) : EReal) from rfl, ← EReal.coe_sub, sub_self, EReal.coe_zero]

/-- The gate's gradient is the chain rule's also where the gate is infinite. -/
theorem dgate_eq' (g : EReal) {u r : EReal} (hu : Real' u) (hr : Real' r) : dgate g u r = dgate' g u r := by
  induction g using EReal.rec with
  | coe g => exact dgate_eq ⟨g, rfl⟩ hu hr
  | top =>
    unfold dgate dgate'
    rw [sg_top, one_sub_one, mul_zero, mul_zero, mul_zero, add_zero, add_zero, mul_one, mul_one]
  | bot =>
    unfold dgate dgate'
    rw [sg_bot, zero_mul, zero_mul, mul_zero, mul_zero, add_zero]

theorem not_real {e : EReal} (h : ¬Real' e) : e * e = ⊤ := by
  induction e using EReal.rec with
  | coe r => exact absurd ⟨r, rfl⟩ h
  | top => exact EReal.top_mul_top
  | bot => exact EReal.bot_mul_bot

theorem square_nonneg (e : EReal) : 0 ≤ e * e := by
  induction e using EReal.rec with
  | coe r =>
    rw [← EReal.coe_mul]
    exact EReal.coe_nonneg.mpr (mul_self_nonneg r)
  | top => rw [EReal.top_mul_top]; exact le_top
  | bot => rw [EReal.bot_mul_bot]; exact le_top

/-- A row's gradient in the kernel's form and in the chain rule's, from the row's sum `S`. -/
theorem combine (A S : EReal) (x r k : ℝ) (hr : 0 < r) (hk : k < 0) (e : r * r * r / 1024 = -2 * k) :
    (r : EReal) * (A - x * r * ((r : EReal) * S * ((1 / 1024 : ℝ) : EReal))) = A * r + x * (S * k) + S * k * x := by
  have hc : (0 : ℝ) < 1 / 1024 := by norm_num
  induction S using EReal.rec with
  | coe s =>
    have h1 : (x : EReal) * r * ((r : EReal) * s * ((1 / 1024 : ℝ) : EReal)) = ((x * r * (r * s * (1 / 1024)) : ℝ) : EReal) := by simp only [EReal.coe_mul]
    have h2 : (x : EReal) * ((s : EReal) * k) = ((x * (s * k) : ℝ) : EReal) := by simp only [EReal.coe_mul]
    have h3 : (s : EReal) * k * x = ((s * k * x : ℝ) : EReal) := by simp only [EReal.coe_mul]
    rw [h1, h2, h3]
    induction A using EReal.rec with
    | coe a =>
      simp only [← EReal.coe_mul, ← EReal.coe_sub, ← EReal.coe_add]
      refine congrArg (fun x : ℝ => (x : EReal)) ?_
      have : k = -(r * r * r / 1024) / 2 := by linarith
      rw [this]
      ring
    | top => rw [EReal.top_sub_coe, EReal.coe_mul_top_of_pos hr, EReal.top_mul_coe_of_pos hr, EReal.top_add_coe, EReal.top_add_coe]
    | bot => rw [EReal.bot_sub, EReal.coe_mul_bot_of_pos hr, EReal.bot_mul_coe_of_pos hr, EReal.bot_add, EReal.bot_add]
  | top =>
    rw [EReal.coe_mul_top_of_pos hr, EReal.top_mul_coe_of_pos hc, EReal.top_mul_coe_of_neg hk]
    rcases lt_trichotomy x 0 with hx | rfl | hx
    · rw [← EReal.coe_mul, EReal.coe_mul_top_of_neg (mul_neg_of_neg_of_pos hx hr), EReal.coe_mul_bot_of_neg hx, EReal.bot_mul_coe_of_neg hx, add_assoc, EReal.top_add_top, sub_eq_add_neg, EReal.neg_bot]
      induction A using EReal.rec with
      | coe a => rw [EReal.coe_add_top, EReal.coe_mul_top_of_pos hr, ← EReal.coe_mul, EReal.coe_add_top]
      | top => rw [EReal.top_add_top, EReal.coe_mul_top_of_pos hr, EReal.top_mul_coe_of_pos hr, EReal.top_add_top]
      | bot => rw [EReal.bot_add, EReal.coe_mul_bot_of_pos hr, EReal.bot_mul_coe_of_pos hr, EReal.bot_add]
    · rw [EReal.coe_zero, zero_mul, zero_mul, zero_mul, mul_zero, sub_zero, add_zero, add_zero, mul_comm]
    · rw [← EReal.coe_mul, EReal.coe_mul_top_of_pos (mul_pos hx hr), EReal.coe_mul_bot_of_pos hx, EReal.bot_mul_coe_of_pos hx, EReal.add_bot, sub_eq_add_neg, EReal.neg_top, EReal.add_bot, EReal.coe_mul_bot_of_pos hr]
  | bot =>
    rw [EReal.coe_mul_bot_of_pos hr, EReal.bot_mul_coe_of_pos hc, EReal.bot_mul_coe_of_neg hk]
    rcases lt_trichotomy x 0 with hx | rfl | hx
    · rw [← EReal.coe_mul, EReal.coe_mul_bot_of_neg (mul_neg_of_neg_of_pos hx hr), EReal.coe_mul_top_of_neg hx, EReal.top_mul_coe_of_neg hx, EReal.add_bot, sub_eq_add_neg, EReal.neg_top, EReal.add_bot, EReal.coe_mul_bot_of_pos hr]
    · rw [EReal.coe_zero, zero_mul, zero_mul, zero_mul, mul_zero, sub_zero, add_zero, add_zero, mul_comm]
    · rw [← EReal.coe_mul, EReal.coe_mul_bot_of_pos (mul_pos hx hr), EReal.coe_mul_top_of_pos hx, EReal.top_mul_coe_of_pos hx, add_assoc, EReal.top_add_top, sub_eq_add_neg, EReal.neg_bot]
      induction A using EReal.rec with
      | coe a => rw [EReal.coe_add_top, EReal.coe_mul_top_of_pos hr, ← EReal.coe_mul, EReal.coe_add_top]
      | top => rw [EReal.top_add_top, EReal.coe_mul_top_of_pos hr, EReal.top_mul_coe_of_pos hr, EReal.top_add_top]
      | bot => rw [EReal.bot_add, EReal.coe_mul_bot_of_pos hr, EReal.bot_mul_coe_of_pos hr, EReal.bot_add]

section Row

variable {n : ℕ} (x : Vec Ideal ⟨2, ![n, 1024]⟩ .f32) (g : Vec Ideal S1x1024 .f32) (p : Fin 1024 → EReal) (a : Fin n) (d : Fin 1024)

/-- The row's gradient is the chain rule's also where the gradient of the normalised row is infinite. -/
theorem drow_wide (hx : ∀ k, Real' (x (ix2 a k))) : drow x g p a d = drow' x g p a d := by
  obtain ⟨v, hv, hm, hr⟩ := ms_real x a hx
  have hp : 0 < (Real.sqrt v)⁻¹ := inv_pos.mpr (Real.sqrt_pos.mpr hv)
  have hr2 : (Real.sqrt v)⁻¹ * (Real.sqrt v)⁻¹ = 1 / v := by
    rw [← mul_inv, Real.mul_self_sqrt hv.le, one_div]
  generalize (Real.sqrt v)⁻¹ = r at hr hr2 hp
  obtain ⟨f, hf⟩ := hx d
  have e1 : ∑ k, p k * g (ix2 0 k) * (x (ix2 a k) * rr x a) = (r : EReal) * ∑ k, x (ix2 a k) * (p k * g (ix2 0 k)) := by
    rw [Attn.real_mul_sum _ r hp.le, hr]
    refine Finset.sum_congr rfl fun k _ => ?_
    rw [← mul_assoc, mul_comm _ (r : EReal), mul_comm (p k * g (ix2 0 k)) (x (ix2 a k))]
  have et : through x g p a = (∑ k, x (ix2 a k) * (p k * g (ix2 0 k))) * ((-(1 / 2) * (r * (1 / v)) * (1 / 1024) : ℝ) : EReal) := by
    unfold through
    rw [hr, hm, minus_half, width, Ideal.div_coe hv.ne', Ideal.div_coe (by norm_num : (1024 : ℝ) ≠ 0), ← EReal.coe_mul, ← EReal.coe_mul, mul_assoc, ← EReal.coe_mul]
  unfold drow drow'
  rw [et, e1, width, Ideal.div_coe (by norm_num : (1024 : ℝ) ≠ 0), hr, hf]
  generalize ∑ k, x (ix2 a k) * (p k * g (ix2 0 k)) = S
  generalize p d * g (ix2 0 d) = A
  refine combine A S f r (-(1 / 2) * (r * (1 / v)) * (1 / 1024)) hp ?_ ?_
  · have : 0 < r * (1 / v) := mul_pos hp (one_div_pos.mpr hv)
    linarith
  · rw [← hr2]
    ring

/-- In a row that isn't real the reciprocal of the root mean square is zero. -/
theorem rr_zero (hx : ¬∀ k, Real' (x (ix2 a k))) : rr x a = 0 := by
  obtain ⟨k, hk⟩ := not_forall.mp hx
  obtain ⟨e, he, h⟩ := small
  have hs : ∑ k, x (ix2 a k) * x (ix2 a k) = ⊤ :=
    top_le_iff.mp ((not_real hk).symm.le.trans (Finset.single_le_sum (f := fun k => x (ix2 a k) * x (ix2 a k)) (fun i _ => square_nonneg _) (Finset.mem_univ k)))
  show Ideal.rsqrt (ms x a) = 0
  unfold ms
  rw [hs, width, h, Ideal.div_coe (by norm_num : (1024 : ℝ) ≠ 0), EReal.top_mul_coe_of_pos (by norm_num), EReal.top_add_coe, Ideal.rsqrt_top]

/-- There the row's gradient is the chain rule's, since nothing comes back. -/
theorem drow_zero (hx : rr x a = 0) (hp : ∀ k, p k = 0) : drow x g p a d = drow' x g p a d := by
  have hs : ∑ k, x (ix2 a k) * (p k * g (ix2 0 k)) = 0 := Finset.sum_eq_zero fun k _ => by rw [hp k, zero_mul, mul_zero]
  have ht : through x g p a = 0 := by
    unfold through
    rw [hs, zero_mul, width, Ideal.div_coe (by norm_num : (1024 : ℝ) ≠ 0), zero_mul]
  unfold drow drow'
  rw [ht, hx, zero_mul, mul_zero, mul_zero, zero_mul, add_zero, add_zero]

end Row

end Cert.Kernel6Ideal.Hand

end
-- ==== Proof.BackValue.lean ====
/- What the feed-forward gradient's call leaves after its run is what its reference computes. -/
module

public import proofs.«01_k».proof.Defs
public import proofs.«01_k».proof.Proof.BackSteps
public import proofs.«01_k».proof.Proof.BackRef
public import proofs.«01_k».proof.Proof.BackWide
public import proofs.«01_k».proof.Proof.GradValue
public import Idealize.ShloMosaic.Lib.StableHlo.RunRead

@[expose] public section

set_option maxRecDepth 16384

noncomputable section

namespace Cert.Kernel6Ideal.Hand

open Cert.Kernel6Ideal Cert.Kernel6Ideal.Gen Idealize.ShloMosaic Idealize.ShloMosaic.TcCoe Idealize.SL.Sem Idealize.ShloMosaic.StableHlo
open Cert.Kernel3Ideal.Hand (nrm act at4 colPieces colPieces_in colPieces_out rowPieces rowPieces_in)
open Cert.Reference3Ideal.Hand (gain rows lin fours gated lot lin_apply gated_apply fours_in fours_out sum_spread)
open Cert.Reference6Ideal.Hand (dAct dAct_apply dUp dUp_apply dGate dGate_apply dRows dRows_apply dX dX_apply dGain dGain_apply half half_in half_out halfRows halfRows_apply)
open Cert.Pre_finite6.Hand (Real')

variable (m : (ℓ : Loc nD τ sig) → Buf (Elt Ideal) ℓ) (c : Dev nD)

/-- The program's arguments. -/
abbrev inG : FVec Ideal S1024 .f32 := m ((c : Thread nD τ).loc main_arg2)
abbrev inWg : FVec Ideal S1024x2816 .f32 := m ((c : Thread nD τ).loc main_arg3)
abbrev inWu : FVec Ideal S1024x2816 .f32 := m ((c : Thread nD τ).loc main_arg4)
abbrev inWd : FVec Ideal S2816x1024 .f32 := m ((c : Thread nD τ).loc main_arg5)

/-- The gate, the up projection and the activation's gradient as the reference has them. -/
abbrev zg : FVec Ideal S8192x2816 .f32 := lin (argX m c) (inG m c) (inWg m c)
abbrev zu : FVec Ideal S8192x2816 .f32 := lin (argX m c) (inG m c) (inWu m c)
abbrev za : FVec Ideal S8192x2816 .f32 := dAct (argY m c) (inWd m c)

/-! ## What the host lines hand to the call -/

theorem V_s : argS m c = gain (inG m c) := by
  simp only [argS, V, hostOps0, hostOps0_1, hostOps0_2, hostOps0_3, hostOps0_4, hostOps0_5, hostOps0_6, hostOps0_7, hostOps0_8, hostOps0_9, List.flatten_cons, List.flatten_nil, List.append_nil, List.cons_append, List.nil_append,
    TRef.binary, TRef.unary, TRef.toBuf, TRef.ofBuf, cast_eq]
  after_results_simp
  rfl

theorem V_p : argP m c = fours (zg m c) := by
  simp only [argP, V, hostOps0, hostOps0_1, hostOps0_2, hostOps0_3, hostOps0_4, hostOps0_5, hostOps0_6, hostOps0_7, hostOps0_8, hostOps0_9, List.flatten_cons, List.flatten_nil, List.append_nil, List.cons_append, List.nil_append,
    TRef.binary, TRef.unary, TRef.toBuf, TRef.ofBuf, cast_eq]
  after_results_simp
  rfl

theorem V_q : argQ m c = fours (zu m c) := by
  simp only [argQ, V, hostOps0, hostOps0_1, hostOps0_2, hostOps0_3, hostOps0_4, hostOps0_5, hostOps0_6, hostOps0_7, hostOps0_8, hostOps0_9, List.flatten_cons, List.flatten_nil, List.append_nil, List.cons_append, List.nil_append,
    TRef.binary, TRef.unary, TRef.toBuf, TRef.ofBuf, cast_eq]
  after_results_simp
  rfl

theorem V_g : argG m c = colPieces (inWg m c) := by
  simp only [argG, V, hostOps0, hostOps0_1, hostOps0_2, hostOps0_3, hostOps0_4, hostOps0_5, hostOps0_6, hostOps0_7, hostOps0_8, hostOps0_9, List.flatten_cons, List.flatten_nil, List.append_nil, List.cons_append, List.nil_append,
    TRef.binary, TRef.unary, TRef.toBuf, TRef.ofBuf, cast_eq]
  after_results_simp
  rfl

theorem V_u : argU m c = colPieces (inWu m c) := by
  simp only [argU, V, hostOps0, hostOps0_1, hostOps0_2, hostOps0_3, hostOps0_4, hostOps0_5, hostOps0_6, hostOps0_7, hostOps0_8, hostOps0_9, List.flatten_cons, List.flatten_nil, List.append_nil, List.cons_append, List.nil_append,
    TRef.binary, TRef.unary, TRef.toBuf, TRef.ofBuf, cast_eq]
  after_results_simp
  rfl

theorem V_d : argD m c = rowPieces (inWd m c) := by
  simp only [argD, V, hostOps0, hostOps0_1, hostOps0_2, hostOps0_3, hostOps0_4, hostOps0_5, hostOps0_6, hostOps0_7, hostOps0_8, hostOps0_9, List.flatten_cons, List.flatten_nil, List.append_nil, List.cons_append, List.nil_append,
    TRef.binary, TRef.unary, TRef.toBuf, TRef.ofBuf, cast_eq]
  after_results_simp
  rfl

/-! ## The columns that the call computes on, against the reference's -/

section Columns

variable (r : Fin 8192) (d : Fin 1024) (y : Fin 3072) (z : Fin 2816)

theorem gat_in (hy : y.val % 384 < 352) (hz : z.val = y.val / 384 * 352 + y.val % 384) : gat m c r y = zg m c (ix2 r z) := by
  unfold gat
  rw [V_p m c]
  exact fours_in (zg m c) ⟨y.val / 768, by omega⟩ r ⟨y.val % 768, by omega⟩ z (by show y.val % 768 % 384 < 352; omega) (by show z.val = (y.val / 768 * 2 + y.val % 768 / 384) * 352 + y.val % 768 % 384; omega)

theorem gat_out (hy : ¬y.val % 384 < 352) : gat m c r y = 0 := by
  unfold gat
  rw [V_p m c]
  exact fours_out (zg m c) ⟨y.val / 768, by omega⟩ r ⟨y.val % 768, by omega⟩ (by show ¬y.val % 768 % 384 < 352; omega)

theorem upp_in (hy : y.val % 384 < 352) (hz : z.val = y.val / 384 * 352 + y.val % 384) : upp m c r y = zu m c (ix2 r z) := by
  unfold upp
  rw [V_q m c]
  exact fours_in (zu m c) ⟨y.val / 768, by omega⟩ r ⟨y.val % 768, by omega⟩ z (by show y.val % 768 % 384 < 352; omega) (by show z.val = (y.val / 768 * 2 + y.val % 768 / 384) * 352 + y.val % 768 % 384; omega)

theorem upp_out (hy : ¬y.val % 384 < 352) : upp m c r y = 0 := by
  unfold upp
  rw [V_q m c]
  exact fours_out (zu m c) ⟨y.val / 768, by omega⟩ r ⟨y.val % 768, by omega⟩ (by show ¬y.val % 768 % 384 < 352; omega)

theorem za_apply : za m c (ix2 r z) = ∑ d, argY m c (ix2 r d) * inWd m c (ix2 z d) := dAct_apply (argY m c) (inWd m c) r z

theorem dac_in (hy : y.val % 384 < 352) (hz : z.val = y.val / 384 * 352 + y.val % 384) : dac m c r y = za m c (ix2 r z) := by
  unfold dac
  rw [za_apply, V_d m c]
  exact Finset.sum_congr rfl fun d _ => congrArg (argY m c (ix2 r d) * ·) (rowPieces_in (inWd m c) ⟨y.val / 384, by omega⟩ ⟨y.val % 384, by omega⟩ d z hy hz)

/-- Every entry of the arguments is a real number, but for the input's and the gate weight's. -/
abbrev AllReal : Prop := (∀ i, Real' (argY m c i)) ∧ (∀ i, Real' (inG m c i)) ∧ (∀ i, Real' (inWu m c i)) ∧ ∀ i, Real' (inWd m c i)

theorem gain_real (k : Fin 1024) (hr : AllReal m c) : Real' (gain (inG m c) (ix2 0 k)) := by
  have e : gain (inG m c) (ix2 0 k) = inG m c (ix1 k) := by pointwise [gain]
  rw [e]
  exact hr.2.1 (ix1 k)

/-- In a row that isn't real every projection is zero. -/
theorem lin_zero (w : FVec Ideal S1024x2816 .f32) (hx : rr (argX m c) r = 0) : lin (argX m c) (inG m c) w (ix2 r z) = 0 := by
  rw [lin_apply]
  unfold lot
  refine Finset.sum_eq_zero fun k _ => ?_
  have e : nrm (argX m c) (gain (inG m c)) r k = argX m c (ix2 r k) * rr (argX m c) r * gain (inG m c) (ix2 0 k) := rfl
  rw [e, hx, mul_zero, zero_mul, zero_mul]

/-- The up projection is real, whatever the input. -/
theorem zu_real (hr : AllReal m c) : Real' (zu m c (ix2 r z)) := by
  by_cases hx : ∀ k, Real' (argX m c (ix2 r k))
  · have e : zu m c (ix2 r z) = lot (nrm (argX m c) (gain (inG m c)) r) (inWu m c) z := lin_apply (argX m c) (inG m c) (inWu m c) r z
    rw [e]
    unfold lot
    exact Real'.sum fun k => Real'.mul (nrm_real _ _ _ _ hx (fun k => gain_real m c k hr)) (hr.2.2.1 _)
  · exact ⟨0, lin_zero m c r z (inWu m c) (rr_zero _ r hx)⟩

theorem za_real (hr : AllReal m c) : Real' (za m c (ix2 r z)) := by
  rw [za_apply]
  exact Real'.sum fun k => Real'.mul (hr.1 _) (hr.2.2.2 _)

theorem dgat_in (hr : AllReal m c) (hy : y.val % 384 < 352) (hz : z.val = y.val / 384 * 352 + y.val % 384) : dgat m c r y = dGate (zg m c) (zu m c) (za m c) (ix2 r z) := by
  unfold dgat
  rw [gat_in m c r y z hy hz, upp_in m c r y z hy hz, dac_in m c r y z hy hz, dGate_apply]
  exact dgate_eq' _ (zu_real m c r z hr) (za_real m c r z hr)

theorem dgat_out (hy : ¬y.val % 384 < 352) : dgat m c r y = 0 := by
  unfold dgat dgate
  rw [upp_out m c r y hy, mul_zero, zero_mul]

theorem dupp_in (hy : y.val % 384 < 352) (hz : z.val = y.val / 384 * 352 + y.val % 384) : dupp m c r y = dUp (zg m c) (za m c) (ix2 r z) := by
  unfold dupp
  rw [gat_in m c r y z hy hz, dac_in m c r y z hy hz, dUp_apply]

theorem dupp_out (hy : ¬y.val % 384 < 352) : dupp m c r y = 0 := by
  unfold dupp dup
  rw [gat_out m c r y hy, zero_mul, mul_zero]

/-- The gradient of the normalised rows as the reference has it. -/
abbrev zh : FVec Ideal S8192x1024 .f32 := dRows (inWg m c) (inWu m c) (dGate (zg m c) (zu m c) (za m c)) (dUp (zg m c) (za m c))

theorem zh_apply : zh m c (ix2 r d) = (∑ z, dUp (zg m c) (za m c) (ix2 r z) * inWu m c (ix2 d z)) + ∑ z, dGate (zg m c) (zu m c) (za m c) (ix2 r z) * inWg m c (ix2 d z) :=
  dRows_apply (inWg m c) (inWu m c) (dGate (zg m c) (zu m c) (za m c)) (dUp (zg m c) (za m c)) r d

theorem dh_eq (hr : AllReal m c) : dh m c r d = zh m c (ix2 r d) := by
  have eg : ∑ y, termG m c r d y = ∑ z : Fin 2816, dGate (zg m c) (zu m c) (za m c) (ix2 r z) * inWg m c (ix2 d z) := by
    refine sum_spread (termG m c r d) (fun z => dGate (zg m c) (zu m c) (za m c) (ix2 r z) * inWg m c (ix2 d z)) (fun y hy => ?_) (fun y z hy hz => ?_)
    · unfold termG
      rw [dgat_out m c r y hy, zero_mul]
    · unfold termG
      rw [dgat_in m c r y z hr hy hz, V_g m c, colPieces_in (inWg m c) ⟨y.val / 384, by omega⟩ d ⟨y.val % 384, by omega⟩ z hy hz]
  have eu : ∑ y, termU m c r d y = ∑ z : Fin 2816, dUp (zg m c) (za m c) (ix2 r z) * inWu m c (ix2 d z) := by
    refine sum_spread (termU m c r d) (fun z => dUp (zg m c) (za m c) (ix2 r z) * inWu m c (ix2 d z)) (fun y hy => ?_) (fun y z hy hz => ?_)
    · unfold termU
      rw [dupp_out m c r y hy, zero_mul]
    · unfold termU
      rw [dupp_in m c r y z hy hz, V_u m c, colPieces_in (inWu m c) ⟨y.val / 384, by omega⟩ d ⟨y.val % 384, by omega⟩ z hy hz]
  unfold dh
  rw [eg, eu, zh_apply]
  exact add_comm _ _

/-- In a row that isn't real nothing comes back. -/
theorem zh_zero (hx : rr (argX m c) r = 0) : zh m c (ix2 r d) = 0 := by
  have e1 : ∀ z, dUp (zg m c) (za m c) (ix2 r z) = 0 := fun z => by
    rw [dUp_apply, show zg m c (ix2 r z) = 0 from lin_zero m c r z (inWg m c) hx]
    unfold dup
    rw [zero_mul, mul_zero]
  have e2 : ∀ z, dGate (zg m c) (zu m c) (za m c) (ix2 r z) = 0 := fun z => by
    rw [dGate_apply, show zu m c (ix2 r z) = 0 from lin_zero m c r z (inWu m c) hx]
    unfold dgate'
    rw [mul_zero, zero_mul, mul_zero, zero_mul, add_zero]
  rw [zh_apply, Finset.sum_eq_zero fun z _ => by rw [e1 z, zero_mul], Finset.sum_eq_zero fun z _ => by rw [e2 z, zero_mul], add_zero]

end Columns

/-! ## The arrays after the run -/

/-- The activation is the reference's. -/
theorem final_act : Value.G8 m c = half (gated (zg m c) (zu m c)) := by
  refine funext fun (z : S4x8192x768.Idx) => ?_
  obtain ⟨j, t, f, rfl⟩ : ∃ j t f, z = ix3 j t f := ⟨_, _, _, eq_ix3 z⟩
  have hp : Value.pt8Of (ix3 j t f) = j.val + 4 * (t.val / 512) := by
    show 1 * (j.val / 1 - 0) + 4 * (t.val / 512 - 0) + 64 * (f.val / 768 - 0) = _
    omega
  have hN : Value.pt8Of (ix3 j t f) < cfg0.N := by rw [hp, show cfg0.N = 64 from N_0]; omega
  unfold Value.G8
  rw [dif_pos hN, ← Value.outsAt0_sweep m c _ hN]
  have hl : Value.loc8Of (ix3 j t f) = ix3 0 ⟨t.val % 512, Nat.mod_lt _ (by decide)⟩ f := by
    funext ax
    apply Fin.ext
    match ax with
    | ⟨0, _⟩ => show j.val % 1 = 0; omega
    | ⟨1, _⟩ => rfl
    | ⟨2, _⟩ => show f.val % 768 = f.val; omega
  have ht : rowOf (Value.pt8Of (ix3 j t f)) ⟨t.val % 512, Nat.mod_lt _ (by decide)⟩ = t :=
    Fin.ext (by show Value.pt8Of (ix3 j t f) / 4 % 16 * 512 + t.val % 512 = t.val; rw [hp]; omega)
  have hy : (at4 (Value.pt8Of (ix3 j t f)) f).val = j.val * 768 + f.val := by
    show Value.pt8Of (ix3 j t f) % 4 * 768 + f.val = _
    rw [hp]
    omega
  rw [hl, act_after, ht]
  by_cases hf : f.val % 384 < 352
  · have h1 : (at4 (Value.pt8Of (ix3 j t f)) f).val % 384 < 352 := by omega
    have h2 : (j.val * 2 + f.val / 384) * 352 + f.val % 384 = (at4 (Value.pt8Of (ix3 j t f)) f).val / 384 * 352 + (at4 (Value.pt8Of (ix3 j t f)) f).val % 384 := by omega
    rw [half_in (gated (zg m c) (zu m c)) j t f ⟨(j.val * 2 + f.val / 384) * 352 + f.val % 384, by omega⟩ hf rfl]
    rw [gat_in m c t _ ⟨(j.val * 2 + f.val / 384) * 352 + f.val % 384, by omega⟩ h1 h2, upp_in m c t _ ⟨(j.val * 2 + f.val / 384) * 352 + f.val % 384, by omega⟩ h1 h2, gated_apply]
  · rw [half_out (gated (zg m c) (zu m c)) j t f hf]
    rw [upp_out m c t _ (by omega)]
    unfold act
    rw [mul_zero]

/-- The gate's gradient is the reference's. -/
theorem final_gate (hr : AllReal m c) : Value.G9 m c = half (dGate (zg m c) (zu m c) (za m c)) := by
  refine funext fun (z : S4x8192x768.Idx) => ?_
  obtain ⟨j, t, f, rfl⟩ : ∃ j t f, z = ix3 j t f := ⟨_, _, _, eq_ix3 z⟩
  have hp : Value.pt9Of (ix3 j t f) = j.val + 4 * (t.val / 512) := by
    show 1 * (j.val / 1 - 0) + 4 * (t.val / 512 - 0) + 64 * (f.val / 768 - 0) = _
    omega
  have hN : Value.pt9Of (ix3 j t f) < cfg0.N := by rw [hp, show cfg0.N = 64 from N_0]; omega
  unfold Value.G9
  rw [dif_pos hN, ← Value.outsAt0_sweep m c _ hN]
  have hl : Value.loc9Of (ix3 j t f) = ix3 0 ⟨t.val % 512, Nat.mod_lt _ (by decide)⟩ f := by
    funext ax
    apply Fin.ext
    match ax with
    | ⟨0, _⟩ => show j.val % 1 = 0; omega
    | ⟨1, _⟩ => rfl
    | ⟨2, _⟩ => show f.val % 768 = f.val; omega
  have ht : rowOf (Value.pt9Of (ix3 j t f)) ⟨t.val % 512, Nat.mod_lt _ (by decide)⟩ = t :=
    Fin.ext (by show Value.pt9Of (ix3 j t f) / 4 % 16 * 512 + t.val % 512 = t.val; rw [hp]; omega)
  have hy : (at4 (Value.pt9Of (ix3 j t f)) f).val = j.val * 768 + f.val := by
    show Value.pt9Of (ix3 j t f) % 4 * 768 + f.val = _
    rw [hp]
    omega
  rw [hl, gate_after, ht]
  by_cases hf : f.val % 384 < 352
  · have h1 : (at4 (Value.pt9Of (ix3 j t f)) f).val % 384 < 352 := by omega
    have h2 : (j.val * 2 + f.val / 384) * 352 + f.val % 384 = (at4 (Value.pt9Of (ix3 j t f)) f).val / 384 * 352 + (at4 (Value.pt9Of (ix3 j t f)) f).val % 384 := by omega
    rw [half_in (dGate (zg m c) (zu m c) (za m c)) j t f ⟨(j.val * 2 + f.val / 384) * 352 + f.val % 384, by omega⟩ hf rfl]
    exact dgat_in m c t _ ⟨(j.val * 2 + f.val / 384) * 352 + f.val % 384, by omega⟩ hr h1 h2
  · rw [half_out (dGate (zg m c) (zu m c) (za m c)) j t f hf]
    exact dgat_out m c t _ (by omega)

/-- The up projection's gradient is the reference's. -/
theorem final_up : Value.G10 m c = half (dUp (zg m c) (za m c)) := by
  refine funext fun (z : S4x8192x768.Idx) => ?_
  obtain ⟨j, t, f, rfl⟩ : ∃ j t f, z = ix3 j t f := ⟨_, _, _, eq_ix3 z⟩
  have hp : Value.pt10Of (ix3 j t f) = j.val + 4 * (t.val / 512) := by
    show 1 * (j.val / 1 - 0) + 4 * (t.val / 512 - 0) + 64 * (f.val / 768 - 0) = _
    omega
  have hN : Value.pt10Of (ix3 j t f) < cfg0.N := by rw [hp, show cfg0.N = 64 from N_0]; omega
  unfold Value.G10
  rw [dif_pos hN, ← Value.outsAt0_sweep m c _ hN]
  have hl : Value.loc10Of (ix3 j t f) = ix3 0 ⟨t.val % 512, Nat.mod_lt _ (by decide)⟩ f := by
    funext ax
    apply Fin.ext
    match ax with
    | ⟨0, _⟩ => show j.val % 1 = 0; omega
    | ⟨1, _⟩ => rfl
    | ⟨2, _⟩ => show f.val % 768 = f.val; omega
  have ht : rowOf (Value.pt10Of (ix3 j t f)) ⟨t.val % 512, Nat.mod_lt _ (by decide)⟩ = t :=
    Fin.ext (by show Value.pt10Of (ix3 j t f) / 4 % 16 * 512 + t.val % 512 = t.val; rw [hp]; omega)
  have hy : (at4 (Value.pt10Of (ix3 j t f)) f).val = j.val * 768 + f.val := by
    show Value.pt10Of (ix3 j t f) % 4 * 768 + f.val = _
    rw [hp]
    omega
  rw [hl, up_after, ht]
  by_cases hf : f.val % 384 < 352
  · have h1 : (at4 (Value.pt10Of (ix3 j t f)) f).val % 384 < 352 := by omega
    have h2 : (j.val * 2 + f.val / 384) * 352 + f.val % 384 = (at4 (Value.pt10Of (ix3 j t f)) f).val / 384 * 352 + (at4 (Value.pt10Of (ix3 j t f)) f).val % 384 := by omega
    rw [half_in (dUp (zg m c) (za m c)) j t f ⟨(j.val * 2 + f.val / 384) * 352 + f.val % 384, by omega⟩ hf rfl]
    exact dupp_in m c t _ ⟨(j.val * 2 + f.val / 384) * 352 + f.val % 384, by omega⟩ h1 h2
  · rw [half_out (dUp (zg m c) (za m c)) j t f hf]
    exact dupp_out m c t _ (by omega)

/-- The normalised rows are the reference's. -/
theorem final_rows : Value.G11 m c = halfRows (argX m c) (inG m c) := by
  refine funext fun (z : S8192x1024.Idx) => ?_
  obtain ⟨t, d, rfl⟩ : ∃ t d, z = ix2 t d := ⟨_, _, eq_ix2 z⟩
  rw [halfRows_apply]
  have hp : Value.pt11Of (ix2 t d) = 4 * (t.val / 512) + 2 + 1 := by
    show 4 * (1 * (t.val / 512 - 0) + 1 * (d.val / 1024 - 0)) + 3 = _
    omega
  have hN : Value.pt11Of (ix2 t d) < cfg0.N := by rw [hp, show cfg0.N = 64 from N_0]; omega
  unfold Value.G11
  rw [dif_pos hN, ← Value.outsAt0_sweep m c _ hN]
  have hl : Value.loc11Of (ix2 t d) = ix2 ⟨t.val % 512, Nat.mod_lt _ (by decide)⟩ d := by
    funext ax
    apply Fin.ext
    match ax with
    | ⟨0, _⟩ => rfl
    | ⟨1, _⟩ => show d.val % 1024 = d.val; omega
  rw [hl]
  generalize Value.pt11Of (ix2 t d) = n at hp hN
  subst hp
  have ht : rowOf (4 * (t.val / 512) + 2 + 1) ⟨t.val % 512, Nat.mod_lt _ (by decide)⟩ = t :=
    Fin.ext (by show (4 * (t.val / 512) + 2 + 1) / 4 % 16 * 512 + t.val % 512 = t.val; omega)
  rw [norm_after m c _ hN (by omega), ht, V_s m c]

/-- The input's gradient is the reference's. -/
theorem final_dx (hr : AllReal m c) : Value.G12 m c = dX (argY m c) (argX m c) (inG m c) (zh m c) := by
  refine funext fun (z : S8192x1024.Idx) => ?_
  obtain ⟨t, d, rfl⟩ : ∃ t d, z = ix2 t d := ⟨_, _, eq_ix2 z⟩
  rw [dX_apply]
  have hp : Value.pt12Of (ix2 t d) = 4 * (t.val / 512) + 2 + 1 := by
    show 4 * (1 * (t.val / 512 - 0) + 1 * (d.val / 1024 - 0)) + 3 = _
    omega
  have hN : Value.pt12Of (ix2 t d) < cfg0.N := by rw [hp, show cfg0.N = 64 from N_0]; omega
  unfold Value.G12
  rw [dif_pos hN, ← Value.outsAt0_sweep m c _ hN]
  have hl : Value.loc12Of (ix2 t d) = ix2 ⟨t.val % 512, Nat.mod_lt _ (by decide)⟩ d := by
    funext ax
    apply Fin.ext
    match ax with
    | ⟨0, _⟩ => rfl
    | ⟨1, _⟩ => show d.val % 1024 = d.val; omega
  rw [hl]
  generalize Value.pt12Of (ix2 t d) = n at hp hN
  subst hp
  have ht : rowOf (4 * (t.val / 512) + 2 + 1) ⟨t.val % 512, Nat.mod_lt _ (by decide)⟩ = t :=
    Fin.ext (by show (4 * (t.val / 512) + 2 + 1) / 4 % 16 * 512 + t.val % 512 = t.val; omega)
  rw [dx_after m c _ hN (by omega), ht, V_s m c, funext (fun d => dh_eq m c t d hr)]
  refine congrArg (argY m c (ix2 t d) + ·) ?_
  by_cases hx : ∀ k, Real' (argX m c (ix2 t k))
  · exact drow_wide (argX m c) (gain (inG m c)) (fun d => zh m c (ix2 t d)) t d hx
  · exact drow_zero (argX m c) (gain (inG m c)) (fun d => zh m c (ix2 t d)) t d (rr_zero _ t hx) (fun k => zh_zero m c t k (rr_zero _ t hx))

/-- The scale's gradient is the reference's. -/
theorem final_gain (hr : AllReal m c) : Value.G13 m c = dGain (argX m c) (zh m c) := by
  refine funext fun (z : S1x1024.Idx) => ?_
  obtain ⟨o, d, rfl⟩ : ∃ o d, z = ix2 o d := ⟨_, _, eq_ix2 z⟩
  obtain rfl : o = 0 := Subsingleton.elim _ _
  have hN : 63 < cfg0.N := lt_of_lt_of_eq (by decide) N_0.symm
  have e1 : (Value.G13 m c : Vec Ideal S1x1024 .f32) (ix2 0 d) = ∑ i ∈ Finset.range 16, tile m c d i := by
    rw [Value.G13_last, ← Value.outsAt0_sweep m c 63 hN]
    exact gain_after m c 63 hN d
  have e2 : dGain (argX m c) (zh m c) (ix2 0 d) = ∑ i : Fin 16, ∑ b : Fin 512, argX m c (ix2 ⟨i.val * 512 + b.val, by omega⟩ d) * rr (argX m c) ⟨i.val * 512 + b.val, by omega⟩ * zh m c (ix2 ⟨i.val * 512 + b.val, by omega⟩ d) :=
    (dGain_apply (argX m c) (zh m c) d).trans (Cert.Kernel4Ideal.Hand.sum_blocks (fun t => argX m c (ix2 t d) * rr (argX m c) t * zh m c (ix2 t d)))
  have e3 : ∑ i ∈ Finset.range 16, tile m c d i = ∑ i : Fin 16, ∑ b : Fin 512, argX m c (ix2 ⟨i.val * 512 + b.val, by omega⟩ d) * rr (argX m c) ⟨i.val * 512 + b.val, by omega⟩ * zh m c (ix2 ⟨i.val * 512 + b.val, by omega⟩ d) := by
    rw [Finset.sum_range]
    refine Finset.sum_congr rfl fun i _ => ?_
    unfold tile
    refine Finset.sum_congr rfl fun b _ => ?_
    have e : (⟨i.val % 16 * 512 + b.val, by omega⟩ : Fin 8192) = ⟨i.val * 512 + b.val, by omega⟩ := Fin.ext (by show i.val % 16 * 512 + b.val = i.val * 512 + b.val; omega)
    rw [e, dh_eq m c _ d hr]
    exact mul_comm _ _
  exact (e1.trans e3).trans e2.symm

end Cert.Kernel6Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2.Value
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3.Value
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4.Value
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5.Value
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6.Value
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Run
public import proofs.«01_k».proof.Proof.BitsRun
public import proofs.«01_k».proof.Proof.Value
public import proofs.«01_k».proof.Proof.FwdValue
public import proofs.«01_k».proof.Proof.FfnValue
public import proofs.«01_k».proof.Proof.GradValue
public import proofs.«01_k».proof.Proof.DownValue
public import proofs.«01_k».proof.Proof.BackValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference is host operations only and declares no semaphore. -/
theorem frame_r : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The call's three gradients are the reference's. -/
theorem values : Cert.algebraic_KernelIdeal_ReferenceIdeal_pre_finite (hPre_finite := Cert.Pre_finite.Hand.facts) := by
  intro m g m' g' hp hargs
  have hm := fun c => Cert.KernelIdeal.Hand.args_real m c (hP := Cert.Pre_finite.Hand.facts) (hp c)
  refine ⟨_, _, _, (θ_run Cert.KernelIdeal.defs _ _).mono (fun r h c => ⟨(h.1 c).1, (h.1 c).2.1, (h.1 c).2.2, h.2.1 c⟩)
    (θ_run_and (Cert.KernelIdeal.Hand.run_value m g hm) (Cert.KernelIdeal.Hand.frame m g)), ?_⟩
  refine (θ_run Cert.ReferenceIdeal.defs _ _).mono (fun r h c => ⟨(h c).1.trans ?_, (h c).2.1.trans ?_, (h c).2.2.1.trans ?_, (h c).2.2.2⟩)
    (Cert.ReferenceIdeal.Value.run (F := Ideal) m' g')
  · rw [Cert.ReferenceIdeal.Hand.dq_eq, (hargs c).1, (hargs c).2.1, (hargs c).2.2.1, (hargs c).2.2.2]
    exact Cert.KernelIdeal.Hand.ref_q (hm c)
  · rw [Cert.ReferenceIdeal.Hand.dk_eq, (hargs c).1, (hargs c).2.1, (hargs c).2.2.1, (hargs c).2.2.2]
    exact Cert.KernelIdeal.Hand.ref_k (hm c)
  · rw [Cert.ReferenceIdeal.Hand.dv_eq, (hargs c).1, (hargs c).2.1, (hargs c).2.2.2]
    exact Cert.KernelIdeal.Hand.ref_v (hm c)

/-- The forward call's reference, likewise. -/
theorem frame_r2 : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- The forward call's output and its rows' logarithms are the reference's. -/
theorem values2 : Cert.algebraic_Kernel2Ideal_Reference2Ideal_pre_finite2 (hPre_finite2 := Cert.Pre_finite2.Hand.facts) := by
  intro m g m' g' hp hargs
  have hm := fun c => Cert.Kernel2Ideal.Hand.args_real m c (hP := Cert.Pre_finite2.Hand.facts) (hp c)
  refine ⟨_, _, (θ_run Cert.Kernel2Ideal.defs _ _).mono (fun r h c => h c) (Cert.Kernel2Ideal.Hand.run_value m g hm), ?_⟩
  refine (θ_run Cert.Reference2Ideal.defs _ _).mono (fun r h c => ⟨(h c).1.trans ?_, (h c).2.1.trans ?_, (h c).2.2⟩)
    (Cert.Reference2Ideal.Value.run (F := Ideal) m' g')
  · rw [Cert.Reference2Ideal.Hand.out_eq, (hargs c).1, (hargs c).2.1, (hargs c).2.2]
    exact Cert.Kernel2Ideal.Hand.ref_out (hm c)
  · rw [(hargs c).1, (hargs c).2.1]
    exact Cert.Kernel2Ideal.Hand.ref_lse (hm c)

/-- The feed-forward call's reference, likewise. -/
theorem frame_r3 : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

/-- The feed-forward call's gate, up projection and output are the reference's. -/
theorem values3 : Cert.algebraic_Kernel3Ideal_Reference3Ideal := by
  intro m g m' g' _ hargs
  refine ⟨_, _, _, (θ_run Cert.Kernel3Ideal.defs _ _).mono (fun r h c => h c) (Cert.Kernel3Ideal.Value.run (F := Ideal) m g), ?_⟩
  refine (θ_run Cert.Reference3Ideal.defs _ _).mono (fun r h c => ⟨(h c).1.trans ?_, (h c).2.1.trans ?_, (h c).2.2.1.trans ?_, (h c).2.2.2⟩)
    (Cert.Reference3Ideal.Value.run (F := Ideal) m' g')
  · rw [(hargs c).1, (hargs c).2.1, (hargs c).2.2.1]
    exact (Cert.Kernel3Ideal.Hand.final_gate m c).symm
  · rw [(hargs c).1, (hargs c).2.1, (hargs c).2.2.2.1]
    exact (Cert.Kernel3Ideal.Hand.final_up m c).symm
  · rw [(hargs c).1, (hargs c).2.1, (hargs c).2.2.1, (hargs c).2.2.2.1, (hargs c).2.2.2.2]
    exact (Cert.Kernel3Ideal.Hand.final_out m c).symm

/-- The weight-gradient call's reference, likewise. -/
theorem frame_r4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The weight-gradient call's result is the reference's. -/
theorem values4 : Cert.algebraic_Kernel4Ideal_Reference4Ideal := by
  intro m g m' g' _ hargs
  refine ⟨_, (θ_run Cert.Kernel4Ideal.defs _ _).mono (fun r h c => h c) (Cert.Kernel4Ideal.Value.run (F := Ideal) m g), ?_⟩
  refine (θ_run Cert.Reference4Ideal.defs _ _).mono (fun r h c => ⟨(h c).1.trans ?_, (h c).2⟩)
    (Cert.Reference4Ideal.Value.run (F := Ideal) m' g')
  rw [(hargs c).1, (hargs c).2]
  exact (Cert.Kernel4Ideal.Hand.final m c).symm

/-- The down projection's weight-gradient call's reference, likewise. -/
theorem frame_r5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The down projection's weight-gradient call's result is the reference's. -/
theorem values5 : Cert.algebraic_Kernel5Ideal_Reference5Ideal := by
  intro m g m' g' _ hargs
  refine ⟨_, (θ_run Cert.Kernel5Ideal.defs _ _).mono (fun r h c => h c) (Cert.Kernel5Ideal.Value.run (F := Ideal) m g), ?_⟩
  refine (θ_run Cert.Reference5Ideal.defs _ _).mono (fun r h c => ⟨(h c).1.trans ?_, (h c).2⟩)
    (Cert.Reference5Ideal.Value.run (F := Ideal) m' g')
  rw [(hargs c).1, (hargs c).2]
  exact (Cert.Kernel5Ideal.Hand.final m c).symm

/-- The feed-forward gradient call's reference, likewise. -/
theorem frame_r6 : Cert.quiescent_Reference6Ideal := fun m ρ _ =>
  (θ_run Cert.Reference6Ideal.defs _ _).mono (fun r h => ⟨fun c => (h c).2.2.2.2.2.2,
      Idealize.ShloMosaic.sem_eq_zero_of_no_sems (by decide) r.2⟩)
    (Cert.Reference6Ideal.Value.run (F := Ideal) m ρ)

/-- The feed-forward gradient call's six results are the reference's. -/
theorem values6 : Cert.algebraic_Kernel6Ideal_Reference6Ideal_pre_finite6 (hPre_finite6 := Cert.Pre_finite6.Hand.facts) := by
  intro m g m' g' hp hargs
  have hr : ∀ c, Cert.Kernel6Ideal.Hand.AllReal m c := fun c => Cert.Pre_finite6.Hand.finite _ _ _ _ _ _ (hp c)
  refine ⟨_, _, _, _, _, _, (θ_run Cert.Kernel6Ideal.defs _ _).mono (fun r h c => h c) (Cert.Kernel6Ideal.Value.run (F := Ideal) m g), ?_⟩
  refine (θ_run Cert.Reference6Ideal.defs _ _).mono
    (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.Reference6Ideal.Value.run (F := Ideal) m' g')
  · rw [(hargs c).2.1, (hargs c).2.2.1, (hargs c).2.2.2.1, (hargs c).2.2.2.2.1]
    exact (Cert.Kernel6Ideal.Hand.final_act m c).symm
  · refine (Cert.Reference6Ideal.Hand.gate_res m' c).trans ?_
    unfold Cert.Reference6Ideal.Hand.inY Cert.Reference6Ideal.Hand.inX Cert.Reference6Ideal.Hand.inG Cert.Reference6Ideal.Hand.inWg Cert.Reference6Ideal.Hand.inWu Cert.Reference6Ideal.Hand.inWd
    rw [(hargs c).1, (hargs c).2.1, (hargs c).2.2.1, (hargs c).2.2.2.1, (hargs c).2.2.2.2.1, (hargs c).2.2.2.2.2]
    exact (Cert.Kernel6Ideal.Hand.final_gate m c (hr c)).symm
  · rw [(hargs c).1, (hargs c).2.1, (hargs c).2.2.1, (hargs c).2.2.2.1, (hargs c).2.2.2.2.2]
    exact (Cert.Kernel6Ideal.Hand.final_up m c).symm
  · rw [(hargs c).2.1, (hargs c).2.2.1]
    exact (Cert.Kernel6Ideal.Hand.final_rows m c).symm
  · refine (Cert.Reference6Ideal.Hand.dx_res m' c).trans ?_
    unfold Cert.Reference6Ideal.Hand.inY Cert.Reference6Ideal.Hand.inX Cert.Reference6Ideal.Hand.inG Cert.Reference6Ideal.Hand.inWg Cert.Reference6Ideal.Hand.inWu Cert.Reference6Ideal.Hand.inWd
    rw [(hargs c).1, (hargs c).2.1, (hargs c).2.2.1, (hargs c).2.2.2.1, (hargs c).2.2.2.2.1, (hargs c).2.2.2.2.2]
    exact (Cert.Kernel6Ideal.Hand.final_dx m c (hr c)).symm
  · refine (Cert.Reference6Ideal.Hand.gain_res m' c).trans ?_
    unfold Cert.Reference6Ideal.Hand.inY Cert.Reference6Ideal.Hand.inX Cert.Reference6Ideal.Hand.inG Cert.Reference6Ideal.Hand.inWg Cert.Reference6Ideal.Hand.inWu Cert.Reference6Ideal.Hand.inWd
    rw [(hargs c).1, (hargs c).2.1, (hargs c).2.2.1, (hargs c).2.2.2.1, (hargs c).2.2.2.2.1, (hargs c).2.2.2.2.2]
    exact (Cert.Kernel6Ideal.Hand.final_gain m c (hr c)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Hand.facts, Cert.Pre_finite2.Hand.facts, Cert.Pre_finite6.Hand.facts,
  fun m ρ _ => Cert.Kernel.Hand.frame m ρ, fun m ρ _ => Cert.KernelIdeal.Hand.frame m ρ, fun m ρ _ => Cert.KernelIdeal.Hand.frame m ρ,
  frame_r, fun m ρ _ => frame_r m ρ trivial,
  fun m ρ _ => Cert.Kernel2.Gen.frame m ρ, fun m ρ _ => Cert.Kernel2Ideal.Gen.frame m ρ, fun m ρ _ => Cert.Kernel2Ideal.Gen.frame m ρ,
  frame_r2, fun m ρ _ => frame_r2 m ρ trivial,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, fun m ρ _ => Cert.Kernel6Ideal.Gen.frame m ρ,
  frame_r6, fun m ρ _ => frame_r6 m ρ trivial,
  IdealRules.named_const.statement _ _ _ _ _ rfl, values, IdealRules.named_const.statement _ _ _ _ _ rfl, values2,
  trivial, values3, trivial, values4, trivial, values5, trivial, values6⟩

end Cert.Proof

end
